-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradRefIdeal (m : (ℓ : Loc Cert.ProjGradRefIdeal.nD Cert.ProjGradRefIdeal.τ Cert.ProjGradRefIdeal.sig) → Buf (Elt Ideal) ℓ) : Prop :=
  True

def Pre_Open (m : (ℓ : Loc Cert.Open.nD Cert.Open.τ Cert.Open.sig) → Buf (Elt Bits) ℓ) : Prop :=
  True

def Pre_OpenIdeal (m : (ℓ : Loc Cert.OpenIdeal.nD Cert.OpenIdeal.τ Cert.OpenIdeal.sig) → Buf (Elt Ideal) ℓ) : Prop :=
  True

def Pre_OpenRefIdeal (m : (ℓ : Loc Cert.OpenRefIdeal.nD Cert.OpenRefIdeal.τ Cert.OpenRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Close (m : (ℓ : Loc Cert.Close.nD Cert.Close.τ Cert.Close.sig) → Buf (Elt Bits) ℓ) : Prop :=
  True

def Pre_CloseIdeal (m : (ℓ : Loc Cert.CloseIdeal.nD Cert.CloseIdeal.τ Cert.CloseIdeal.sig) → Buf (Elt Ideal) ℓ) : Prop :=
  True

def Pre_CloseRefIdeal (m : (ℓ : Loc Cert.CloseRefIdeal.nD Cert.CloseRefIdeal.τ Cert.CloseRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_XaNorm (m : (ℓ : Loc Cert.XaNorm.nD Cert.XaNorm.τ Cert.XaNorm.sig) → Buf (Elt Bits) ℓ) : Prop :=
  True

def Pre_XaNormIdeal (m : (ℓ : Loc Cert.XaNormIdeal.nD Cert.XaNormIdeal.τ Cert.XaNormIdeal.sig) → Buf (Elt Ideal) ℓ) : Prop :=
  True

def Pre_XaNormRefIdeal (m : (ℓ : Loc Cert.XaNormRefIdeal.nD Cert.XaNormRefIdeal.τ Cert.XaNormRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_QueryGrad (m : (ℓ : Loc Cert.QueryGrad.nD Cert.QueryGrad.τ Cert.QueryGrad.sig) → Buf (Elt Bits) ℓ) : Prop :=
  True

def Pre_QueryGradIdeal (m : (ℓ : Loc Cert.QueryGradIdeal.nD Cert.QueryGradIdeal.τ Cert.QueryGradIdeal.sig) → Buf (Elt Ideal) ℓ) : Prop :=
  True

def Pre_QueryGradRefIdeal (m : (ℓ : Loc Cert.QueryGradRefIdeal.nD Cert.QueryGradRefIdeal.τ Cert.QueryGradRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchGrad (m : (ℓ : Loc Cert.BranchGrad.nD Cert.BranchGrad.τ Cert.BranchGrad.sig) → Buf (Elt Bits) ℓ) : Prop :=
  True

def Pre_BranchGradIdeal (m : (ℓ : Loc Cert.BranchGradIdeal.nD Cert.BranchGradIdeal.τ Cert.BranchGradIdeal.sig) → Buf (Elt Ideal) ℓ) : Prop :=
  True

def Pre_BranchGradRefIdeal (m : (ℓ : Loc Cert.BranchGradRefIdeal.nD Cert.BranchGradRefIdeal.τ Cert.BranchGradRefIdeal.sig) → Buf (Elt Ideal) ℓ) : Prop :=
  True

def Pre_BranchBack (m : (ℓ : Loc Cert.BranchBack.nD Cert.BranchBack.τ Cert.BranchBack.sig) → Buf (Elt Bits) ℓ) : Prop :=
  True

def Pre_BranchBackIdeal (m : (ℓ : Loc Cert.BranchBackIdeal.nD Cert.BranchBackIdeal.τ Cert.BranchBackIdeal.sig) → Buf (Elt Ideal) ℓ) : Prop :=
  True

def Pre_BranchBackRefIdeal (m : (ℓ : Loc Cert.BranchBackRefIdeal.nD Cert.BranchBackRefIdeal.τ Cert.BranchBackRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1)
      ∧ r.2.mem ((c.tc : Thread Cert.ProjGrad.nD Cert.ProjGrad.τ).loc Cert.ProjGrad.main_arg2) = m ((c.tc : Thread Cert.ProjGrad.nD Cert.ProjGrad.τ).loc Cert.ProjGrad.main_arg2))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2))
      ∧ r.2.sem = fun _ => 0)

def quiescent_ProjGradRefIdeal [hProjGradRefIdeal : Cert.ProjGradRefIdeal.Facts] : Prop :=
  ∀ (m : (ℓ : Loc Cert.ProjGradRefIdeal.nD Cert.ProjGradRefIdeal.τ Cert.ProjGradRefIdeal.sig) → Buf (Elt Ideal) ℓ) (g : Dev Cert.ProjGradRefIdeal.nD → PrngReg), Pre_ProjGradRefIdeal m →
    θ_run (Cert.ProjGradRefIdeal.defs (F := Ideal)) (onTc (τ := Cert.ProjGradRefIdeal.τ) (Cert.ProjGradRefIdeal.main (F := Ideal))) ⟨m, fun _ => 0, g⟩ (fun r => (∀ c : Dev Cert.ProjGradRefIdeal.nD,
      r.2.mem ((c.tc : Thread Cert.ProjGradRefIdeal.nD Cert.ProjGradRefIdeal.τ).loc Cert.ProjGradRefIdeal.main_arg0) = m ((c.tc : Thread Cert.ProjGradRefIdeal.nD Cert.ProjGradRefIdeal.τ).loc Cert.ProjGradRefIdeal.main_arg0)
      ∧ r.2.mem ((c.tc : Thread Cert.ProjGradRefIdeal.nD Cert.ProjGradRefIdeal.τ).loc Cert.ProjGradRefIdeal.main_arg1) = m ((c.tc : Thread Cert.ProjGradRefIdeal.nD Cert.ProjGradRefIdeal.τ).loc Cert.ProjGradRefIdeal.main_arg1)
      ∧ r.2.mem ((c.tc : Thread Cert.ProjGradRefIdeal.nD Cert.ProjGradRefIdeal.τ).loc Cert.ProjGradRefIdeal.main_arg2) = m ((c.tc : Thread Cert.ProjGradRefIdeal.nD Cert.ProjGradRefIdeal.τ).loc Cert.ProjGradRefIdeal.main_arg2))
      ∧ r.2.sem = fun _ => 0)

def quiescent_Open [hOpen : Cert.Open.Facts] : Prop :=
  ∀ (m : (ℓ : Loc Cert.Open.nD Cert.Open.τ Cert.Open.sig) → Buf (Elt Bits) ℓ) (g : Dev Cert.Open.nD → PrngReg), Pre_Open m →
    θ_run (Cert.Open.defs (F := Bits)) (onTc (τ := Cert.Open.τ) (Cert.Open.main (F := Bits))) ⟨m, fun _ => 0, g⟩ (fun r => (∀ c : Dev Cert.Open.nD,
      r.2.mem ((c.tc : Thread Cert.Open.nD Cert.Open.τ).loc Cert.Open.main_arg0) = m ((c.tc : Thread Cert.Open.nD Cert.Open.τ).loc Cert.Open.main_arg0)
      ∧ r.2.mem ((c.tc : Thread Cert.Open.nD Cert.Open.τ).loc Cert.Open.main_arg1) = m ((c.tc : Thread Cert.Open.nD Cert.Open.τ).loc Cert.Open.main_arg1))
      ∧ r.2.sem = fun _ => 0)

def quiescent_OpenIdeal [hOpenIdeal : Cert.OpenIdeal.Facts] : Prop :=
  ∀ (m : (ℓ : Loc Cert.OpenIdeal.nD Cert.OpenIdeal.τ Cert.OpenIdeal.sig) → Buf (Elt Ideal) ℓ) (g : Dev Cert.OpenIdeal.nD → PrngReg), Pre_OpenIdeal m →
    θ_run (Cert.OpenIdeal.defs (F := Ideal)) (onTc (τ := Cert.OpenIdeal.τ) (Cert.OpenIdeal.main (F := Ideal))) ⟨m, fun _ => 0, g⟩ (fun r => (∀ c : Dev Cert.OpenIdeal.nD,
      r.2.mem ((c.tc : Thread Cert.OpenIdeal.nD Cert.OpenIdeal.τ).loc Cert.OpenIdeal.main_arg0) = m ((c.tc : Thread Cert.OpenIdeal.nD Cert.OpenIdeal.τ).loc Cert.OpenIdeal.main_arg0)
      ∧ r.2.mem ((c.tc : Thread Cert.OpenIdeal.nD Cert.OpenIdeal.τ).loc Cert.OpenIdeal.main_arg1) = m ((c.tc : Thread Cert.OpenIdeal.nD Cert.OpenIdeal.τ).loc Cert.OpenIdeal.main_arg1))
      ∧ r.2.sem = fun _ => 0)

def quiescent_OpenRefIdeal [hOpenRefIdeal : Cert.OpenRefIdeal.Facts] : Prop :=
  ∀ (m : (ℓ : Loc Cert.OpenRefIdeal.nD Cert.OpenRefIdeal.τ Cert.OpenRefIdeal.sig) → Buf (Elt Ideal) ℓ) (g : Dev Cert.OpenRefIdeal.nD → PrngReg), Pre_OpenRefIdeal m →
    θ_run (Cert.OpenRefIdeal.defs (F := Ideal)) (onTc (τ := Cert.OpenRefIdeal.τ) (Cert.OpenRefIdeal.main (F := Ideal))) ⟨m, fun _ => 0, g⟩ (fun r => (∀ c : Dev Cert.OpenRefIdeal.nD,
      r.2.mem ((c.tc : Thread Cert.OpenRefIdeal.nD Cert.OpenRefIdeal.τ).loc Cert.OpenRefIdeal.main_arg0) = m ((c.tc : Thread Cert.OpenRefIdeal.nD Cert.OpenRefIdeal.τ).loc Cert.OpenRefIdeal.main_arg0)
      ∧ r.2.mem ((c.tc : Thread Cert.OpenRefIdeal.nD Cert.OpenRefIdeal.τ).loc Cert.OpenRefIdeal.main_arg1) = m ((c.tc : Thread Cert.OpenRefIdeal.nD Cert.OpenRefIdeal.τ).loc Cert.OpenRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Close [hClose : Cert.Close.Facts] : Prop :=
  ∀ (m : (ℓ : Loc Cert.Close.nD Cert.Close.τ Cert.Close.sig) → Buf (Elt Bits) ℓ) (g : Dev Cert.Close.nD → PrngReg), Pre_Close m →
    θ_run (Cert.Close.defs (F := Bits)) (onTc (τ := Cert.Close.τ) (Cert.Close.main (F := Bits))) ⟨m, fun _ => 0, g⟩ (fun r => (∀ c : Dev Cert.Close.nD,
      r.2.mem ((c.tc : Thread Cert.Close.nD Cert.Close.τ).loc Cert.Close.main_arg0) = m ((c.tc : Thread Cert.Close.nD Cert.Close.τ).loc Cert.Close.main_arg0)
      ∧ r.2.mem ((c.tc : Thread Cert.Close.nD Cert.Close.τ).loc Cert.Close.main_arg1) = m ((c.tc : Thread Cert.Close.nD Cert.Close.τ).loc Cert.Close.main_arg1)
      ∧ r.2.mem ((c.tc : Thread Cert.Close.nD Cert.Close.τ).loc Cert.Close.main_arg2) = m ((c.tc : Thread Cert.Close.nD Cert.Close.τ).loc Cert.Close.main_arg2))
      ∧ r.2.sem = fun _ => 0)

def quiescent_CloseIdeal [hCloseIdeal : Cert.CloseIdeal.Facts] : Prop :=
  ∀ (m : (ℓ : Loc Cert.CloseIdeal.nD Cert.CloseIdeal.τ Cert.CloseIdeal.sig) → Buf (Elt Ideal) ℓ) (g : Dev Cert.CloseIdeal.nD → PrngReg), Pre_CloseIdeal m →
    θ_run (Cert.CloseIdeal.defs (F := Ideal)) (onTc (τ := Cert.CloseIdeal.τ) (Cert.CloseIdeal.main (F := Ideal))) ⟨m, fun _ => 0, g⟩ (fun r => (∀ c : Dev Cert.CloseIdeal.nD,
      r.2.mem ((c.tc : Thread Cert.CloseIdeal.nD Cert.CloseIdeal.τ).loc Cert.CloseIdeal.main_arg0) = m ((c.tc : Thread Cert.CloseIdeal.nD Cert.CloseIdeal.τ).loc Cert.CloseIdeal.main_arg0)
      ∧ r.2.mem ((c.tc : Thread Cert.CloseIdeal.nD Cert.CloseIdeal.τ).loc Cert.CloseIdeal.main_arg1) = m ((c.tc : Thread Cert.CloseIdeal.nD Cert.CloseIdeal.τ).loc Cert.CloseIdeal.main_arg1)
      ∧ r.2.mem ((c.tc : Thread Cert.CloseIdeal.nD Cert.CloseIdeal.τ).loc Cert.CloseIdeal.main_arg2) = m ((c.tc : Thread Cert.CloseIdeal.nD Cert.CloseIdeal.τ).loc Cert.CloseIdeal.main_arg2))
      ∧ r.2.sem = fun _ => 0)

def quiescent_CloseRefIdeal [hCloseRefIdeal : Cert.CloseRefIdeal.Facts] : Prop :=
  ∀ (m : (ℓ : Loc Cert.CloseRefIdeal.nD Cert.CloseRefIdeal.τ Cert.CloseRefIdeal.sig) → Buf (Elt Ideal) ℓ) (g : Dev Cert.CloseRefIdeal.nD → PrngReg), Pre_CloseRefIdeal m →
    θ_run (Cert.CloseRefIdeal.defs (F := Ideal)) (onTc (τ := Cert.CloseRefIdeal.τ) (Cert.CloseRefIdeal.main (F := Ideal))) ⟨m, fun _ => 0, g⟩ (fun r => (∀ c : Dev Cert.CloseRefIdeal.nD,
      r.2.mem ((c.tc : Thread Cert.CloseRefIdeal.nD Cert.CloseRefIdeal.τ).loc Cert.CloseRefIdeal.main_arg0) = m ((c.tc : Thread Cert.CloseRefIdeal.nD Cert.CloseRefIdeal.τ).loc Cert.CloseRefIdeal.main_arg0)
      ∧ r.2.mem ((c.tc : Thread Cert.CloseRefIdeal.nD Cert.CloseRefIdeal.τ).loc Cert.CloseRefIdeal.main_arg1) = m ((c.tc : Thread Cert.CloseRefIdeal.nD Cert.CloseRefIdeal.τ).loc Cert.CloseRefIdeal.main_arg1)
      ∧ r.2.mem ((c.tc : Thread Cert.CloseRefIdeal.nD Cert.CloseRefIdeal.τ).loc Cert.CloseRefIdeal.main_arg2) = m ((c.tc : Thread Cert.CloseRefIdeal.nD Cert.CloseRefIdeal.τ).loc Cert.CloseRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1)
      ∧ r.2.mem ((c.tc : Thread Cert.OutBack.nD Cert.OutBack.τ).loc Cert.OutBack.main_arg2) = m ((c.tc : Thread Cert.OutBack.nD Cert.OutBack.τ).loc Cert.OutBack.main_arg2))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
      ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1)
      ∧ r.2.mem ((c.tc : Thread Cert.OutBackRefIdeal.nD Cert.OutBackRefIdeal.τ).loc Cert.OutBackRefIdeal.main_arg2) = m ((c.tc : Thread Cert.OutBackRefIdeal.nD Cert.OutBackRefIdeal.τ).loc Cert.OutBackRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_XaNorm [hXaNorm : Cert.XaNorm.Facts] : Prop :=
  ∀ (m : (ℓ : Loc Cert.XaNorm.nD Cert.XaNorm.τ Cert.XaNorm.sig) → Buf (Elt Bits) ℓ) (g : Dev Cert.XaNorm.nD → PrngReg), Pre_XaNorm m →
    θ_run (Cert.XaNorm.defs (F := Bits)) (onTc (τ := Cert.XaNorm.τ) (Cert.XaNorm.main (F := Bits))) ⟨m, fun _ => 0, g⟩ (fun r => (∀ c : Dev Cert.XaNorm.nD,
      r.2.mem ((c.tc : Thread Cert.XaNorm.nD Cert.XaNorm.τ).loc Cert.XaNorm.main_arg0) = m ((c.tc : Thread Cert.XaNorm.nD Cert.XaNorm.τ).loc Cert.XaNorm.main_arg0)
      ∧ r.2.mem ((c.tc : Thread Cert.XaNorm.nD Cert.XaNorm.τ).loc Cert.XaNorm.main_arg1) = m ((c.tc : Thread Cert.XaNorm.nD Cert.XaNorm.τ).loc Cert.XaNorm.main_arg1)
      ∧ r.2.mem ((c.tc : Thread Cert.XaNorm.nD Cert.XaNorm.τ).loc Cert.XaNorm.main_arg2) = m ((c.tc : Thread Cert.XaNorm.nD Cert.XaNorm.τ).loc Cert.XaNorm.main_arg2)
      ∧ r.2.mem ((c.tc : Thread Cert.XaNorm.nD Cert.XaNorm.τ).loc Cert.XaNorm.main_arg3) = m ((c.tc : Thread Cert.XaNorm.nD Cert.XaNorm.τ).loc Cert.XaNorm.main_arg3)
      ∧ r.2.mem ((c.tc : Thread Cert.XaNorm.nD Cert.XaNorm.τ).loc Cert.XaNorm.main_arg4) = m ((c.tc : Thread Cert.XaNorm.nD Cert.XaNorm.τ).loc Cert.XaNorm.main_arg4))
      ∧ r.2.sem = fun _ => 0)

def quiescent_XaNormIdeal [hXaNormIdeal : Cert.XaNormIdeal.Facts] : Prop :=
  ∀ (m : (ℓ : Loc Cert.XaNormIdeal.nD Cert.XaNormIdeal.τ Cert.XaNormIdeal.sig) → Buf (Elt Ideal) ℓ) (g : Dev Cert.XaNormIdeal.nD → PrngReg), Pre_XaNormIdeal m →
    θ_run (Cert.XaNormIdeal.defs (F := Ideal)) (onTc (τ := Cert.XaNormIdeal.τ) (Cert.XaNormIdeal.main (F := Ideal))) ⟨m, fun _ => 0, g⟩ (fun r => (∀ c : Dev Cert.XaNormIdeal.nD,
      r.2.mem ((c.tc : Thread Cert.XaNormIdeal.nD Cert.XaNormIdeal.τ).loc Cert.XaNormIdeal.main_arg0) = m ((c.tc : Thread Cert.XaNormIdeal.nD Cert.XaNormIdeal.τ).loc Cert.XaNormIdeal.main_arg0)
      ∧ r.2.mem ((c.tc : Thread Cert.XaNormIdeal.nD Cert.XaNormIdeal.τ).loc Cert.XaNormIdeal.main_arg1) = m ((c.tc : Thread Cert.XaNormIdeal.nD Cert.XaNormIdeal.τ).loc Cert.XaNormIdeal.main_arg1)
      ∧ r.2.mem ((c.tc : Thread Cert.XaNormIdeal.nD Cert.XaNormIdeal.τ).loc Cert.XaNormIdeal.main_arg2) = m ((c.tc : Thread Cert.XaNormIdeal.nD Cert.XaNormIdeal.τ).loc Cert.XaNormIdeal.main_arg2)
      ∧ r.2.mem ((c.tc : Thread Cert.XaNormIdeal.nD Cert.XaNormIdeal.τ).loc Cert.XaNormIdeal.main_arg3) = m ((c.tc : Thread Cert.XaNormIdeal.nD Cert.XaNormIdeal.τ).loc Cert.XaNormIdeal.main_arg3)
      ∧ r.2.mem ((c.tc : Thread Cert.XaNormIdeal.nD Cert.XaNormIdeal.τ).loc Cert.XaNormIdeal.main_arg4) = m ((c.tc : Thread Cert.XaNormIdeal.nD Cert.XaNormIdeal.τ).loc Cert.XaNormIdeal.main_arg4))
      ∧ r.2.sem = fun _ => 0)

def quiescent_XaNormRefIdeal [hXaNormRefIdeal : Cert.XaNormRefIdeal.Facts] : Prop :=
  ∀ (m : (ℓ : Loc Cert.XaNormRefIdeal.nD Cert.XaNormRefIdeal.τ Cert.XaNormRefIdeal.sig) → Buf (Elt Ideal) ℓ) (g : Dev Cert.XaNormRefIdeal.nD → PrngReg), Pre_XaNormRefIdeal m →
    θ_run (Cert.XaNormRefIdeal.defs (F := Ideal)) (onTc (τ := Cert.XaNormRefIdeal.τ) (Cert.XaNormRefIdeal.main (F := Ideal))) ⟨m, fun _ => 0, g⟩ (fun r => (∀ c : Dev Cert.XaNormRefIdeal.nD,
      r.2.mem ((c.tc : Thread Cert.XaNormRefIdeal.nD Cert.XaNormRefIdeal.τ).loc Cert.XaNormRefIdeal.main_arg0) = m ((c.tc : Thread Cert.XaNormRefIdeal.nD Cert.XaNormRefIdeal.τ).loc Cert.XaNormRefIdeal.main_arg0)
      ∧ r.2.mem ((c.tc : Thread Cert.XaNormRefIdeal.nD Cert.XaNormRefIdeal.τ).loc Cert.XaNormRefIdeal.main_arg1) = m ((c.tc : Thread Cert.XaNormRefIdeal.nD Cert.XaNormRefIdeal.τ).loc Cert.XaNormRefIdeal.main_arg1)
      ∧ r.2.mem ((c.tc : Thread Cert.XaNormRefIdeal.nD Cert.XaNormRefIdeal.τ).loc Cert.XaNormRefIdeal.main_arg2) = m ((c.tc : Thread Cert.XaNormRefIdeal.nD Cert.XaNormRefIdeal.τ).loc Cert.XaNormRefIdeal.main_arg2)
      ∧ r.2.mem ((c.tc : Thread Cert.XaNormRefIdeal.nD Cert.XaNormRefIdeal.τ).loc Cert.XaNormRefIdeal.main_arg3) = m ((c.tc : Thread Cert.XaNormRefIdeal.nD Cert.XaNormRefIdeal.τ).loc Cert.XaNormRefIdeal.main_arg3)
      ∧ r.2.mem ((c.tc : Thread Cert.XaNormRefIdeal.nD Cert.XaNormRefIdeal.τ).loc Cert.XaNormRefIdeal.main_arg4) = m ((c.tc : Thread Cert.XaNormRefIdeal.nD Cert.XaNormRefIdeal.τ).loc Cert.XaNormRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_QueryGrad [hQueryGrad : Cert.QueryGrad.Facts] : Prop :=
  ∀ (m : (ℓ : Loc Cert.QueryGrad.nD Cert.QueryGrad.τ Cert.QueryGrad.sig) → Buf (Elt Bits) ℓ) (g : Dev Cert.QueryGrad.nD → PrngReg), Pre_QueryGrad m →
    θ_run (Cert.QueryGrad.defs (F := Bits)) (onTc (τ := Cert.QueryGrad.τ) (Cert.QueryGrad.main (F := Bits))) ⟨m, fun _ => 0, g⟩ (fun r => (∀ c : Dev Cert.QueryGrad.nD,
      r.2.mem ((c.tc : Thread Cert.QueryGrad.nD Cert.QueryGrad.τ).loc Cert.QueryGrad.main_arg0) = m ((c.tc : Thread Cert.QueryGrad.nD Cert.QueryGrad.τ).loc Cert.QueryGrad.main_arg0)
      ∧ r.2.mem ((c.tc : Thread Cert.QueryGrad.nD Cert.QueryGrad.τ).loc Cert.QueryGrad.main_arg1) = m ((c.tc : Thread Cert.QueryGrad.nD Cert.QueryGrad.τ).loc Cert.QueryGrad.main_arg1)
      ∧ r.2.mem ((c.tc : Thread Cert.QueryGrad.nD Cert.QueryGrad.τ).loc Cert.QueryGrad.main_arg2) = m ((c.tc : Thread Cert.QueryGrad.nD Cert.QueryGrad.τ).loc Cert.QueryGrad.main_arg2))
      ∧ r.2.sem = fun _ => 0)

def quiescent_QueryGradIdeal [hQueryGradIdeal : Cert.QueryGradIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg), Pre_QueryGradIdeal m →
    θ_run (Cert.QueryGradIdeal.defs (F := Ideal)) (onTc (τ := Cert.QueryGradIdeal.τ) (Cert.QueryGradIdeal.main (F := Ideal))) ⟨m, fun _ => 0, g⟩ (fun r => (∀ c : Dev Cert.QueryGradIdeal.nD,
      r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
      ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1)
      ∧ r.2.mem ((c.tc : Thread Cert.QueryGradIdeal.nD Cert.QueryGradIdeal.τ).loc Cert.QueryGradIdeal.main_arg2) = m ((c.tc : Thread Cert.QueryGradIdeal.nD Cert.QueryGradIdeal.τ).loc Cert.QueryGradIdeal.main_arg2))
      ∧ r.2.sem = fun _ => 0)

def quiescent_QueryGradRefIdeal [hQueryGradRefIdeal : Cert.QueryGradRefIdeal.Facts] : Prop :=
  ∀ (m : (ℓ : Loc Cert.QueryGradRefIdeal.nD Cert.QueryGradRefIdeal.τ Cert.QueryGradRefIdeal.sig) → Buf (Elt Ideal) ℓ) (g : Dev Cert.QueryGradRefIdeal.nD → PrngReg), Pre_QueryGradRefIdeal m →
    θ_run (Cert.QueryGradRefIdeal.defs (F := Ideal)) (onTc (τ := Cert.QueryGradRefIdeal.τ) (Cert.QueryGradRefIdeal.main (F := Ideal))) ⟨m, fun _ => 0, g⟩ (fun r => (∀ c : Dev Cert.QueryGradRefIdeal.nD,
      r.2.mem ((c.tc : Thread Cert.QueryGradRefIdeal.nD Cert.QueryGradRefIdeal.τ).loc Cert.QueryGradRefIdeal.main_arg0) = m ((c.tc : Thread Cert.QueryGradRefIdeal.nD Cert.QueryGradRefIdeal.τ).loc Cert.QueryGradRefIdeal.main_arg0)
      ∧ r.2.mem ((c.tc : Thread Cert.QueryGradRefIdeal.nD Cert.QueryGradRefIdeal.τ).loc Cert.QueryGradRefIdeal.main_arg1) = m ((c.tc : Thread Cert.QueryGradRefIdeal.nD Cert.QueryGradRefIdeal.τ).loc Cert.QueryGradRefIdeal.main_arg1)
      ∧ r.2.mem ((c.tc : Thread Cert.QueryGradRefIdeal.nD Cert.QueryGradRefIdeal.τ).loc Cert.QueryGradRefIdeal.main_arg2) = m ((c.tc : Thread Cert.QueryGradRefIdeal.nD Cert.QueryGradRefIdeal.τ).loc Cert.QueryGradRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchGrad [hBranchGrad : Cert.BranchGrad.Facts] : Prop :=
  ∀ (m : (ℓ : Loc Cert.BranchGrad.nD Cert.BranchGrad.τ Cert.BranchGrad.sig) → Buf (Elt Bits) ℓ) (g : Dev Cert.BranchGrad.nD → PrngReg), Pre_BranchGrad m →
    θ_run (Cert.BranchGrad.defs (F := Bits)) (onTc (τ := Cert.BranchGrad.τ) (Cert.BranchGrad.main (F := Bits))) ⟨m, fun _ => 0, g⟩ (fun r => (∀ c : Dev Cert.BranchGrad.nD,
      r.2.mem ((c.tc : Thread Cert.BranchGrad.nD Cert.BranchGrad.τ).loc Cert.BranchGrad.main_arg0) = m ((c.tc : Thread Cert.BranchGrad.nD Cert.BranchGrad.τ).loc Cert.BranchGrad.main_arg0)
      ∧ r.2.mem ((c.tc : Thread Cert.BranchGrad.nD Cert.BranchGrad.τ).loc Cert.BranchGrad.main_arg1) = m ((c.tc : Thread Cert.BranchGrad.nD Cert.BranchGrad.τ).loc Cert.BranchGrad.main_arg1)
      ∧ r.2.mem ((c.tc : Thread Cert.BranchGrad.nD Cert.BranchGrad.τ).loc Cert.BranchGrad.main_arg2) = m ((c.tc : Thread Cert.BranchGrad.nD Cert.BranchGrad.τ).loc Cert.BranchGrad.main_arg2))
      ∧ r.2.sem = fun _ => 0)

def quiescent_BranchGradIdeal [hBranchGradIdeal : Cert.BranchGradIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg), Pre_BranchGradIdeal m →
    θ_run (Cert.BranchGradIdeal.defs (F := Ideal)) (onTc (τ := Cert.BranchGradIdeal.τ) (Cert.BranchGradIdeal.main (F := Ideal))) ⟨m, fun _ => 0, g⟩ (fun r => (∀ c : Dev Cert.BranchGradIdeal.nD,
      r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
      ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1)
      ∧ r.2.mem ((c.tc : Thread Cert.BranchGradIdeal.nD Cert.BranchGradIdeal.τ).loc Cert.BranchGradIdeal.main_arg2) = m ((c.tc : Thread Cert.BranchGradIdeal.nD Cert.BranchGradIdeal.τ).loc Cert.BranchGradIdeal.main_arg2))
      ∧ r.2.sem = fun _ => 0)

def quiescent_BranchGradRefIdeal [hBranchGradRefIdeal : Cert.BranchGradRefIdeal.Facts] : Prop :=
  ∀ (m : (ℓ : Loc Cert.BranchGradRefIdeal.nD Cert.BranchGradRefIdeal.τ Cert.BranchGradRefIdeal.sig) → Buf (Elt Ideal) ℓ) (g : Dev Cert.BranchGradRefIdeal.nD → PrngReg), Pre_BranchGradRefIdeal m →
    θ_run (Cert.BranchGradRefIdeal.defs (F := Ideal)) (onTc (τ := Cert.BranchGradRefIdeal.τ) (Cert.BranchGradRefIdeal.main (F := Ideal))) ⟨m, fun _ => 0, g⟩ (fun r => (∀ c : Dev Cert.BranchGradRefIdeal.nD,
      r.2.mem ((c.tc : Thread Cert.BranchGradRefIdeal.nD Cert.BranchGradRefIdeal.τ).loc Cert.BranchGradRefIdeal.main_arg0) = m ((c.tc : Thread Cert.BranchGradRefIdeal.nD Cert.BranchGradRefIdeal.τ).loc Cert.BranchGradRefIdeal.main_arg0)
      ∧ r.2.mem ((c.tc : Thread Cert.BranchGradRefIdeal.nD Cert.BranchGradRefIdeal.τ).loc Cert.BranchGradRefIdeal.main_arg1) = m ((c.tc : Thread Cert.BranchGradRefIdeal.nD Cert.BranchGradRefIdeal.τ).loc Cert.BranchGradRefIdeal.main_arg1)
      ∧ r.2.mem ((c.tc : Thread Cert.BranchGradRefIdeal.nD Cert.BranchGradRefIdeal.τ).loc Cert.BranchGradRefIdeal.main_arg2) = m ((c.tc : Thread Cert.BranchGradRefIdeal.nD Cert.BranchGradRefIdeal.τ).loc Cert.BranchGradRefIdeal.main_arg2))
      ∧ r.2.sem = fun _ => 0)

def quiescent_BranchBack [hBranchBack : Cert.BranchBack.Facts] : Prop :=
  ∀ (m : (ℓ : Loc Cert.BranchBack.nD Cert.BranchBack.τ Cert.BranchBack.sig) → Buf (Elt Bits) ℓ) (g : Dev Cert.BranchBack.nD → PrngReg), Pre_BranchBack m →
    θ_run (Cert.BranchBack.defs (F := Bits)) (onTc (τ := Cert.BranchBack.τ) (Cert.BranchBack.main (F := Bits))) ⟨m, fun _ => 0, g⟩ (fun r => (∀ c : Dev Cert.BranchBack.nD,
      r.2.mem ((c.tc : Thread Cert.BranchBack.nD Cert.BranchBack.τ).loc Cert.BranchBack.main_arg0) = m ((c.tc : Thread Cert.BranchBack.nD Cert.BranchBack.τ).loc Cert.BranchBack.main_arg0)
      ∧ r.2.mem ((c.tc : Thread Cert.BranchBack.nD Cert.BranchBack.τ).loc Cert.BranchBack.main_arg1) = m ((c.tc : Thread Cert.BranchBack.nD Cert.BranchBack.τ).loc Cert.BranchBack.main_arg1)
      ∧ r.2.mem ((c.tc : Thread Cert.BranchBack.nD Cert.BranchBack.τ).loc Cert.BranchBack.main_arg2) = m ((c.tc : Thread Cert.BranchBack.nD Cert.BranchBack.τ).loc Cert.BranchBack.main_arg2))
      ∧ r.2.sem = fun _ => 0)

def quiescent_BranchBackIdeal [hBranchBackIdeal : Cert.BranchBackIdeal.Facts] : Prop :=
  ∀ (m : (ℓ : Loc Cert.BranchBackIdeal.nD Cert.BranchBackIdeal.τ Cert.BranchBackIdeal.sig) → Buf (Elt Ideal) ℓ) (g : Dev Cert.BranchBackIdeal.nD → PrngReg), Pre_BranchBackIdeal m →
    θ_run (Cert.BranchBackIdeal.defs (F := Ideal)) (onTc (τ := Cert.BranchBackIdeal.τ) (Cert.BranchBackIdeal.main (F := Ideal))) ⟨m, fun _ => 0, g⟩ (fun r => (∀ c : Dev Cert.BranchBackIdeal.nD,
      r.2.mem ((c.tc : Thread Cert.BranchBackIdeal.nD Cert.BranchBackIdeal.τ).loc Cert.BranchBackIdeal.main_arg0) = m ((c.tc : Thread Cert.BranchBackIdeal.nD Cert.BranchBackIdeal.τ).loc Cert.BranchBackIdeal.main_arg0)
      ∧ r.2.mem ((c.tc : Thread Cert.BranchBackIdeal.nD Cert.BranchBackIdeal.τ).loc Cert.BranchBackIdeal.main_arg1) = m ((c.tc : Thread Cert.BranchBackIdeal.nD Cert.BranchBackIdeal.τ).loc Cert.BranchBackIdeal.main_arg1)
      ∧ r.2.mem ((c.tc : Thread Cert.BranchBackIdeal.nD Cert.BranchBackIdeal.τ).loc Cert.BranchBackIdeal.main_arg2) = m ((c.tc : Thread Cert.BranchBackIdeal.nD Cert.BranchBackIdeal.τ).loc Cert.BranchBackIdeal.main_arg2))
      ∧ r.2.sem = fun _ => 0)

def quiescent_BranchBackRefIdeal [hBranchBackRefIdeal : Cert.BranchBackRefIdeal.Facts] : Prop :=
  ∀ (m : (ℓ : Loc Cert.BranchBackRefIdeal.nD Cert.BranchBackRefIdeal.τ Cert.BranchBackRefIdeal.sig) → Buf (Elt Ideal) ℓ) (g : Dev Cert.BranchBackRefIdeal.nD → PrngReg), Pre_BranchBackRefIdeal m →
    θ_run (Cert.BranchBackRefIdeal.defs (F := Ideal)) (onTc (τ := Cert.BranchBackRefIdeal.τ) (Cert.BranchBackRefIdeal.main (F := Ideal))) ⟨m, fun _ => 0, g⟩ (fun r => (∀ c : Dev Cert.BranchBackRefIdeal.nD,
      r.2.mem ((c.tc : Thread Cert.BranchBackRefIdeal.nD Cert.BranchBackRefIdeal.τ).loc Cert.BranchBackRefIdeal.main_arg0) = m ((c.tc : Thread Cert.BranchBackRefIdeal.nD Cert.BranchBackRefIdeal.τ).loc Cert.BranchBackRefIdeal.main_arg0)
      ∧ r.2.mem ((c.tc : Thread Cert.BranchBackRefIdeal.nD Cert.BranchBackRefIdeal.τ).loc Cert.BranchBackRefIdeal.main_arg1) = m ((c.tc : Thread Cert.BranchBackRefIdeal.nD Cert.BranchBackRefIdeal.τ).loc Cert.BranchBackRefIdeal.main_arg1)
      ∧ r.2.mem ((c.tc : Thread Cert.BranchBackRefIdeal.nD Cert.BranchBackRefIdeal.τ).loc Cert.BranchBackRefIdeal.main_arg2) = m ((c.tc : Thread Cert.BranchBackRefIdeal.nD Cert.BranchBackRefIdeal.τ).loc Cert.BranchBackRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3)
      ∧ r.2.mem ((c.tc : Thread Cert.MergeBack.nD Cert.MergeBack.τ).loc Cert.MergeBack.main_arg4) = m ((c.tc : Thread Cert.MergeBack.nD Cert.MergeBack.τ).loc Cert.MergeBack.main_arg4))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
      ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3)
      ∧ r.2.mem ((c.tc : Thread Cert.MergeBackRefIdeal.nD Cert.MergeBackRefIdeal.τ).loc Cert.MergeBackRefIdeal.main_arg4) = m ((c.tc : Thread Cert.MergeBackRefIdeal.nD Cert.MergeBackRefIdeal.τ).loc Cert.MergeBackRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v76)) (v3 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_v68) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v4_0)) (v1 : (c : Dev Cert.GateIdeal.nD) → Buf (Elt Ideal) ((c.tc : Thread Cert.GateIdeal.nD Cert.GateIdeal.τ).loc Cert.GateIdeal.main_v4_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_0) = v0 c
          ∧ r.2.mem ((c.tc : Thread Cert.GateIdeal.nD Cert.GateIdeal.τ).loc Cert.GateIdeal.main_v4_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v11) = v0 c
          ∧ r.2.mem ((c.tc : Thread Cert.GateRefIdeal.nD Cert.GateRefIdeal.τ).loc Cert.GateRefIdeal.main_v12) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)) →
    ∃ (v0 : (c : Dev Cert.BackIdeal.nD) → Buf (Elt Ideal) ((c.tc : Thread Cert.BackIdeal.nD Cert.BackIdeal.τ).loc Cert.BackIdeal.main_v3)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v3) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v1) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2))

def preserves_ProjGrad_ProjGradIdeal : Prop :=
  True

def algebraic_ProjGradIdeal_ProjGradRefIdeal [hProjGradIdeal : Cert.ProjGradIdeal.Facts] [hProjGradRefIdeal : Cert.ProjGradRefIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradRefIdeal.nD Cert.ProjGradRefIdeal.τ Cert.ProjGradRefIdeal.sig) → Buf (Elt Ideal) ℓ) (g' : Dev Cert.ProjGradRefIdeal.nD → PrngReg), Pre_ProjGradIdeal m →
    (∀ c : Dev Cert.ProjGradIdeal.nD,
      m' ((c.tc : Thread Cert.ProjGradRefIdeal.nD Cert.ProjGradRefIdeal.τ).loc Cert.ProjGradRefIdeal.main_arg0) = m ((c.tc : Thread Cert.ProjGradIdeal.nD Cert.ProjGradIdeal.τ).loc Cert.ProjGradIdeal.main_arg0)
      ∧ m' ((c.tc : Thread Cert.ProjGradRefIdeal.nD Cert.ProjGradRefIdeal.τ).loc Cert.ProjGradRefIdeal.main_arg1) = m ((c.tc : Thread Cert.ProjGradIdeal.nD Cert.ProjGradIdeal.τ).loc Cert.ProjGradIdeal.main_arg1)
      ∧ m' ((c.tc : Thread Cert.ProjGradRefIdeal.nD Cert.ProjGradRefIdeal.τ).loc Cert.ProjGradRefIdeal.main_arg2) = m ((c.tc : Thread Cert.ProjGradIdeal.nD Cert.ProjGradIdeal.τ).loc Cert.ProjGradIdeal.main_arg2)) →
    ∃ (v0 : (c : Dev Cert.ProjGradIdeal.nD) → Buf (Elt Ideal) ((c.tc : Thread Cert.ProjGradIdeal.nD Cert.ProjGradIdeal.τ).loc Cert.ProjGradIdeal.main_v2)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v2) = v0 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2))
      ∧ θ_run (Cert.ProjGradRefIdeal.defs (F := Ideal)) (onTc (τ := Cert.ProjGradRefIdeal.τ) (Cert.ProjGradRefIdeal.main (F := Ideal))) ⟨m', fun _ => 0, g'⟩ (fun r => ∀ c : Dev Cert.ProjGradRefIdeal.nD,
          r.2.mem ((c.tc : Thread Cert.ProjGradRefIdeal.nD Cert.ProjGradRefIdeal.τ).loc Cert.ProjGradRefIdeal.main_v2) = v0 c
          ∧ r.2.mem ((c.tc : Thread Cert.ProjGradRefIdeal.nD Cert.ProjGradRefIdeal.τ).loc Cert.ProjGradRefIdeal.main_arg0) = m' ((c.tc : Thread Cert.ProjGradRefIdeal.nD Cert.ProjGradRefIdeal.τ).loc Cert.ProjGradRefIdeal.main_arg0)
          ∧ r.2.mem ((c.tc : Thread Cert.ProjGradRefIdeal.nD Cert.ProjGradRefIdeal.τ).loc Cert.ProjGradRefIdeal.main_arg1) = m' ((c.tc : Thread Cert.ProjGradRefIdeal.nD Cert.ProjGradRefIdeal.τ).loc Cert.ProjGradRefIdeal.main_arg1)
          ∧ r.2.mem ((c.tc : Thread Cert.ProjGradRefIdeal.nD Cert.ProjGradRefIdeal.τ).loc Cert.ProjGradRefIdeal.main_arg2) = m' ((c.tc : Thread Cert.ProjGradRefIdeal.nD Cert.ProjGradRefIdeal.τ).loc Cert.ProjGradRefIdeal.main_arg2))

def preserves_Open_OpenIdeal : Prop :=
  True

def algebraic_OpenIdeal_OpenRefIdeal [hOpenIdeal : Cert.OpenIdeal.Facts] [hOpenRefIdeal : Cert.OpenRefIdeal.Facts] : Prop :=
  ∀ (m : (ℓ : Loc Cert.OpenIdeal.nD Cert.OpenIdeal.τ Cert.OpenIdeal.sig) → Buf (Elt Ideal) ℓ) (g : Dev Cert.OpenIdeal.nD → PrngReg)
    (m' : (ℓ : Loc Cert.OpenRefIdeal.nD Cert.OpenRefIdeal.τ Cert.OpenRefIdeal.sig) → Buf (Elt Ideal) ℓ) (g' : Dev Cert.OpenRefIdeal.nD → PrngReg), Pre_OpenIdeal m →
    (∀ c : Dev Cert.OpenIdeal.nD,
      m' ((c.tc : Thread Cert.OpenRefIdeal.nD Cert.OpenRefIdeal.τ).loc Cert.OpenRefIdeal.main_arg0) = m ((c.tc : Thread Cert.OpenIdeal.nD Cert.OpenIdeal.τ).loc Cert.OpenIdeal.main_arg0)
      ∧ m' ((c.tc : Thread Cert.OpenRefIdeal.nD Cert.OpenRefIdeal.τ).loc Cert.OpenRefIdeal.main_arg1) = m ((c.tc : Thread Cert.OpenIdeal.nD Cert.OpenIdeal.τ).loc Cert.OpenIdeal.main_arg1)) →
    ∃ (v0 : (c : Dev Cert.OpenIdeal.nD) → Buf (Elt Ideal) ((c.tc : Thread Cert.OpenIdeal.nD Cert.OpenIdeal.τ).loc Cert.OpenIdeal.main_v2)),
      θ_run (Cert.OpenIdeal.defs (F := Ideal)) (onTc (τ := Cert.OpenIdeal.τ) (Cert.OpenIdeal.main (F := Ideal))) ⟨m, fun _ => 0, g⟩ (fun r => ∀ c : Dev Cert.OpenIdeal.nD,
          r.2.mem ((c.tc : Thread Cert.OpenIdeal.nD Cert.OpenIdeal.τ).loc Cert.OpenIdeal.main_v2) = v0 c
          ∧ r.2.mem ((c.tc : Thread Cert.OpenIdeal.nD Cert.OpenIdeal.τ).loc Cert.OpenIdeal.main_arg0) = m ((c.tc : Thread Cert.OpenIdeal.nD Cert.OpenIdeal.τ).loc Cert.OpenIdeal.main_arg0)
          ∧ r.2.mem ((c.tc : Thread Cert.OpenIdeal.nD Cert.OpenIdeal.τ).loc Cert.OpenIdeal.main_arg1) = m ((c.tc : Thread Cert.OpenIdeal.nD Cert.OpenIdeal.τ).loc Cert.OpenIdeal.main_arg1))
      ∧ θ_run (Cert.OpenRefIdeal.defs (F := Ideal)) (onTc (τ := Cert.OpenRefIdeal.τ) (Cert.OpenRefIdeal.main (F := Ideal))) ⟨m', fun _ => 0, g'⟩ (fun r => ∀ c : Dev Cert.OpenRefIdeal.nD,
          r.2.mem ((c.tc : Thread Cert.OpenRefIdeal.nD Cert.OpenRefIdeal.τ).loc Cert.OpenRefIdeal.main_v1) = v0 c
          ∧ r.2.mem ((c.tc : Thread Cert.OpenRefIdeal.nD Cert.OpenRefIdeal.τ).loc Cert.OpenRefIdeal.main_arg0) = m' ((c.tc : Thread Cert.OpenRefIdeal.nD Cert.OpenRefIdeal.τ).loc Cert.OpenRefIdeal.main_arg0)
          ∧ r.2.mem ((c.tc : Thread Cert.OpenRefIdeal.nD Cert.OpenRefIdeal.τ).loc Cert.OpenRefIdeal.main_arg1) = m' ((c.tc : Thread Cert.OpenRefIdeal.nD Cert.OpenRefIdeal.τ).loc Cert.OpenRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Close_CloseIdeal : Prop :=
  True

def algebraic_CloseIdeal_CloseRefIdeal [hCloseIdeal : Cert.CloseIdeal.Facts] [hCloseRefIdeal : Cert.CloseRefIdeal.Facts] : Prop :=
  ∀ (m : (ℓ : Loc Cert.CloseIdeal.nD Cert.CloseIdeal.τ Cert.CloseIdeal.sig) → Buf (Elt Ideal) ℓ) (g : Dev Cert.CloseIdeal.nD → PrngReg)
    (m' : (ℓ : Loc Cert.CloseRefIdeal.nD Cert.CloseRefIdeal.τ Cert.CloseRefIdeal.sig) → Buf (Elt Ideal) ℓ) (g' : Dev Cert.CloseRefIdeal.nD → PrngReg), Pre_CloseIdeal m →
    (∀ c : Dev Cert.CloseIdeal.nD,
      m' ((c.tc : Thread Cert.CloseRefIdeal.nD Cert.CloseRefIdeal.τ).loc Cert.CloseRefIdeal.main_arg0) = m ((c.tc : Thread Cert.CloseIdeal.nD Cert.CloseIdeal.τ).loc Cert.CloseIdeal.main_arg0)
      ∧ m' ((c.tc : Thread Cert.CloseRefIdeal.nD Cert.CloseRefIdeal.τ).loc Cert.CloseRefIdeal.main_arg1) = m ((c.tc : Thread Cert.CloseIdeal.nD Cert.CloseIdeal.τ).loc Cert.CloseIdeal.main_arg1)
      ∧ m' ((c.tc : Thread Cert.CloseRefIdeal.nD Cert.CloseRefIdeal.τ).loc Cert.CloseRefIdeal.main_arg2) = m ((c.tc : Thread Cert.CloseIdeal.nD Cert.CloseIdeal.τ).loc Cert.CloseIdeal.main_arg2)) →
    ∃ (v0 : (c : Dev Cert.CloseIdeal.nD) → Buf (Elt Ideal) ((c.tc : Thread Cert.CloseIdeal.nD Cert.CloseIdeal.τ).loc Cert.CloseIdeal.main_v2)),
      θ_run (Cert.CloseIdeal.defs (F := Ideal)) (onTc (τ := Cert.CloseIdeal.τ) (Cert.CloseIdeal.main (F := Ideal))) ⟨m, fun _ => 0, g⟩ (fun r => ∀ c : Dev Cert.CloseIdeal.nD,
          r.2.mem ((c.tc : Thread Cert.CloseIdeal.nD Cert.CloseIdeal.τ).loc Cert.CloseIdeal.main_v2) = v0 c
          ∧ r.2.mem ((c.tc : Thread Cert.CloseIdeal.nD Cert.CloseIdeal.τ).loc Cert.CloseIdeal.main_arg0) = m ((c.tc : Thread Cert.CloseIdeal.nD Cert.CloseIdeal.τ).loc Cert.CloseIdeal.main_arg0)
          ∧ r.2.mem ((c.tc : Thread Cert.CloseIdeal.nD Cert.CloseIdeal.τ).loc Cert.CloseIdeal.main_arg1) = m ((c.tc : Thread Cert.CloseIdeal.nD Cert.CloseIdeal.τ).loc Cert.CloseIdeal.main_arg1)
          ∧ r.2.mem ((c.tc : Thread Cert.CloseIdeal.nD Cert.CloseIdeal.τ).loc Cert.CloseIdeal.main_arg2) = m ((c.tc : Thread Cert.CloseIdeal.nD Cert.CloseIdeal.τ).loc Cert.CloseIdeal.main_arg2))
      ∧ θ_run (Cert.CloseRefIdeal.defs (F := Ideal)) (onTc (τ := Cert.CloseRefIdeal.τ) (Cert.CloseRefIdeal.main (F := Ideal))) ⟨m', fun _ => 0, g'⟩ (fun r => ∀ c : Dev Cert.CloseRefIdeal.nD,
          r.2.mem ((c.tc : Thread Cert.CloseRefIdeal.nD Cert.CloseRefIdeal.τ).loc Cert.CloseRefIdeal.main_v3) = v0 c
          ∧ r.2.mem ((c.tc : Thread Cert.CloseRefIdeal.nD Cert.CloseRefIdeal.τ).loc Cert.CloseRefIdeal.main_arg0) = m' ((c.tc : Thread Cert.CloseRefIdeal.nD Cert.CloseRefIdeal.τ).loc Cert.CloseRefIdeal.main_arg0)
          ∧ r.2.mem ((c.tc : Thread Cert.CloseRefIdeal.nD Cert.CloseRefIdeal.τ).loc Cert.CloseRefIdeal.main_arg1) = m' ((c.tc : Thread Cert.CloseRefIdeal.nD Cert.CloseRefIdeal.τ).loc Cert.CloseRefIdeal.main_arg1)
          ∧ r.2.mem ((c.tc : Thread Cert.CloseRefIdeal.nD Cert.CloseRefIdeal.τ).loc Cert.CloseRefIdeal.main_arg2) = m' ((c.tc : Thread Cert.CloseRefIdeal.nD Cert.CloseRefIdeal.τ).loc Cert.CloseRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v4_0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)) →
    ∃ (v0 : (c : Dev Cert.MixNormIdeal.nD) → Buf (Elt Ideal) ((c.tc : Thread Cert.MixNormIdeal.nD Cert.MixNormIdeal.τ).loc Cert.MixNormIdeal.main_v4_0)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v4_0) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v34) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)) →
    ∃ (v0 : (c : Dev Cert.OutGradIdeal.nD) → Buf (Elt Ideal) ((c.tc : Thread Cert.OutGradIdeal.nD Cert.OutGradIdeal.τ).loc Cert.OutGradIdeal.main_v1)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v1) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v2) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)
      ∧ m' ((c.tc : Thread Cert.OutBackRefIdeal.nD Cert.OutBackRefIdeal.τ).loc Cert.OutBackRefIdeal.main_arg2) = m ((c.tc : Thread Cert.OutBackIdeal.nD Cert.OutBackIdeal.τ).loc Cert.OutBackIdeal.main_arg2)) →
    ∃ (v0 : (c : Dev Cert.OutBackIdeal.nD) → Buf (Elt Ideal) ((c.tc : Thread Cert.OutBackIdeal.nD Cert.OutBackIdeal.τ).loc Cert.OutBackIdeal.main_v2)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v2) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
          ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v1) = v0 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1)
          ∧ r.2.mem ((c.tc : Thread Cert.OutBackRefIdeal.nD Cert.OutBackRefIdeal.τ).loc Cert.OutBackRefIdeal.main_arg2) = m' ((c.tc : Thread Cert.OutBackRefIdeal.nD Cert.OutBackRefIdeal.τ).loc Cert.OutBackRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_XaNorm_XaNormIdeal : Prop :=
  True

def algebraic_XaNormIdeal_XaNormRefIdeal [hXaNormIdeal : Cert.XaNormIdeal.Facts] [hXaNormRefIdeal : Cert.XaNormRefIdeal.Facts] : Prop :=
  ∀ (m : (ℓ : Loc Cert.XaNormIdeal.nD Cert.XaNormIdeal.τ Cert.XaNormIdeal.sig) → Buf (Elt Ideal) ℓ) (g : Dev Cert.XaNormIdeal.nD → PrngReg)
    (m' : (ℓ : Loc Cert.XaNormRefIdeal.nD Cert.XaNormRefIdeal.τ Cert.XaNormRefIdeal.sig) → Buf (Elt Ideal) ℓ) (g' : Dev Cert.XaNormRefIdeal.nD → PrngReg), Pre_XaNormIdeal m →
    (∀ c : Dev Cert.XaNormIdeal.nD,
      m' ((c.tc : Thread Cert.XaNormRefIdeal.nD Cert.XaNormRefIdeal.τ).loc Cert.XaNormRefIdeal.main_arg0) = m ((c.tc : Thread Cert.XaNormIdeal.nD Cert.XaNormIdeal.τ).loc Cert.XaNormIdeal.main_arg0)
      ∧ m' ((c.tc : Thread Cert.XaNormRefIdeal.nD Cert.XaNormRefIdeal.τ).loc Cert.XaNormRefIdeal.main_arg1) = m ((c.tc : Thread Cert.XaNormIdeal.nD Cert.XaNormIdeal.τ).loc Cert.XaNormIdeal.main_arg1)
      ∧ m' ((c.tc : Thread Cert.XaNormRefIdeal.nD Cert.XaNormRefIdeal.τ).loc Cert.XaNormRefIdeal.main_arg2) = m ((c.tc : Thread Cert.XaNormIdeal.nD Cert.XaNormIdeal.τ).loc Cert.XaNormIdeal.main_arg2)
      ∧ m' ((c.tc : Thread Cert.XaNormRefIdeal.nD Cert.XaNormRefIdeal.τ).loc Cert.XaNormRefIdeal.main_arg3) = m ((c.tc : Thread Cert.XaNormIdeal.nD Cert.XaNormIdeal.τ).loc Cert.XaNormIdeal.main_arg3)
      ∧ m' ((c.tc : Thread Cert.XaNormRefIdeal.nD Cert.XaNormRefIdeal.τ).loc Cert.XaNormRefIdeal.main_arg4) = m ((c.tc : Thread Cert.XaNormIdeal.nD Cert.XaNormIdeal.τ).loc Cert.XaNormIdeal.main_arg4)) →
    ∃ (v0 : (c : Dev Cert.XaNormIdeal.nD) → Buf (Elt Ideal) ((c.tc : Thread Cert.XaNormIdeal.nD Cert.XaNormIdeal.τ).loc Cert.XaNormIdeal.main_v4_0)),
      θ_run (Cert.XaNormIdeal.defs (F := Ideal)) (onTc (τ := Cert.XaNormIdeal.τ) (Cert.XaNormIdeal.main (F := Ideal))) ⟨m, fun _ => 0, g⟩ (fun r => ∀ c : Dev Cert.XaNormIdeal.nD,
          r.2.mem ((c.tc : Thread Cert.XaNormIdeal.nD Cert.XaNormIdeal.τ).loc Cert.XaNormIdeal.main_v4_0) = v0 c
          ∧ r.2.mem ((c.tc : Thread Cert.XaNormIdeal.nD Cert.XaNormIdeal.τ).loc Cert.XaNormIdeal.main_arg0) = m ((c.tc : Thread Cert.XaNormIdeal.nD Cert.XaNormIdeal.τ).loc Cert.XaNormIdeal.main_arg0)
          ∧ r.2.mem ((c.tc : Thread Cert.XaNormIdeal.nD Cert.XaNormIdeal.τ).loc Cert.XaNormIdeal.main_arg1) = m ((c.tc : Thread Cert.XaNormIdeal.nD Cert.XaNormIdeal.τ).loc Cert.XaNormIdeal.main_arg1)
          ∧ r.2.mem ((c.tc : Thread Cert.XaNormIdeal.nD Cert.XaNormIdeal.τ).loc Cert.XaNormIdeal.main_arg2) = m ((c.tc : Thread Cert.XaNormIdeal.nD Cert.XaNormIdeal.τ).loc Cert.XaNormIdeal.main_arg2)
          ∧ r.2.mem ((c.tc : Thread Cert.XaNormIdeal.nD Cert.XaNormIdeal.τ).loc Cert.XaNormIdeal.main_arg3) = m ((c.tc : Thread Cert.XaNormIdeal.nD Cert.XaNormIdeal.τ).loc Cert.XaNormIdeal.main_arg3)
          ∧ r.2.mem ((c.tc : Thread Cert.XaNormIdeal.nD Cert.XaNormIdeal.τ).loc Cert.XaNormIdeal.main_arg4) = m ((c.tc : Thread Cert.XaNormIdeal.nD Cert.XaNormIdeal.τ).loc Cert.XaNormIdeal.main_arg4))
      ∧ θ_run (Cert.XaNormRefIdeal.defs (F := Ideal)) (onTc (τ := Cert.XaNormRefIdeal.τ) (Cert.XaNormRefIdeal.main (F := Ideal))) ⟨m', fun _ => 0, g'⟩ (fun r => ∀ c : Dev Cert.XaNormRefIdeal.nD,
          r.2.mem ((c.tc : Thread Cert.XaNormRefIdeal.nD Cert.XaNormRefIdeal.τ).loc Cert.XaNormRefIdeal.main_v34) = v0 c
          ∧ r.2.mem ((c.tc : Thread Cert.XaNormRefIdeal.nD Cert.XaNormRefIdeal.τ).loc Cert.XaNormRefIdeal.main_arg0) = m' ((c.tc : Thread Cert.XaNormRefIdeal.nD Cert.XaNormRefIdeal.τ).loc Cert.XaNormRefIdeal.main_arg0)
          ∧ r.2.mem ((c.tc : Thread Cert.XaNormRefIdeal.nD Cert.XaNormRefIdeal.τ).loc Cert.XaNormRefIdeal.main_arg1) = m' ((c.tc : Thread Cert.XaNormRefIdeal.nD Cert.XaNormRefIdeal.τ).loc Cert.XaNormRefIdeal.main_arg1)
          ∧ r.2.mem ((c.tc : Thread Cert.XaNormRefIdeal.nD Cert.XaNormRefIdeal.τ).loc Cert.XaNormRefIdeal.main_arg2) = m' ((c.tc : Thread Cert.XaNormRefIdeal.nD Cert.XaNormRefIdeal.τ).loc Cert.XaNormRefIdeal.main_arg2)
          ∧ r.2.mem ((c.tc : Thread Cert.XaNormRefIdeal.nD Cert.XaNormRefIdeal.τ).loc Cert.XaNormRefIdeal.main_arg3) = m' ((c.tc : Thread Cert.XaNormRefIdeal.nD Cert.XaNormRefIdeal.τ).loc Cert.XaNormRefIdeal.main_arg3)
          ∧ r.2.mem ((c.tc : Thread Cert.XaNormRefIdeal.nD Cert.XaNormRefIdeal.τ).loc Cert.XaNormRefIdeal.main_arg4) = m' ((c.tc : Thread Cert.XaNormRefIdeal.nD Cert.XaNormRefIdeal.τ).loc Cert.XaNormRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v1) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_QueryGrad_QueryGradIdeal : Prop :=
  True

def algebraic_QueryGradIdeal_QueryGradRefIdeal [hQueryGradIdeal : Cert.QueryGradIdeal.Facts] [hQueryGradRefIdeal : Cert.QueryGradRefIdeal.Facts] : Prop :=
  ∀ (m : (ℓ : Loc Cert.QueryGradIdeal.nD Cert.QueryGradIdeal.τ Cert.QueryGradIdeal.sig) → Buf (Elt Ideal) ℓ) (g : Dev Cert.QueryGradIdeal.nD → PrngReg)
    (m' : (ℓ : Loc Cert.QueryGradRefIdeal.nD Cert.QueryGradRefIdeal.τ Cert.QueryGradRefIdeal.sig) → Buf (Elt Ideal) ℓ) (g' : Dev Cert.QueryGradRefIdeal.nD → PrngReg), Pre_QueryGradIdeal m →
    (∀ c : Dev Cert.QueryGradIdeal.nD,
      m' ((c.tc : Thread Cert.QueryGradRefIdeal.nD Cert.QueryGradRefIdeal.τ).loc Cert.QueryGradRefIdeal.main_arg0) = m ((c.tc : Thread Cert.QueryGradIdeal.nD Cert.QueryGradIdeal.τ).loc Cert.QueryGradIdeal.main_arg0)
      ∧ m' ((c.tc : Thread Cert.QueryGradRefIdeal.nD Cert.QueryGradRefIdeal.τ).loc Cert.QueryGradRefIdeal.main_arg1) = m ((c.tc : Thread Cert.QueryGradIdeal.nD Cert.QueryGradIdeal.τ).loc Cert.QueryGradIdeal.main_arg1)
      ∧ m' ((c.tc : Thread Cert.QueryGradRefIdeal.nD Cert.QueryGradRefIdeal.τ).loc Cert.QueryGradRefIdeal.main_arg2) = m ((c.tc : Thread Cert.QueryGradIdeal.nD Cert.QueryGradIdeal.τ).loc Cert.QueryGradIdeal.main_arg2)) →
    ∃ (v0 : (c : Dev Cert.QueryGradIdeal.nD) → Buf (Elt Ideal) ((c.tc : Thread Cert.QueryGradIdeal.nD Cert.QueryGradIdeal.τ).loc Cert.QueryGradIdeal.main_v2)),
      θ_run (Cert.QueryGradIdeal.defs (F := Ideal)) (onTc (τ := Cert.QueryGradIdeal.τ) (Cert.QueryGradIdeal.main (F := Ideal))) ⟨m, fun _ => 0, g⟩ (fun r => ∀ c : Dev Cert.QueryGradIdeal.nD,
          r.2.mem ((c.tc : Thread Cert.QueryGradIdeal.nD Cert.QueryGradIdeal.τ).loc Cert.QueryGradIdeal.main_v2) = v0 c
          ∧ r.2.mem ((c.tc : Thread Cert.QueryGradIdeal.nD Cert.QueryGradIdeal.τ).loc Cert.QueryGradIdeal.main_arg0) = m ((c.tc : Thread Cert.QueryGradIdeal.nD Cert.QueryGradIdeal.τ).loc Cert.QueryGradIdeal.main_arg0)
          ∧ r.2.mem ((c.tc : Thread Cert.QueryGradIdeal.nD Cert.QueryGradIdeal.τ).loc Cert.QueryGradIdeal.main_arg1) = m ((c.tc : Thread Cert.QueryGradIdeal.nD Cert.QueryGradIdeal.τ).loc Cert.QueryGradIdeal.main_arg1)
          ∧ r.2.mem ((c.tc : Thread Cert.QueryGradIdeal.nD Cert.QueryGradIdeal.τ).loc Cert.QueryGradIdeal.main_arg2) = m ((c.tc : Thread Cert.QueryGradIdeal.nD Cert.QueryGradIdeal.τ).loc Cert.QueryGradIdeal.main_arg2))
      ∧ θ_run (Cert.QueryGradRefIdeal.defs (F := Ideal)) (onTc (τ := Cert.QueryGradRefIdeal.τ) (Cert.QueryGradRefIdeal.main (F := Ideal))) ⟨m', fun _ => 0, g'⟩ (fun r => ∀ c : Dev Cert.QueryGradRefIdeal.nD,
          r.2.mem ((c.tc : Thread Cert.QueryGradRefIdeal.nD Cert.QueryGradRefIdeal.τ).loc Cert.QueryGradRefIdeal.main_v2) = v0 c
          ∧ r.2.mem ((c.tc : Thread Cert.QueryGradRefIdeal.nD Cert.QueryGradRefIdeal.τ).loc Cert.QueryGradRefIdeal.main_arg0) = m' ((c.tc : Thread Cert.QueryGradRefIdeal.nD Cert.QueryGradRefIdeal.τ).loc Cert.QueryGradRefIdeal.main_arg0)
          ∧ r.2.mem ((c.tc : Thread Cert.QueryGradRefIdeal.nD Cert.QueryGradRefIdeal.τ).loc Cert.QueryGradRefIdeal.main_arg1) = m' ((c.tc : Thread Cert.QueryGradRefIdeal.nD Cert.QueryGradRefIdeal.τ).loc Cert.QueryGradRefIdeal.main_arg1)
          ∧ r.2.mem ((c.tc : Thread Cert.QueryGradRefIdeal.nD Cert.QueryGradRefIdeal.τ).loc Cert.QueryGradRefIdeal.main_arg2) = m' ((c.tc : Thread Cert.QueryGradRefIdeal.nD Cert.QueryGradRefIdeal.τ).loc Cert.QueryGradRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v2) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v1) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchGrad_BranchGradIdeal : Prop :=
  True

def algebraic_BranchGradIdeal_BranchGradRefIdeal [hBranchGradIdeal : Cert.BranchGradIdeal.Facts] [hBranchGradRefIdeal : Cert.BranchGradRefIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg)
    (m' : (ℓ : Loc Cert.BranchGradRefIdeal.nD Cert.BranchGradRefIdeal.τ Cert.BranchGradRefIdeal.sig) → Buf (Elt Ideal) ℓ) (g' : Dev Cert.BranchGradRefIdeal.nD → PrngReg), Pre_BranchGradIdeal m →
    (∀ c : Dev Cert.BranchGradIdeal.nD,
      m' ((c.tc : Thread Cert.BranchGradRefIdeal.nD Cert.BranchGradRefIdeal.τ).loc Cert.BranchGradRefIdeal.main_arg0) = m ((c.tc : Thread Cert.BranchGradIdeal.nD Cert.BranchGradIdeal.τ).loc Cert.BranchGradIdeal.main_arg0)
      ∧ m' ((c.tc : Thread Cert.BranchGradRefIdeal.nD Cert.BranchGradRefIdeal.τ).loc Cert.BranchGradRefIdeal.main_arg1) = m ((c.tc : Thread Cert.BranchGradIdeal.nD Cert.BranchGradIdeal.τ).loc Cert.BranchGradIdeal.main_arg1)
      ∧ m' ((c.tc : Thread Cert.BranchGradRefIdeal.nD Cert.BranchGradRefIdeal.τ).loc Cert.BranchGradRefIdeal.main_arg2) = m ((c.tc : Thread Cert.BranchGradIdeal.nD Cert.BranchGradIdeal.τ).loc Cert.BranchGradIdeal.main_arg2)) →
    ∃ (v0 : (c : Dev Cert.BranchGradIdeal.nD) → Buf (Elt Ideal) ((c.tc : Thread Cert.BranchGradIdeal.nD Cert.BranchGradIdeal.τ).loc Cert.BranchGradIdeal.main_v2)),
      θ_run (Cert.BranchGradIdeal.defs (F := Ideal)) (onTc (τ := Cert.BranchGradIdeal.τ) (Cert.BranchGradIdeal.main (F := Ideal))) ⟨m, fun _ => 0, g⟩ (fun r => ∀ c : Dev Cert.BranchGradIdeal.nD,
          r.2.mem ((c.tc : Thread Cert.BranchGradIdeal.nD Cert.BranchGradIdeal.τ).loc Cert.BranchGradIdeal.main_v2) = v0 c
          ∧ r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
          ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1)
          ∧ r.2.mem ((c.tc : Thread Cert.BranchGradIdeal.nD Cert.BranchGradIdeal.τ).loc Cert.BranchGradIdeal.main_arg2) = m ((c.tc : Thread Cert.BranchGradIdeal.nD Cert.BranchGradIdeal.τ).loc Cert.BranchGradIdeal.main_arg2))
      ∧ θ_run (Cert.BranchGradRefIdeal.defs (F := Ideal)) (onTc (τ := Cert.BranchGradRefIdeal.τ) (Cert.BranchGradRefIdeal.main (F := Ideal))) ⟨m', fun _ => 0, g'⟩ (fun r => ∀ c : Dev Cert.BranchGradRefIdeal.nD,
          r.2.mem ((c.tc : Thread Cert.BranchGradRefIdeal.nD Cert.BranchGradRefIdeal.τ).loc Cert.BranchGradRefIdeal.main_v2) = v0 c
          ∧ r.2.mem ((c.tc : Thread Cert.BranchGradRefIdeal.nD Cert.BranchGradRefIdeal.τ).loc Cert.BranchGradRefIdeal.main_arg0) = m' ((c.tc : Thread Cert.BranchGradRefIdeal.nD Cert.BranchGradRefIdeal.τ).loc Cert.BranchGradRefIdeal.main_arg0)
          ∧ r.2.mem ((c.tc : Thread Cert.BranchGradRefIdeal.nD Cert.BranchGradRefIdeal.τ).loc Cert.BranchGradRefIdeal.main_arg1) = m' ((c.tc : Thread Cert.BranchGradRefIdeal.nD Cert.BranchGradRefIdeal.τ).loc Cert.BranchGradRefIdeal.main_arg1)
          ∧ r.2.mem ((c.tc : Thread Cert.BranchGradRefIdeal.nD Cert.BranchGradRefIdeal.τ).loc Cert.BranchGradRefIdeal.main_arg2) = m' ((c.tc : Thread Cert.BranchGradRefIdeal.nD Cert.BranchGradRefIdeal.τ).loc Cert.BranchGradRefIdeal.main_arg2))

def preserves_BranchBack_BranchBackIdeal : Prop :=
  True

def algebraic_BranchBackIdeal_BranchBackRefIdeal [hBranchBackIdeal : Cert.BranchBackIdeal.Facts] [hBranchBackRefIdeal : Cert.BranchBackRefIdeal.Facts] : Prop :=
  ∀ (m : (ℓ : Loc Cert.BranchBackIdeal.nD Cert.BranchBackIdeal.τ Cert.BranchBackIdeal.sig) → Buf (Elt Ideal) ℓ) (g : Dev Cert.BranchBackIdeal.nD → PrngReg)
    (m' : (ℓ : Loc Cert.BranchBackRefIdeal.nD Cert.BranchBackRefIdeal.τ Cert.BranchBackRefIdeal.sig) → Buf (Elt Ideal) ℓ) (g' : Dev Cert.BranchBackRefIdeal.nD → PrngReg), Pre_BranchBackIdeal m →
    (∀ c : Dev Cert.BranchBackIdeal.nD,
      m' ((c.tc : Thread Cert.BranchBackRefIdeal.nD Cert.BranchBackRefIdeal.τ).loc Cert.BranchBackRefIdeal.main_arg0) = m ((c.tc : Thread Cert.BranchBackIdeal.nD Cert.BranchBackIdeal.τ).loc Cert.BranchBackIdeal.main_arg0)
      ∧ m' ((c.tc : Thread Cert.BranchBackRefIdeal.nD Cert.BranchBackRefIdeal.τ).loc Cert.BranchBackRefIdeal.main_arg1) = m ((c.tc : Thread Cert.BranchBackIdeal.nD Cert.BranchBackIdeal.τ).loc Cert.BranchBackIdeal.main_arg1)
      ∧ m' ((c.tc : Thread Cert.BranchBackRefIdeal.nD Cert.BranchBackRefIdeal.τ).loc Cert.BranchBackRefIdeal.main_arg2) = m ((c.tc : Thread Cert.BranchBackIdeal.nD Cert.BranchBackIdeal.τ).loc Cert.BranchBackIdeal.main_arg2)) →
    ∃ (v0 : (c : Dev Cert.BranchBackIdeal.nD) → Buf (Elt Ideal) ((c.tc : Thread Cert.BranchBackIdeal.nD Cert.BranchBackIdeal.τ).loc Cert.BranchBackIdeal.main_v3)),
      θ_run (Cert.BranchBackIdeal.defs (F := Ideal)) (onTc (τ := Cert.BranchBackIdeal.τ) (Cert.BranchBackIdeal.main (F := Ideal))) ⟨m, fun _ => 0, g⟩ (fun r => ∀ c : Dev Cert.BranchBackIdeal.nD,
          r.2.mem ((c.tc : Thread Cert.BranchBackIdeal.nD Cert.BranchBackIdeal.τ).loc Cert.BranchBackIdeal.main_v3) = v0 c
          ∧ r.2.mem ((c.tc : Thread Cert.BranchBackIdeal.nD Cert.BranchBackIdeal.τ).loc Cert.BranchBackIdeal.main_arg0) = m ((c.tc : Thread Cert.BranchBackIdeal.nD Cert.BranchBackIdeal.τ).loc Cert.BranchBackIdeal.main_arg0)
          ∧ r.2.mem ((c.tc : Thread Cert.BranchBackIdeal.nD Cert.BranchBackIdeal.τ).loc Cert.BranchBackIdeal.main_arg1) = m ((c.tc : Thread Cert.BranchBackIdeal.nD Cert.BranchBackIdeal.τ).loc Cert.BranchBackIdeal.main_arg1)
          ∧ r.2.mem ((c.tc : Thread Cert.BranchBackIdeal.nD Cert.BranchBackIdeal.τ).loc Cert.BranchBackIdeal.main_arg2) = m ((c.tc : Thread Cert.BranchBackIdeal.nD Cert.BranchBackIdeal.τ).loc Cert.BranchBackIdeal.main_arg2))
      ∧ θ_run (Cert.BranchBackRefIdeal.defs (F := Ideal)) (onTc (τ := Cert.BranchBackRefIdeal.τ) (Cert.BranchBackRefIdeal.main (F := Ideal))) ⟨m', fun _ => 0, g'⟩ (fun r => ∀ c : Dev Cert.BranchBackRefIdeal.nD,
          r.2.mem ((c.tc : Thread Cert.BranchBackRefIdeal.nD Cert.BranchBackRefIdeal.τ).loc Cert.BranchBackRefIdeal.main_v1) = v0 c
          ∧ r.2.mem ((c.tc : Thread Cert.BranchBackRefIdeal.nD Cert.BranchBackRefIdeal.τ).loc Cert.BranchBackRefIdeal.main_arg0) = m' ((c.tc : Thread Cert.BranchBackRefIdeal.nD Cert.BranchBackRefIdeal.τ).loc Cert.BranchBackRefIdeal.main_arg0)
          ∧ r.2.mem ((c.tc : Thread Cert.BranchBackRefIdeal.nD Cert.BranchBackRefIdeal.τ).loc Cert.BranchBackRefIdeal.main_arg1) = m' ((c.tc : Thread Cert.BranchBackRefIdeal.nD Cert.BranchBackRefIdeal.τ).loc Cert.BranchBackRefIdeal.main_arg1)
          ∧ r.2.mem ((c.tc : Thread Cert.BranchBackRefIdeal.nD Cert.BranchBackRefIdeal.τ).loc Cert.BranchBackRefIdeal.main_arg2) = m' ((c.tc : Thread Cert.BranchBackRefIdeal.nD Cert.BranchBackRefIdeal.τ).loc Cert.BranchBackRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)
      ∧ m' ((c.tc : Thread Cert.MergeBackRefIdeal.nD Cert.MergeBackRefIdeal.τ).loc Cert.MergeBackRefIdeal.main_arg4) = m ((c.tc : Thread Cert.MergeBackIdeal.nD Cert.MergeBackIdeal.τ).loc Cert.MergeBackIdeal.main_arg4)) →
    ∃ (v0 : (c : Dev Cert.MergeBackIdeal.nD) → Buf (Elt Ideal) ((c.tc : Thread Cert.MergeBackIdeal.nD Cert.MergeBackIdeal.τ).loc Cert.MergeBackIdeal.main_v3_0)) (v1 : (c : Dev Cert.MergeBackIdeal.nD) → Buf (Elt Ideal) ((c.tc : Thread Cert.MergeBackIdeal.nD Cert.MergeBackIdeal.τ).loc Cert.MergeBackIdeal.main_v3_1)) (v2 : (c : Dev Cert.MergeBackIdeal.nD) → Buf (Elt Ideal) ((c.tc : Thread Cert.MergeBackIdeal.nD Cert.MergeBackIdeal.τ).loc Cert.MergeBackIdeal.main_v3_2)) (v3 : (c : Dev Cert.MergeBackIdeal.nD) → Buf (Elt Ideal) ((c.tc : Thread Cert.MergeBackIdeal.nD Cert.MergeBackIdeal.τ).loc Cert.MergeBackIdeal.main_v3_3)) (v4 : (c : Dev Cert.MergeBackIdeal.nD) → Buf (Elt Ideal) ((c.tc : Thread Cert.MergeBackIdeal.nD Cert.MergeBackIdeal.τ).loc Cert.MergeBackIdeal.main_v3_4)) (v5 : (c : Dev Cert.MergeBackIdeal.nD) → Buf (Elt Ideal) ((c.tc : Thread Cert.MergeBackIdeal.nD Cert.MergeBackIdeal.τ).loc Cert.MergeBackIdeal.main_v3_5)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v3_0) = v0 c
          ∧ r.2.mem ((c.tc : Thread Cert.MergeBackIdeal.nD Cert.MergeBackIdeal.τ).loc Cert.MergeBackIdeal.main_v3_1) = v1 c
          ∧ r.2.mem ((c.tc : Thread Cert.MergeBackIdeal.nD Cert.MergeBackIdeal.τ).loc Cert.MergeBackIdeal.main_v3_2) = v2 c
          ∧ r.2.mem ((c.tc : Thread Cert.MergeBackIdeal.nD Cert.MergeBackIdeal.τ).loc Cert.MergeBackIdeal.main_v3_3) = v3 c
          ∧ r.2.mem ((c.tc : Thread Cert.MergeBackIdeal.nD Cert.MergeBackIdeal.τ).loc Cert.MergeBackIdeal.main_v3_4) = v4 c
          ∧ r.2.mem ((c.tc : Thread Cert.MergeBackIdeal.nD Cert.MergeBackIdeal.τ).loc Cert.MergeBackIdeal.main_v3_5) = v5 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
          ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v46) = v0 c
          ∧ r.2.mem ((c.tc : Thread Cert.MergeBackRefIdeal.nD Cert.MergeBackRefIdeal.τ).loc Cert.MergeBackRefIdeal.main_v47) = v1 c
          ∧ r.2.mem ((c.tc : Thread Cert.MergeBackRefIdeal.nD Cert.MergeBackRefIdeal.τ).loc Cert.MergeBackRefIdeal.main_v48) = v2 c
          ∧ r.2.mem ((c.tc : Thread Cert.MergeBackRefIdeal.nD Cert.MergeBackRefIdeal.τ).loc Cert.MergeBackRefIdeal.main_v49) = v3 c
          ∧ r.2.mem ((c.tc : Thread Cert.MergeBackRefIdeal.nD Cert.MergeBackRefIdeal.τ).loc Cert.MergeBackRefIdeal.main_v50) = v4 c
          ∧ r.2.mem ((c.tc : Thread Cert.MergeBackRefIdeal.nD Cert.MergeBackRefIdeal.τ).loc Cert.MergeBackRefIdeal.main_v51) = v5 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3)
          ∧ r.2.mem ((c.tc : Thread Cert.MergeBackRefIdeal.nD Cert.MergeBackRefIdeal.τ).loc Cert.MergeBackRefIdeal.main_arg4) = m' ((c.tc : Thread Cert.MergeBackRefIdeal.nD Cert.MergeBackRefIdeal.τ).loc Cert.MergeBackRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v35) = v1 c
          ∧ r.2.mem ((c.tc : Thread Cert.LossRefIdeal.nD Cert.LossRefIdeal.τ).loc Cert.LossRefIdeal.main_v24) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hBack : Cert.Back.Facts) (hBackIdeal : Cert.BackIdeal.Facts) (hBackRefIdeal : Cert.BackRefIdeal.Facts) (hProjGrad : Cert.ProjGrad.Facts) (hProjGradIdeal : Cert.ProjGradIdeal.Facts) (hProjGradRefIdeal : Cert.ProjGradRefIdeal.Facts) (hOpen : Cert.Open.Facts) (hOpenIdeal : Cert.OpenIdeal.Facts) (hOpenRefIdeal : Cert.OpenRefIdeal.Facts) (hUp : Cert.Up.Facts) (hUpIdeal : Cert.UpIdeal.Facts) (hUpRefIdeal : Cert.UpRefIdeal.Facts) (hClose : Cert.Close.Facts) (hCloseIdeal : Cert.CloseIdeal.Facts) (hCloseRefIdeal : Cert.CloseRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts) (hMixNorm : Cert.MixNorm.Facts) (hMixNormIdeal : Cert.MixNormIdeal.Facts) (hMixNormRefIdeal : Cert.MixNormRefIdeal.Facts) (hOutGrad : Cert.OutGrad.Facts) (hOutGradIdeal : Cert.OutGradIdeal.Facts) (hOutGradRefIdeal : Cert.OutGradRefIdeal.Facts) (hOutBack : Cert.OutBack.Facts) (hOutBackIdeal : Cert.OutBackIdeal.Facts) (hOutBackRefIdeal : Cert.OutBackRefIdeal.Facts) (hOut : Cert.Out.Facts) (hOutIdeal : Cert.OutIdeal.Facts) (hOutRefIdeal : Cert.OutRefIdeal.Facts) (hXaNorm : Cert.XaNorm.Facts) (hXaNormIdeal : Cert.XaNormIdeal.Facts) (hXaNormRefIdeal : Cert.XaNormRefIdeal.Facts) (hQuery : Cert.Query.Facts) (hQueryIdeal : Cert.QueryIdeal.Facts) (hQueryRefIdeal : Cert.QueryRefIdeal.Facts) (hQueryGrad : Cert.QueryGrad.Facts) (hQueryGradIdeal : Cert.QueryGradIdeal.Facts) (hQueryGradRefIdeal : Cert.QueryGradRefIdeal.Facts) (hBranch : Cert.Branch.Facts) (hBranchIdeal : Cert.BranchIdeal.Facts) (hBranchRefIdeal : Cert.BranchRefIdeal.Facts) (hBranchGrad : Cert.BranchGrad.Facts) (hBranchGradIdeal : Cert.BranchGradIdeal.Facts) (hBranchGradRefIdeal : Cert.BranchGradRefIdeal.Facts) (hBranchBack : Cert.BranchBack.Facts) (hBranchBackIdeal : Cert.BranchBackIdeal.Facts) (hBranchBackRefIdeal : Cert.BranchBackRefIdeal.Facts) (hMerge : Cert.Merge.Facts) (hMergeIdeal : Cert.MergeIdeal.Facts) (hMergeRefIdeal : Cert.MergeRefIdeal.Facts) (hMergeBack : Cert.MergeBack.Facts) (hMergeBackIdeal : Cert.MergeBackIdeal.Facts) (hMergeBackRefIdeal : Cert.MergeBackRefIdeal.Facts) (hRms : Cert.Rms.Facts) (hRmsIdeal : Cert.RmsIdeal.Facts) (hRmsRefIdeal : Cert.RmsRefIdeal.Facts) (hLoss : Cert.Loss.Facts) (hLossIdeal : Cert.LossIdeal.Facts) (hLossRefIdeal : Cert.LossRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Back (hBack := hBack)
    ∧ quiescent_BackIdeal (hBackIdeal := hBackIdeal)
    ∧ quiescent_BackRefIdeal (hBackRefIdeal := hBackRefIdeal)
    ∧ quiescent_ProjGrad (hProjGrad := hProjGrad)
    ∧ quiescent_ProjGradIdeal (hProjGradIdeal := hProjGradIdeal)
    ∧ quiescent_ProjGradRefIdeal (hProjGradRefIdeal := hProjGradRefIdeal)
    ∧ quiescent_Open (hOpen := hOpen)
    ∧ quiescent_OpenIdeal (hOpenIdeal := hOpenIdeal)
    ∧ quiescent_OpenRefIdeal (hOpenRefIdeal := hOpenRefIdeal)
    ∧ quiescent_Up (hUp := hUp)
    ∧ quiescent_UpIdeal (hUpIdeal := hUpIdeal)
    ∧ quiescent_UpRefIdeal (hUpRefIdeal := hUpRefIdeal)
    ∧ quiescent_Close (hClose := hClose)
    ∧ quiescent_CloseIdeal (hCloseIdeal := hCloseIdeal)
    ∧ quiescent_CloseRefIdeal (hCloseRefIdeal := hCloseRefIdeal)
    ∧ quiescent_Proj (hProj := hProj)
    ∧ quiescent_ProjIdeal (hProjIdeal := hProjIdeal)
    ∧ quiescent_ProjRefIdeal (hProjRefIdeal := hProjRefIdeal)
    ∧ quiescent_Norm (hNorm := hNorm)
    ∧ quiescent_NormIdeal (hNormIdeal := hNormIdeal)
    ∧ quiescent_NormRefIdeal (hNormRefIdeal := hNormRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ quiescent_Out (hOut := hOut)
    ∧ quiescent_OutIdeal (hOutIdeal := hOutIdeal)
    ∧ quiescent_OutRefIdeal (hOutRefIdeal := hOutRefIdeal)
    ∧ quiescent_XaNorm (hXaNorm := hXaNorm)
    ∧ quiescent_XaNormIdeal (hXaNormIdeal := hXaNormIdeal)
    ∧ quiescent_XaNormRefIdeal (hXaNormRefIdeal := hXaNormRefIdeal)
    ∧ quiescent_Query (hQuery := hQuery)
    ∧ quiescent_QueryIdeal (hQueryIdeal := hQueryIdeal)
    ∧ quiescent_QueryRefIdeal (hQueryRefIdeal := hQueryRefIdeal)
    ∧ quiescent_QueryGrad (hQueryGrad := hQueryGrad)
    ∧ quiescent_QueryGradIdeal (hQueryGradIdeal := hQueryGradIdeal)
    ∧ quiescent_QueryGradRefIdeal (hQueryGradRefIdeal := hQueryGradRefIdeal)
    ∧ quiescent_Branch (hBranch := hBranch)
    ∧ quiescent_BranchIdeal (hBranchIdeal := hBranchIdeal)
    ∧ quiescent_BranchRefIdeal (hBranchRefIdeal := hBranchRefIdeal)
    ∧ quiescent_BranchGrad (hBranchGrad := hBranchGrad)
    ∧ quiescent_BranchGradIdeal (hBranchGradIdeal := hBranchGradIdeal)
    ∧ quiescent_BranchGradRefIdeal (hBranchGradRefIdeal := hBranchGradRefIdeal)
    ∧ quiescent_BranchBack (hBranchBack := hBranchBack)
    ∧ quiescent_BranchBackIdeal (hBranchBackIdeal := hBranchBackIdeal)
    ∧ quiescent_BranchBackRefIdeal (hBranchBackRefIdeal := hBranchBackRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBack (hMergeBack := hMergeBack)
    ∧ quiescent_MergeBackIdeal (hMergeBackIdeal := hMergeBackIdeal)
    ∧ quiescent_MergeBackRefIdeal (hMergeBackRefIdeal := hMergeBackRefIdeal)
    ∧ quiescent_Rms (hRms := hRms)
    ∧ quiescent_RmsIdeal (hRmsIdeal := hRmsIdeal)
    ∧ quiescent_RmsRefIdeal (hRmsRefIdeal := hRmsRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Back_BackIdeal
    ∧ algebraic_BackIdeal_BackRefIdeal (hBackIdeal := hBackIdeal) (hBackRefIdeal := hBackRefIdeal)
    ∧ preserves_ProjGrad_ProjGradIdeal
    ∧ algebraic_ProjGradIdeal_ProjGradRefIdeal (hProjGradIdeal := hProjGradIdeal) (hProjGradRefIdeal := hProjGradRefIdeal)
    ∧ preserves_Open_OpenIdeal
    ∧ algebraic_OpenIdeal_OpenRefIdeal (hOpenIdeal := hOpenIdeal) (hOpenRefIdeal := hOpenRefIdeal)
    ∧ preserves_Up_UpIdeal
    ∧ algebraic_UpIdeal_UpRefIdeal (hUpIdeal := hUpIdeal) (hUpRefIdeal := hUpRefIdeal)
    ∧ preserves_Close_CloseIdeal
    ∧ algebraic_CloseIdeal_CloseRefIdeal (hCloseIdeal := hCloseIdeal) (hCloseRefIdeal := hCloseRefIdeal)
    ∧ preserves_Proj_ProjIdeal
    ∧ algebraic_ProjIdeal_ProjRefIdeal (hProjIdeal := hProjIdeal) (hProjRefIdeal := hProjRefIdeal)
    ∧ preserves_Norm_NormIdeal
    ∧ algebraic_NormIdeal_NormRefIdeal (hNormIdeal := hNormIdeal) (hNormRefIdeal := hNormRefIdeal)
    ∧ preserves_MixNorm_MixNormIdeal
    ∧ algebraic_MixNormIdeal_MixNormRefIdeal (hMixNormIdeal := hMixNormIdeal) (hMixNormRefIdeal := hMixNormRefIdeal)
    ∧ preserves_OutGrad_OutGradIdeal
    ∧ algebraic_OutGradIdeal_OutGradRefIdeal (hOutGradIdeal := hOutGradIdeal) (hOutGradRefIdeal := hOutGradRefIdeal)
    ∧ preserves_OutBack_OutBackIdeal
    ∧ algebraic_OutBackIdeal_OutBackRefIdeal (hOutBackIdeal := hOutBackIdeal) (hOutBackRefIdeal := hOutBackRefIdeal)
    ∧ preserves_Out_OutIdeal
    ∧ algebraic_OutIdeal_OutRefIdeal (hOutIdeal := hOutIdeal) (hOutRefIdeal := hOutRefIdeal)
    ∧ preserves_XaNorm_XaNormIdeal
    ∧ algebraic_XaNormIdeal_XaNormRefIdeal (hXaNormIdeal := hXaNormIdeal) (hXaNormRefIdeal := hXaNormRefIdeal)
    ∧ preserves_Query_QueryIdeal
    ∧ algebraic_QueryIdeal_QueryRefIdeal (hQueryIdeal := hQueryIdeal) (hQueryRefIdeal := hQueryRefIdeal)
    ∧ preserves_QueryGrad_QueryGradIdeal
    ∧ algebraic_QueryGradIdeal_QueryGradRefIdeal (hQueryGradIdeal := hQueryGradIdeal) (hQueryGradRefIdeal := hQueryGradRefIdeal)
    ∧ preserves_Branch_BranchIdeal
    ∧ algebraic_BranchIdeal_BranchRefIdeal (hBranchIdeal := hBranchIdeal) (hBranchRefIdeal := hBranchRefIdeal)
    ∧ preserves_BranchGrad_BranchGradIdeal
    ∧ algebraic_BranchGradIdeal_BranchGradRefIdeal (hBranchGradIdeal := hBranchGradIdeal) (hBranchGradRefIdeal := hBranchGradRefIdeal)
    ∧ preserves_BranchBack_BranchBackIdeal
    ∧ algebraic_BranchBackIdeal_BranchBackRefIdeal (hBranchBackIdeal := hBranchBackIdeal) (hBranchBackRefIdeal := hBranchBackRefIdeal)
    ∧ preserves_Merge_MergeIdeal
    ∧ algebraic_MergeIdeal_MergeRefIdeal (hMergeIdeal := hMergeIdeal) (hMergeRefIdeal := hMergeRefIdeal)
    ∧ preserves_MergeBack_MergeBackIdeal
    ∧ algebraic_MergeBackIdeal_MergeBackRefIdeal (hMergeBackIdeal := hMergeBackIdeal) (hMergeBackRefIdeal := hMergeBackRefIdeal)
    ∧ preserves_Rms_RmsIdeal
    ∧ algebraic_RmsIdeal_RmsRefIdeal (hRmsIdeal := hRmsIdeal) (hRmsRefIdeal := hRmsRefIdeal)
    ∧ preserves_Loss_LossIdeal
    ∧ algebraic_LossIdeal_LossRefIdeal (hLossIdeal := hLossIdeal) (hLossRefIdeal := hLossRefIdeal)
-- ==== Pre_finite.lean ====
abbrev S16384x8x64 : Shape := ⟨3, ![16384, 8, 64]⟩
abbrev S8x16384 : Shape := ⟨2, ![8, 16384]⟩
abbrev S_ : Shape := ⟨0, ![]⟩

class Facts : Prop where
  bcast_S_S8x16384 : S_.BroadcastsInDim S8x16384 (![] : Fin 0 → Fin S8x16384.rank)
  bcast_S8x16384_S16384x8x64_1_0 : S8x16384.BroadcastsInDim S16384x8x64 (![1, 0] : Fin 2 → Fin S16384x8x64.rank)
  bcast_S_S16384x8x64 : S_.BroadcastsInDim S16384x8x64 (![] : Fin 0 → Fin S16384x8x64.rank)

variable [Facts]

def fn_part1 {F : FTy → Type} [FloatOps F] (main_v3 : IVec S16384x8x64 1) (main_v18 : IVec S16384x8x64 1) : IVec S16384x8x64 1 :=
  let main_v19 : IVec S16384x8x64 1 := andi main_v18 main_v3
  main_v19

def fn {F : FTy → Type} [FloatOps F] (main_arg0 : FVec F S16384x8x64 .f32) (main_arg1 : FVec F S16384x8x64 .f32) (main_arg2 : FVec F S16384x8x64 .f32) (main_arg3 : FVec F S8x16384 .f32) (main_arg4 : FVec F S16384x8x64 .f32) : IVec S16384x8x64 1 :=
  let main_v0 : FVec F S8x16384 .f32 := Host.absf main_arg3
  let main_cst : FVec F S_ .f32 := constant S_ .f32 0x7F800000#32
  let main_v1 : FVec F S8x16384 .f32 := broadcastInDim S8x16384 ![] bcast_S_S8x16384 main_cst
  let main_v2 : IVec S8x16384 1 := cmpf .olt main_v0 main_v1
  let main_v3 : IVec S16384x8x64 1 := broadcastInDim S16384x8x64 ![1, 0] bcast_S8x16384_S16384x8x64_1_0 main_v2
  let main_v4 : FVec F S16384x8x64 .f32 := Host.absf main_arg0
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_v7 : FVec F S16384x8x64 .f32 := Host.absf main_arg1
  let main_cst_1 : FVec F S_ .f32 := constant S_ .f32 0x7F800000#32
  let main_v8 : FVec F S16384x8x64 .f32 := broadcastInDim S16384x8x64 ![] bcast_S_S16384x8x64 main_cst_1
  let main_v9 : IVec S16384x8x64 1 := cmpf .olt main_v7 main_v8
  let main_v10 : IVec S16384x8x64 1 := andi main_v6 main_v9
  let main_v11 : FVec F S16384x8x64 .f32 := Host.absf main_arg2
  let main_cst_2 : FVec F S_ .f32 := constant S_ .f32 0x7F800000#32
  let main_v12 : FVec F S16384x8x64 .f32 := broadcastInDim S16384x8x64 ![] bcast_S_S16384x8x64 main_cst_2
  let main_v13 : IVec S16384x8x64 1 := cmpf .olt main_v11 main_v12
  let main_v14 : IVec S16384x8x64 1 := andi main_v10 main_v13
  let main_v15 : FVec F S16384x8x64 .f32 := Host.absf main_arg4
  let main_cst_3 : FVec F S_ .f32 := constant S_ .f32 0x7F800000#32
  let main_v16 : FVec F S16384x8x64 .f32 := broadcastInDim S16384x8x64 ![] bcast_S_S16384x8x64 main_cst_3
  let main_v17 : IVec S16384x8x64 1 := cmpf .olt main_v15 main_v16
  let main_v18 : IVec S16384x8x64 1 := andi main_v14 main_v17
  fn_part1 (F := F) main_v3 main_v18
-- ==== Pre_finite_gate.lean ====
abbrev S16384x2816 : Shape := ⟨2, ![16384, 2816]⟩
abbrev S2816x1024 : Shape := ⟨2, ![2816, 1024]⟩
abbrev S16384x1024 : Shape := ⟨2, ![16384, 1024]⟩
abbrev S16384x3840 : Shape := ⟨2, ![16384, 3840]⟩
abbrev S1024x2816 : Shape := ⟨2, ![1024, 2816]⟩
abbrev S_ : Shape := ⟨0, ![]⟩
abbrev S1024x1024 : Shape := ⟨2, ![1024, 1024]⟩
abbrev S1024x3840 : Shape := ⟨2, ![1024, 3840]⟩
abbrev S17408x3840 : Shape := ⟨2, ![17408, 3840]⟩

class Facts : Prop where
  concatenates_S16384x2816_S16384x1024_S16384x3840_d1 : Shape.Concatenates [S16384x2816, S16384x1024] S16384x3840 1
  transposes_S2816x1024_S1024x2816_1_0 : S2816x1024.Transposes [1, 0] S1024x2816
  bcast_S_S1024x1024 : S_.BroadcastsInDim S1024x1024 (![] : Fin 0 → Fin S1024x1024.rank)
  concatenates_S1024x2816_S1024x1024_S1024x3840_d1 : Shape.Concatenates [S1024x2816, S1024x1024] S1024x3840 1
  concatenates_S16384x3840_S1024x3840_S17408x3840_d0 : Shape.Concatenates [S16384x3840, S1024x3840] S17408x3840 0
  bcast_S_S17408x3840 : S_.BroadcastsInDim S17408x3840 (![] : Fin 0 → Fin S17408x3840.rank)

variable [Facts]

def fn {F : FTy → Type} [FloatOps F] (main_arg0 : FVec F S16384x2816 .f32) (main_arg1 : FVec F S16384x2816 .f32) (main_arg2 : FVec F S2816x1024 .f32) (main_arg3 : FVec F S16384x1024 .f32) : IVec S17408x3840 1 :=
  let main_v0 : FVec F S16384x3840 .f32 := (fun a b => concatenate S16384x3840 1 [⟨S16384x2816, a⟩, ⟨S16384x1024, b⟩] concatenates_S16384x2816_S16384x1024_S16384x3840_d1) main_arg1 main_arg3
  let main_v1 : FVec F S1024x2816 .f32 := (transpose S1024x2816 [1, 0] · transposes_S2816x1024_S1024x2816_1_0) main_arg2
  let main_cst : FVec F S_ .f32 := constant S_ .f32 0x00000000#32
  let main_v2 : FVec F S1024x1024 .f32 := broadcastInDim S1024x1024 ![] bcast_S_S1024x1024 main_cst
  let main_v3 : FVec F S1024x3840 .f32 := (fun a b => concatenate S1024x3840 1 [⟨S1024x2816, a⟩, ⟨S1024x1024, b⟩] concatenates_S1024x2816_S1024x1024_S1024x3840_d1) main_v1 main_v2
  let main_v4 : FVec F S17408x3840 .f32 := (fun a b => concatenate S17408x3840 0 [⟨S16384x3840, a⟩, ⟨S1024x3840, b⟩] concatenates_S16384x3840_S1024x3840_S17408x3840_d0) main_v0 main_v3
  let main_v5 : FVec F S17408x3840 .f32 := Host.absf main_v4
  let main_cst_0 : FVec F S_ .f32 := constant S_ .f32 0x7F800000#32
  let main_v6 : FVec F S17408x3840 .f32 := broadcastInDim S17408x3840 ![] bcast_S_S17408x3840 main_cst_0
  let main_v7 : IVec S17408x3840 1 := cmpf .olt main_v5 main_v6
  main_v7
-- ==== Kernel.lean ====
abbrev S16384x8x64 : Shape := ⟨3, ![16384, 8, 64]⟩
abbrev S8x16384 : Shape := ⟨2, ![8, 16384]⟩
abbrev S8x16384x16384 : Shape := ⟨3, ![8, 16384, 16384]⟩
abbrev S_ : Shape := ⟨0, ![]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x1 : Shape := ⟨3, ![8, 16384, 1]⟩
abbrev S8x16384x64 : Shape := ⟨3, ![8, 16384, 64]⟩
abbrev S8x16384x61 : Shape := ⟨3, ![8, 16384, 61]⟩
abbrev S8x16384x128 : Shape := ⟨3, ![8, 16384, 128]⟩
abbrev S8x16384x60 : Shape := ⟨3, ![8, 16384, 60]⟩
abbrev S8x16384x63 : Shape := ⟨3, ![8, 16384, 63]⟩
abbrev S8x128x16384 : Shape := ⟨3, ![8, 128, 16384]⟩
abbrev S1x128x1024 : Shape := ⟨3, ![1, 128, 1024]⟩
abbrev S1x1024x128 : Shape := ⟨3, ![1, 1024, 128]⟩
abbrev S1x1x1024 : Shape := ⟨3, ![1, 1, 1024]⟩
abbrev S16384x128 : Shape := ⟨2, ![16384, 128]⟩
abbrev S1024x128 : Shape := ⟨2, ![1024, 128]⟩
abbrev S128x1024 : Shape := ⟨2, ![128, 1024]⟩
abbrev S1024x1024 : Shape := ⟨2, ![1024, 1024]⟩
abbrev S1x1024 : Shape := ⟨2, ![1, 1024]⟩
abbrev S1x16384x128 : Shape := ⟨3, ![1, 16384, 128]⟩

abbrev nBuf : Space → Nat
  | .hbm => 99
  | .vmem => 23
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S8x16384, .f32⟩
  | .hbm, ⟨4, _⟩ => ⟨S16384x8x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S8x1x16384, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S_, .f32⟩
  | .hbm, ⟨19, _⟩ => ⟨S_, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S8x16384, .f32⟩
  | .hbm, ⟨25, _⟩ => ⟨S8x16384x1, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x64, .f32⟩
  | .hbm, ⟨37, _⟩ => ⟨S8x16384, .bf16⟩
  | .hbm, ⟨38, _⟩ => ⟨S8x16384, .f32⟩
  | .hbm, ⟨39, _⟩ => ⟨S8x16384, .f32⟩
  | .hbm, ⟨40, _⟩ => ⟨S8x16384, .bf16⟩
  | .hbm, ⟨41, _⟩ => ⟨S8x16384, .f32⟩
  | .hbm, ⟨42, _⟩ => ⟨S8x16384, .f32⟩
  | .hbm, ⟨43, _⟩ => ⟨S_, .f32⟩
  | .hbm, ⟨44, _⟩ => ⟨S8x16384x1, .f32⟩
  | .hbm, ⟨45, _⟩ => ⟨S8x16384x64, .f32⟩
  | .hbm, ⟨46, _⟩ => ⟨S_, .f32⟩
  | .hbm, ⟨47, _⟩ => ⟨S8x16384x64, .f32⟩
  | .hbm, ⟨48, _⟩ => ⟨S8x16384x64, .f32⟩
  | .hbm, ⟨49, _⟩ => ⟨S_, .f32⟩
  | .hbm, ⟨50, _⟩ => ⟨S8x16384x61, .f32⟩
  | .hbm, ⟨51, _⟩ => ⟨S8x16384x128, .f32⟩
  | .hbm, ⟨52, _⟩ => ⟨S8x16384x64, .f32⟩
  | .hbm, ⟨53, _⟩ => ⟨S8x16384x1, .f32⟩
  | .hbm, ⟨54, _⟩ => ⟨S8x16384x1, .f32⟩
  | .hbm, ⟨55, _⟩ => ⟨S8x16384x1, .f32⟩
  | .hbm, ⟨56, _⟩ => ⟨S8x16384x1, .f32⟩
  | .hbm, ⟨57, _⟩ => ⟨S8x16384x1, .f32⟩
  | .hbm, ⟨58, _⟩ => ⟨S8x16384x1, .f32⟩
  | .hbm, ⟨59, _⟩ => ⟨S_, .f32⟩
  | .hbm, ⟨60, _⟩ => ⟨S8x16384x60, .f32⟩
  | .hbm, ⟨61, _⟩ => ⟨S8x16384x128, .f32⟩
  | .hbm, ⟨62, _⟩ => ⟨S8x16384x64, .f32⟩
  | .hbm, ⟨63, _⟩ => ⟨S_, .f32⟩
  | .hbm, ⟨64, _⟩ => ⟨S8x16384x63, .f32⟩
  | .hbm, ⟨65, _⟩ => ⟨S8x16384x128, .f32⟩
  | .hbm, ⟨66, _⟩ => ⟨S8x16384x64, .f32⟩
  | .hbm, ⟨67, _⟩ => ⟨S_, .f32⟩
  | .hbm, ⟨68, _⟩ => ⟨S8x16384x64, .f32⟩
  | .hbm, ⟨69, _⟩ => ⟨S8x16384x128, .f32⟩
  | .hbm, ⟨70, _⟩ => ⟨S8x16384x128, .bf16⟩
  | .hbm, ⟨71, _⟩ => ⟨S8x16384x128, .bf16⟩
  | .hbm, ⟨72, _⟩ => ⟨S8x16384x128, .bf16⟩
  | .hbm, ⟨73, _⟩ => ⟨S8x16384x128, .bf16⟩
  | .hbm, ⟨74, _⟩ => ⟨S8x128x16384, .bf16⟩
  | .hbm, ⟨75, _⟩ => ⟨S8x128x16384, .bf16⟩
  | .hbm, ⟨76, _⟩ => ⟨S8x16384x64, .f32⟩
  | .hbm, ⟨77, _⟩ => ⟨S8x16384x64, .f32⟩
  | .hbm, ⟨78, _⟩ => ⟨S_, .f32⟩
  | .hbm, ⟨79, _⟩ => ⟨S8x16384, .f32⟩
  | .hbm, ⟨80, _⟩ => ⟨S8x1x16384, .f32⟩
  | .hbm, ⟨81, _⟩ => ⟨S8x1x16384, .f32⟩
  | .hbm, ⟨82, _⟩ => ⟨S8x16384x128, .f32⟩
  | .hbm, ⟨83, _⟩ => ⟨S8x16384x128, .f32⟩
  | .hbm, ⟨84, _⟩ => ⟨S8x16384x128, .f32⟩
  | .hbm, ⟨85, _⟩ => ⟨S8x16384x1, .f32⟩
  | .hbm, ⟨86, _⟩ => ⟨S8x16384, .f32⟩
  | .hbm, ⟨87, _⟩ => ⟨S8x16384x1, .f32⟩
  | .hbm, ⟨88, _⟩ => ⟨S8x16384, .f32⟩
  | .hbm, ⟨89, _⟩ => ⟨S8x16384, .f32⟩
  | .hbm, ⟨90, _⟩ => ⟨S8x16384x64, .f32⟩
  | .hbm, ⟨91, _⟩ => ⟨S16384x8x64, .f32⟩
  | .hbm, ⟨92, _⟩ => ⟨S_, .f32⟩
  | .hbm, ⟨93, _⟩ => ⟨S16384x8x64, .f32⟩
  | .hbm, ⟨94, _⟩ => ⟨S16384x8x64, .f32⟩
  | .hbm, ⟨95, _⟩ => ⟨S8x16384x64, .f32⟩
  | .hbm, ⟨96, _⟩ => ⟨S16384x8x64, .f32⟩
  | .hbm, ⟨97, _⟩ => ⟨S8x16384x64, .f32⟩
  | .hbm, ⟨98, _⟩ => ⟨S16384x8x64, .f32⟩
  | .local _ .vmem, ⟨0, _⟩ => ⟨S1x128x1024, .bf16⟩
  | .local _ .vmem, ⟨1, _⟩ => ⟨S1x128x1024, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S16384x128, .f32⟩
  | .local _ .vmem, ⟨21, _⟩ => ⟨S1024x128, .f32⟩
  | .local _ .vmem, ⟨22, _⟩ => ⟨S1024x128, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63_0 : Ref sig .tc := ⟨.hbm, 82, rfl⟩
abbrev main_v63_1 : Ref sig .tc := ⟨.hbm, 83, rfl⟩
abbrev main_v63_2 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 16, 16], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v60 : BitVec 32 := Scalar.muli arg2 c1024_i32
  v60
def k0_off1 (i : grid0.Coords) : Fin 2 → Nat :=
  let arg2 : BitVec 32 := BitVec.ofNat 32 (i 2).val
  let c1024_i32 : BitVec 32 := 1024#32
  let v60 : BitVec 32 := Scalar.muli arg2 c1024_i32
  let v61 : BitVec 32 := v60
  let v62 : Index := Scalar.indexCast v61
  let c0_44 : Index := 0#32
  ![v62.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c1024_i32 : BitVec 32 := 1024#32
  let v65 : BitVec 32 := Scalar.muli arg2 c1024_i32
  v65
def k0_off2 (i : grid0.Coords) : Fin 2 → Nat :=
  let arg2 : BitVec 32 := BitVec.ofNat 32 (i 2).val
  let c1024_i32 : BitVec 32 := 1024#32
  let v65 : BitVec 32 := Scalar.muli arg2 c1024_i32
  let v66 : BitVec 32 := v65
  let v67 : Index := Scalar.indexCast v66
  let c0_45 : Index := 0#32
  ![v67.toNat, 0]
def k0_cond6 (i : grid0.Coords) : BitVec 1 :=
  let arg1 : BitVec 32 := BitVec.ofNat 32 (i 1).val
  let c15_i32_7 : BitVec 32 := 15#32
  let v17 : BitVec 1 := Scalar.cmpi .eq arg1 c15_i32_7
  let arg2 : BitVec 32 := BitVec.ofNat 32 (i 2).val
  let c15_i32_8 : BitVec 32 := 15#32
  let v18 : BitVec 1 := Scalar.cmpi .eq arg2 c15_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_off3 (i : grid0.Coords) : Fin 3 → Nat :=
  let arg0 : BitVec 32 := BitVec.ofNat 32 (i 0).val
  let c0_i32_10 : BitVec 32 := 0#32
  let c0_i32_11 : BitVec 32 := 0#32
  ![arg0.toNat, 0, 0]
def k0_cond5 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S16384x8x64 : Shape := ⟨3, ![16384, 8, 64]⟩
abbrev S8x16384 : Shape := ⟨2, ![8, 16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩

abbrev nBuf : Space → Nat
  | .hbm => 108
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S8x16384, .f32⟩
  | .hbm, ⟨4, _⟩ => ⟨S16384x8x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S8x16384x1, .f32⟩
  | .hbm, ⟨10, _⟩ => ⟨S8x16384x16384, .f32⟩
  | .hbm, ⟨11, _⟩ => ⟨S8x16384x16384, .f32⟩
  | .hbm, ⟨12, _⟩ => ⟨S8x1x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S8x16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .i1⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .f32⟩
  | .hbm, ⟨39, _⟩ => ⟨S_, .f32⟩
  | .hbm, ⟨40, _⟩ => ⟨S8x16384, .f32⟩
  | .hbm, ⟨41, _⟩ => ⟨S8x16384, .i1⟩
  | .hbm, ⟨42, _⟩ => ⟨S_, .f32⟩
  | .hbm, ⟨43, _⟩ => ⟨S8x16384, .f32⟩
  | .hbm, ⟨44, _⟩ => ⟨S8x16384, .i1⟩
  | .hbm, ⟨45, _⟩ => ⟨S_, .f32⟩
  | .hbm, ⟨46, _⟩ => ⟨S8x16384, .f32⟩
  | .hbm, ⟨47, _⟩ => ⟨S_, .f32⟩
  | .hbm, ⟨48, _⟩ => ⟨S8x16384, .f32⟩
  | .hbm, ⟨49, _⟩ => ⟨S_, .f32⟩
  | .hbm, ⟨50, _⟩ => ⟨S8x16384, .f32⟩
  | .hbm, ⟨51, _⟩ => ⟨S8x16384, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x16384, .f32⟩
  | .hbm, ⟨61, _⟩ => ⟨S8x16384x16384, .f32⟩
  | .hbm, ⟨62, _⟩ => ⟨S8x16384x1, .f32⟩
  | .hbm, ⟨63, _⟩ => ⟨S_, .f32⟩
  | .hbm, ⟨64, _⟩ => ⟨S8x16384x1, .f32⟩
  | .hbm, ⟨65, _⟩ => ⟨S8x16384x1, .f32⟩
  | .hbm, ⟨66, _⟩ => ⟨S8x64x16384, .f32⟩
  | .hbm, ⟨67, _⟩ => ⟨S16384x8x64, .f32⟩
  | .hbm, ⟨68, _⟩ => ⟨S8x64x16384, .f32⟩
  | .hbm, ⟨69, _⟩ => ⟨S8x16384x16384, .f32⟩
  | .hbm, ⟨70, _⟩ => ⟨S8x64x16384, .f32⟩
  | .hbm, ⟨71, _⟩ => ⟨S16384x8x64, .f32⟩
  | .hbm, ⟨72, _⟩ => ⟨S8x16384x16384, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x1, .f32⟩
  | .hbm, ⟨78, _⟩ => ⟨S8x16384x1, .f32⟩
  | .hbm, ⟨79, _⟩ => ⟨S8x16384x16384, .f32⟩
  | .hbm, ⟨80, _⟩ => ⟨S8x16384x16384, .f32⟩
  | .hbm, ⟨81, _⟩ => ⟨S_, .f32⟩
  | .hbm, ⟨82, _⟩ => ⟨S8x16384, .f32⟩
  | .hbm, ⟨83, _⟩ => ⟨S8x16384x16384, .f32⟩
  | .hbm, ⟨84, _⟩ => ⟨S8x16384x16384, .f32⟩
  | .hbm, ⟨85, _⟩ => ⟨S8x16384x16384, .f32⟩
  | .hbm, ⟨86, _⟩ => ⟨S_, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384, .f32⟩
  | .hbm, ⟨92, _⟩ => ⟨S8x1x16384, .f32⟩
  | .hbm, ⟨93, _⟩ => ⟨S_, .f32⟩
  | .hbm, ⟨94, _⟩ => ⟨S8x16384, .f32⟩
  | .hbm, ⟨95, _⟩ => ⟨S_, .f32⟩
  | .hbm, ⟨96, _⟩ => ⟨S8x16384, .f32⟩
  | .hbm, ⟨97, _⟩ => ⟨S8x16384x1, .f32⟩
  | .hbm, ⟨98, _⟩ => ⟨S_, .f32⟩
  | .hbm, ⟨99, _⟩ => ⟨S8x16384, .f32⟩
  | .hbm, ⟨100, _⟩ => ⟨S8x16384, .f32⟩
  | .hbm, ⟨101, _⟩ => ⟨S_, .f32⟩
  | .hbm, ⟨102, _⟩ => ⟨S8x16384x16384, .f32⟩
  | .hbm, ⟨103, _⟩ => ⟨S8x16384x16384, .f32⟩
  | .hbm, ⟨104, _⟩ => ⟨S8x16384x64, .f32⟩
  | .hbm, ⟨105, _⟩ => ⟨S16384x8x64, .f32⟩
  | .hbm, ⟨106, _⟩ => ⟨S8x16384x64, .f32⟩
  | .hbm, ⟨107, _⟩ => ⟨S16384x8x64, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Gate.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 10
  | .vmem => 12
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S1024x2816, .f32⟩
  | .hbm, ⟨5, _⟩ => ⟨S1024x2816, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .bf16⟩
  | .hbm, ⟨33, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== In.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x1024, .bf16⟩
  | .hbm, ⟨4, _⟩ => ⟨S16384x2816, .bf16⟩
  | .hbm, ⟨5, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x2816, .f32⟩
  | .hbm, ⟨4, _⟩ => ⟨S2816x1024, .f32⟩
  | .hbm, ⟨5, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S1024x2816, .f32⟩
  | .hbm, ⟨11, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Back.lean ====
abbrev S16384x1024 : Shape := ⟨2, ![16384, 1024]⟩
abbrev S1024x2816 : Shape := ⟨2, ![1024, 2816]⟩
abbrev S16384x2816 : Shape := ⟨2, ![16384, 2816]⟩
abbrev S2816x1024 : Shape := ⟨2, ![2816, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x2816, .bf16⟩
  | .hbm, ⟨4, _⟩ => ⟨S2816x1024, .f32⟩
  | .hbm, ⟨5, _⟩ => ⟨S2816x1024, .bf16⟩
  | .hbm, ⟨6, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackRefIdeal.lean ====
abbrev S16384x1024 : Shape := ⟨2, ![16384, 1024]⟩
abbrev S1024x2816 : Shape := ⟨2, ![1024, 2816]⟩
abbrev S16384x2816 : Shape := ⟨2, ![16384, 2816]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x2816, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjGrad.lean ====
abbrev S16384x1024 : Shape := ⟨2, ![16384, 1024]⟩
abbrev S1024x7680 : Shape := ⟨2, ![1024, 7680]⟩
abbrev S16384x7680 : Shape := ⟨2, ![16384, 7680]⟩
abbrev S1024x1024 : Shape := ⟨2, ![1024, 1024]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x7680, .f32⟩
  | .hbm, ⟨3, _⟩ => ⟨S16384x1024, .bf16⟩
  | .hbm, ⟨4, _⟩ => ⟨S16384x7680, .bf16⟩
  | .hbm, ⟨5, _⟩ => ⟨S1024x7680, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGradRefIdeal.lean ====
abbrev S16384x1024 : Shape := ⟨2, ![16384, 1024]⟩
abbrev S1024x7680 : Shape := ⟨2, ![1024, 7680]⟩
abbrev S16384x7680 : Shape := ⟨2, ![16384, 7680]⟩
abbrev S7680x1024 : Shape := ⟨2, ![7680, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x7680, .f32⟩
  | .hbm, ⟨3, _⟩ => ⟨S16384x7680, .f32⟩
  | .hbm, ⟨4, _⟩ => ⟨S7680x1024, .f32⟩
  | .hbm, ⟨5, _⟩ => ⟨S1024x7680, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Open.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x1024, .bf16⟩
  | .hbm, ⟨3, _⟩ => ⟨S1024x2816, .bf16⟩
  | .hbm, ⟨4, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OpenRefIdeal.lean ====
abbrev S16384x1024 : Shape := ⟨2, ![16384, 1024]⟩
abbrev S1024x2816 : Shape := ⟨2, ![1024, 2816]⟩
abbrev S16384x2816 : Shape := ⟨2, ![16384, 2816]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Up.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x1024, .bf16⟩
  | .hbm, ⟨4, _⟩ => ⟨S1024x2816, .bf16⟩
  | .hbm, ⟨5, _⟩ => ⟨S16384x2816, .bf16⟩
  | .hbm, ⟨6, _⟩ => ⟨S16384x2816, .bf16⟩
  | .hbm, ⟨7, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpRefIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | .hbm, ⟨3, _⟩ => ⟨S16384x2816, .f32⟩
  | .hbm, ⟨4, _⟩ => ⟨S16384x2816, .bf16⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Close.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .bf16⟩
  | .hbm, ⟨5, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CloseRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proj.lean ====
abbrev S16384x1024 : Shape := ⟨2, ![16384, 1024]⟩
abbrev S1024x7680 : Shape := ⟨2, ![1024, 7680]⟩
abbrev S16384x7680 : Shape := ⟨2, ![16384, 7680]⟩
abbrev S1024x1024 : Shape := ⟨2, ![1024, 1024]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x1024, .bf16⟩
  | .hbm, ⟨3, _⟩ => ⟨S1024x7680, .bf16⟩
  | .hbm, ⟨4, _⟩ => ⟨S16384x7680, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S16384x1024 : Shape := ⟨2, ![16384, 1024]⟩
abbrev S1024x7680 : Shape := ⟨2, ![1024, 7680]⟩
abbrev S16384x7680 : Shape := ⟨2, ![16384, 7680]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x7680, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S2816x1024 : Shape := ⟨2, ![2816, 1024]⟩
abbrev S1x1024 : Shape := ⟨2, ![1, 1024]⟩
abbrev S256x1024 : Shape := ⟨2, ![256, 1024]⟩
abbrev S512x2816 : Shape := ⟨2, ![512, 2816]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x1024, .f32⟩
  | .hbm, ⟨4, _⟩ => ⟨S16384x2816, .f32⟩
  | .hbm, ⟨5, _⟩ => ⟨S16384x1024, .f32⟩
  | .hbm, ⟨6, _⟩ => ⟨S16384x2816, .bf16⟩
  | .hbm, ⟨7, _⟩ => ⟨S2816x1024, .f32⟩
  | .hbm, ⟨8, _⟩ => ⟨S2816x1024, .bf16⟩
  | .hbm, ⟨9, _⟩ => ⟨S1x1024, .f32⟩
  | .hbm, ⟨10, _⟩ => ⟨S16384x1024, .f32⟩
  | .hbm, ⟨11, _⟩ => ⟨S256x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== NormRefIdeal.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== MixNorm.lean ====
abbrev S16384x1024 : Shape := ⟨2, ![16384, 1024]⟩
abbrev S1024 : Shape := ⟨1, ![1024]⟩
abbrev S1024x7680 : Shape := ⟨2, ![1024, 7680]⟩
abbrev S16384x7680 : Shape := ⟨2, ![16384, 7680]⟩
abbrev S7680x1024 : Shape := ⟨2, ![7680, 1024]⟩
abbrev S1x1024 : Shape := ⟨2, ![1, 1024]⟩
abbrev S256x1024 : Shape := ⟨2, ![256, 1024]⟩
abbrev S512x2560 : Shape := ⟨2, ![512, 2560]⟩
abbrev S2560x1024 : Shape := ⟨2, ![2560, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7680, .f32⟩
  | .hbm, ⟨3, _⟩ => ⟨S16384x7680, .f32⟩
  | .hbm, ⟨4, _⟩ => ⟨S16384x1024, .f32⟩
  | .hbm, ⟨5, _⟩ => ⟨S16384x7680, .bf16⟩
  | .hbm, ⟨6, _⟩ => ⟨S7680x1024, .f32⟩
  | .hbm, ⟨7, _⟩ => ⟨S7680x1024, .bf16⟩
  | .hbm, ⟨8, _⟩ => ⟨S1x1024, .f32⟩
  | .hbm, ⟨9, _⟩ => ⟨S16384x1024, .f32⟩
  | .hbm, ⟨10, _⟩ => ⟨S256x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MixNormRefIdeal.lean ====
abbrev S16384x1024 : Shape := ⟨2, ![16384, 1024]⟩
abbrev S1024 : Shape := ⟨1, ![1024]⟩
abbrev S1024x7680 : Shape := ⟨2, ![1024, 7680]⟩
abbrev S16384x7680 : Shape := ⟨2, ![16384, 7680]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7680, .f32⟩
  | .hbm, ⟨3, _⟩ => ⟨S16384x7680, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x7680, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== OutGrad.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutBack.lean ====
abbrev S16384x1024 : Shape := ⟨2, ![16384, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBackRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== XaNorm.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S128x1024 : Shape := ⟨2, ![128, 1024]⟩
abbrev S8x1024 : Shape := ⟨2, ![8, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S128x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== XaNormRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Query.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryGrad.lean ====
abbrev S16384x1024 : Shape := ⟨2, ![16384, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryGradRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Branch.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x512, .bf16⟩
  | .hbm, ⟨3, _⟩ => ⟨S512x1024, .bf16⟩
  | .hbm, ⟨4, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchGrad.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x512, .bf16⟩
  | .hbm, ⟨4, _⟩ => ⟨S16384x1024, .bf16⟩
  | .hbm, ⟨5, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGradRefIdeal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S1024x512, .f32⟩
  | .hbm, ⟨5, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchBack.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .bf16⟩
  | .hbm, ⟨4, _⟩ => ⟨S1024x512, .f32⟩
  | .hbm, ⟨5, _⟩ => ⟨S1024x512, .bf16⟩
  | .hbm, ⟨6, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBackRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Merge.lean ====
abbrev S16384x7680 : Shape := ⟨2, ![16384, 7680]⟩
abbrev S16384x1024 : Shape := ⟨2, ![16384, 1024]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x7680, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S16384x7680 : Shape := ⟨2, ![16384, 7680]⟩
abbrev S16384x1024 : Shape := ⟨2, ![16384, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .bf16⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== MergeBack.lean ====
abbrev S16384x7680 : Shape := ⟨2, ![16384, 7680]⟩
abbrev S16384x1024 : Shape := ⟨2, ![16384, 1024]⟩
abbrev S256x1024 : Shape := ⟨2, ![256, 1024]⟩

abbrev nBuf : Space → Nat
  | .hbm => 14
  | .vmem => 26
  | .smem => 0
  | _ => 0

abbrev bufTy : (tb : Table) → Fin (tcTables nBuf tb) → BufTy
  | .hbm, ⟨0, _⟩ => ⟨S16384x7680, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeBackRefIdeal.lean ====
abbrev S16384x7680 : Shape := ⟨2, ![16384, 7680]⟩
abbrev S16384x1024 : Shape := ⟨2, ![16384, 1024]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .bf16⟩
  | .hbm, ⟨61, _⟩ => ⟨S16384x1024, .bf16⟩
  | .hbm, ⟨62, _⟩ => ⟨S16384x1024, .bf16⟩
  | .hbm, ⟨63, _⟩ => ⟨S16384x1024, .bf16⟩
  | .hbm, ⟨64, _⟩ => ⟨S16384x1024, .bf16⟩
  | .hbm, ⟨65, _⟩ => ⟨S16384x1024, .bf16⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Rms.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Loss.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k0_cond2 (i : grid0.Coords) : BitVec 1 :=
  let arg0 : BitVec 32 := BitVec.ofNat 32 (i 0).val
  let c0_i32_15 : BitVec 32 := 0#32
  let v40 : BitVec 1 := Scalar.cmpi .sgt arg0 c0_i32_15
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.FoxBody.lean ====
module

public import proofs.«01_k».proof.Proof.Gen.KernelIdeal.Frame.Runs
public import Idealize.ShloMosaic.Lib.Pipeline.Value
public import Idealize.ShloMosaic.Lib.ValueIdx
public import Idealize.ShloMosaic.Lib.WritesUnit

@[expose] public section

set_option maxRecDepth 16384

noncomputable section

/-!
# One grid point of the backward kernel

The kernel's body at one grid point (head, key block `j`, query block `i`) as a function of the eight blocks it reads and
of the three accumulators it carries: the query gradient of the whole head, and the key and value gradients of one key block.
-/

namespace Cert.Fox

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The eight blocks a grid point reads: the packed queries (transposed, then by rows), keys, values, the packed output
    gradient (transposed, then by rows), the log-sums and the deltas. -/
structure Blocks (F : FTy → Type) where
  qt : Vec F S1x128x1024 .bf16
  qh : Vec F S1x1024x128 .bf16
  kh : Vec F S1x1024x128 .bf16
  vh : Vec F S1x1024x128 .bf16
  dot : Vec F S1x128x1024 .bf16
  dout : Vec F S1x1024x128 .bf16
  lse : Vec F S1x1x1024 .f32
  delta : Vec F S1x1x1024 .f32

/-- The three accumulators carried from point to point. -/
structure Carry (F : FTy → Type) where
  dq : Vec F S16384x128 .f32
  dk : Vec F S1024x128 .f32
  dv : Vec F S1024x128 .f32

/-- Row `r` of the `b`-th block of 1024 rows. -/
def rowAt (b : Fin 16) (r : Fin 1024) : Fin 16384 := ⟨1024 * b.val + r.val, by omega⟩

/-- The `b`-th block of 1024 rows. -/
def rows (b : Fin 16) (x : Vec F S16384x128 .f32) : Vec F S1024x128 .f32 := fun k => x (ix2 (rowAt b (k 0)) (k 1))

/-- The array with its `b`-th block of 1024 rows replaced. -/
def setRows (b : Fin 16) (x : Vec F S16384x128 .f32) (w : Vec F S1024x128 .f32) : Vec F S16384x128 .f32 := fun k =>
  if h : 1024 * b.val ≤ (k 0).val ∧ (k 0).val < 1024 * b.val + 1024 then
    w (ix2 (⟨(k 0).val - 1024 * b.val, by omega⟩ : Fin 1024) (k 1))
  else x k

/-- The accumulators cleared where the point clears them: the query gradient at the head's first point, the other two at a
    key block's first point. -/
def clear (i : grid0.Coords) (s : Carry F) : Carry F :=
  ⟨if cond0_0 i then k0_pay1 else s.dq, if cond0_1 i then k0_pay2 else s.dk, if cond0_1 i then k0_pay3 else s.dv⟩

/-- One tile strictly below the diagonal added to the accumulators. -/
def addFull (b : Fin 16) (x : Blocks F) (s : Carry F) : Carry F :=
  ⟨setRows b s.dq (k0_pay5 (k0_pay12 x.kh x.qt x.lse x.vh x.dot x.delta) (rows b s.dq) x.kh),
   k0_pay4 (k0_pay12 x.kh x.qt x.lse x.vh x.dot x.delta) s.dk x.qh,
   k0_pay13 x.kh x.qt x.lse s.dv x.dout⟩

/-- The diagonal tile, masked, added to the accumulators. -/
def addDiag (b : Fin 16) (x : Blocks F) (s : Carry F) : Carry F :=
  ⟨setRows b s.dq (k0_pay8 (k0_pay15 x.kh x.qt x.lse x.vh x.dot x.delta) (rows b s.dq) x.kh),
   k0_pay7 (k0_pay15 x.kh x.qt x.lse x.vh x.dot x.delta) s.dk x.qh,
   k0_pay6 (k0_pay16 x.kh x.qt x.lse s.dv x.dout)⟩

/-- The accumulators after the point. -/
def step (i : grid0.Coords) (x : Blocks F) (s : Carry F) : Carry F :=
  if cond0_2 i then addFull (i 2) x (clear i s) else if cond0_3 i then addDiag (i 2) x (clear i s) else clear i s

/-- The head of the query gradient written over head `i 0` of the result. -/
def putHead (i : grid0.Coords) (c : Dev nD) (f : HbBuf0 (F := F) c hbM0_0) (x : Vec F S16384x128 .f32) : HbBuf0 (F := F) c hbM0_0 := fun k =>
  if (k 0).val = (i 0).val then x (ix2 (k 1) (k 2)) else f k

/-! ## What a load reads and what a store leaves -/

theorem zeros2 : (![0, 0] : Fin 2 → Nat) = fun _ => 0 := by funext a; fin_cases a <;> rfl
theorem zeros3 : (![0, 0, 0] : Fin 3 → Nat) = fun _ => 0 := by funext a; fin_cases a <;> rfl

section Access

variable {sp : Space} {s : Shape} {e : EltTy}

/-- A store over a whole buffer leaves its payload, whatever was stored before. -/
theorem read_store_whole (v : View sig .tc sp s e) (f : v.ty.Contents (Elt F)) {off : Fin s.rank → Nat} (h : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y h (fun a => (Nat.zero_add _).symm)

end Access

/-- A load of the `b`-th block of rows reads that block. -/
theorem ld_rows (b : Fin 16) {off : Fin 2 → Nat} (h : off = ![1024 * b.val, 0])
    (inb : ∀ a, off a + S1024x128.size a ≤ S16384x128.size a) (x : Vec F S16384x128 .f32) :
    View.ld x (Rect.unit (s := S16384x128) off S1024x128.size inb) = rows b x := by
  subst h
  funext k
  refine congrArg x (funext fun a => Fin.ext ?_)
  fin_cases a
  · show 1024 * b.val + 1 * (k 0).val = 1024 * b.val + (k 0).val; omega
  · show 0 + 1 * (k 1).val = (k 1).val; omega

/-- The same load after the whole array has been stored. -/
theorem readCov_rows (b : Fin 16) {sp : Space} (v : View sig .tc sp S16384x128 .f32) {off : Fin 2 → Nat} (h : off = ![1024 * b.val, 0])
    (inb : ∀ a, off a + S1024x128.size a ≤ S16384x128.size a) {off' : Fin 2 → Nat} (h' : off' = fun _ => 0)
    (inb' : ∀ a, off' a + S16384x128.size a ≤ S16384x128.size a) (x : Vec F S16384x128 .f32) :
    v.readCov [(⟨Rect.unit (s := S16384x128) off' S16384x128.size inb', x⟩ : View.Piece (Elt F) S16384x128 .f32)]
      (Rect.unit (s := S16384x128) off S1024x128.size inb).toLoadRect = rows b x := by
  subst h'
  rw [View.readCov_eq_canon_ld _ _ _ (fun y => ⟨_, List.mem_singleton_self _, by
    show y ∈ (Rect.whole S16384x128).set
    rw [Rect.set_whole]; exact Finset.mem_univ y⟩), View.canon_unit_zero rfl]
  exact ld_rows b h inb x

/-- A store over the `b`-th block of rows replaces that block of what was there. -/
theorem read_store_rows (b : Fin 16) {sp : Space} (v : View sig .tc sp S16384x128 .f32) (f : v.ty.Contents (Elt F)) {off : Fin 2 → Nat}
    (h : off = ![1024 * b.val, 0]) (inb : ∀ a, off a + S1024x128.size a ≤ S16384x128.size a) (w : Vec F S1024x128 .f32)
    (L : List (View.Piece (Elt F) S16384x128 .f32)) :
    v.read (Elt F) (v.writes (Elt F) f ((⟨Rect.unit (s := S16384x128) off S1024x128.size inb, w⟩ : View.Piece (Elt F) S16384x128 .f32) :: L))
      = setRows b (v.read (Elt F) (v.writes (Elt F) f L)) w := by
  funext y
  unfold setRows
  split
  · next hy =>
    refine View.read_writes_cons_rows_of_mem v f inb w L y (ix2 (⟨(y 0).val - 1024 * b.val, by omega⟩ : Fin 1024) (y 1)) h ?_ rfl
    show (y 0).val = 1024 * b.val + ((y 0).val - 1024 * b.val); omega
  · next hy =>
    exact View.read_writes_cons_rows_of_not_mem v f inb w L y h rfl (by
      show (y 0).val < 1024 * b.val ∨ 1024 * b.val + 1024 ≤ (y 0).val
      omega)

/-- The copy of an array over head `i 0` of the result. -/
theorem write_head (i : grid0.Coords) (c : Dev nD) (f : HbBuf0 (F := F) c hbM0_0) (x : Vec F S16384x128 .f32) {off : Fin 3 → Nat}
    (h : off = ![(i 0).val, 0, 0]) (inb : ∀ a, off a + S1x16384x128.size a ≤ S8x16384x128.size a)
    (hq : S16384x128.numel = S1x16384x128.numel) :
    (((View.whole main_v63_0).slice (Rect.unit (s := S8x16384x128) off S1x16384x128.size inb)).reshape S16384x128 hq).write (Elt F) f x Finset.univ
      = putHead i c f x := by
  subst h
  refine (View.write_reshape_univ ((View.whole main_v63_0).slice (Rect.unit (s := S8x16384x128) ![(i 0).val, 0, 0] S1x16384x128.size inb))
    hq f x).trans ?_
  refine (View.write_whole_slice_unit (Val := Elt F) main_v63_0 ![(i 0).val, 0, 0] S1x16384x128.size inb f _).trans ?_
  funext k
  unfold updateSlice putHead
  have h1 : (k 1).val < 16384 := (k 1).isLt
  have h2 : (k 2).val < 128 := (k 2).isLt
  by_cases hk : (k 0).val = (i 0).val
  · rw [if_pos hk, dif_pos (by
      intro a; fin_cases a
      · exact ⟨by show (i 0).val ≤ (k 0).val; omega, by show (k 0).val < (i 0).val + 1; omega⟩
      · exact ⟨Nat.zero_le _, by show (k 1).val < 0 + 16384; omega⟩
      · exact ⟨Nat.zero_le _, by show (k 2).val < 0 + 128; omega⟩)]
    refine congrArg x ?_
    rw [Equiv.symm_apply_eq]
    refine (Shape.reshapeEquiv_eq_of_rowMajor _ ?_).symm
    refine (Shape.rowMajor_val_three (d := ![1, 16384, 128]) _).trans ((Shape.rowMajor_val_two (d := ![16384, 128]) _).trans ?_).symm
    show (k 1).val * 128 + (k 2).val = (((k 0).val - (i 0).val) * 16384 + ((k 1).val - 0)) * 128 + ((k 2).val - 0)
    omega
  · rw [if_neg hk, dif_neg (by
      intro hall
      have := hall 0
      exact hk (by
        have h' : (i 0).val ≤ (k 0).val ∧ (k 0).val < (i 0).val + 1 := this
        omega))]

end Cert.Fox

end
-- ==== Proof.FoxReal.lean ====
module

public import Idealize.ShloMosaic.PureOps.Ideal.Laws
public import Idealize.ShloMosaic.Lib.IdealHost
public import Mathlib.Analysis.SpecialFunctions.Log.Basic

@[expose] public section

noncomputable section

/-!
# The gradient of the attention over the reals

The mathematics both programs are compared with: the real scores, probabilities and score gradients of the attention with a
forget gate, and the softmax of one row in the extended reals.
-/

namespace Cert.Fox

open Idealize.ShloMosaic
open scoped BigOperators

/-! ## Real numbers among the extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else _) = _
  rw [if_neg (not_le.mpr h)]

theorem div_coe {y : ℝ} (x : ℝ) (h : y ≠ 0) : Ideal.div (x : EReal) (y : EReal) = ((x / y : ℝ) : EReal) := by
  unfold Ideal.div
  rw [if_neg (by exact_mod_cast h), div_eq_mul_inv, EReal.coe_mul, EReal.coe_inv]

theorem eighth : Ideal.ofBits .f32 0x3E000000#32 = ((1 / 8 : ℝ) : EReal) := by
  simp [Ideal.ofBits, Ideal.ieee, -EReal.coe_mul]; norm_num

theorem minus_infinity : Ideal.ofBits .f32 0xFF800000#32 = ⊥ := by
  simp [Ideal.ofBits, Ideal.ieee]

theorem one_f32 : Ideal.ofBits .f32 0x3F800000#32 = ((1 : ℝ) : EReal) := by simp

/-! ## One row of a softmax -/

section Row

variable {n : ℕ} (keep : Fin n → Prop) [DecidablePred keep] (s : Fin n → ℝ)

/-- A row of scores with `-∞` where the row does not look. -/
def rowOf (j : Fin n) : EReal := if keep j then ((s j : ℝ) : EReal) else ⊥

/-- The sum of the row's exponentials. -/
def massOf : ℝ := ∑ j, if keep j then Real.exp (s j) else 0

theorem massOf_pos (hk : ∃ j, keep j) : 0 < massOf keep s := by
  obtain ⟨j, hj⟩ := hk
  refine Finset.sum_pos' (fun i _ => ?_) ⟨j, Finset.mem_univ j, ?_⟩
  · split
    · exact (Real.exp_pos _).le
    · exact le_rfl
  · rw [if_pos hj]; exact Real.exp_pos _

/-- The largest score of a row that looks somewhere is a real number. -/
theorem fold_real (hk : ∃ j, keep j) (b : EReal) (hb : b = ⊥) : ∃ r : ℝ, (Finset.univ : Finset (Fin n)).fold max b (rowOf keep s) = (r : EReal) := by
  obtain ⟨j, hj⟩ := hk
  have hlow : (Finset.univ : Finset (Fin n)).fold max b (rowOf keep s) ≠ ⊥ := by
    intro h
    have := (Finset.fold_max_le (s := Finset.univ) (f := rowOf keep s) (b := b) (⊥ : EReal)).mp h.le
    have h2 := this.2 j (Finset.mem_univ j)
    unfold rowOf at h2
    rw [if_pos hj] at h2
    exact absurd (le_bot_iff.mp h2) (EReal.coe_ne_bot _)
  have hhigh : (Finset.univ : Finset (Fin n)).fold max b (rowOf keep s) ≠ ⊤ := by
    refine (lt_top_iff_ne_top).mp ((Finset.fold_max_lt (s := Finset.univ) (f := rowOf keep s) (b := b) (⊤ : EReal)).mpr ⟨by rw [hb]; exact bot_lt_top, fun x _ => ?_⟩)
    unfold rowOf
    split
    · exact EReal.coe_lt_top _
    · exact bot_lt_top
  exact ⟨_, (EReal.coe_toReal hhigh hlow).symm⟩

/-- A weight of the row before division. -/
theorem exp_row (r : ℝ) (j : Fin n) :
    Ideal.exp (rowOf keep s j - (r : EReal)) = (((if keep j then Real.exp (s j - r) else 0) : ℝ) : EReal) := by
  unfold rowOf
  by_cases h : keep j
  · rw [if_pos h, if_pos h, ← EReal.coe_sub, exp_coe]
  · rw [if_neg h, if_neg h, EReal.bot_sub]; rfl

/-- The sum of the weights. -/
theorem sum_weights (r : ℝ) : (∑ j, if keep j then Real.exp (s j - r) else 0) = massOf keep s / Real.exp r := by
  unfold massOf
  rw [Finset.sum_div]
  refine Finset.sum_congr rfl fun j _ => ?_
  split
  · exact Real.exp_sub _ _
  · exact (zero_div _).symm

/-- The largest score and the logarithm of the weights' sum give the logarithm of the mass. -/
theorem log_weights (hk : ∃ j, keep j) (r : ℝ) : r + Real.log (massOf keep s / Real.exp r) = Real.log (massOf keep s) := by
  rw [Real.log_div (massOf_pos keep s hk).ne' (Real.exp_pos r).ne', Real.log_exp]; ring

/-- A weight divided by the weights' sum is the probability. -/
theorem weight_div (hk : ∃ j, keep j) (r : ℝ) (j : Fin n) :
    (if keep j then Real.exp (s j - r) else 0) / (massOf keep s / Real.exp r)
      = if keep j then Real.exp (s j - Real.log (massOf keep s)) else 0 := by
  have hm := massOf_pos keep s hk
  split
  · rw [Real.exp_sub, Real.exp_sub, Real.exp_log hm]
    field_simp
  · exact zero_div _

end Row

/-- Scores moved by one number in a row leave its probabilities. -/
theorem shift_log {n : ℕ} (keep : Fin n → Prop) [DecidablePred keep] (s : Fin n → ℝ) (hk : ∃ j, keep j) (a : ℝ) (j : Fin n) :
    (s j + a) - Real.log (massOf keep fun j => s j + a) = s j - Real.log (massOf keep s) := by
  have h : massOf keep (fun j => s j + a) = Real.exp a * massOf keep s := by
    unfold massOf
    rw [Finset.mul_sum]
    refine Finset.sum_congr rfl fun j _ => ?_
    split
    · rw [Real.exp_add, mul_comm]
    · exact (mul_zero _).symm
  rw [h, Real.log_mul (Real.exp_pos a).ne' (massOf_pos keep s hk).ne', Real.log_exp]
  ring

/-! ## The attention and its gradient -/

/-- Real queries, keys, values, output gradients, and cumulative log gates. -/
structure Reals where
  q : Fin 16384 → Fin 8 → Fin 64 → ℝ
  k : Fin 16384 → Fin 8 → Fin 64 → ℝ
  v : Fin 16384 → Fin 8 → Fin 64 → ℝ
  ct : Fin 16384 → Fin 8 → Fin 64 → ℝ
  g : Fin 8 → Fin 16384 → ℝ

variable (A : Reals) (h : Fin 8)

/-- The score of query `i` at key `j`, without the query's own gate. -/
def Reals.score (i j : Fin 16384) : ℝ := (∑ d, A.q i h d * A.k j h d) * (1 / 8) - A.g h j

/-- The sum of a query's exponentials over the keys it sees. -/
def Reals.mass (i : Fin 16384) : ℝ := massOf (fun j : Fin 16384 => j.val ≤ i.val) (A.score h i)

/-- The probability of key `j` for query `i`. -/
def Reals.prob (i j : Fin 16384) : ℝ := if j.val ≤ i.val then Real.exp (A.score h i j - Real.log (A.mass h i)) else 0

/-- The gradient with respect to that probability, its mean over the keys, and the gradient with respect to the score. -/
def Reals.dprob (i j : Fin 16384) : ℝ := ∑ d, A.ct i h d * A.v j h d
def Reals.mean (i : Fin 16384) : ℝ := ∑ j, A.prob h i j * A.dprob h i j
def Reals.dscore (i j : Fin 16384) : ℝ := A.prob h i j * (A.dprob h i j - A.mean h i)

theorem sees_self (i : Fin 16384) : ∃ j : Fin 16384, j.val ≤ i.val := ⟨i, le_rfl⟩

theorem Reals.mass_pos (i : Fin 16384) : 0 < A.mass h i := massOf_pos _ _ (sees_self i)

/-- The weights' sum, the logarithm and the quotient, for one query. -/
theorem Reals.sum_weights (i : Fin 16384) (r : ℝ) :
    (∑ j : Fin 16384, if j.val ≤ i.val then Real.exp (A.score h i j - r) else 0) = A.mass h i / Real.exp r := by
  unfold Reals.mass; exact Fox.sum_weights _ _ r

theorem Reals.log_weights (i : Fin 16384) (r : ℝ) : r + Real.log (A.mass h i / Real.exp r) = Real.log (A.mass h i) := by
  unfold Reals.mass; exact Fox.log_weights _ _ (sees_self i) r

theorem Reals.weight_div (i : Fin 16384) (r : ℝ) (j : Fin 16384) :
    (if j.val ≤ i.val then Real.exp (A.score h i j - r) else 0) / (A.mass h i / Real.exp r) = A.prob h i j := by
  unfold Reals.prob Reals.mass; exact Fox.weight_div _ _ (sees_self i) r j

theorem Reals.prob_above {i j : Fin 16384} (hij : i.val < j.val) : A.prob h i j = 0 := if_neg (by omega)

theorem Reals.dscore_above {i j : Fin 16384} (hij : i.val < j.val) : A.dscore h i j = 0 := by
  unfold Reals.dscore; rw [A.prob_above h hij, zero_mul]

/-- The mean is the product of the output with its gradient. -/
theorem Reals.mean_eq (i : Fin 16384) : (∑ d, A.ct i h d * ∑ j, A.prob h i j * A.v j h d) = A.mean h i := by
  unfold Reals.mean Reals.dprob
  simp only [Finset.mul_sum]
  rw [Finset.sum_comm]
  exact Finset.sum_congr rfl fun j _ => Finset.sum_congr rfl fun d _ => by ring

/-- The gradients of the four inputs. -/
def Reals.dq (i : Fin 16384) (d : Fin 64) : ℝ := (∑ j, A.dscore h i j * A.k j h d) * (1 / 8)
def Reals.dk (j : Fin 16384) (d : Fin 64) : ℝ := ∑ i, A.dscore h i j * (A.q i h d * (1 / 8))
def Reals.dv (j : Fin 16384) (d : Fin 64) : ℝ := ∑ i, A.prob h i j * A.ct i h d
def Reals.dg (i : Fin 16384) : ℝ := (∑ j, A.dscore h i j) - ∑ j, A.dscore h j i

end Cert.Fox

end
-- ==== Proof.FoxTile.lean ====
module

public import proofs.«01_k».proof.Proof.FoxBody
public import proofs.«01_k».proof.Proof.FoxReal
public import Idealize.ShloMosaic.Lib.Pointwise
public import Idealize.ShloMosaic.Lib.WordCmp

@[expose] public section

set_option maxRecDepth 16384

noncomputable section

/-!
# One tile over the reals

What the body's arithmetic gives at an index of a tile when the blocks it reads hold real numbers.
-/

namespace Cert.Fox

open Cert.KernelIdeal Cert.KernelIdeal.Gen
open Idealize.ShloMosaic

/-- The real numbers in the blocks of a tile: rows of keys, queries, values and output gradients, the log-sums, the means. -/
structure TileReals where
  K : Fin 1024 → Fin 128 → ℝ
  Q : Fin 1024 → Fin 128 → ℝ
  V : Fin 1024 → Fin 128 → ℝ
  C : Fin 1024 → Fin 128 → ℝ
  L : Fin 1024 → ℝ
  D : Fin 1024 → ℝ

variable (T : TileReals)

/-- The weight of key `a` for query `b`, and the gradient with respect to its score. -/
def TileReals.w (a b : Fin 1024) : ℝ := Real.exp ((∑ x, T.K a x * T.Q b x) - T.L b)
def TileReals.s (a b : Fin 1024) : ℝ := T.w a b * ((∑ x, T.V a x * T.C b x) - T.D b)

/-- The same, only where the key is not above the query. -/
def TileReals.wm (a b : Fin 1024) : ℝ := if a.val ≤ b.val then T.w a b else 0
def TileReals.sm (a b : Fin 1024) : ℝ := T.wm a b * ((∑ x, T.V a x * T.C b x) - T.D b)

/-- The blocks hold these real numbers. -/
structure Holds (x : Blocks Ideal) : Prop where
  qt : ∀ (b : Fin 1024) (w : Fin 128), x.qt (ix3 (0 : Fin 1) w b) = ((T.Q b w : ℝ) : EReal)
  qh : ∀ (b : Fin 1024) (w : Fin 128), x.qh (ix3 (0 : Fin 1) b w) = ((T.Q b w : ℝ) : EReal)
  kh : ∀ (a : Fin 1024) (w : Fin 128), x.kh (ix3 (0 : Fin 1) a w) = ((T.K a w : ℝ) : EReal)
  vh : ∀ (a : Fin 1024) (w : Fin 128), x.vh (ix3 (0 : Fin 1) a w) = ((T.V a w : ℝ) : EReal)
  dot : ∀ (b : Fin 1024) (w : Fin 128), x.dot (ix3 (0 : Fin 1) w b) = ((T.C b w : ℝ) : EReal)
  dout : ∀ (b : Fin 1024) (w : Fin 128), x.dout (ix3 (0 : Fin 1) b w) = ((T.C b w : ℝ) : EReal)
  lse : ∀ b : Fin 1024, x.lse (ix3 (0 : Fin 1) (0 : Fin 1) b) = ((T.L b : ℝ) : EReal)
  delta : ∀ b : Fin 1024, x.delta (ix3 (0 : Fin 1) (0 : Fin 1) b) = ((T.D b : ℝ) : EReal)

variable {T} {x : Blocks Ideal} (hx : Holds T x)
include hx

theorem keys_queries (a b : Fin 1024) : (∑ w : Fin 128, (x.kh (ix3 0 a w) : EReal) * x.qt (ix3 0 w b)) = ((∑ w, T.K a w * T.Q b w : ℝ) : EReal) := by
  rw [← coe_sum]
  exact Finset.sum_congr rfl fun w _ => by rw [hx.kh, hx.qt, EReal.coe_mul]

theorem values_gradients (a b : Fin 1024) : (∑ w : Fin 128, (x.vh (ix3 0 a w) : EReal) * x.dot (ix3 0 w b)) = ((∑ w, T.V a w * T.C b w : ℝ) : EReal) := by
  rw [← coe_sum]
  exact Finset.sum_congr rfl fun w _ => by rw [hx.vh, hx.dot, EReal.coe_mul]

theorem weight_at (a b : Fin 1024) : k0_pay11 x.kh x.qt x.lse (ix2 a b) = ((T.w a b : ℝ) : EReal) := by
  unfold k0_pay11
  pointwise
  rw [keys_queries hx, hx.lse, ← EReal.coe_sub, exp_coe]
  rfl

theorem masked_weight_at (a b : Fin 1024) : k0_pay14 x.kh x.qt x.lse (ix2 a b) = ((T.wm a b : ℝ) : EReal) := by
  have e : k0_pay14 x.kh x.qt x.lse (ix2 a b) = if a.val ≤ b.val then k0_pay11 x.kh x.qt x.lse (ix2 a b) else ((0 : ℝ) : EReal) := by
    unfold k0_pay14 k0_pay11
    pointwise
    rw [WordCmp.cmpi_sle_ofNat (by omega) (by omega)]
    by_cases h : a.val ≤ b.val
    · rw [if_pos h, decide_eq_true h]; rfl
    · rw [if_neg h, decide_eq_false h]; rfl
  rw [e, weight_at hx]
  unfold TileReals.wm
  by_cases h : a.val ≤ b.val
  · rw [if_pos h, if_pos h]
  · rw [if_neg h, if_neg h]

theorem score_at (a b : Fin 1024) : k0_pay12 x.kh x.qt x.lse x.vh x.dot x.delta (ix2 a b) = ((T.s a b : ℝ) : EReal) := by
  have e := weight_at hx a b
  unfold k0_pay12
  generalize k0_pay11 x.kh x.qt x.lse = y at e ⊢
  pointwise
  rw [e, values_gradients hx, hx.delta, ← EReal.coe_sub, ← EReal.coe_mul]
  rfl

theorem masked_score_at (a b : Fin 1024) : k0_pay15 x.kh x.qt x.lse x.vh x.dot x.delta (ix2 a b) = ((T.sm a b : ℝ) : EReal) := by
  have e := masked_weight_at hx a b
  unfold k0_pay15
  generalize k0_pay14 x.kh x.qt x.lse = y at e ⊢
  pointwise
  rw [e, values_gradients hx, hx.delta, ← EReal.coe_sub, ← EReal.coe_mul]
  rfl

omit hx in
/-- A product of a tile's numbers with rows, added to what was there. -/
theorem add_rows (f g : Fin 1024 → EReal) (r : ℝ) (f' g' : Fin 1024 → ℝ) (y : EReal) (hy : y = ((r : ℝ) : EReal))
    (hf : ∀ b, f b = ((f' b : ℝ) : EReal)) (hg : ∀ b, g b = ((g' b : ℝ) : EReal)) :
    y + ∑ b, f b * g b = ((r + ∑ b, f' b * g' b : ℝ) : EReal) := by
  rw [hy, EReal.coe_add, ← coe_sum]
  refine congrArg _ (Finset.sum_congr rfl fun b _ => ?_)
  rw [hf, hg, EReal.coe_mul]

theorem addKeys_at (d : FVec Ideal S1024x1024 .bf16) (d' : Fin 1024 → Fin 1024 → ℝ) (hd : ∀ a b, d (ix2 a b) = ((d' a b : ℝ) : EReal))
    (y : Vec Ideal S1024x128 .f32) (r : ℝ) (a : Fin 1024) (w : Fin 128) (hy : y (ix2 a w) = ((r : ℝ) : EReal)) :
    k0_pay4 d y x.qh (ix2 a w) = ((r + ∑ b, d' a b * T.Q b w : ℝ) : EReal) := by
  unfold k0_pay4
  pointwise
  exact add_rows _ _ r _ _ _ hy (hd a) fun b => hx.qh b w

theorem addQueries_at (d : FVec Ideal S1024x1024 .bf16) (d' : Fin 1024 → Fin 1024 → ℝ) (hd : ∀ a b, d (ix2 a b) = ((d' a b : ℝ) : EReal))
    (y : Vec Ideal S1024x128 .f32) (r : ℝ) (b : Fin 1024) (w : Fin 128) (hy : y (ix2 b w) = ((r : ℝ) : EReal)) :
    k0_pay5 d y x.kh (ix2 b w) = ((r + ∑ a, d' a b * T.K a w : ℝ) : EReal) := by
  unfold k0_pay5
  pointwise
  exact add_rows _ _ r _ _ _ hy (fun a => hd a b) fun a => hx.kh a w

theorem addValues_at (y : Vec Ideal S1024x128 .f32) (r : ℝ) (a : Fin 1024) (w : Fin 128) (hy : y (ix2 a w) = ((r : ℝ) : EReal)) :
    k0_pay13 x.kh x.qt x.lse y x.dout (ix2 a w) = ((r + ∑ b, T.w a b * T.C b w : ℝ) : EReal) := by
  have e := weight_at hx a
  unfold k0_pay13
  generalize k0_pay11 x.kh x.qt x.lse = z at e ⊢
  pointwise
  exact add_rows _ _ r _ _ _ hy e fun b => hx.dout b w

theorem addMaskedValues_at (y : Vec Ideal S1024x128 .f32) (r : ℝ) (a : Fin 1024) (w : Fin 128) (hy : y (ix2 a w) = ((r : ℝ) : EReal)) :
    k0_pay6 (k0_pay16 x.kh x.qt x.lse y x.dout) (ix2 a w) = ((r + ∑ b, T.wm a b * T.C b w : ℝ) : EReal) := by
  have e := masked_weight_at hx a
  unfold k0_pay6 k0_pay16
  generalize k0_pay14 x.kh x.qt x.lse = z at e ⊢
  pointwise
  exact add_rows _ _ r _ _ _ hy e fun b => hx.dout b w

end Cert.Fox

end
-- ==== Proof.FoxRun.lean ====
module

public import proofs.«01_k».proof.Proof.FoxBody

@[expose] public section

set_option maxRecDepth 16384

noncomputable section

namespace Cert.Fox

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The seven combinations of the body's conditions that a grid point can meet. -/
def Meets (i : grid0.Coords) : Prop :=
  conds0_A i ∨ conds0_B i ∨ conds0_C i ∨ conds0_D i ∨ conds0_E i ∨ conds0_F i ∨ conds0_G i

set_option maxHeartbeats 4000000 in
theorem run (c : Dev nD) (i : grid0.Coords) (hi : Meets i)
    (arg3 : Memref sig .tc .vmem S1x128x1024 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .bf16) (harg6 : arg6.IsWhole)
    (arg7 : Memref sig .tc .vmem S1x128x1024 .bf16) (harg7 : arg7.IsWhole) (arg8 : Memref sig .tc .vmem S1x1024x128 .bf16) (harg8 : arg8.IsWhole)
    (arg9 : Memref sig .tc .vmem S1x1x1024 .f32) (harg9 : arg9.IsWhole) (arg10 : Memref sig .tc .vmem S1x1x1024 .f32) (harg10 : arg10.IsWhole)
    (arg12 : Memref sig .tc .vmem S1x1024x128 .f32) (harg12 : arg12.IsWhole) (arg13 : Memref sig .tc .vmem S1x1024x128 .f32) (harg13 : arg13.IsWhole)
    (arg14 : Memref sig .tc .vmem S16384x128 .f32) (harg14 : arg14.IsWhole) (arg15 : Memref sig .tc .vmem S1024x128 .f32) (harg15 : arg15.IsWhole)
    (arg16 : Memref sig .tc .vmem S1024x128 .f32) (harg16 : arg16.IsWhole)
    (x : Blocks F) (s : Carry F) (o8 o9 : Vec F S1x1024x128 .f32) (f : HbBuf0 (F := F) c hbM0_0) (W : Waits sig Unit) (K : PUnit → sProp 𝕄) :
    iprop(owns (c : Thread nD τ) arg3 fullShare x.qt ∗ owns (c : Thread nD τ) arg4 fullShare x.qh ∗ owns (c : Thread nD τ) arg5 fullShare x.kh
        ∗ owns (c : Thread nD τ) arg6 fullShare x.vh ∗ owns (c : Thread nD τ) arg7 fullShare x.dot ∗ owns (c : Thread nD τ) arg8 fullShare x.dout
        ∗ owns (c : Thread nD τ) arg9 fullShare x.lse ∗ owns (c : Thread nD τ) arg10 fullShare x.delta
        ∗ owns (c : Thread nD τ) arg12 fullShare o8 ∗ owns (c : Thread nD τ) arg13 fullShare o9
        ∗ owns (c : Thread nD τ) arg14 fullShare s.dq ∗ owns (c : Thread nD τ) arg15 fullShare s.dk ∗ owns (c : Thread nD τ) arg16 fullShare s.dv
        ∗ semVal ((c : Thread nD τ), SemLoc.dma 20) 0 ∗ hbPt0 c hbM0_0 f ∗ owes (c : Thread nD τ) 0 W
        ∗ (iprop(owns (c : Thread nD τ) arg3 fullShare x.qt ∗ owns (c : Thread nD τ) arg4 fullShare x.qh ∗ owns (c : Thread nD τ) arg5 fullShare x.kh
            ∗ owns (c : Thread nD τ) arg6 fullShare x.vh ∗ owns (c : Thread nD τ) arg7 fullShare x.dot ∗ owns (c : Thread nD τ) arg8 fullShare x.dout
            ∗ owns (c : Thread nD τ) arg9 fullShare x.lse ∗ owns (c : Thread nD τ) arg10 fullShare x.delta
            ∗ owns (c : Thread nD τ) arg12 fullShare (if cond0_4 i then k0_pay9 (step i x s).dk else o8)
            ∗ owns (c : Thread nD τ) arg13 fullShare (if cond0_4 i then k0_pay10 (step i x s).dv else o9)
            ∗ owns (c : Thread nD τ) arg14 fullShare (step i x s).dq ∗ owns (c : Thread nD τ) arg15 fullShare (step i x s).dk
            ∗ owns (c : Thread nD τ) arg16 fullShare (step i x s).dv
            ∗ semVal ((c : Thread nD τ), SemLoc.dma 20) 0
            ∗ hbPt0 c hbM0_0 (if cond0_5 i then putHead i c f (step i x s).dq else f) ∗ (∃ W', owes (c : Thread nD τ) 0 W')) -∗ K ⟨⟩))
      ⊢ wp frame (wpE (defs₀ (F := F)) Variants.none c none) Set.univ
          (cc0_foxbwd i arg3 harg3 arg4 harg4 arg5 harg5 arg6 harg6 arg7 harg7 arg8 harg8 arg9 harg9 arg10 harg10 (Memref.whole main_v63_0) (Memref.isWhole_whole _)
            arg12 harg12 arg13 harg13 arg14 harg14 arg15 harg15 arg16 harg16 cc0_scratch3) K := by
  obtain ⟨qt, qh, kh, vh, dot, dout, lse, delta⟩ := x
  obtain ⟨dq, dk, dv⟩ := s
  dsimp only
  simp only [cc0_foxbwd_eq_skeleton]; unfold cc0_foxbwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hq0, Hh0, HW, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf8; obtain rfl := harg13.eq_unread hf9; obtain rfl := harg14.eq_unread hfs0; obtain rfl := harg15.eq_unread hfs1; obtain rfl := harg16.eq_unread hfs2
  rcases hi with hi | hi | hi | hi | hi | hi | hi
  all_goals
    obtain ⟨hc0, hc1, hc2, hc3, hc4, hc5⟩ := hi
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro; sl_unfold_run_names
      simp (disch := assumption) only [step, addFull, addDiag, clear, if_pos, if_neg]
      simp only [View.readAt_eq_ld, Memref.IsWhole.read_unread, View.writes_nil, ReadAs.apply_same, write_head i c,
        View.ld_unit_zero (S := S1x1024x128) zeros3, View.ld_unit_zero (S := S1x128x1024) zeros3, View.ld_unit_zero (S := S1x1x1024) zeros3,
        View.ld_unit_zero (S := S1024x128) zeros2, View.ld_unit_zero (S := S16384x128) zeros2, View.readCov_unit_zero (S := S1024x128) _ zeros2,
        read_store_whole (s := S1024x128) _ _ zeros2, read_store_whole (s := S16384x128) _ _ zeros2, read_store_whole (s := S1x1024x128) _ _ zeros3,
        read_store_rows (i 2) _ _ (k0_off1_eq i), read_store_rows (i 2) _ _ (k0_off2_eq i), ld_rows (i 2) (k0_off1_eq i), ld_rows (i 2) (k0_off2_eq i),
        readCov_rows (i 2) _ (k0_off1_eq i) _ zeros2, readCov_rows (i 2) _ (k0_off2_eq i) _ zeros2, k0_off3_eq]
    isplitl [H9]
    · iexists _; isplitr; swap; · iexact H9
      ipureintro; sl_unfold_run_names
      simp (disch := assumption) only [step, addFull, addDiag, clear, if_pos, if_neg]
      simp only [View.readAt_eq_ld, Memref.IsWhole.read_unread, View.writes_nil, ReadAs.apply_same, write_head i c,
        View.ld_unit_zero (S := S1x1024x128) zeros3, View.ld_unit_zero (S := S1x128x1024) zeros3, View.ld_unit_zero (S := S1x1x1024) zeros3,
        View.ld_unit_zero (S := S1024x128) zeros2, View.ld_unit_zero (S := S16384x128) zeros2, View.readCov_unit_zero (S := S1024x128) _ zeros2,
        read_store_whole (s := S1024x128) _ _ zeros2, read_store_whole (s := S16384x128) _ _ zeros2, read_store_whole (s := S1x1024x128) _ _ zeros3,
        read_store_rows (i 2) _ _ (k0_off1_eq i), read_store_rows (i 2) _ _ (k0_off2_eq i), ld_rows (i 2) (k0_off1_eq i), ld_rows (i 2) (k0_off2_eq i),
        readCov_rows (i 2) _ (k0_off1_eq i) _ zeros2, readCov_rows (i 2) _ (k0_off2_eq i) _ zeros2, k0_off3_eq]
    isplitl [HS0]
    · iexists _; isplitr; swap; · iexact HS0
      ipureintro; sl_unfold_run_names
      simp (disch := assumption) only [step, addFull, addDiag, clear, if_pos, if_neg]
      simp only [View.readAt_eq_ld, Memref.IsWhole.read_unread, View.writes_nil, ReadAs.apply_same, write_head i c,
        View.ld_unit_zero (S := S1x1024x128) zeros3, View.ld_unit_zero (S := S1x128x1024) zeros3, View.ld_unit_zero (S := S1x1x1024) zeros3,
        View.ld_unit_zero (S := S1024x128) zeros2, View.ld_unit_zero (S := S16384x128) zeros2, View.readCov_unit_zero (S := S1024x128) _ zeros2,
        read_store_whole (s := S1024x128) _ _ zeros2, read_store_whole (s := S16384x128) _ _ zeros2, read_store_whole (s := S1x1024x128) _ _ zeros3,
        read_store_rows (i 2) _ _ (k0_off1_eq i), read_store_rows (i 2) _ _ (k0_off2_eq i), ld_rows (i 2) (k0_off1_eq i), ld_rows (i 2) (k0_off2_eq i),
        readCov_rows (i 2) _ (k0_off1_eq i) _ zeros2, readCov_rows (i 2) _ (k0_off2_eq i) _ zeros2, k0_off3_eq]
    isplitl [HS1]
    · iexists _; isplitr; swap; · iexact HS1
      ipureintro; sl_unfold_run_names
      simp (disch := assumption) only [step, addFull, addDiag, clear, if_pos, if_neg]
      simp only [View.readAt_eq_ld, Memref.IsWhole.read_unread, View.writes_nil, ReadAs.apply_same, write_head i c,
        View.ld_unit_zero (S := S1x1024x128) zeros3, View.ld_unit_zero (S := S1x128x1024) zeros3, View.ld_unit_zero (S := S1x1x1024) zeros3,
        View.ld_unit_zero (S := S1024x128) zeros2, View.ld_unit_zero (S := S16384x128) zeros2, View.readCov_unit_zero (S := S1024x128) _ zeros2,
        read_store_whole (s := S1024x128) _ _ zeros2, read_store_whole (s := S16384x128) _ _ zeros2, read_store_whole (s := S1x1024x128) _ _ zeros3,
        read_store_rows (i 2) _ _ (k0_off1_eq i), read_store_rows (i 2) _ _ (k0_off2_eq i), ld_rows (i 2) (k0_off1_eq i), ld_rows (i 2) (k0_off2_eq i),
        readCov_rows (i 2) _ (k0_off1_eq i) _ zeros2, readCov_rows (i 2) _ (k0_off2_eq i) _ zeros2, k0_off3_eq]
    isplitl [HS2]
    · iexists _; isplitr; swap; · iexact HS2
      ipureintro; sl_unfold_run_names
      simp (disch := assumption) only [step, addFull, addDiag, clear, if_pos, if_neg]
      simp only [View.readAt_eq_ld, Memref.IsWhole.read_unread, View.writes_nil, ReadAs.apply_same, write_head i c,
        View.ld_unit_zero (S := S1x1024x128) zeros3, View.ld_unit_zero (S := S1x128x1024) zeros3, View.ld_unit_zero (S := S1x1x1024) zeros3,
        View.ld_unit_zero (S := S1024x128) zeros2, View.ld_unit_zero (S := S16384x128) zeros2, View.readCov_unit_zero (S := S1024x128) _ zeros2,
        read_store_whole (s := S1024x128) _ _ zeros2, read_store_whole (s := S16384x128) _ _ zeros2, read_store_whole (s := S1x1024x128) _ _ zeros3,
        read_store_rows (i 2) _ _ (k0_off1_eq i), read_store_rows (i 2) _ _ (k0_off2_eq i), ld_rows (i 2) (k0_off1_eq i), ld_rows (i 2) (k0_off2_eq i),
        readCov_rows (i 2) _ (k0_off1_eq i) _ zeros2, readCov_rows (i 2) _ (k0_off2_eq i) _ zeros2, k0_off3_eq]
    isplitl [Hq0]; · iexact Hq0
    isplitl [Hh0]
    · sl_unfold_run_names
      simp (disch := assumption) only [step, addFull, addDiag, clear, if_pos, if_neg]
      try simp only [View.readAt_eq_ld, Memref.IsWhole.read_unread, View.writes_nil, ReadAs.apply_same, write_head i c,
        View.ld_unit_zero (S := S1x1024x128) zeros3, View.ld_unit_zero (S := S1x128x1024) zeros3, View.ld_unit_zero (S := S1x1x1024) zeros3,
        View.ld_unit_zero (S := S1024x128) zeros2, View.ld_unit_zero (S := S16384x128) zeros2, View.readCov_unit_zero (S := S1024x128) _ zeros2,
        read_store_whole (s := S1024x128) _ _ zeros2, read_store_whole (s := S16384x128) _ _ zeros2, read_store_whole (s := S1x1024x128) _ _ zeros3,
        read_store_rows (i 2) _ _ (k0_off1_eq i), read_store_rows (i 2) _ _ (k0_off2_eq i), ld_rows (i 2) (k0_off1_eq i), ld_rows (i 2) (k0_off2_eq i),
        readCov_rows (i 2) _ (k0_off1_eq i) _ zeros2, readCov_rows (i 2) _ (k0_off2_eq i) _ zeros2, k0_off3_eq]
      iexact Hh0
    iexists _; iexact HW

end Cert.Fox

end
-- ==== Proof.FoxLaunch.lean ====
module

public import proofs.«01_k».proof.Proof.FoxRun
public import Idealize.ShloMosaic.Lib.Pipeline.FrameSuffixV
public import Idealize.ShloMosaic.Lib.Claim

@[expose] public section

set_option maxRecDepth 16384

noncomputable section

/-!
# The launch of the backward kernel

What the three accumulators and the query gradient's array hold before each grid point, the proof data of the pipeline over
them, and the run of the whole program: the outputs of the pipeline, and every other array as the host's last lines leave it.
-/

namespace Cert.Fox

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The blocks grid point `t` reads. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- The accumulators before grid point `n`. -/
def carryAt (c : Dev nD) : ℕ → Carry F
  | 0 => ⟨k0_pay1, k0_pay2, k0_pay3⟩
  | n + 1 => if h : n < cfg0.N then step (grid0.coords ⟨n, h⟩) (blocksAt m c ⟨n, h⟩) (carryAt c n) else carryAt c n

/-- The query gradient's array before grid point `n`. -/
def dqAt (c : Dev nD) : ℕ → HbBuf0 (F := F) c hbM0_0
  | 0 => V m c main_v63_0
  | n + 1 => if h : n < cfg0.N then
      (if cond0_5 (grid0.coords ⟨n, h⟩) then putHead (grid0.coords ⟨n, h⟩) c (dqAt c n) (carryAt m c (n + 1)).dq else dqAt c n)
    else dqAt c n

theorem carryAt_succ (c : Dev nD) (t : Fin cfg0.N) :
    carryAt m c (t.val + 1) = step (grid0.coords t) (blocksAt m c t) (carryAt m c t.val) := by
  show (if h : t.val < cfg0.N then _ else _) = _
  rw [dif_pos t.isLt]

theorem dqAt_succ (c : Dev nD) (t : Fin cfg0.N) :
    dqAt m c (t.val + 1)
      = if cond0_5 (grid0.coords t) then putHead (grid0.coords t) c (dqAt m c t.val) (carryAt m c (t.val + 1)).dq else dqAt m c t.val := by
  show (if h : t.val < cfg0.N then _ else _) = _
  rw [dif_pos t.isLt]

/-- A point that clears all three accumulators leaves the same whatever they held. -/
theorem step_of_clear (i : grid0.Coords) (h0 : cond0_0 i) (h1 : cond0_1 i) (x : Blocks F) (s s' : Carry F) : step i x s = step i x s' := by
  have h : clear i s = clear i s' := by unfold clear; rw [if_pos h0, if_pos h1, if_pos h1, if_pos h0, if_pos h1, if_pos h1]
  unfold step; rw [h]

instance Meets.dec (i : grid0.Coords) : Decidable (Meets i) :=
  @instDecidableOr _ _ inferInstance (@instDecidableOr _ _ inferInstance (@instDecidableOr _ _ inferInstance (@instDecidableOr _ _ inferInstance
    (@instDecidableOr _ _ inferInstance (@instDecidableOr _ _ inferInstance inferInstance)))))

/-- Every grid point meets one of the seven combinations. -/
theorem meets : ∀ t : Fin cfg0.N, Meets (grid0.coords t) := by decide +kernel

/-- The two key-block outputs are stored exactly at a key block's last point. -/
theorem live8 : ∀ t : Fin cfg0.N, cond0_4 (grid0.coords t) → cfg0.idle 8 (grid0.coords t) = false := by decide +kernel
theorem live9 : ∀ t : Fin cfg0.N, cond0_4 (grid0.coords t) → cfg0.idle 9 (grid0.coords t) = false := by decide +kernel
theorem idle8 : ∀ t : Fin cfg0.N, ¬cond0_4 (grid0.coords t) → cfg0.idle 8 (grid0.coords t) = true := by decide +kernel
theorem idle9 : ∀ t : Fin cfg0.N, ¬cond0_4 (grid0.coords t) → cfg0.idle 9 (grid0.coords t) = true := by decide +kernel
theorem keep8 : ∀ t : Fin cfg0.N, ¬cond0_4 (grid0.coords t) → (cfg0.win 8).flush t = false := by decide +kernel
theorem keep9 : ∀ t : Fin cfg0.N, ¬cond0_4 (grid0.coords t) → (cfg0.win 9).flush t = false := by decide +kernel

/-- What the query gradient's array holds at the end; every other array as the region finds it. -/
def G (c : Dev nD) : (b : Ref sig .tc) → Buf (Elt F) ((c : Thread nD τ).loc b) := Function.update (V m c) main_v63_0 (dqAt m c cfg0.N)

/-- The invariant before grid point `n`. -/
def Inv (c : Dev nD) : ℕ → sProp 𝕄
  | 0 => Pipeline.ΦDRV osem0 spec0 H0 R0 (V m) (V m) c
  | n + 1 => iprop(owns (c : Thread nD τ) scM0_0 fullShare (carryAt m c (n + 1)).dq ∗ owns (c : Thread nD τ) scM0_1 fullShare (carryAt m c (n + 1)).dk
      ∗ owns (c : Thread nD τ) scM0_2 fullShare (carryAt m c (n + 1)).dv ∗ semVal ((c : Thread nD τ), SemLoc.dma 20) 0 ∗ hbPt0 c hbM0_0 (dqAt m c (n + 1)))

theorem region_eq (c : Dev nD) (A B : (c : Dev nD) → (b : Ref sig .tc) → Buf (Elt F) ((c : Thread nD τ).loc b)) :
    (Pipeline.ΦDRV osem0 spec0 H0 R0 A B c : sProp 𝕄)
      = iprop(iprop((∃ d, owns (c : Thread nD τ) scM0_0 fullShare d) ∗ (∃ d, owns (c : Thread nD τ) scM0_1 fullShare d) ∗ (∃ d, owns (c : Thread nD τ) scM0_2 fullShare d))
          ∗ semVal ((c : Thread nD τ), SemLoc.dma 20) 0 ∗ iprop(emp) ∗ hbPt0 c hbM0_0 (B c main_v63_0)) := by
  unfold Pipeline.ΦDRV
  rw [scopedRest0_eq, ownSems00_eq, BI.bigSep_eq_bigSepL_of_eq (S := H0) [] (by decide) (by decide),
    BI.bigSep_eq_bigSepL_of_eq (S := R0) [main_v63_0] (by decide) (by decide)]
  simp only [scM0_0, scM0_1, scM0_2, owns_whole]; rfl

/-- Before any point: some accumulators from which the point leads to the next ones. -/
theorem inv_open (c : Dev nD) (t : Fin cfg0.N) :
    Inv m c t.val ⊢ iprop(∃ s : Carry F, ⌜step (grid0.coords t) (blocksAt m c t) s = carryAt m c (t.val + 1)⌝
      ∗ owns (c : Thread nD τ) scM0_0 fullShare s.dq ∗ owns (c : Thread nD τ) scM0_1 fullShare s.dk ∗ owns (c : Thread nD τ) scM0_2 fullShare s.dv
      ∗ semVal ((c : Thread nD τ), SemLoc.dma 20) 0 ∗ hbPt0 c hbM0_0 (dqAt m c t.val)) := by
  obtain ⟨n, hn⟩ := t
  cases n with
  | zero =>
    show Pipeline.ΦDRV osem0 spec0 H0 R0 (V m) (V m) c ⊢ _
    rw [region_eq]
    iintro ⟨⟨⟨%a, HS0⟩, ⟨%b, HS1⟩, ⟨%d, HS2⟩⟩, Hq, -, Hh⟩
    iexists (⟨a, b, d⟩ : Carry F)
    isplitr
    · ipureintro
      rw [carryAt_succ m c ⟨0, hn⟩]
      exact step_of_clear _ ((hcond0_0 ⟨0, hn⟩).mpr rfl) ((hcond0_1 ⟨0, hn⟩).mpr rfl) _ _ _
    isplitl [HS0]; · iexact HS0
    isplitl [HS1]; · iexact HS1
    isplitl [HS2]; · iexact HS2
    isplitl [Hq]; · iexact Hq
    iexact Hh
  | succ n =>
    show iprop(owns (c : Thread nD τ) scM0_0 fullShare (carryAt m c (n + 1)).dq ∗ owns (c : Thread nD τ) scM0_1 fullShare (carryAt m c (n + 1)).dk
      ∗ owns (c : Thread nD τ) scM0_2 fullShare (carryAt m c (n + 1)).dv ∗ semVal ((c : Thread nD τ), SemLoc.dma 20) 0 ∗ hbPt0 c hbM0_0 (dqAt m c (n + 1))) ⊢ _
    iintro ⟨HS0, HS1, HS2, Hq, Hh⟩
    iexists (carryAt m c (n + 1))
    isplitr
    · ipureintro; exact (carryAt_succ m c ⟨n + 1, hn⟩).symm
    isplitl [HS0]; · iexact HS0
    isplitl [HS1]; · iexact HS1
    isplitl [HS2]; · iexact HS2
    isplitl [Hq]; · iexact Hq
    iexact Hh

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay9 (carryAt m c (t.val + 1)).dk
    | ⟨9, _⟩ => k0_pay10 (carryAt m c (t.val + 1)).dv
  Φ t := Inv m c t.val
  q _ := fullShare
  owed _ := 0

theorem arrays (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay9 (carryAt m c (t.val + 1)).dk := by dsimp only [dats]
theorem after_9 (c : Dev nD) (t : Fin cfg0.N) : (dats m 0 c).after 9 t = k0_pay10 (carryAt m c (t.val + 1)).dv := by dsimp only [dats]

theorem before_0 (c : Dev nD) (t : Fin cfg0.N) (d) : (dats m 0 c).before 0 t d = iblk m c 0 t := before0_0_of m (dats m 0 c) (arrays m c 0) (after_0 m c) t d
theorem before_1 (c : Dev nD) (t : Fin cfg0.N) (d) : (dats m 0 c).before 1 t d = iblk m c 1 t := before0_1_of m (dats m 0 c) (arrays m c 1) (after_1 m c) t d
theorem before_2 (c : Dev nD) (t : Fin cfg0.N) (d) : (dats m 0 c).before 2 t d = iblk m c 2 t := before0_2_of m (dats m 0 c) (arrays m c 2) (after_2 m c) t d
theorem before_3 (c : Dev nD) (t : Fin cfg0.N) (d) : (dats m 0 c).before 3 t d = iblk m c 3 t := before0_3_of m (dats m 0 c) (arrays m c 3) (after_3 m c) t d
theorem before_4 (c : Dev nD) (t : Fin cfg0.N) (d) : (dats m 0 c).before 4 t d = iblk m c 4 t := before0_4_of m (dats m 0 c) (arrays m c 4) (after_4 m c) t d
theorem before_5 (c : Dev nD) (t : Fin cfg0.N) (d) : (dats m 0 c).before 5 t d = iblk m c 5 t := before0_5_of m (dats m 0 c) (arrays m c 5) (after_5 m c) t d
theorem before_6 (c : Dev nD) (t : Fin cfg0.N) (d) : (dats m 0 c).before 6 t d = iblk m c 6 t := before0_6_of m (dats m 0 c) (arrays m c 6) (after_6 m c) t d
theorem before_7 (c : Dev nD) (t : Fin cfg0.N) (d) : (dats m 0 c).before 7 t d = iblk m c 7 t := before0_7_of m (dats m 0 c) (arrays m c 7) (after_7 m c) t d

/-- What the body is called with at point `t`, window by window, -/
def callPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)) ∗ (∃ d, owns (c : Thread nD τ) (ms0_9 t) fullShare ((dats m 0 c).before 9 t d)))

/-- and what it leaves. -/
def callPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t ∗ (dats m 0 c).leavesExact 9 t)

/-- An input's buffer is left as it was found. -/
theorem leaves_of_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The first key-block output after the point: stored at the block's last point, as it was elsewhere. -/
theorem leaves_8 (c : Dev nD) (t : Fin cfg0.N) (d) :
    owns (c : Thread nD τ) (ms0_8 t) fullShare (if cond0_4 (grid0.coords t) then k0_pay9 (carryAt m c (t.val + 1)).dk else (dats m 0 c).before 8 t d)
      ⊢ (dats m 0 c).leavesExact 8 t := by
  by_cases h : cond0_4 (grid0.coords t)
  · rw [if_pos h, leaves_of_live m c 8 t (live8 t h), after_8]
  · rw [if_neg h, Dat.leavesExact_idle (dats m 0 c) 8 t (idle8 t h) (keep8 t h)]
    iintro H; iexists _; iexact H

/-- The same of the second. -/
theorem leaves_9 (c : Dev nD) (t : Fin cfg0.N) (d) :
    owns (c : Thread nD τ) (ms0_9 t) fullShare (if cond0_4 (grid0.coords t) then k0_pay10 (carryAt m c (t.val + 1)).dv else (dats m 0 c).before 9 t d)
      ⊢ (dats m 0 c).leavesExact 9 t := by
  by_cases h : cond0_4 (grid0.coords t)
  · rw [if_pos h, leaves_of_live m c 9 t (live9 t h), after_9]
  · rw [if_neg h, Dat.leavesExact_idle (dats m 0 c) 9 t (idle9 t h) (keep9 t h)]
    iintro H; iexists _; iexact H

set_option maxHeartbeats 4000000 in
/-- The body at any point. -/
theorem call (c : Dev nD) (t : Fin cfg0.N) :
    callPre m c t ⊢ wp frame (wpE (defs₀ (F := F)) Variants.none c none) Set.univ (bodyAt0 t) (fun _ => callPost m c t) := by
  unfold callPre callPost bodyAt0
  simp only [before_0, before_1, before_2, before_3, before_4, before_5, before_6, before_7]
  rw [show (dats m 0 c).Φ t.castSucc = Inv m c t.val from rfl]
  rw [leaves_of_live m c 0 t (liveAt0_0 t), leaves_of_live m c 1 t (liveAt0_1 t), leaves_of_live m c 2 t (liveAt0_2 t), leaves_of_live m c 3 t (liveAt0_3 t),
    leaves_of_live m c 4 t (liveAt0_4 t), leaves_of_live m c 5 t (liveAt0_5 t), leaves_of_live m c 6 t (liveAt0_6 t), leaves_of_live m c 7 t (liveAt0_7 t),
    after_0, after_1, after_2, after_3, after_4, after_5, after_6, after_7]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HI := (inv_open m c t) $$ HI
  icases HI with ⟨%s, %hs, HS0, HS1, HS2, Hq, Hh⟩
  iapply (run c (grid0.coords t) (meets t) _ _ _ _ _ _ _ _ _ _ _ _ _ _ _ _ _ _ _ _ _ _ _ _ _ _ (blocksAt m c t) s _ _ (dqAt m c t.val) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [Hq]; · iexact Hq
  isplitl [Hh]; · iexact Hh
  isplitl [HW]; · iexact HW
  rw [hs, ← dqAt_succ m c t]
  iintro ⟨H0, H1, H2, H3, H4, H5, H6, H7, H8, H9, HS0, HS1, HS2, Hq, Hh, ⟨%W', HW'⟩⟩
  isplitl [HS0 HS1 HS2 Hq Hh]
  · rw [show (dats m 0 c).Φ t.succ = Inv m c (t.val + 1) from rfl]
    unfold Inv
    isplitl [HS0]; · iexact HS0
    isplitl [HS1]; · iexact HS1
    isplitl [HS2]; · iexact HS2
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t d8) $$ H8
  iapply (leaves_9 m c t d9) $$ H9

theorem bodyRow (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, bodyRow]
  exact triple_restated (call m c t) rfl .rfl fun _ => .rfl

theorem enters (c : Dev nD) : Pipeline.ΦDRV osem0 spec0 H0 R0 (V m) (V m) c ⊢ (dats m 0 c).Φ 0 := .rfl

theorem exits (c : Dev nD) : (dats m 0 c).Φ (Fin.last cfg0.N) ⊢ Pipeline.ΦDRV osem0 spec0 H0 R0 (V m) (G m) c := by
  rw [region_eq]
  rw [show (dats m 0 c).Φ (Fin.last cfg0.N) = Inv m c (2047 + 1) from congrArg (Inv m c) (show cfg0.N = 2047 + 1 from N_0),
    show G m c main_v63_0 = dqAt m c (2047 + 1) from (Function.update_self _ _ _).trans (congrArg (dqAt m c) (show cfg0.N = 2047 + 1 from N_0))]
  unfold Inv
  iintro ⟨HS0, HS1, HS2, Hq, Hh⟩
  isplitl [HS0 HS1 HS2]
  · isplitl [HS0]; · iexists _; iexact HS0
    isplitl [HS1]; · iexists _; iexact HS1
    iexists _; iexact HS2
  isplitl [Hq]; · iexact Hq
  isplitr; · iempintro
  iexact Hh

/-- Every array after the whole program: the pipeline's own as the pipeline leaves them, the rest as the last host lines do. -/
def Ends (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig cfg0.spec, r.2.mem ((c.tc : Thread nD τ).loc b)
      = StableHlo.after hostOps1 (Pipeline.withArrays cfg0.spec c (Pipeline.withR (V0 m c) R0 c (G m c)) fun w => (dats m 0 c).arrAt w cfg0.N) (Proc.devRef .tc b)

set_option backward.isDefEq.respectTransparency.types false in
set_option maxHeartbeats 800000 in
/-- The run of the whole program. -/
theorem ends : θ_run defs (onTc (τ := τ) (main (F := F))) (s₀ m ρ) (fun r => Ends m r ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := arrays m) (hin := enters m) (hout := exits m)
    (Q' := fun r => Ends m r ∧ r.2.sem = fun _ => 0) (hQ' := fun r h => ⟨h.1, h.2⟩)

end Cert.Fox

end
-- ==== Proof.FoxHost.lean ====
module

public import proofs.«01_k».proof.Proof.FoxLaunch

@[expose] public section

set_option maxRecDepth 16384

noncomputable section

/-!
# The arrays the host prepares

The lines of the host before the call, in a few named steps, and what each of the call's eight inputs holds when the call
starts, as these steps of the program's arguments.
-/

namespace Cert.Fox

open Cert.KernelIdeal Cert.KernelIdeal.Gen
open Idealize.ShloMosaic Idealize.ShloMosaic.TcCoe Idealize.ShloMosaic.StableHlo

variable {F : FTy → Type} [FloatOps F]

/-- An array of head vectors, of head scalars, and of one number per pair of positions. -/
abbrev Vecs (F : FTy → Type) [FloatOps F] := (⟨S16384x8x64, .f32⟩ : BufTy).Contents (Elt F)
abbrev Scalars (F : FTy → Type) [FloatOps F] := (⟨S8x16384, .f32⟩ : BufTy).Contents (Elt F)
abbrev Pairs (F : FTy → Type) [FloatOps F] := (⟨S8x16384x16384, .f32⟩ : BufTy).Contents (Elt F)
abbrev Packed (F : FTy → Type) [FloatOps F] := (⟨S8x16384x128, .bf16⟩ : BufTy).Contents (Elt F)

/-- One scalar over a whole array, and a row scalar over the row's keys. -/
def fillPairs (w : BitVec 32) : Pairs F := broadcastInDim S8x16384x16384 ![] bcast_S_S8x16384x16384 (constant S_ .f32 w)
def overKeys (x : Scalars F) : Pairs F :=
  broadcastInDim S8x16384x16384 ![0, 1, 2] bcast_S8x16384x1_S8x16384x16384_0_1_2 (broadcastInDim S8x16384x1 ![0, 1] bcast_S8x16384_S8x16384x1_0_1 x)
def heads (x : Vecs F) : (⟨S8x16384x64, .f32⟩ : BufTy).Contents (Elt F) :=
  transpose S8x16384x64 [1, 0, 2] x transposes_S16384x8x64_S8x16384x64_1_0_2
def column (x : Scalars F) : (⟨S8x16384x1, .f32⟩ : BufTy).Contents (Elt F) := broadcastInDim S8x16384x1 ![0, 1] bcast_S8x16384_S8x16384x1_0_1 x
def ones : (⟨S8x16384x1, .f32⟩ : BufTy).Contents (Elt F) := broadcastInDim S8x16384x1 ![] bcast_S_S8x16384x1 (constant S_ .f32 0x3F800000#32)

/-- The products of queries and keys. -/
def products (q k : Vecs F) : Pairs F := Host.dotGeneral dot_S16384x8x64_S16384x8x64_S8x16384x16384_2_2_0_0_1_1 none q k

/-- Scaled products less the key's cumulative log gate. -/
def scores (q k : Vecs F) (g : Scalars F) : Pairs F :=
  subf (mulf (products q k) (fillPairs 0x3E000000#32))
    (broadcastInDim S8x16384x16384 ![0, 1, 2] bcast_S8x1x16384_S8x16384x16384_0_1_2 (broadcastInDim S8x1x16384 ![0, 2] bcast_S8x16384_S8x1x16384_0_2 g))

/-- Which keys a query sees. -/
def keep : (⟨S16384x16384, .i1⟩ : BufTy).Contents (Elt F) :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The scores with `-∞` at the keys a query does not see. -/
def masked (q k : Vecs F) (g : Scalars F) : Pairs F :=
  select (broadcastInDim S8x16384x16384 ![1, 2] bcast_S16384x16384_S8x16384x16384_1_2 (keep (F := F))) (scores q k g) (fillPairs 0xFF800000#32)

/-- A query's largest score. -/
def top (q k : Vecs F) (g : Scalars F) : Scalars F :=
  Host.reduce FloatOps.maximumf (masked q k g) (constant S_ .f32 0xFF800000#32) reducesTo_S8x16384x16384_S8x16384_d2 h_S_

/-- The weights before division, and their sum over the keys. -/
def weights (q k : Vecs F) (g : Scalars F) : Pairs F := Host.exp (subf (masked q k g) (overKeys (top q k g)))
def total (q k : Vecs F) (g : Scalars F) : Scalars F :=
  Host.reduceAdd (weights q k g) (constant S_ .f32 0x00000000#32) reducesTo_S8x16384x16384_S8x16384_d2 h_S_

/-- The logarithm of the sum of a query's exponentials. -/
def logSum (q k : Vecs F) (g : Scalars F) : Scalars F := addf (top q k g) (Host.log (total q k g))

/-- The attention's output, head by head. -/
def mixed (q k v : Vecs F) (g : Scalars F) : (⟨S8x16384x64, .f32⟩ : BufTy).Contents (Elt F) :=
  Host.dotGeneral dot_S8x16384x16384_S16384x8x64_S8x16384x64_2_0_1_2_0_1 none (Host.divf (weights q k g) (overKeys (total q k g))) v

/-- The output's products with its cotangent. -/
def delta (q k v : Vecs F) (g : Scalars F) (ct : Vecs F) : Scalars F :=
  Host.reduceAdd (mulf (heads ct) (mixed q k v g)) (constant S_ .f32 0x00000000#32) reducesTo_S8x16384x64_S8x16384_d2 h_S_

/-- The three parts of a gate. -/
def gateHigh (g : Scalars F) : Scalars F := extf .f32 (truncf .bf16 g bitsLt_bf16_f32) bitsLt_bf16_f32
def gateRest (g : Scalars F) : Scalars F := subf g (gateHigh g)

/-- The packed queries, keys, values and cotangents. -/
def packQ (q : Vecs F) : Packed F :=
  truncf .bf16 ((concatenate S8x16384x128 2 [⟨S8x16384x64, ((mulf (heads q) (broadcastInDim S8x16384x64 ![] bcast_S_S8x16384x64 (constant S_ .f32 0x3E000000#32))) : (⟨S8x16384x64, .f32⟩ : BufTy).Contents (Elt F))⟩,
    ⟨S8x16384x1, ((ones (F := F)) : (⟨S8x16384x1, .f32⟩ : BufTy).Contents (Elt F))⟩, ⟨S8x16384x1, ((ones (F := F)) : (⟨S8x16384x1, .f32⟩ : BufTy).Contents (Elt F))⟩, ⟨S8x16384x1, ((ones (F := F)) : (⟨S8x16384x1, .f32⟩ : BufTy).Contents (Elt F))⟩,
    ⟨S8x16384x61, ((broadcastInDim S8x16384x61 ![] bcast_S_S8x16384x61 (constant S_ .f32 0x00000000#32)) : (⟨S8x16384x61, .f32⟩ : BufTy).Contents (Elt F))⟩]
    concatenates_S8x16384x64_S8x16384x1_S8x16384x1_S8x16384x1_S8x16384x61_S8x16384x128_d2 : (⟨S8x16384x128, .f32⟩ : BufTy).Contents (Elt F))) bitsLt_bf16_f32
def packK (k : Vecs F) (g : Scalars F) : Packed F :=
  truncf .bf16 ((concatenate S8x16384x128 2 [⟨S8x16384x64, ((heads k) : (⟨S8x16384x64, .f32⟩ : BufTy).Contents (Elt F))⟩,
    ⟨S8x16384x1, ((Host.negf (column (gateHigh g))) : (⟨S8x16384x1, .f32⟩ : BufTy).Contents (Elt F))⟩,
    ⟨S8x16384x1, ((Host.negf (column (gateHigh (gateRest g)))) : (⟨S8x16384x1, .f32⟩ : BufTy).Contents (Elt F))⟩,
    ⟨S8x16384x1, ((Host.negf (column (gateRest (gateRest g)))) : (⟨S8x16384x1, .f32⟩ : BufTy).Contents (Elt F))⟩,
    ⟨S8x16384x1, ((ones (F := F)) : (⟨S8x16384x1, .f32⟩ : BufTy).Contents (Elt F))⟩,
    ⟨S8x16384x60, ((broadcastInDim S8x16384x60 ![] bcast_S_S8x16384x60 (constant S_ .f32 0x00000000#32)) : (⟨S8x16384x60, .f32⟩ : BufTy).Contents (Elt F))⟩]
    concatenates_S8x16384x64_S8x16384x1_S8x16384x1_S8x16384x1_S8x16384x1_S8x16384x60_S8x16384x128_d2 : (⟨S8x16384x128, .f32⟩ : BufTy).Contents (Elt F))) bitsLt_bf16_f32
def packV (v : Vecs F) : Packed F :=
  truncf .bf16 ((concatenate S8x16384x128 2 [⟨S8x16384x64, ((heads v) : (⟨S8x16384x64, .f32⟩ : BufTy).Contents (Elt F))⟩,
    ⟨S8x16384x1, ((ones (F := F)) : (⟨S8x16384x1, .f32⟩ : BufTy).Contents (Elt F))⟩,
    ⟨S8x16384x63, ((broadcastInDim S8x16384x63 ![] bcast_S_S8x16384x63 (constant S_ .f32 0x00000000#32)) : (⟨S8x16384x63, .f32⟩ : BufTy).Contents (Elt F))⟩]
    concatenates_S8x16384x64_S8x16384x1_S8x16384x63_S8x16384x128_d2 : (⟨S8x16384x128, .f32⟩ : BufTy).Contents (Elt F))) bitsLt_bf16_f32
def packC (ct : Vecs F) : Packed F :=
  truncf .bf16 ((concatenate S8x16384x128 2 [⟨S8x16384x64, (heads ct)⟩,
    ⟨S8x16384x64, (broadcastInDim S8x16384x64 ![] bcast_S_S8x16384x64 (constant S_ .f32 0x00000000#32))⟩]
    concatenates_S8x16384x64_S8x16384x64_S8x16384x128_d2 : (⟨S8x16384x128, .f32⟩ : BufTy).Contents (Elt F))) bitsLt_bf16_f32

variable (m : (ℓ : Loc nD τ sig) → Buf (Elt F) ℓ) (c : Dev nD)

/-- The program's five arguments. -/
abbrev inQ : Vecs F := m ((c.tc : Thread nD τ).loc main_arg0)
abbrev inK : Vecs F := m ((c.tc : Thread nD τ).loc main_arg1)
abbrev inV : Vecs F := m ((c.tc : Thread nD τ).loc main_arg2)
abbrev inG : Scalars F := m ((c.tc : Thread nD τ).loc main_arg3)
abbrev inC : Vecs F := m ((c.tc : Thread nD τ).loc main_arg4)

/-- What the call's eight inputs hold when it starts. -/
theorem inputs :
    V m c main_v56 = transpose S8x128x16384 [0, 2, 1] (packQ (inQ m c)) transposes_S8x16384x128_S8x128x16384_0_2_1 ∧
    V m c main_v52 = packQ (inQ m c) ∧
    V m c main_v53 = packK (inK m c) (inG m c) ∧
    V m c main_v54 = packV (inV m c) ∧
    V m c main_v57 = transpose S8x128x16384 [0, 2, 1] (packC (inC m c)) transposes_S8x16384x128_S8x128x16384_0_2_1 ∧
    V m c main_v55 = packC (inC m c) ∧
    V m c main_v61 = shapeCast _ (logSum (inQ m c) (inK m c) (inG m c)) shapeCasts_S8x16384_S8x1x16384 ∧
    V m c main_v62 = shapeCast _ (delta (inQ m c) (inK m c) (inV m c) (inG m c) (inC m c)) shapeCasts_S8x16384_S8x1x16384 := by
  simp only [V, V0, hostOps0, hostOps0_1, hostOps0_2, List.flatten_cons, List.flatten_nil, List.append_nil, List.cons_append, List.nil_append]
  refine ⟨?_, ?_, ?_, ?_, ?_, ?_, ?_, ?_⟩ <;>
    (after_results_simp <;> (try dsimp only [Matrix.cons_val]) <;> (try after_results_simp) <;> rfl)

end Cert.Fox

end
-- ==== Proof.FoxHostVal.lean ====
module

public import proofs.«01_k».proof.Proof.FoxHost
public import proofs.«01_k».proof.Proof.FoxReal
public import proofs.«01_k».proof.Proof.Gen.ReferenceIdeal.Read
public import Idealize.ShloMosaic.Lib.Pointwise
public import Idealize.ShloMosaic.Lib.KernelVsHost
public import Idealize.ShloMosaic.Lib.WordCmp

@[expose] public section

set_option maxRecDepth 16384

noncomputable section

/-!
# The prepared arrays over the reals

Each array the host prepares, read at an index, when the arguments are real numbers.
-/

namespace Cert.Fox

open Cert.KernelIdeal Cert.KernelIdeal.Gen
open Idealize.ShloMosaic

/-! ## Layout -/

theorem heads_at (x : Vecs Ideal) (h : Fin 8) (i : Fin 16384) (d : Fin 64) : heads x (ix3 h i d) = x (ix3 i h d) := by
  unfold heads; pointwise

theorem overKeys_at (x : Scalars Ideal) (h : Fin 8) (i j : Fin 16384) : overKeys x (ix3 h i j) = x (ix2 h i) := by
  unfold overKeys; pointwise

theorem column_at (x : Scalars Ideal) (h : Fin 8) (i : Fin 16384) (o : Fin 1) : column x (ix3 h i o) = x (ix2 h i) := by
  unfold column; pointwise

theorem ones_at (h : Fin 8) (i : Fin 16384) (o : Fin 1) : ones (F := Ideal) (ix3 h i o) = ((1 : ℝ) : EReal) := by
  unfold ones; pointwise
  rfl

theorem le_word {n : ℕ} (hn : n ≤ 16384) (i j : Fin n) :
    IntOp.cmpi .sle (BitVec.ofNat 32 j.val) (BitVec.ofNat 32 i.val) = if j.val ≤ i.val then 1#1 else 0#1 := by
  rw [WordCmp.cmpi_sle_ofNat (by omega) (by omega)]
  by_cases hij : j.val ≤ i.val
  · rw [if_pos hij, decide_eq_true hij]; rfl
  · rw [if_neg hij, decide_eq_false hij]; rfl

theorem keep_at (h : Fin 8) (i j : Fin 16384) :
    broadcastInDim S8x16384x16384 ![1, 2] bcast_S16384x16384_S8x16384x16384_1_2 (keep (F := Ideal)) (ix3 h i j) = if j.val ≤ i.val then 1#1 else 0#1 := by
  unfold keep; pointwise
  exact le_word le_rfl i j

/-! ## The packed arrays -/

/-- Real arguments as arrays. -/
def Reals.vq (A : Reals) : Vecs Ideal := fun i => ((A.q (i 0) (i 1) (i 2) : ℝ) : EReal)
def Reals.vk (A : Reals) : Vecs Ideal := fun i => ((A.k (i 0) (i 1) (i 2) : ℝ) : EReal)
def Reals.vv (A : Reals) : Vecs Ideal := fun i => ((A.v (i 0) (i 1) (i 2) : ℝ) : EReal)
def Reals.vg (A : Reals) : Scalars Ideal := fun i => ((A.g (i 0) (i 1) : ℝ) : EReal)
def Reals.vc (A : Reals) : Vecs Ideal := fun i => ((A.ct (i 0) (i 1) (i 2) : ℝ) : EReal)

/-- A head vector followed by given numbers. -/
def withTail (x : Fin 64 → ℝ) (tail : ℕ → ℝ) (w : Fin 128) : ℝ := if hw : w.val < 64 then x ⟨w.val, hw⟩ else tail (w.val - 64)

/-- A sum of products of two such rows. -/
theorem sum_withTail (x y : Fin 64 → ℝ) (s t : ℕ → ℝ) :
    ∑ w, withTail x s w * withTail y t w = ∑ d, x d * y d + ∑ e : Fin 64, s e.val * t e.val := by
  rw [show (∑ w, withTail x s w * withTail y t w) = ∑ w : Fin (64 + 64), withTail x s w * withTail y t w from rfl, Fin.sum_univ_add]
  refine congrArg₂ (· + ·) (Finset.sum_congr rfl fun d _ => ?_) (Finset.sum_congr rfl fun e _ => ?_)
  · unfold withTail
    rw [dif_pos (show (Fin.castAdd 64 d).val < 64 from d.isLt), dif_pos (show (Fin.castAdd 64 d).val < 64 from d.isLt)]
    rfl
  · unfold withTail
    rw [dif_neg (show ¬(Fin.natAdd 64 e).val < 64 by simp), dif_neg (show ¬(Fin.natAdd 64 e).val < 64 by simp)]
    rw [show (Fin.natAdd 64 e).val - 64 = e.val by simp]

variable (A : Reals) (h : Fin 8)

/-- The rows of the packed queries, keys, values and output gradients. -/
def Reals.rowQ (i : Fin 16384) : Fin 128 → ℝ := withTail (fun d => A.q i h d * (1 / 8)) fun e => if e < 3 then 1 else 0
def Reals.rowK (j : Fin 16384) : Fin 128 → ℝ := withTail (A.k j h) fun e => if e = 0 then -A.g h j else if e = 3 then 1 else 0
def Reals.rowV (j : Fin 16384) : Fin 128 → ℝ := withTail (A.v j h) fun e => if e = 0 then 1 else 0
def Reals.rowC (i : Fin 16384) : Fin 128 → ℝ := withTail (A.ct i h) fun _ => 0

theorem Reals.sum_KQ (i j : Fin 16384) : ∑ w, A.rowK h j w * A.rowQ h i w = A.score h i j := by
  have ht : (∑ e : Fin 64, (if e.val = 0 then -A.g h j else if e.val = 3 then 1 else 0) * (if e.val < 3 then (1 : ℝ) else 0)) = -A.g h j := by
    rw [Finset.sum_eq_single (0 : Fin 64)]
    · rw [if_pos (by rfl), if_pos (by decide), mul_one]
    · intro e _ he
      rw [if_neg (show ¬e.val = 0 from fun h => he (Fin.ext h))]
      split
      · rw [if_neg (by omega), mul_zero]
      · exact zero_mul _
    · intro hn; exact absurd (Finset.mem_univ _) hn
  unfold Reals.rowK Reals.rowQ Reals.score
  rw [sum_withTail, ht, Finset.sum_mul, sub_eq_add_neg]
  exact congrArg (· + _) (Finset.sum_congr rfl fun d _ => by ring)

theorem Reals.sum_VC (i j : Fin 16384) : ∑ w, A.rowV h j w * A.rowC h i w = A.dprob h i j := by
  unfold Reals.rowV Reals.rowC
  rw [sum_withTail, Finset.sum_eq_zero (s := Finset.univ) (f := fun e : Fin 64 => _ * (0 : ℝ)) (fun e _ => mul_zero _), add_zero]
  exact Finset.sum_congr rfl fun d _ => mul_comm _ _

theorem packC_at (i : Fin 16384) (w : Fin 128) : packC A.vc (ix3 h i w) = ((A.rowC h i w : ℝ) : EReal) := by
  unfold packC Reals.rowC withTail; pointwise
  simp only [heads_at]
  split
  · rfl
  · exact EReal.coe_zero.symm

theorem packV_at (i : Fin 16384) (w : Fin 128) : packV A.vv (ix3 h i w) = ((A.rowV h i w : ℝ) : EReal) := by
  unfold packV Reals.rowV withTail; pointwise
  simp only [heads_at, ones_at]
  split
  · rfl
  · split
    · rw [if_pos (by omega)]
    · rw [if_neg (by omega)]; exact EReal.coe_zero.symm

theorem packQ_at (i : Fin 16384) (w : Fin 128) : packQ A.vq (ix3 h i w) = ((A.rowQ h i w : ℝ) : EReal) := by
  unfold packQ Reals.rowQ withTail; pointwise
  simp only [heads_at, ones_at, eighth]
  split
  · exact (EReal.coe_mul _ _).symm
  · split
    · rw [if_pos (by omega)]
    · split
      · rw [if_pos (by omega)]
      · split
        · rw [if_pos (by omega)]
        · rw [if_neg (by omega)]; exact EReal.coe_zero.symm

theorem packK_at (i : Fin 16384) (w : Fin 128) : packK A.vk A.vg (ix3 h i w) = ((A.rowK h i w : ℝ) : EReal) := by
  have hg : A.vg (ix2 h i) = ((A.g h i : ℝ) : EReal) := rfl
  have hz : ((A.g h i : ℝ) : EReal) - ((A.g h i : ℝ) : EReal) = ((0 : ℝ) : EReal) := by rw [← EReal.coe_sub, sub_self]
  have hz' : ((0 : ℝ) : EReal) - ((0 : ℝ) : EReal) = ((0 : ℝ) : EReal) := by rw [← EReal.coe_sub, sub_self]
  have hn : -((0 : ℝ) : EReal) = ((0 : ℝ) : EReal) := by rw [← EReal.coe_neg, neg_zero]
  unfold packK gateRest gateHigh Reals.rowK withTail; pointwise
  simp only [heads_at, ones_at, column_at]
  pointwise
  simp only [hg, hz, hz', hn]
  split
  · rfl
  · split
    · rw [if_pos (by omega)]; exact (EReal.coe_neg _).symm
    · rw [if_neg (by omega)]
      split
      · rw [if_neg (by omega)]
      · split
        · rw [if_neg (by omega)]
        · split
          · rw [if_pos (by omega)]
          · rw [if_neg (by omega)]; exact EReal.coe_zero.symm

/-! ## The scores and the softmax -/

/-- The keys query `i` sees. -/
abbrev sees (i : Fin 16384) : Fin 16384 → Prop := fun j => j.val ≤ i.val

theorem products_at (i j : Fin 16384) : products A.vq A.vk (ix3 h i j) = ((∑ d, A.q i h d * A.k j h d : ℝ) : EReal) := by
  rw [show products A.vq A.vk = Cert.ReferenceIdeal.Read.val_main_v0 (F := Ideal) A.vq A.vk from rfl, Cert.ReferenceIdeal.Read.val_main_v0_apply, ← coe_sum]
  exact Finset.sum_congr rfl fun d _ => (EReal.coe_mul _ _).symm

theorem scores_at (i j : Fin 16384) : scores A.vq A.vk A.vg (ix3 h i j) = ((A.score h i j : ℝ) : EReal) := by
  unfold scores fillPairs Reals.score
  pointwise
  simp only [products_at, eighth]
  rw [EReal.coe_sub, EReal.coe_mul]
  rfl

theorem masked_at (i j : Fin 16384) : masked A.vq A.vk A.vg (ix3 h i j) = rowOf (sees i) (A.score h i) j := by
  unfold masked rowOf
  rw [ValueIdx.select_apply, keep_at, scores_at]
  unfold fillPairs
  pointwise
  rw [minus_infinity]
  by_cases hij : j.val ≤ i.val
  · rw [if_pos hij, if_pos hij]; rfl
  · rw [if_neg hij, if_neg hij]; rfl

end Cert.Fox

end
-- ==== Proof.FoxSoftmax.lean ====
module

public import proofs.«01_k».proof.Proof.FoxHostVal
public import proofs.«01_k».proof.Proof.Gen.ReferenceIdeal.Read
public import Idealize.ShloMosaic.Lib.Pointwise
public import Idealize.ShloMosaic.Lib.KernelVsHost
public import Idealize.ShloMosaic.Lib.WordCmp

@[expose] public section

set_option maxRecDepth 16384

noncomputable section

/-!
# The softmax the host computes

The largest score, the weights, their sum and its logarithm, the output and its products with its gradient, over the reals.
-/

namespace Cert.Fox

open Cert.KernelIdeal Cert.KernelIdeal.Gen
open Idealize.ShloMosaic

variable (A : Reals) (h : Fin 8)

theorem keys_reduce : S8x16384x16384.Reduces [2] S8x16384 := by decide
theorem coords_reduce : S8x16384x64.Reduces [2] S8x16384 := by decide

theorem lift_keys (i : Fin 16384) (k : Fin 16384) : keys_reduce.lift (ix2 h i) k = ix3 h i k :=
  funext fun a => Fin.ext (by match a with | ⟨0, _⟩ => rfl | ⟨1, _⟩ => rfl | ⟨2, _⟩ => rfl)
theorem lift_coords (i : Fin 16384) (k : Fin 64) : coords_reduce.lift (ix2 h i) k = ix3 h i k :=
  funext fun a => Fin.ext (by match a with | ⟨0, _⟩ => rfl | ⟨1, _⟩ => rfl | ⟨2, _⟩ => rfl)

/-- Reading the elementwise operations. -/
theorem add_at {s : Shape} (x y : FVec Ideal s .f32) (i : s.Idx) : addf x y i = x i + y i := rfl
theorem sub_at {s : Shape} (x y : FVec Ideal s .f32) (i : s.Idx) : subf x y i = x i - y i := rfl
theorem mul_at {s : Shape} (x y : FVec Ideal s .f32) (i : s.Idx) : mulf x y i = x i * y i := rfl
theorem log_at {s : Shape} (x : FVec Ideal s .f32) (i : s.Idx) : Host.log x i = Ideal.log (x i) := rfl
theorem exp_at {s : Shape} (x : FVec Ideal s .f32) (i : s.Idx) : Host.exp x i = Ideal.exp (x i) := rfl
theorem div_at {s : Shape} (x y : FVec Ideal s .f32) (i : s.Idx) : Host.divf x y i = Ideal.div (x i) (y i) := rfl

/-- A largest value over the keys, as the host takes it. -/
theorem max_keys (x : FVec Ideal S8x16384x16384 .f32) (j : S8x16384.Idx) :
    (Host.reduce FloatOps.maximumf x (constant S_ .f32 0xFF800000#32) reducesTo_S8x16384x16384_S8x16384_d2 h_S_ : FVec Ideal S8x16384 .f32) j
      = (Finset.univ : Finset (Fin 16384)).fold max (Ideal.ofBits .f32 0xFF800000#32) (x ∘ keys_reduce.lift j) :=
  (congrFun (hostReduce_maximumf_eq_multiReduction (F := Ideal) (φ := .f32) x 0xFF800000#32 reducesTo_S8x16384x16384_S8x16384_d2 h_S_ keys_reduce (.inl rfl) rfl) j).trans
    (Ideal.multiReduction_maximumf_single (φ := .f32) x 0xFF800000#32 keys_reduce (.inl rfl) rfl j)

/-- The largest score of a query is a real number. -/
theorem top_real (i : Fin 16384) : ∃ r : ℝ, top A.vq A.vk A.vg (ix2 h i) = (r : EReal) := by
  have e : (masked A.vq A.vk A.vg ∘ keys_reduce.lift (ix2 h i) : Fin 16384 → EReal) = rowOf (sees i) (A.score h i) := funext fun k =>
    (congrArg (masked A.vq A.vk A.vg) (lift_keys h i k)).trans (masked_at A h i k)
  obtain ⟨r, hr⟩ := fold_real (sees i) (A.score h i) (sees_self i) _ minus_infinity
  exact ⟨r, (max_keys _ _).trans ((congrArg ((Finset.univ : Finset (Fin 16384)).fold max (Ideal.ofBits .f32 0xFF800000#32)) e).trans hr)⟩

/-- A sum over the keys of a query, and over a head's coordinates, as the host takes it. -/
theorem sum_keys (x : Pairs Ideal) (i : Fin 16384) (v : EReal) (hv : (∑ k : Fin 16384, (x (ix3 h i k) : EReal)) = v) :
    (Host.reduceAdd x (constant S_ .f32 0x00000000#32) reducesTo_S8x16384x16384_S8x16384_d2 h_S_ : FVec Ideal S8x16384 .f32) (ix2 h i) = v := by
  simp only [Host.reduceAdd, Ideal.hostReduceAdd_def]
  rw [Ideal.hostReduceAdd_single reducesTo_S8x16384x16384_S8x16384_d2 keys_reduce]
  refine (congrArg₂ (· + ·) Ideal.ofBits_zero_f32 ((Finset.sum_congr rfl fun k _ => congrArg x (lift_keys h i k)).trans hv)).trans (zero_add v)

theorem sum_coords (x : (⟨S8x16384x64, .f32⟩ : BufTy).Contents (Elt Ideal)) (i : Fin 16384) (v : EReal) (hv : (∑ k : Fin 64, (x (ix3 h i k) : EReal)) = v) :
    (Host.reduceAdd x (constant S_ .f32 0x00000000#32) reducesTo_S8x16384x64_S8x16384_d2 h_S_ : FVec Ideal S8x16384 .f32) (ix2 h i) = v := by
  simp only [Host.reduceAdd, Ideal.hostReduceAdd_def]
  rw [Ideal.hostReduceAdd_single reducesTo_S8x16384x64_S8x16384_d2 coords_reduce]
  refine (congrArg₂ (· + ·) Ideal.ofBits_zero_f32 ((Finset.sum_congr rfl fun k _ => congrArg x (lift_coords h i k)).trans hv)).trans (zero_add v)

/-- The weights with the largest score `r` taken off, and their sum. -/
theorem weights_at {i : Fin 16384} {r : ℝ} (hr : top A.vq A.vk A.vg (ix2 h i) = (r : EReal)) (j : Fin 16384) :
    weights A.vq A.vk A.vg (ix3 h i j) = (((if j.val ≤ i.val then Real.exp (A.score h i j - r) else 0) : ℝ) : EReal) := by
  unfold weights
  rw [exp_at, sub_at, masked_at, overKeys_at, hr]
  exact exp_row _ _ r j

theorem total_at {i : Fin 16384} {r : ℝ} (hr : top A.vq A.vk A.vg (ix2 h i) = (r : EReal)) :
    total A.vq A.vk A.vg (ix2 h i) = ((A.mass h i / Real.exp r : ℝ) : EReal) := by
  unfold total
  refine sum_keys h _ i _ ?_
  rw [Finset.sum_congr rfl fun j _ => weights_at A h hr j, coe_sum, A.sum_weights]

theorem logSum_at (i : Fin 16384) : logSum A.vq A.vk A.vg (ix2 h i) = ((Real.log (A.mass h i) : ℝ) : EReal) := by
  obtain ⟨r, hr⟩ := top_real A h i
  unfold logSum
  rw [add_at, log_at, hr, total_at A h hr, log_coe (div_pos (A.mass_pos h i) (Real.exp_pos r)), ← EReal.coe_add, A.log_weights]

/-- The output's product of probabilities and values. -/
theorem mix_at (x : Pairs Ideal) (y : Vecs Ideal) (i : Fin 16384) (d : Fin 64) :
    (Host.dotGeneral (φ₁ := .f32) (φ₂ := .f32) dot_S8x16384x16384_S16384x8x64_S8x16384x64_2_0_1_2_0_1 none x y : FVec Ideal S8x16384x64 .f32) (ix3 h i d)
      = ∑ j : Fin 16384, (x (ix3 h i j) : EReal) * y (ix3 j h d) := by
  simp only [Host.dotGeneral]
  rw [Ideal.dotGeneral_apply, ← Equiv.sum_comp (ValueIdx.contrEquiv1 dot_S8x16384x16384_S16384x8x64_S8x16384x64_2_0_1_2_0_1 16384 rfl rfl).symm]
  refine Finset.sum_congr rfl fun k _ => ?_
  have hk := ValueIdx.contrEquiv1_symm_val dot_S8x16384x16384_S16384x8x64_S8x16384x64_2_0_1_2_0_1 16384 rfl rfl k
  refine congrArg₂ (· * ·) (congrArg x (funext fun a => Fin.ext ?_)) (congrArg y (funext fun a => Fin.ext ?_))
  · match a with
    | ⟨0, _⟩ => exact Cert.ReferenceIdeal.Read.lhs_main_v75_0 _ _
    | ⟨1, _⟩ => exact Cert.ReferenceIdeal.Read.lhs_main_v75_1 _ _
    | ⟨2, _⟩ => exact (Cert.ReferenceIdeal.Read.lhs_main_v75_2 _ _).trans hk
  · match a with
    | ⟨0, _⟩ => exact (Cert.ReferenceIdeal.Read.rhs_main_v75_0 _ _).trans hk
    | ⟨1, _⟩ => exact Cert.ReferenceIdeal.Read.rhs_main_v75_1 _ _
    | ⟨2, _⟩ => exact Cert.ReferenceIdeal.Read.rhs_main_v75_2 _ _

theorem mixed_at (i : Fin 16384) (d : Fin 64) : mixed A.vq A.vk A.vv A.vg (ix3 h i d) = ((∑ j, A.prob h i j * A.v j h d : ℝ) : EReal) := by
  obtain ⟨r, hr⟩ := top_real A h i
  unfold mixed
  rw [mix_at, ← coe_sum]
  refine Finset.sum_congr rfl fun j _ => ?_
  rw [div_at, overKeys_at, weights_at A h hr, total_at A h hr, div_coe _ (div_pos (A.mass_pos h i) (Real.exp_pos r)).ne', A.weight_div, EReal.coe_mul]
  rfl

theorem delta_at (i : Fin 16384) : delta A.vq A.vk A.vv A.vg A.vc (ix2 h i) = ((A.mean h i : ℝ) : EReal) := by
  unfold delta
  refine sum_coords h _ i _ ?_
  rw [← A.mean_eq h i, ← coe_sum]
  refine Finset.sum_congr rfl fun d _ => ?_
  rw [mul_at, heads_at, mixed_at, EReal.coe_mul]
  rfl

end Cert.Fox

end
-- ==== Proof.FoxArrays.lean ====
module

public import proofs.«01_k».proof.Proof.FoxSoftmax

@[expose] public section

set_option maxRecDepth 16384

noncomputable section

/-!
# The launch's arrays over the reals

What the eight arrays the launch reads hold at an index when the program's arguments are real numbers.
-/

namespace Cert.Fox

open Cert.KernelIdeal Cert.KernelIdeal.Gen
open Idealize.ShloMosaic

/-- An index of an argument is a row, a head and a column, or a head and a row. -/
theorem split_vecs (x : S16384x8x64.Idx) : ∃ (i : Fin 16384) (h : Fin 8) (d : Fin 64), x = ix3 i h d := ⟨x 0, x 1, x 2, eq_ix3 x⟩
theorem split_scalars (x : S8x16384.Idx) : ∃ (h : Fin 8) (i : Fin 16384), x = ix2 h i := ⟨x 0, x 1, eq_ix2 x⟩

variable (m : (ℓ : Loc nD τ sig) → Buf (Elt Ideal) ℓ) (c : Dev nD)

/-- The program's arguments on a core are these real numbers. -/
structure Given (A : Reals) : Prop where
  q : inQ m c = A.vq
  k : inK m c = A.vk
  v : inV m c = A.vv
  g : inG m c = A.vg
  ct : inC m c = A.vc

/-- A transposed pack, and per-query numbers with an axis of length one put in, at an index. -/
theorem turned_at (y : Packed Ideal) (h : Fin 8) (i : Fin 16384) (w : Fin 128) :
    transpose S8x128x16384 [0, 2, 1] y transposes_S8x16384x128_S8x128x16384_0_2_1 (ix3 h w i) = y (ix3 h i w) := by
  pointwise

theorem raised_at (y : Scalars Ideal) (h : Fin 8) (i : Fin 16384) :
    (shapeCast S8x1x16384 y shapeCasts_S8x16384_S8x1x16384 : FVec Ideal S8x1x16384 .f32) (ix3 h (0 : Fin 1) i) = y (ix2 h i) := by
  pointwise

variable {m c} {A : Reals} (hA : Given m c A) (h : Fin 8) (i : Fin 16384) (w : Fin 128)
include hA

theorem arr_qh : V m c main_v52 (ix3 h i w) = ((A.rowQ h i w : ℝ) : EReal) :=
  (congrFun ((inputs m c).2.1.trans (congrArg packQ hA.q)) (ix3 h i w)).trans (packQ_at A h i w)

theorem arr_kh : V m c main_v53 (ix3 h i w) = ((A.rowK h i w : ℝ) : EReal) :=
  (congrFun ((inputs m c).2.2.1.trans (congrArg₂ packK hA.k hA.g)) (ix3 h i w)).trans (packK_at A h i w)

theorem arr_vh : V m c main_v54 (ix3 h i w) = ((A.rowV h i w : ℝ) : EReal) :=
  (congrFun ((inputs m c).2.2.2.1.trans (congrArg packV hA.v)) (ix3 h i w)).trans (packV_at A h i w)

theorem arr_dout : V m c main_v55 (ix3 h i w) = ((A.rowC h i w : ℝ) : EReal) :=
  (congrFun ((inputs m c).2.2.2.2.2.1.trans (congrArg packC hA.ct)) (ix3 h i w)).trans (packC_at A h i w)

theorem arr_qt : V m c main_v56 (ix3 h w i) = ((A.rowQ h i w : ℝ) : EReal) :=
  (congrFun (inputs m c).1 (ix3 h w i)).trans ((turned_at _ h i w).trans ((congrFun (congrArg packQ hA.q) _).trans (packQ_at A h i w)))

theorem arr_dot : V m c main_v57 (ix3 h w i) = ((A.rowC h i w : ℝ) : EReal) :=
  (congrFun (inputs m c).2.2.2.2.1 (ix3 h w i)).trans ((turned_at _ h i w).trans ((congrFun (congrArg packC hA.ct) _).trans (packC_at A h i w)))

theorem arr_lse : V m c main_v61 (ix3 h (0 : Fin 1) i) = ((Real.log (A.mass h i) : ℝ) : EReal) := by
  have e : logSum (inQ m c) (inK m c) (inG m c) (ix2 h i) = ((Real.log (A.mass h i) : ℝ) : EReal) := by
    rw [hA.q, hA.k, hA.g]; exact logSum_at A h i
  exact (congrFun (inputs m c).2.2.2.2.2.2.1 (ix3 h (0 : Fin 1) i)).trans ((raised_at _ h i).trans e)

theorem arr_delta : V m c main_v62 (ix3 h (0 : Fin 1) i) = ((A.mean h i : ℝ) : EReal) := by
  have e : delta (inQ m c) (inK m c) (inV m c) (inG m c) (inC m c) (ix2 h i) = ((A.mean h i : ℝ) : EReal) := by
    rw [hA.q, hA.k, hA.v, hA.g, hA.ct]; exact delta_at A h i
  exact (congrFun (inputs m c).2.2.2.2.2.2.2 (ix3 h (0 : Fin 1) i)).trans ((raised_at _ h i).trans e)

end Cert.Fox

end
-- ==== Proof.FoxBlocks.lean ====
module

public import proofs.«01_k».proof.Proof.FoxTile
public import proofs.«01_k».proof.Proof.FoxArrays

@[expose] public section

set_option maxRecDepth 16384

noncomputable section

/-!
# The blocks of a grid point over the reals

Grid point `t` works on head `t / 256`, on key block `t / 16 % 16` and on query block `t % 16`, or on the key block's own
queries where that one lies before it. Its eight blocks are those rows of the packed arrays.
-/

namespace Cert.Fox

open Cert.KernelIdeal Cert.KernelIdeal.Gen
open Idealize.ShloMosaic Idealize.ShloMosaic.TcCoe

/-- The head, the key block, the query block, and the block of queries fetched at a grid point. -/
def headOf (t : Fin cfg0.N) : Fin 8 := ⟨t.val / 256, by have := t.isLt; have h : cfg0.N = 2048 := N_0; omega⟩
def keysOf (t : Fin cfg0.N) : Fin 16 := ⟨t.val / 16 % 16, by omega⟩
def queriesOf (t : Fin cfg0.N) : Fin 16 := ⟨t.val % 16, by omega⟩
def fetched (t : Fin cfg0.N) : Fin 16 := max (keysOf t) (queriesOf t)

theorem index_0 : ∀ t : Fin cfg0.N, win0_0.index t 0 = (headOf t).val ∧ win0_0.index t 1 = 0 ∧ win0_0.index t 2 = (fetched t).val := by decide +kernel
theorem index_1 : ∀ t : Fin cfg0.N, win0_1.index t 0 = (headOf t).val ∧ win0_1.index t 1 = (fetched t).val ∧ win0_1.index t 2 = 0 := by decide +kernel
theorem index_2 : ∀ t : Fin cfg0.N, win0_2.index t 0 = (headOf t).val ∧ win0_2.index t 1 = (keysOf t).val ∧ win0_2.index t 2 = 0 := by decide +kernel
theorem index_3 : ∀ t : Fin cfg0.N, win0_3.index t 0 = (headOf t).val ∧ win0_3.index t 1 = (keysOf t).val ∧ win0_3.index t 2 = 0 := by decide +kernel
theorem index_4 : ∀ t : Fin cfg0.N, win0_4.index t 0 = (headOf t).val ∧ win0_4.index t 1 = 0 ∧ win0_4.index t 2 = (fetched t).val := by decide +kernel
theorem index_5 : ∀ t : Fin cfg0.N, win0_5.index t 0 = (headOf t).val ∧ win0_5.index t 1 = (fetched t).val ∧ win0_5.index t 2 = 0 := by decide +kernel
theorem index_6 : ∀ t : Fin cfg0.N, win0_6.index t 0 = (headOf t).val ∧ win0_6.index t 1 = 0 ∧ win0_6.index t 2 = (fetched t).val := by decide +kernel
theorem index_7 : ∀ t : Fin cfg0.N, win0_7.index t 0 = (headOf t).val ∧ win0_7.index t 1 = 0 ∧ win0_7.index t 2 = (fetched t).val := by decide +kernel

/-! What a window's block at a grid point reads of any contents `f` of its array. -/

variable (c : Dev nD)

theorem read_0 (f : Buf (Elt Ideal) ((c : Thread nD τ).loc main_v56)) (t : Fin cfg0.N) (w : Fin 128) (r : Fin 1024) :
    ((cfg0.win 0).blk t).view.read (Elt Ideal) f (ix3 (0 : Fin 1) w r) = f (ix3 (headOf t) w (rowAt (fetched t) r)) := by
  obtain ⟨h0, h1, h2⟩ := index_0 t
  rw [View.read_apply]
  refine congrArg f (funext fun a => Fin.ext ?_)
  match a with
  | ⟨0, _⟩ => show win0_0.index t 0 * 1 + 1 * 0 = (headOf t).val; omega
  | ⟨1, _⟩ => show win0_0.index t 1 * 128 + 1 * w.val = w.val; omega
  | ⟨2, _⟩ => show win0_0.index t 2 * 1024 + 1 * r.val = 1024 * (fetched t).val + r.val; omega

theorem read_1 (f : Buf (Elt Ideal) ((c : Thread nD τ).loc main_v52)) (t : Fin cfg0.N) (r : Fin 1024) (w : Fin 128) :
    ((cfg0.win 1).blk t).view.read (Elt Ideal) f (ix3 (0 : Fin 1) r w) = f (ix3 (headOf t) (rowAt (fetched t) r) w) := by
  obtain ⟨h0, h1, h2⟩ := index_1 t
  rw [View.read_apply]
  refine congrArg f (funext fun a => Fin.ext ?_)
  match a with
  | ⟨0, _⟩ => show win0_1.index t 0 * 1 + 1 * 0 = (headOf t).val; omega
  | ⟨1, _⟩ => show win0_1.index t 1 * 1024 + 1 * r.val = 1024 * (fetched t).val + r.val; omega
  | ⟨2, _⟩ => show win0_1.index t 2 * 128 + 1 * w.val = w.val; omega

theorem read_2 (f : Buf (Elt Ideal) ((c : Thread nD τ).loc main_v53)) (t : Fin cfg0.N) (r : Fin 1024) (w : Fin 128) :
    ((cfg0.win 2).blk t).view.read (Elt Ideal) f (ix3 (0 : Fin 1) r w) = f (ix3 (headOf t) (rowAt (keysOf t) r) w) := by
  obtain ⟨h0, h1, h2⟩ := index_2 t
  rw [View.read_apply]
  refine congrArg f (funext fun a => Fin.ext ?_)
  match a with
  | ⟨0, _⟩ => show win0_2.index t 0 * 1 + 1 * 0 = (headOf t).val; omega
  | ⟨1, _⟩ => show win0_2.index t 1 * 1024 + 1 * r.val = 1024 * (keysOf t).val + r.val; omega
  | ⟨2, _⟩ => show win0_2.index t 2 * 128 + 1 * w.val = w.val; omega

theorem read_3 (f : Buf (Elt Ideal) ((c : Thread nD τ).loc main_v54)) (t : Fin cfg0.N) (r : Fin 1024) (w : Fin 128) :
    ((cfg0.win 3).blk t).view.read (Elt Ideal) f (ix3 (0 : Fin 1) r w) = f (ix3 (headOf t) (rowAt (keysOf t) r) w) := by
  obtain ⟨h0, h1, h2⟩ := index_3 t
  rw [View.read_apply]
  refine congrArg f (funext fun a => Fin.ext ?_)
  match a with
  | ⟨0, _⟩ => show win0_3.index t 0 * 1 + 1 * 0 = (headOf t).val; omega
  | ⟨1, _⟩ => show win0_3.index t 1 * 1024 + 1 * r.val = 1024 * (keysOf t).val + r.val; omega
  | ⟨2, _⟩ => show win0_3.index t 2 * 128 + 1 * w.val = w.val; omega

theorem read_4 (f : Buf (Elt Ideal) ((c : Thread nD τ).loc main_v57)) (t : Fin cfg0.N) (w : Fin 128) (r : Fin 1024) :
    ((cfg0.win 4).blk t).view.read (Elt Ideal) f (ix3 (0 : Fin 1) w r) = f (ix3 (headOf t) w (rowAt (fetched t) r)) := by
  obtain ⟨h0, h1, h2⟩ := index_4 t
  rw [View.read_apply]
  refine congrArg f (funext fun a => Fin.ext ?_)
  match a with
  | ⟨0, _⟩ => show win0_4.index t 0 * 1 + 1 * 0 = (headOf t).val; omega
  | ⟨1, _⟩ => show win0_4.index t 1 * 128 + 1 * w.val = w.val; omega
  | ⟨2, _⟩ => show win0_4.index t 2 * 1024 + 1 * r.val = 1024 * (fetched t).val + r.val; omega

theorem read_5 (f : Buf (Elt Ideal) ((c : Thread nD τ).loc main_v55)) (t : Fin cfg0.N) (r : Fin 1024) (w : Fin 128) :
    ((cfg0.win 5).blk t).view.read (Elt Ideal) f (ix3 (0 : Fin 1) r w) = f (ix3 (headOf t) (rowAt (fetched t) r) w) := by
  obtain ⟨h0, h1, h2⟩ := index_5 t
  rw [View.read_apply]
  refine congrArg f (funext fun a => Fin.ext ?_)
  match a with
  | ⟨0, _⟩ => show win0_5.index t 0 * 1 + 1 * 0 = (headOf t).val; omega
  | ⟨1, _⟩ => show win0_5.index t 1 * 1024 + 1 * r.val = 1024 * (fetched t).val + r.val; omega
  | ⟨2, _⟩ => show win0_5.index t 2 * 128 + 1 * w.val = w.val; omega

theorem read_6 (f : Buf (Elt Ideal) ((c : Thread nD τ).loc main_v61)) (t : Fin cfg0.N) (r : Fin 1024) :
    ((cfg0.win 6).blk t).view.read (Elt Ideal) f (ix3 (0 : Fin 1) (0 : Fin 1) r) = f (ix3 (headOf t) (0 : Fin 1) (rowAt (fetched t) r)) := by
  obtain ⟨h0, h1, h2⟩ := index_6 t
  rw [View.read_apply]
  refine congrArg f (funext fun a => Fin.ext ?_)
  match a with
  | ⟨0, _⟩ => show win0_6.index t 0 * 1 + 1 * 0 = (headOf t).val; omega
  | ⟨1, _⟩ => show win0_6.index t 1 * 1 + 1 * 0 = 0; omega
  | ⟨2, _⟩ => show win0_6.index t 2 * 1024 + 1 * r.val = 1024 * (fetched t).val + r.val; omega

theorem read_7 (f : Buf (Elt Ideal) ((c : Thread nD τ).loc main_v62)) (t : Fin cfg0.N) (r : Fin 1024) :
    ((cfg0.win 7).blk t).view.read (Elt Ideal) f (ix3 (0 : Fin 1) (0 : Fin 1) r) = f (ix3 (headOf t) (0 : Fin 1) (rowAt (fetched t) r)) := by
  obtain ⟨h0, h1, h2⟩ := index_7 t
  rw [View.read_apply]
  refine congrArg f (funext fun a => Fin.ext ?_)
  match a with
  | ⟨0, _⟩ => show win0_7.index t 0 * 1 + 1 * 0 = (headOf t).val; omega
  | ⟨1, _⟩ => show win0_7.index t 1 * 1 + 1 * 0 = 0; omega
  | ⟨2, _⟩ => show win0_7.index t 2 * 1024 + 1 * r.val = 1024 * (fetched t).val + r.val; omega

/-- The real numbers of the tile of head `h`, key block `j` and query block `i`. -/
def Reals.tile (A : Reals) (h : Fin 8) (j i : Fin 16) : TileReals where
  K a w := A.rowK h (rowAt j a) w
  Q b w := A.rowQ h (rowAt i b) w
  V a w := A.rowV h (rowAt j a) w
  C b w := A.rowC h (rowAt i b) w
  L b := Real.log (A.mass h (rowAt i b))
  D b := A.mean h (rowAt i b)

end Cert.Fox

end
-- ==== Proof.FoxAcc.lean ====
module

public import proofs.«01_k».proof.Proof.FoxBlocks

@[expose] public section

set_option maxRecDepth 16384

noncomputable section

/-!
# The accumulators over the reals

What the three accumulators hold after the first `i` query blocks of key block `j` of head `h`, and that one more tile leads to
the same with one more query block: below the diagonal in full, on it masked, above it not at all, where nothing is to be added.
-/

namespace Cert.Fox

open Cert.KernelIdeal Cert.KernelIdeal.Gen
open Idealize.ShloMosaic

/-- The sum over the rows of the first `b` blocks. -/
def upto (b : ℕ) (f : Fin 16384 → ℝ) : ℝ := ∑ j : Fin 16, if j.val < b then ∑ a : Fin 1024, f (rowAt j a) else 0

theorem upto_zero (f : Fin 16384 → ℝ) : upto 0 f = 0 := Finset.sum_eq_zero fun j _ => if_neg (Nat.not_lt_zero _)

theorem upto_succ (b : Fin 16) (f : Fin 16384 → ℝ) : upto (b.val + 1) f = upto b.val f + ∑ a : Fin 1024, f (rowAt b a) := by
  have e : (∑ j : Fin 16, if j = b then ∑ a : Fin 1024, f (rowAt j a) else 0) = ∑ a : Fin 1024, f (rowAt b a) := by
    rw [Finset.sum_ite_eq' Finset.univ b, if_pos (Finset.mem_univ b)]
  unfold upto
  rw [← e, ← Finset.sum_add_distrib]
  refine Finset.sum_congr rfl fun j _ => ?_
  by_cases h : j.val < b.val
  · rw [if_pos (by omega), if_pos h, if_neg (fun hj => by rw [hj] at h; omega), add_zero]
  · by_cases hj : j = b
    · rw [if_pos (by rw [hj]; omega), if_neg h, if_pos hj, zero_add]
    · rw [if_neg (fun h' => hj (Fin.ext (by omega))), if_neg h, if_neg hj, add_zero]

theorem upto_all (f : Fin 16384 → ℝ) : upto 16 f = ∑ x, f x := by
  unfold upto
  rw [Finset.sum_congr rfl fun j _ => if_pos j.isLt, ← Fintype.sum_prod_type' (fun (j : Fin 16) (a : Fin 1024) => f (rowAt j a))]
  refine Fintype.sum_equiv (finProdFinEquiv (m := 16) (n := 1024)) _ (fun x : Fin 16384 => f x) fun p => congrArg f (Fin.ext ?_)
  show 1024 * p.1.val + p.2.val = p.2.val + 1024 * p.1.val
  omega

variable (A : Reals) (h : Fin 8) (j i : Fin 16)

theorem tile_w (a b : Fin 1024) :
    (A.tile h j i).w a b = Real.exp (A.score h (rowAt i b) (rowAt j a) - Real.log (A.mass h (rowAt i b))) := by
  have e := A.sum_KQ h (rowAt i b) (rowAt j a)
  unfold TileReals.w Reals.tile
  dsimp only
  rw [e]

theorem tile_mean (a b : Fin 1024) :
    (∑ x, (A.tile h j i).V a x * (A.tile h j i).C b x) - (A.tile h j i).D b = A.dprob h (rowAt i b) (rowAt j a) - A.mean h (rowAt i b) := by
  have e := A.sum_VC h (rowAt i b) (rowAt j a)
  unfold Reals.tile
  dsimp only
  rw [e]

theorem tile_full {j i : Fin 16} (hji : j.val < i.val) (a b : Fin 1024) : (A.tile h j i).w a b = A.prob h (rowAt i b) (rowAt j a) := by
  rw [tile_w]; unfold Reals.prob
  rw [if_pos (by show 1024 * j.val + a.val ≤ 1024 * i.val + b.val; omega)]

theorem tile_diag (a b : Fin 1024) : (A.tile h i i).wm a b = A.prob h (rowAt i b) (rowAt i a) := by
  unfold TileReals.wm
  rw [tile_w]; unfold Reals.prob
  have e : a.val ≤ b.val ↔ (rowAt i a).val ≤ (rowAt i b).val := by
    show a.val ≤ b.val ↔ 1024 * i.val + a.val ≤ 1024 * i.val + b.val; omega
  by_cases hab : a.val ≤ b.val
  · rw [if_pos hab, if_pos (e.mp hab)]
  · rw [if_neg hab, if_neg fun h' => hab (e.mpr h')]

theorem tile_full_score {j i : Fin 16} (hji : j.val < i.val) (a b : Fin 1024) : (A.tile h j i).s a b = A.dscore h (rowAt i b) (rowAt j a) := by
  unfold TileReals.s
  rw [tile_full A h hji, tile_mean]; rfl

theorem tile_diag_score (a b : Fin 1024) : (A.tile h i i).sm a b = A.dscore h (rowAt i b) (rowAt i a) := by
  unfold TileReals.sm
  rw [tile_diag, tile_mean]; rfl

/-- What the accumulators hold after the first `n` query blocks of key block `j`. -/
structure Acc (n : ℕ) (s : Carry Ideal) : Prop where
  dq : ∀ (r : Fin 16384) (w : Fin 128), s.dq (ix2 r w)
    = ((upto (if r.val < 1024 * n then j.val + 1 else j.val) (fun x => A.dscore h r x * A.rowK h x w) : ℝ) : EReal)
  dk : ∀ (a : Fin 1024) (w : Fin 128), s.dk (ix2 a w) = ((upto n (fun y => A.dscore h y (rowAt j a) * A.rowQ h y w) : ℝ) : EReal)
  dv : ∀ (a : Fin 1024) (w : Fin 128), s.dv (ix2 a w) = ((upto n (fun y => A.prob h y (rowAt j a) * A.rowC h y w) : ℝ) : EReal)

/-- What one tile adds to the accumulators. -/
structure Adds (s s' : Carry Ideal) : Prop where
  dq : ∀ (b : Fin 1024) (w : Fin 128) (r : ℝ), s.dq (ix2 (rowAt i b) w) = ((r : ℝ) : EReal) →
    s'.dq (ix2 (rowAt i b) w) = ((r + ∑ a, A.dscore h (rowAt i b) (rowAt j a) * A.rowK h (rowAt j a) w : ℝ) : EReal)
  other : ∀ (r : Fin 16384) (w : Fin 128), ¬(1024 * i.val ≤ r.val ∧ r.val < 1024 * i.val + 1024) → s'.dq (ix2 r w) = s.dq (ix2 r w)
  dk : ∀ (a : Fin 1024) (w : Fin 128) (r : ℝ), s.dk (ix2 a w) = ((r : ℝ) : EReal) →
    s'.dk (ix2 a w) = ((r + ∑ b, A.dscore h (rowAt i b) (rowAt j a) * A.rowQ h (rowAt i b) w : ℝ) : EReal)
  dv : ∀ (a : Fin 1024) (w : Fin 128) (r : ℝ), s.dv (ix2 a w) = ((r : ℝ) : EReal) →
    s'.dv (ix2 a w) = ((r + ∑ b, A.prob h (rowAt i b) (rowAt j a) * A.rowC h (rowAt i b) w : ℝ) : EReal)

variable {A h j i}

theorem Acc.next {s s' : Carry Ideal} (hs : Acc A h j i.val s) (ha : Adds A h j i s s') : Acc A h j (i.val + 1) s' where
  dq r w := by
    by_cases hr : 1024 * i.val ≤ r.val ∧ r.val < 1024 * i.val + 1024
    · obtain ⟨b, rfl⟩ : ∃ b : Fin 1024, rowAt i b = r :=
        ⟨⟨r.val - 1024 * i.val, by omega⟩, Fin.ext (by show 1024 * i.val + (r.val - 1024 * i.val) = r.val; omega)⟩
      have e := hs.dq (rowAt i b) w
      rw [if_neg (by omega)] at e
      rw [ha.dq b w _ e, if_pos (by omega), upto_succ j]
    · rw [ha.other r w hr, hs.dq r w]
      by_cases h' : r.val < 1024 * i.val
      · rw [if_pos h', if_pos (by omega)]
      · rw [if_neg h', if_neg (by omega)]
  dk a w := by rw [ha.dk a w _ (hs.dk a w), upto_succ i]
  dv a w := by rw [ha.dv a w _ (hs.dv a w), upto_succ i]

theorem setRows_in (b : Fin 16) (x : Vec Ideal S16384x128 .f32) (y : Vec Ideal S1024x128 .f32) (r : Fin 1024) (w : Fin 128) :
    setRows b x y (ix2 (rowAt b r) w) = y (ix2 r w) := by
  unfold setRows
  refine (dif_pos (by show 1024 * b.val ≤ 1024 * b.val + r.val ∧ 1024 * b.val + r.val < 1024 * b.val + 1024; omega)).trans ?_
  refine congrArg y (funext fun a => Fin.ext ?_)
  match a with
  | ⟨0, _⟩ => show 1024 * b.val + r.val - 1024 * b.val = r.val; omega
  | ⟨1, _⟩ => rfl

theorem setRows_out (b : Fin 16) (x : Vec Ideal S16384x128 .f32) (y : Vec Ideal S1024x128 .f32) (r : Fin 16384) (w : Fin 128)
    (hr : ¬(1024 * b.val ≤ r.val ∧ r.val < 1024 * b.val + 1024)) : setRows b x y (ix2 r w) = x (ix2 r w) := by
  unfold setRows
  exact dif_neg hr

/-- A tile below the diagonal, added in full. -/
theorem adds_full {x : Blocks Ideal} (hx : Holds (A.tile h j i) x) (hji : j.val < i.val) (s : Carry Ideal) : Adds A h j i s (addFull i x s) where
  dq b w r hr := by
    unfold addFull
    dsimp only
    rw [setRows_in, addQueries_at hx _ _ (score_at hx) (rows i s.dq) r b w hr]
    exact congrArg _ (congrArg (r + ·) (Finset.sum_congr rfl fun a _ => congrArg (· * _) (tile_full_score A h hji a b)))
  other r w hr := setRows_out i _ _ r w hr
  dk a w r hr := by
    unfold addFull
    dsimp only
    rw [addKeys_at hx _ _ (score_at hx) s.dk r a w hr]
    exact congrArg _ (congrArg (r + ·) (Finset.sum_congr rfl fun b _ => congrArg (· * _) (tile_full_score A h hji a b)))
  dv a w r hr := by
    unfold addFull
    dsimp only
    rw [addValues_at hx s.dv r a w hr]
    exact congrArg _ (congrArg (r + ·) (Finset.sum_congr rfl fun b _ => congrArg (· * _) (tile_full A h hji a b)))

/-- The diagonal tile, added masked. -/
theorem adds_diag {x : Blocks Ideal} (hx : Holds (A.tile h i i) x) (s : Carry Ideal) : Adds A h i i s (addDiag i x s) where
  dq b w r hr := by
    unfold addDiag
    dsimp only
    rw [setRows_in]
    refine (addQueries_at hx _ _ (masked_score_at hx) (rows i s.dq) r b w hr).trans ?_
    exact congrArg _ (congrArg (r + ·) (Finset.sum_congr rfl fun a _ => congrArg (· * _) (tile_diag_score A h i a b)))
  other r w hr := setRows_out i _ _ r w hr
  dk a w r hr := by
    unfold addDiag
    dsimp only
    refine (addKeys_at hx _ _ (masked_score_at hx) s.dk r a w hr).trans ?_
    exact congrArg _ (congrArg (r + ·) (Finset.sum_congr rfl fun b _ => congrArg (· * _) (tile_diag_score A h i a b)))
  dv a w r hr := by
    unfold addDiag
    dsimp only
    rw [addMaskedValues_at hx s.dv r a w hr]
    exact congrArg _ (congrArg (r + ·) (Finset.sum_congr rfl fun b _ => congrArg (· * _) (tile_diag A h i a b)))

/-- A tile above the diagonal: there is nothing to add. -/
theorem adds_none (hij : i.val < j.val) (s : Carry Ideal) : Adds A h j i s s := by
  have above : ∀ a b, (rowAt i b).val < (rowAt j a).val := fun a b => by show 1024 * i.val + b.val < 1024 * j.val + a.val; omega
  refine ⟨fun b w r hr => ?_, fun r w hr => rfl, fun a w r hr => ?_, fun a w r hr => ?_⟩
  · rw [hr, Finset.sum_eq_zero fun a _ => by rw [A.dscore_above h (above a b), zero_mul], add_zero]
  · rw [hr, Finset.sum_eq_zero fun b _ => by rw [A.dscore_above h (above a b), zero_mul], add_zero]
  · rw [hr, Finset.sum_eq_zero fun b _ => by rw [A.prob_above h (above a b), zero_mul], add_zero]

end Cert.Fox

end
-- ==== Proof.FoxHold.lean ====
module

public import proofs.«01_k».proof.Proof.FoxBlocks
public import proofs.«01_k».proof.Proof.FoxLaunch

@[expose] public section

set_option maxRecDepth 16384

noncomputable section

/-!
# The blocks of a grid point hold the tile's real numbers
-/

namespace Cert.Fox

open Cert.KernelIdeal Cert.KernelIdeal.Gen
open Idealize.ShloMosaic Idealize.ShloMosaic.TcCoe

variable (m : (ℓ : Loc nD τ sig) → Buf (Elt Ideal) ℓ) (c : Dev nD)

theorem iblk_0 (t : Fin cfg0.N) : iblk m c 0 t = ((cfg0.win 0).blk t).view.read (Elt Ideal) (V m c main_v56) := rfl
theorem iblk_1 (t : Fin cfg0.N) : iblk m c 1 t = ((cfg0.win 1).blk t).view.read (Elt Ideal) (V m c main_v52) := rfl
theorem iblk_2 (t : Fin cfg0.N) : iblk m c 2 t = ((cfg0.win 2).blk t).view.read (Elt Ideal) (V m c main_v53) := rfl
theorem iblk_3 (t : Fin cfg0.N) : iblk m c 3 t = ((cfg0.win 3).blk t).view.read (Elt Ideal) (V m c main_v54) := rfl
theorem iblk_4 (t : Fin cfg0.N) : iblk m c 4 t = ((cfg0.win 4).blk t).view.read (Elt Ideal) (V m c main_v57) := rfl
theorem iblk_5 (t : Fin cfg0.N) : iblk m c 5 t = ((cfg0.win 5).blk t).view.read (Elt Ideal) (V m c main_v55) := rfl
theorem iblk_6 (t : Fin cfg0.N) : iblk m c 6 t = ((cfg0.win 6).blk t).view.read (Elt Ideal) (V m c main_v61) := rfl
theorem iblk_7 (t : Fin cfg0.N) : iblk m c 7 t = ((cfg0.win 7).blk t).view.read (Elt Ideal) (V m c main_v62) := rfl

theorem tile_D (A : Reals) (h : Fin 8) (j i : Fin 16) (b : Fin 1024) : (A.tile h j i).D b = A.mean h (rowAt i b) := by unfold Reals.tile; dsimp only
theorem tile_L (A : Reals) (h : Fin 8) (j i : Fin 16) (b : Fin 1024) : (A.tile h j i).L b = Real.log (A.mass h (rowAt i b)) := by unfold Reals.tile; dsimp only

variable {m c} {A : Reals} (hA : Given m c A)
include hA

theorem hold_qt (t : Fin cfg0.N) (b : Fin 1024) (w : Fin 128) :
    (blocksAt m c t).qt (ix3 (0 : Fin 1) w b) = (((A.tile (headOf t) (keysOf t) (fetched t)).Q b w : ℝ) : EReal) := by
  have e : (blocksAt m c t).qt (ix3 (0 : Fin 1) w b) = V m c main_v56 _ := (congrFun (iblk_0 m c t) _).trans (read_0 c (V m c main_v56) t w b)
  exact e.trans (arr_qt hA _ _ w)

theorem hold_qh (t : Fin cfg0.N) (b : Fin 1024) (w : Fin 128) :
    (blocksAt m c t).qh (ix3 (0 : Fin 1) b w) = (((A.tile (headOf t) (keysOf t) (fetched t)).Q b w : ℝ) : EReal) := by
  have e : (blocksAt m c t).qh (ix3 (0 : Fin 1) b w) = V m c main_v52 _ := (congrFun (iblk_1 m c t) _).trans (read_1 c (V m c main_v52) t b w)
  exact e.trans (arr_qh hA _ _ w)

theorem hold_kh (t : Fin cfg0.N) (a : Fin 1024) (w : Fin 128) :
    (blocksAt m c t).kh (ix3 (0 : Fin 1) a w) = (((A.tile (headOf t) (keysOf t) (fetched t)).K a w : ℝ) : EReal) := by
  have e : (blocksAt m c t).kh (ix3 (0 : Fin 1) a w) = V m c main_v53 _ := (congrFun (iblk_2 m c t) _).trans (read_2 c (V m c main_v53) t a w)
  exact e.trans (arr_kh hA _ _ w)

theorem hold_vh (t : Fin cfg0.N) (a : Fin 1024) (w : Fin 128) :
    (blocksAt m c t).vh (ix3 (0 : Fin 1) a w) = (((A.tile (headOf t) (keysOf t) (fetched t)).V a w : ℝ) : EReal) := by
  have e : (blocksAt m c t).vh (ix3 (0 : Fin 1) a w) = V m c main_v54 _ := (congrFun (iblk_3 m c t) _).trans (read_3 c (V m c main_v54) t a w)
  exact e.trans (arr_vh hA _ _ w)

theorem hold_dot (t : Fin cfg0.N) (b : Fin 1024) (w : Fin 128) :
    (blocksAt m c t).dot (ix3 (0 : Fin 1) w b) = (((A.tile (headOf t) (keysOf t) (fetched t)).C b w : ℝ) : EReal) := by
  have e : (blocksAt m c t).dot (ix3 (0 : Fin 1) w b) = V m c main_v57 _ := (congrFun (iblk_4 m c t) _).trans (read_4 c (V m c main_v57) t w b)
  exact e.trans (arr_dot hA _ _ w)

theorem hold_dout (t : Fin cfg0.N) (b : Fin 1024) (w : Fin 128) :
    (blocksAt m c t).dout (ix3 (0 : Fin 1) b w) = (((A.tile (headOf t) (keysOf t) (fetched t)).C b w : ℝ) : EReal) := by
  have e : (blocksAt m c t).dout (ix3 (0 : Fin 1) b w) = V m c main_v55 _ := (congrFun (iblk_5 m c t) _).trans (read_5 c (V m c main_v55) t b w)
  exact e.trans (arr_dout hA _ _ w)

theorem hold_lse (t : Fin cfg0.N) (b : Fin 1024) :
    (blocksAt m c t).lse (ix3 (0 : Fin 1) (0 : Fin 1) b) = (((A.tile (headOf t) (keysOf t) (fetched t)).L b : ℝ) : EReal) := by
  have e : (blocksAt m c t).lse (ix3 (0 : Fin 1) (0 : Fin 1) b) = V m c main_v61 _ := (congrFun (iblk_6 m c t) _).trans (read_6 c (V m c main_v61) t b)
  rw [tile_L]
  exact e.trans (arr_lse hA (headOf t) (rowAt (fetched t) b))

theorem hold_delta (t : Fin cfg0.N) (b : Fin 1024) :
    (blocksAt m c t).delta (ix3 (0 : Fin 1) (0 : Fin 1) b) = (((A.tile (headOf t) (keysOf t) (fetched t)).D b : ℝ) : EReal) := by
  have e : (blocksAt m c t).delta (ix3 (0 : Fin 1) (0 : Fin 1) b) = V m c main_v62 _ := (congrFun (iblk_7 m c t) _).trans (read_7 c (V m c main_v62) t b)
  rw [tile_D]
  exact e.trans (arr_delta hA (headOf t) (rowAt (fetched t) b))

theorem blocks_hold (t : Fin cfg0.N) : Holds (A.tile (headOf t) (keysOf t) (fetched t)) (blocksAt m c t) :=
  ⟨hold_qt hA t, hold_qh hA t, hold_kh hA t, hold_vh hA t, hold_dot hA t, hold_dout hA t, hold_lse hA t, hold_delta hA t⟩

end Cert.Fox

end
-- ==== Proof.FoxWalk.lean ====
module

public import proofs.«01_k».proof.Proof.FoxAcc
public import proofs.«01_k».proof.Proof.FoxHold

@[expose] public section

set_option maxRecDepth 16384

noncomputable section

/-!
# The accumulators along the grid

By induction over the grid points, what the accumulators hold after each, and what the query gradient's array holds at the end.
-/

namespace Cert.Fox

open Cert.KernelIdeal Cert.KernelIdeal.Gen
open Idealize.ShloMosaic Idealize.ShloMosaic.TcCoe

theorem coords_0 : ∀ t : Fin cfg0.N, (grid0.coords t 0).val = (headOf t).val := by decide +kernel
theorem coords_2_val : ∀ t : Fin cfg0.N, (grid0.coords t 2).val = (queriesOf t).val := by decide +kernel
theorem coords_2 (t : Fin cfg0.N) : (grid0.coords t 2 : Fin 16) = queriesOf t := Fin.ext (coords_2_val t)

/-- The stored zeros. -/
theorem zero_1 (r : Fin 16384) (w : Fin 128) : k0_pay1 (F := Ideal) (ix2 r w) = ((0 : ℝ) : EReal) := by unfold k0_pay1; pointwise; rfl
theorem zero_2 (r : Fin 1024) (w : Fin 128) : k0_pay2 (F := Ideal) (ix2 r w) = ((0 : ℝ) : EReal) := by unfold k0_pay2; pointwise; rfl
theorem zero_3 (r : Fin 1024) (w : Fin 128) : k0_pay3 (F := Ideal) (ix2 r w) = ((0 : ℝ) : EReal) := by unfold k0_pay3; pointwise; rfl

theorem fetched_eq (t : Fin cfg0.N) (h : (keysOf t).val ≤ (queriesOf t).val) : fetched t = queriesOf t := max_eq_right h

variable {m : (ℓ : Loc nD τ sig) → Buf (Elt Ideal) ℓ} {c : Dev nD} {A : Reals} (hA : Given m c A)
include hA

/-- A point adds its tile to the cleared accumulators. -/
theorem step_adds (t : Fin cfg0.N) (s : Carry Ideal) :
    Adds A (headOf t) (keysOf t) (queriesOf t) (clear (grid0.coords t) s) (step (grid0.coords t) (blocksAt m c t) s) := by
  have hx := blocks_hold hA t
  have hk : (keysOf t).val = t.val / 16 % 16 := rfl
  have hq : (queriesOf t).val = t.val % 16 := rfl
  unfold step
  rw [coords_2 t]
  by_cases h2 : cond0_2 (grid0.coords t)
  · rw [if_pos h2]
    have hlt := (hcond0_2 t).mp h2
    rw [fetched_eq t (by omega)] at hx
    exact adds_full hx (by omega) _
  · rw [if_neg h2]
    have hlt : ¬t.val / 16 % 16 + 1 ≤ t.val % 16 := fun h => h2 ((hcond0_2 t).mpr h)
    by_cases h3 : cond0_3 (grid0.coords t)
    · rw [if_pos h3]
      have he : keysOf t = queriesOf t := Fin.ext ((hcond0_3 t).mp h3)
      rw [fetched_eq t (by omega), he] at hx
      rw [he]
      exact adds_diag hx _
    · rw [if_neg h3]
      have hne : ¬t.val / 16 % 16 = t.val % 16 := fun h => h3 ((hcond0_3 t).mpr h)
      exact adds_none (by omega) _

/-- What the accumulators hold after a grid point. -/
theorem acc_after (n : ℕ) : ∀ hn : n < cfg0.N, Acc A (headOf ⟨n, hn⟩) (keysOf ⟨n, hn⟩) ((queriesOf ⟨n, hn⟩).val + 1) (carryAt m c (n + 1)) := by
  induction n with
  | zero =>
    intro hn
    rw [carryAt_succ m c ⟨0, hn⟩]
    refine Acc.next ?_ (step_adds hA ⟨0, hn⟩ _)
    have e : clear (grid0.coords ⟨0, hn⟩) (carryAt m c 0) = (⟨k0_pay1 (F := Ideal), k0_pay2 (F := Ideal), k0_pay3 (F := Ideal)⟩ : Carry Ideal) := by
      unfold clear
      rw [if_pos ((hcond0_0 ⟨0, hn⟩).mpr rfl), if_pos ((hcond0_1 ⟨0, hn⟩).mpr rfl), if_pos ((hcond0_1 ⟨0, hn⟩).mpr rfl)]
    have hq : (queriesOf ⟨0, hn⟩).val = 0 := rfl
    have hk : (keysOf ⟨0, hn⟩).val = 0 := show 0 / 16 % 16 = 0 by decide
    rw [e, hq]
    refine ⟨fun r w => ?_, fun a w => ?_, fun a w => ?_⟩
    · rw [if_neg (by omega), hk, upto_zero]; exact zero_1 r w
    · rw [upto_zero]; exact zero_2 a w
    · rw [upto_zero]; exact zero_3 a w
  | succ n ih =>
    intro hn
    have hN : cfg0.N = 2048 := N_0
    have hp := ih (by omega)
    have hh : (headOf ⟨n + 1, hn⟩).val = (n + 1) / 256 := rfl
    have hk : (keysOf ⟨n + 1, hn⟩).val = (n + 1) / 16 % 16 := rfl
    have hq : (queriesOf ⟨n + 1, hn⟩).val = (n + 1) % 16 := rfl
    have hh' : (headOf ⟨n, by omega⟩).val = n / 256 := rfl
    have hk' : (keysOf ⟨n, by omega⟩).val = n / 16 % 16 := rfl
    have hq' : (queriesOf ⟨n, by omega⟩).val = n % 16 := rfl
    rw [carryAt_succ m c ⟨n + 1, hn⟩]
    refine Acc.next ?_ (step_adds hA ⟨n + 1, hn⟩ _)
    show Acc A (headOf ⟨n + 1, hn⟩) (keysOf ⟨n + 1, hn⟩) (queriesOf ⟨n + 1, hn⟩).val (clear (grid0.coords ⟨n + 1, hn⟩) (carryAt m c (n + 1)))
    by_cases h1 : (n + 1) % 16 = 0
    · have c1 := (hcond0_1 ⟨n + 1, hn⟩).mpr h1
      have hz : (queriesOf ⟨n + 1, hn⟩).val = 0 := hq.trans h1
      unfold clear
      rw [if_pos c1, if_pos c1, hz]
      refine ⟨fun r w => ?_, fun a w => ?_, fun a w => ?_⟩
      · dsimp only
        rw [if_neg (by omega : ¬r.val < 1024 * 0)]
        by_cases h0 : (n + 1) % 256 = 0
        · rw [if_pos ((hcond0_0 ⟨n + 1, hn⟩).mpr h0), show (keysOf ⟨n + 1, hn⟩).val = 0 by omega, upto_zero]
          exact zero_1 r w
        · rw [if_neg fun h => h0 ((hcond0_0 ⟨n + 1, hn⟩).mp h), hp.dq r w, if_pos (by rw [hq']; have := r.isLt; omega),
            show (keysOf ⟨n + 1, hn⟩).val = (keysOf ⟨n, by omega⟩).val + 1 by omega,
            show headOf ⟨n + 1, hn⟩ = headOf ⟨n, by omega⟩ from Fin.ext (by omega)]
      · rw [upto_zero]; exact zero_2 a w
      · rw [upto_zero]; exact zero_3 a w
    · have c1 : ¬cond0_1 (grid0.coords ⟨n + 1, hn⟩) := fun h => h1 ((hcond0_1 ⟨n + 1, hn⟩).mp h)
      have c0 : ¬cond0_0 (grid0.coords ⟨n + 1, hn⟩) := fun h => by
        have h0 : (n + 1) % 256 = 0 := (hcond0_0 ⟨n + 1, hn⟩).mp h
        omega
      have e : clear (grid0.coords ⟨n + 1, hn⟩) (carryAt m c (n + 1)) = carryAt m c (n + 1) := by
        unfold clear
        rw [if_neg c0, if_neg c1, if_neg c1]
      rw [e, show headOf ⟨n + 1, hn⟩ = headOf ⟨n, by omega⟩ from Fin.ext (by omega),
        show keysOf ⟨n + 1, hn⟩ = keysOf ⟨n, by omega⟩ from Fin.ext (by omega),
        show (queriesOf ⟨n + 1, hn⟩).val = (queriesOf ⟨n, by omega⟩).val + 1 by omega]
      exact hp

/-- A key block's accumulators at its last point hold the whole sums. -/
theorem keys_done (t : Fin cfg0.N) (ht : t.val % 16 = 15) (a : Fin 1024) (w : Fin 128) :
    (carryAt m c (t.val + 1)).dk (ix2 a w)
        = ((∑ y, A.dscore (headOf t) y (rowAt (keysOf t) a) * A.rowQ (headOf t) y w : ℝ) : EReal)
      ∧ (carryAt m c (t.val + 1)).dv (ix2 a w)
        = ((∑ y, A.prob (headOf t) y (rowAt (keysOf t) a) * A.rowC (headOf t) y w : ℝ) : EReal) := by
  have hp := acc_after hA t.val t.isLt
  have e : (queriesOf t).val + 1 = 16 := congrArg (· + 1) ht
  have hk := hp.dk a w
  have hv := hp.dv a w
  rw [e, upto_all] at hk hv
  exact ⟨hk, hv⟩

/-- A head's query gradient at its last point holds the whole sums. -/
theorem head_done (t : Fin cfg0.N) (ht : t.val % 256 = 255) (r : Fin 16384) (w : Fin 128) :
    (carryAt m c (t.val + 1)).dq (ix2 r w) = ((∑ x, A.dscore (headOf t) r x * A.rowK (headOf t) x w : ℝ) : EReal) := by
  have hp := (acc_after hA t.val t.isLt).dq r w
  have e : (queriesOf t).val + 1 = 16 := by show t.val % 16 + 1 = 16; omega
  have e' : (keysOf t).val + 1 = 16 := by show t.val / 16 % 16 + 1 = 16; omega
  rw [e, if_pos (by have := r.isLt; omega), e', upto_all] at hp
  exact hp

/-- The query gradient's array holds the heads already done. -/
theorem dq_upto (n : ℕ) : n ≤ cfg0.N → ∀ (h : Fin 8) (r : Fin 16384) (w : Fin 128), h.val < n / 256 →
    dqAt m c n (ix3 h r w) = ((∑ x, A.dscore h r x * A.rowK h x w : ℝ) : EReal) := by
  induction n with
  | zero => intro _ h r w hh; omega
  | succ n ih =>
    intro hn h r w hh
    have hlt : n < cfg0.N := hn
    rw [dqAt_succ m c ⟨n, hlt⟩]
    have hc : (grid0.coords ⟨n, hlt⟩ 0).val = n / 256 := coords_0 ⟨n, hlt⟩
    by_cases h5 : n % 256 = 255
    · rw [if_pos ((hcond0_5 ⟨n, hlt⟩).mpr h5)]
      by_cases he : h.val = n / 256
      · refine (if_pos (show h.val = (grid0.coords ⟨n, hlt⟩ 0).val by omega)).trans ?_
        have hd := head_done hA ⟨n, hlt⟩ h5 r w
        rw [show headOf ⟨n, hlt⟩ = h from Fin.ext he.symm] at hd
        exact hd
      · refine (if_neg (show ¬h.val = (grid0.coords ⟨n, hlt⟩ 0).val by omega)).trans ?_
        exact ih (by omega) h r w (by omega)
    · rw [if_neg fun h' => h5 ((hcond0_5 ⟨n, hlt⟩).mp h')]
      exact ih (by omega) h r w (by omega)

theorem dq_final (h : Fin 8) (r : Fin 16384) (w : Fin 128) :
    dqAt m c cfg0.N (ix3 h r w) = ((∑ x, A.dscore h r x * A.rowK h x w : ℝ) : EReal) :=
  dq_upto hA cfg0.N le_rfl h r w (by have := h.isLt; have hN : cfg0.N = 2048 := N_0; omega)

end Cert.Fox

end
-- ==== Proof.FoxTail.lean ====
module

public import proofs.«01_k».proof.Proof.FoxLaunch

@[expose] public section

set_option maxRecDepth 16384

noncomputable section

/-!
# The host's last lines

The four results as the last host lines make them from the launch's three outputs, and the arguments, which nothing writes.
-/

namespace Cert.Fox

open Cert.KernelIdeal Cert.KernelIdeal.Gen
open Idealize.ShloMosaic Idealize.ShloMosaic.TcCoe Idealize.SL.Sem Idealize.ShloMosaic.Tactic

variable {F : FTy → Type} [FloatOps F]

/-- A packed array of 32-bit numbers. -/
abbrev Packed32 (F : FTy → Type) : Type := (⟨S8x16384x128, .f32⟩ : BufTy).Contents (Elt F)

/-- The first sixty-four columns of a packed array, head by head, as rows of all heads. -/
def unpack (x : Packed32 F) : FVec F S16384x8x64 .f32 :=
  transpose S16384x8x64 [1, 0, 2] (extractStridedSlice S8x16384x64 ![0, 0, 0] x slices_S8x16384x128_S8x16384x64_0_0_0) transposes_S8x16384x64_S16384x8x64_1_0_2

/-- The query gradient, with the factor that the packed queries carry put back. -/
def lastQ (x : Packed32 F) : FVec F S16384x8x64 .f32 :=
  mulf (unpack x) (broadcastInDim S16384x8x64 ![] bcast_S_S16384x8x64 (constant S_ .f32 0x3E000000#32))

/-- The gates' gradient: a column of the query gradient less a column of the key gradient. -/
def lastC (x y : Packed32 F) : FVec F S8x16384 .f32 :=
  subf (shapeCast S8x16384 (extractStridedSlice S8x16384x1 ![0, 0, 67] x slices_S8x16384x128_S8x16384x1_0_0_67) shapeCasts_S8x16384x1_S8x16384)
    (shapeCast S8x16384 (extractStridedSlice S8x16384x1 ![0, 0, 64] y slices_S8x16384x128_S8x16384x1_0_0_64) shapeCasts_S8x16384x1_S8x16384)

variable (m : (ℓ : Loc nD τ sig) → Buf (Elt F) ℓ) (c : Dev nD)

/-- Every array after the launch. -/
def W : Valuation τ sig (Elt F) :=
  Pipeline.withArrays cfg0.spec c (Pipeline.withR (V0 m c) R0 c (G m c)) fun w => (dats m 0 c).arrAt w cfg0.N

theorem W_dq : W m c (Proc.devRef .tc main_v63_0) = dqAt m c cfg0.N :=
  (Pipeline.withArrays_of_ne spec0 c _ _ main_v63_0 (by exact (by decide : ∀ w, Pipeline.arrRef spec0 w ≠ main_v63_0))).trans
    ((Pipeline.withR_of_mem _ R0 c (G m c) main_v63_0 (by decide)).trans (Function.update_self _ _ _))

theorem arr_distinct : Function.Injective (Pipeline.arrRef spec0) := by decide

theorem W_dk : W m c (Proc.devRef .tc main_v63_1) = (dats m 0 c).arrAt 8 cfg0.N :=
  Pipeline.withArrays_arr spec0 arr_distinct c _ (fun w => (dats m 0 c).arrAt w cfg0.N) 8

theorem W_dv : W m c (Proc.devRef .tc main_v63_2) = (dats m 0 c).arrAt 9 cfg0.N :=
  Pipeline.withArrays_arr spec0 arr_distinct c _ (fun w => (dats m 0 c).arrAt w cfg0.N) 9

/-- An array that neither the launch nor the last lines write ends as the launch finds it. -/
theorem kept (b : Ref sig .tc) (hw : ∀ w, Pipeline.arrRef spec0 w ≠ b) (hR : b ∉ R0) (hT : b ∉ T0) :
    StableHlo.after hostOps1 (W m c) (Proc.devRef .tc b) = V m c b := by
  rw [StableHlo.after_of_forall_not_mem (b := Proc.devRef .tc b) _ _ fun op hop h => hT (sfx_writes hostOps1 (List.mem_singleton_self _) op hop b h)]
  exact (Pipeline.withArrays_of_ne spec0 c _ _ b hw).trans (Pipeline.withR_of_not_mem _ R0 c (G m c) b hR)

theorem last_72 (U : Valuation τ sig (Elt F)) : StableHlo.after hostOps1 U (Proc.devRef .tc main_v72) = lastQ (U (Proc.devRef .tc main_v63_0)) := by
  simp only [hostOps1]; after_results_simp <;> rfl
theorem last_74 (U : Valuation τ sig (Elt F)) : StableHlo.after hostOps1 U (Proc.devRef .tc main_v74) = unpack (U (Proc.devRef .tc main_v63_1)) := by
  simp only [hostOps1]; after_results_simp <;> rfl
theorem last_76 (U : Valuation τ sig (Elt F)) : StableHlo.after hostOps1 U (Proc.devRef .tc main_v76) = unpack (U (Proc.devRef .tc main_v63_2)) := by
  simp only [hostOps1]; after_results_simp <;> rfl
theorem last_68 (U : Valuation τ sig (Elt F)) : StableHlo.after hostOps1 U (Proc.devRef .tc main_v68)
    = lastC (U (Proc.devRef .tc main_v63_0)) (U (Proc.devRef .tc main_v63_1)) := by
  simp only [hostOps1]; after_results_simp <;> rfl

/-- The arguments end as they were, -/
def Unchanged (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

variable {m}

theorem Ends.unchanged {r : PUnit × MemSt nD τ sig (Elt F)} (h : Ends m r) (c : Dev nD) : Unchanged m c r := by
  have k := fun (b : Ref sig .tc) (hb : b ∈ Pipeline.restRefs sig cfg0.spec) (hw) (hR) (hT) => ((h c).2 b hb).trans (kept m c b hw hR hT)
  exact ⟨(k main_arg0 (Pipeline.mem_restRefs_of main_arg0 (by decide) (by decide)) (by decide) (by decide) (by decide)).trans (V_main_arg0 m c),
    (k main_arg1 (Pipeline.mem_restRefs_of main_arg1 (by decide) (by decide)) (by decide) (by decide) (by decide)).trans (V_main_arg1 m c),
    (k main_arg2 (Pipeline.mem_restRefs_of main_arg2 (by decide) (by decide)) (by decide) (by decide) (by decide)).trans (V_main_arg2 m c),
    (k main_arg3 (Pipeline.mem_restRefs_of main_arg3 (by decide) (by decide)) (by decide) (by decide) (by decide)).trans (V_main_arg3 m c),
    (k main_arg4 (Pipeline.mem_restRefs_of main_arg4 (by decide) (by decide)) (by decide) (by decide) (by decide)).trans (V_main_arg4 m c)⟩

/-- and the results are the last lines' of the launch's outputs. -/
theorem Ends.results {r : PUnit × MemSt nD τ sig (Elt F)} (h : Ends m r) (c : Dev nD) :
    r.2.mem ((c.tc : Thread nD τ).loc main_v72) = lastQ (dqAt m c cfg0.N)
      ∧ r.2.mem ((c.tc : Thread nD τ).loc main_v74) = unpack ((dats m 0 c).arrAt 8 cfg0.N)
      ∧ r.2.mem ((c.tc : Thread nD τ).loc main_v76) = unpack ((dats m 0 c).arrAt 9 cfg0.N)
      ∧ r.2.mem ((c.tc : Thread nD τ).loc main_v68) = lastC (dqAt m c cfg0.N) ((dats m 0 c).arrAt 8 cfg0.N) := by
  refine ⟨((h c).2 main_v72 (Pipeline.mem_restRefs_of main_v72 (by decide) (by decide))).trans ((last_72 (W m c)).trans ?_),
    ((h c).2 main_v74 (Pipeline.mem_restRefs_of main_v74 (by decide) (by decide))).trans ((last_74 (W m c)).trans ?_),
    ((h c).2 main_v76 (Pipeline.mem_restRefs_of main_v76 (by decide) (by decide))).trans ((last_76 (W m c)).trans ?_),
    ((h c).2 main_v68 (Pipeline.mem_restRefs_of main_v68 (by decide) (by decide))).trans ((last_68 (W m c)).trans ?_)⟩
  · rw [W_dq]
  · rw [W_dk]
  · rw [W_dv]
  · rw [W_dq, W_dk]

end Cert.Fox

end
-- ==== Proof.FoxOut.lean ====
module

public import proofs.«01_k».proof.Proof.FoxWalk
public import proofs.«01_k».proof.Proof.FoxTail

@[expose] public section

set_option maxRecDepth 16384

noncomputable section

/-!
# The results over the reals

The key and value gradients' arrays are written block by block, each at its key block's last point. With the query
gradient's array they give the four results, which over the reals are the four gradients.
-/

namespace Cert.Fox

open Cert.KernelIdeal Cert.KernelIdeal.Gen
open Idealize.ShloMosaic Idealize.ShloMosaic.TcCoe

theorem index_8 : ∀ t : Fin cfg0.N, win0_8.index t 0 = (headOf t).val ∧ win0_8.index t 1 = (keysOf t).val ∧ win0_8.index t 2 = 0 := by decide +kernel
theorem index_9 : ∀ t : Fin cfg0.N, win0_9.index t 0 = (headOf t).val ∧ win0_9.index t 1 = (keysOf t).val ∧ win0_9.index t 2 = 0 := by decide +kernel
theorem flush_8 : ∀ t : Fin cfg0.N, t.val % 16 = 15 → (cfg0.win 8).flush t = true := by decide +kernel
theorem flush_9 : ∀ t : Fin cfg0.N, t.val % 16 = 15 → (cfg0.win 9).flush t = true := by decide +kernel

/-- An index of a packed array is a head, a row and a column. -/
theorem split3 (i : S8x16384x128.Idx) : ∃ (h : Fin 8) (r : Fin 16384) (w : Fin 128), i = ix3 h r w := ⟨i 0, i 1, i 2, eq_ix3 i⟩

/-- A block that holds the rows of a grid point's key block is that block of the array. -/
theorem block_8 (c : Dev nD) (f : Buf (Elt Ideal) ((c : Thread nD τ).loc main_v63_1)) (X : FVec Ideal S1x1024x128 .f32) (t : Fin cfg0.N)
    (h : ∀ (a : Fin 1024) (w : Fin 128), X (ix3 (0 : Fin 1) a w) = f (ix3 (headOf t) (rowAt (keysOf t) a) w)) :
    (cfg0.win 8).cut (grid0.coords t) X = ((cfg0.win 8).blk t).view.read (Elt Ideal) f := by
  obtain ⟨i0, i1, i2⟩ := index_8 t
  funext y
  have h0 : (y 0).val < 1 := (y 0).isLt
  have h1 : (y 1).val < 1024 := (y 1).isLt
  have h2 : (y 2).val < 128 := (y 2).isLt
  have e : (cfg0.win 8).xinj (grid0.coords t) y = ix3 (0 : Fin 1) (⟨(y 1).val, h1⟩ : Fin 1024) (⟨(y 2).val, h2⟩ : Fin 128) := by
    refine funext fun a => Fin.ext ?_
    match a with
    | ⟨0, _⟩ => show (y 0).val = 0; omega
    | ⟨1, _⟩ => rfl
    | ⟨2, _⟩ => rfl
  refine (congrArg X e).trans ((h _ _).trans ?_)
  rw [View.read_apply]
  refine congrArg f (funext fun a => Fin.ext ?_)
  match a with
  | ⟨0, _⟩ => show (headOf t).val = win0_8.index t 0 * 1 + 1 * (y 0).val; omega
  | ⟨1, _⟩ => show 1024 * (keysOf t).val + (y 1).val = win0_8.index t 1 * 1024 + 1 * (y 1).val; omega
  | ⟨2, _⟩ => show (y 2).val = win0_8.index t 2 * 128 + 1 * (y 2).val; omega

theorem block_9 (c : Dev nD) (f : Buf (Elt Ideal) ((c : Thread nD τ).loc main_v63_2)) (X : FVec Ideal S1x1024x128 .f32) (t : Fin cfg0.N)
    (h : ∀ (a : Fin 1024) (w : Fin 128), X (ix3 (0 : Fin 1) a w) = f (ix3 (headOf t) (rowAt (keysOf t) a) w)) :
    (cfg0.win 9).cut (grid0.coords t) X = ((cfg0.win 9).blk t).view.read (Elt Ideal) f := by
  obtain ⟨i0, i1, i2⟩ := index_9 t
  funext y
  have h0 : (y 0).val < 1 := (y 0).isLt
  have h1 : (y 1).val < 1024 := (y 1).isLt
  have h2 : (y 2).val < 128 := (y 2).isLt
  have e : (cfg0.win 9).xinj (grid0.coords t) y = ix3 (0 : Fin 1) (⟨(y 1).val, h1⟩ : Fin 1024) (⟨(y 2).val, h2⟩ : Fin 128) := by
    refine funext fun a => Fin.ext ?_
    match a with
    | ⟨0, _⟩ => show (y 0).val = 0; omega
    | ⟨1, _⟩ => rfl
    | ⟨2, _⟩ => rfl
  refine (congrArg X e).trans ((h _ _).trans ?_)
  rw [View.read_apply]
  refine congrArg f (funext fun a => Fin.ext ?_)
  match a with
  | ⟨0, _⟩ => show (headOf t).val = win0_9.index t 0 * 1 + 1 * (y 0).val; omega
  | ⟨1, _⟩ => show 1024 * (keysOf t).val + (y 1).val = win0_9.index t 1 * 1024 + 1 * (y 1).val; omega
  | ⟨2, _⟩ => show (y 2).val = win0_9.index t 2 * 128 + 1 * (y 2).val; omega

/-- The point at which a row of a head is written back: its key block's last. -/
def lastPoint (h : Fin 8) (r : Fin 16384) : Fin cfg0.N := ⟨h.val * 256 + r.val / 1024 * 16 + 15, by
  have := h.isLt; have := r.isLt; have hN : cfg0.N = 2048 := N_0; omega⟩

theorem lastPoint_mod (h : Fin 8) (r : Fin 16384) : (lastPoint h r).val % 16 = 15 := by
  show (h.val * 256 + r.val / 1024 * 16 + 15) % 16 = 15; omega
theorem lastPoint_head (h : Fin 8) (r : Fin 16384) : (headOf (lastPoint h r)).val = h.val := by
  have := r.isLt; show (h.val * 256 + r.val / 1024 * 16 + 15) / 256 = h.val; omega
theorem lastPoint_keys (h : Fin 8) (r : Fin 16384) : (keysOf (lastPoint h r)).val = r.val / 1024 := by
  have := r.isLt; show (h.val * 256 + r.val / 1024 * 16 + 15) / 16 % 16 = r.val / 1024; omega

theorem cover_8 (h : Fin 8) (r : Fin 16384) (w : Fin 128) : ix3 h r w ∈ ((cfg0.win 8).blk (lastPoint h r)).view.set := by
  obtain ⟨i0, i1, i2⟩ := index_8 (lastPoint h r)
  rw [lastPoint_head] at i0
  rw [lastPoint_keys] at i1
  show ix3 h r w ∈ ((View.whole main_v63_1).slice (win0_8.rect (lastPoint h r))).set
  rw [View.set_slice_whole, Rect.mem_set_unit]
  intro a
  have h2 : w.val < 128 := w.isLt
  match a with
  | ⟨0, _⟩ => show win0_8.index (lastPoint h r) 0 * 1 ≤ h.val ∧ h.val < win0_8.index (lastPoint h r) 0 * 1 + 1; omega
  | ⟨1, _⟩ => show win0_8.index (lastPoint h r) 1 * 1024 ≤ r.val ∧ r.val < win0_8.index (lastPoint h r) 1 * 1024 + 1024; omega
  | ⟨2, _⟩ => show win0_8.index (lastPoint h r) 2 * 128 ≤ w.val ∧ w.val < win0_8.index (lastPoint h r) 2 * 128 + 128; omega

theorem cover_9 (h : Fin 8) (r : Fin 16384) (w : Fin 128) : ix3 h r w ∈ ((cfg0.win 9).blk (lastPoint h r)).view.set := by
  obtain ⟨i0, i1, i2⟩ := index_9 (lastPoint h r)
  rw [lastPoint_head] at i0
  rw [lastPoint_keys] at i1
  show ix3 h r w ∈ ((View.whole main_v63_2).slice (win0_9.rect (lastPoint h r))).set
  rw [View.set_slice_whole, Rect.mem_set_unit]
  intro a
  have h2 : w.val < 128 := w.isLt
  match a with
  | ⟨0, _⟩ => show win0_9.index (lastPoint h r) 0 * 1 ≤ h.val ∧ h.val < win0_9.index (lastPoint h r) 0 * 1 + 1; omega
  | ⟨1, _⟩ => show win0_9.index (lastPoint h r) 1 * 1024 ≤ r.val ∧ r.val < win0_9.index (lastPoint h r) 1 * 1024 + 1024; omega
  | ⟨2, _⟩ => show win0_9.index (lastPoint h r) 2 * 128 ≤ w.val ∧ w.val < win0_9.index (lastPoint h r) 2 * 128 + 128; omega

/-! The packed gradients: the sums the three output arrays hold. -/

def Reals.sumQ (A : Reals) (h : Fin 8) (r : Fin 16384) (w : Fin 128) : ℝ := ∑ x, A.dscore h r x * A.rowK h x w
def Reals.sumK (A : Reals) (h : Fin 8) (r : Fin 16384) (w : Fin 128) : ℝ := ∑ y, A.dscore h y r * A.rowQ h y w
def Reals.sumV (A : Reals) (h : Fin 8) (r : Fin 16384) (w : Fin 128) : ℝ := ∑ y, A.prob h y r * A.rowC h y w

/-- Real numbers of every head, row and column as a packed array. -/
def packed (s : Fin 8 → Fin 16384 → Fin 128 → ℝ) : Packed32 Ideal := fun i => ((s (i 0) (i 1) (i 2) : ℝ) : EReal)

theorem packed_at (s : Fin 8 → Fin 16384 → Fin 128 → ℝ) (h : Fin 8) (r : Fin 16384) (w : Fin 128) : packed s (ix3 h r w) = ((s h r w : ℝ) : EReal) := rfl

theorem pay9_at (x : Vec Ideal S1024x128 .f32) (a : Fin 1024) (w : Fin 128) : k0_pay9 x (ix3 (0 : Fin 1) a w) = x (ix2 a w) := by
  unfold k0_pay9; pointwise
theorem pay10_at (x : Vec Ideal S1024x128 .f32) (a : Fin 1024) (w : Fin 128) : k0_pay10 x (ix3 (0 : Fin 1) a w) = x (ix2 a w) := by
  unfold k0_pay10; pointwise

variable {m : (ℓ : Loc nD τ sig) → Buf (Elt Ideal) ℓ} {c : Dev nD} {A : Reals} (hA : Given m c A)
include hA

theorem out_dq : dqAt m c cfg0.N = packed A.sumQ := by
  refine funext fun i => ?_
  obtain ⟨h, r, w, rfl⟩ := split3 i
  rw [packed_at]
  exact dq_final hA _ _ _

theorem out_dk : (dats m 0 c).arrAt 8 cfg0.N = packed A.sumK := by
  refine (dats m 0 c).arrAt_eq_of_cover 8 (packed A.sumK) (fun t hf => ?_) fun i => by
    obtain ⟨h, r, w, rfl⟩ := split3 i
    exact ⟨lastPoint h r, flush_8 _ (lastPoint_mod h r), cover_8 h r w⟩
  have ht : t.val % 16 = 15 := by
    by_contra h
    have := keep8 t fun h' => h ((hcond0_4 t).mp h')
    rw [this] at hf
    exact absurd hf (by decide)
  show (cfg0.win 8).cut (grid0.coords t) ((dats m 0 c).after 8 t) = _
  rw [after_8]
  refine block_8 c _ _ t fun a w => ?_
  rw [pay9_at, packed_at]
  exact (keys_done hA t ht a w).1

theorem out_dv : (dats m 0 c).arrAt 9 cfg0.N = packed A.sumV := by
  refine (dats m 0 c).arrAt_eq_of_cover 9 (packed A.sumV) (fun t hf => ?_) fun i => by
    obtain ⟨h, r, w, rfl⟩ := split3 i
    exact ⟨lastPoint h r, flush_9 _ (lastPoint_mod h r), cover_9 h r w⟩
  have ht : t.val % 16 = 15 := by
    by_contra h
    have := keep9 t fun h' => h ((hcond0_4 t).mp h')
    rw [this] at hf
    exact absurd hf (by decide)
  show (cfg0.win 9).cut (grid0.coords t) ((dats m 0 c).after 9 t) = _
  rw [after_9]
  refine block_9 c _ _ t fun a w => ?_
  rw [pay10_at, packed_at]
  exact (keys_done hA t ht a w).2

end Cert.Fox

end
-- ==== Proof.FoxRef.lean ====
module

public import proofs.«01_k».proof.Proof.FoxSoftmax

@[expose] public section

set_option maxRecDepth 16384

noncomputable section

/-!
# The reference over the reals

The reference differentiates the attention as it is written: its masked logits carry the query's own gate as well, which its
softmax takes off again. Read at an index, its four results are the four real gradients.
-/

namespace Cert.Fox

open Cert.KernelIdeal
open Cert.ReferenceIdeal.Read
open Idealize.ShloMosaic

variable (A : Reals) (h : Fin 8)

/-- The reference's logits, masked. -/
theorem ref_masked (i j : Fin 16384) :
    val_main_v15_0 (F := Ideal) A.vq A.vk A.vg (ix3 h i j) = rowOf (sees i) (fun j => A.score h i j + A.g h i) j := by
  have hv : val_main_v8 (F := Ideal) A.vq A.vk A.vg (ix3 h i j) = ((A.score h i j + A.g h i : ℝ) : EReal) := by
    have h2 : val_main_v2 (F := Ideal) A.vq A.vk (ix3 h i j) = (((∑ d, A.q i h d * A.k j h d) * (1 / 8) : ℝ) : EReal) := by
      rw [show val_main_v2 (F := Ideal) A.vq A.vk = mulf (F := Ideal) (φ := .f32) (products A.vq A.vk) (fillPairs (F := Ideal) 0x3E000000#32) from rfl, mul_at, products_at]
      unfold fillPairs; pointwise; rw [eighth, EReal.coe_mul]
    have h4 : val_main_v4 (F := Ideal) A.vg (ix3 h i j) = ((A.g h i : ℝ) : EReal) :=
      (congrFun (show val_main_v4 (F := Ideal) A.vg = overKeys A.vg from rfl) _).trans (overKeys_at _ h i j)
    have h7 : val_main_v7 (F := Ideal) A.vg (ix3 h i j) = ((A.g h j : ℝ) : EReal) := by
      unfold val_main_v7 val_main_v6; pointwise; rfl
    rw [show val_main_v8 (F := Ideal) A.vq A.vk A.vg = subf (F := Ideal) (φ := .f32) (addf (F := Ideal) (φ := .f32) (val_main_v2 (F := Ideal) A.vq A.vk) (val_main_v4 (F := Ideal) A.vg)) (val_main_v7 (F := Ideal) A.vg) from rfl,
      sub_at, add_at, h2, h4, h7, ← EReal.coe_add, ← EReal.coe_sub]
    unfold Reals.score
    congr 1; ring
  have hm : val_main_v15_1 (F := Ideal) (ix3 h i j) = if j.val ≤ i.val then 1#1 else 0#1 := keep_at h i j
  unfold val_main_v15_0 rowOf
  rw [ValueIdx.select_apply, hm, hv]
  by_cases hij : j.val ≤ i.val
  · rw [if_pos hij, if_pos hij]; rfl
  · rw [if_neg hij, if_neg hij]; exact minus_infinity

/-- The largest of a query's logits is a real number. -/
theorem ref_top (i : Fin 16384) : ∃ r : ℝ, val_main_v23 (F := Ideal) A.vq A.vk A.vg (ix2 h i) = (r : EReal) := by
  have e : (val_main_v15_0 (F := Ideal) A.vq A.vk A.vg ∘ keys_reduce.lift (ix2 h i) : Fin 16384 → EReal) = rowOf (sees i) (fun j => A.score h i j + A.g h i) :=
    funext fun k => (congrArg (val_main_v15_0 (F := Ideal) A.vq A.vk A.vg) (lift_keys h i k)).trans (ref_masked A h i k)
  obtain ⟨r, hr⟩ := fold_real (sees i) (fun j => A.score h i j + A.g h i) (sees_self i) _ minus_infinity
  have h16 : val_main_v16 (F := Ideal) A.vq A.vk A.vg (ix2 h i) = (r : EReal) :=
    (max_keys _ _).trans ((congrArg ((Finset.univ : Finset (Fin 16384)).fold max (Ideal.ofBits .f32 0xFF800000#32)) e).trans hr)
  refine ⟨r, ?_⟩
  have h22 : val_main_v22 (F := Ideal) (ix2 h i) = ⊥ := by
    unfold val_main_v22 val_main_cst_3; pointwise; exact minus_infinity
  exact (val_main_v23_apply (F := Ideal) A.vq A.vk A.vg (ix2 h i)).trans ((congrArg₂ max h22 h16).trans (max_eq_right bot_le))

/-- A query's logits with its own gate on them. -/
def Reals.gated (i j : Fin 16384) : ℝ := A.score h i j + A.g h i

theorem Reals.gated_div (i j : Fin 16384) (r : ℝ) :
    (if j.val ≤ i.val then Real.exp (A.gated h i j - r) else 0) / (massOf (sees i) (A.gated h i) / Real.exp r) = A.prob h i j := by
  have e := Fox.weight_div (sees i) (A.gated h i) (sees_self i) r j
  have e' := Fox.shift_log (sees i) (A.score h i) (sees_self i) (A.g h i) j
  unfold Reals.prob Reals.mass
  unfold sees at e e' ⊢
  unfold Reals.gated at e ⊢
  rw [e, e']

theorem ref_weight {i : Fin 16384} {r : ℝ} (hr : val_main_v23 (F := Ideal) A.vq A.vk A.vg (ix2 h i) = (r : EReal)) (j : Fin 16384) :
    val_main_v36 (F := Ideal) A.vq A.vk A.vg (ix3 h i j) = (((if j.val ≤ i.val then Real.exp (A.gated h i j - r) else 0) : ℝ) : EReal) := by
  rw [show val_main_v36 (F := Ideal) A.vq A.vk A.vg = Host.exp (F := Ideal) (φ := .f32) (subf (F := Ideal) (φ := .f32) (val_main_v15_0 (F := Ideal) A.vq A.vk A.vg) (overKeys (val_main_v23 (F := Ideal) A.vq A.vk A.vg))) from rfl,
    exp_at, sub_at, overKeys_at, hr, ref_masked]
  exact exp_row _ (A.gated h i) r j

theorem ref_total {i : Fin 16384} {r : ℝ} (hr : val_main_v23 (F := Ideal) A.vq A.vk A.vg (ix2 h i) = (r : EReal)) :
    val_main_v37 (F := Ideal) A.vq A.vk A.vg (ix2 h i) = ((massOf (sees i) (A.gated h i) / Real.exp r : ℝ) : EReal) := by
  have e := sum_weights (sees i) (A.gated h i) r
  unfold val_main_v37
  refine sum_keys h _ i _ ?_
  rw [Finset.sum_congr rfl fun j _ => ref_weight A h hr j, coe_sum]
  rw [← e]

/-- The reference's weights and their sum: their quotient is the probability. -/
theorem ref_weights (i : Fin 16384) : ∃ (T : ℝ) (e : Fin 16384 → ℝ), T ≠ 0 ∧ (∀ j, e j / T = A.prob h i j) ∧
    (∀ j, val_main_v36 (F := Ideal) A.vq A.vk A.vg (ix3 h i j) = ((e j : ℝ) : EReal)) ∧
    val_main_v37 (F := Ideal) A.vq A.vk A.vg (ix2 h i) = ((T : ℝ) : EReal) := by
  obtain ⟨r, hr⟩ := ref_top A h i
  exact ⟨massOf (sees i) (A.gated h i) / Real.exp r, fun j => if j.val ≤ i.val then Real.exp (A.gated h i j - r) else 0,
    (div_pos (massOf_pos (sees i) (A.gated h i) (sees_self i)) (Real.exp_pos r)).ne', fun j => A.gated_div h i j r, ref_weight A h hr, ref_total A h hr⟩

theorem ref_prob (i j : Fin 16384) : val_main_v40 (F := Ideal) A.vq A.vk A.vg (ix3 h i j) = ((A.prob h i j : ℝ) : EReal) := by
  obtain ⟨T, e, hT, hp, he, ht⟩ := ref_weights A h i
  rw [show val_main_v40 (F := Ideal) A.vq A.vk A.vg = Host.divf (val_main_v36 (F := Ideal) A.vq A.vk A.vg) (overKeys (val_main_v37 (F := Ideal) A.vq A.vk A.vg)) from rfl,
    div_at, overKeys_at, he, ht, div_coe _ hT, hp]

theorem ref_ct (i : Fin 16384) (d : Fin 64) : val_main_v46 (F := Ideal) A.vc (ix3 h d i) = ((A.ct i h d : ℝ) : EReal) := by
  unfold val_main_v46; pointwise; rfl

theorem ref_dprob (i j : Fin 16384) : val_main_v47 (F := Ideal) A.vv A.vc (ix3 h i j) = ((A.dprob h i j : ℝ) : EReal) := by
  rw [val_main_v47_apply]
  unfold Reals.dprob
  rw [← coe_sum]
  refine Finset.sum_congr rfl fun d _ => ?_
  rw [EReal.coe_mul]
  refine congrArg₂ (· * ·) ?_ rfl
  refine (congrArg (val_main_v46 (F := Ideal) A.vc) (funext fun a => ?_)).trans (ref_ct A h i d)
  match a with
  | ⟨0, _⟩ => rfl
  | ⟨1, _⟩ => rfl
  | ⟨2, _⟩ => rfl

/-- The gradient with respect to a score. -/
theorem ref_dscore (i j : Fin 16384) : val_main_v62 (F := Ideal) A.vq A.vk A.vv A.vg A.vc (ix3 h i j) = ((A.dscore h i j : ℝ) : EReal) := by
  obtain ⟨T, e, hT, hp, he, ht⟩ := ref_weights A h i
  have h50 : ∀ j, val_main_v50 (F := Ideal) A.vq A.vk A.vg (ix3 h i j) = ((1 / (T * T) : ℝ) : EReal) := fun j => by
    have h38 : ∀ o : Fin 1, val_main_v38 (F := Ideal) A.vq A.vk A.vg (ix3 h i o) = ((T : ℝ) : EReal) := fun o =>
      (column_at (val_main_v37 (F := Ideal) A.vq A.vk A.vg) h i o).trans ht
    have h42 : ∀ o : Fin 1, val_main_v42 (F := Ideal) (ix3 h i o) = ((1 : ℝ) : EReal) := fun o => ones_at h i o
    unfold val_main_v50 val_main_v43 val_main_v41; pointwise
    rw [h38, h42, ← EReal.coe_mul, div_coe _ (mul_ne_zero hT hT)]
  have h53 : val_main_v53 (F := Ideal) A.vq A.vk A.vv A.vg A.vc (ix2 h i) = ((∑ j, A.dprob h i j * (1 / (T * T)) * e j : ℝ) : EReal) := by
    refine sum_keys h _ i _ ?_
    rw [← coe_sum]
    refine Finset.sum_congr rfl fun j _ => ?_
    rw [show val_main_v52 (F := Ideal) A.vq A.vk A.vv A.vg A.vc = mulf (F := Ideal) (φ := .f32) (mulf (F := Ideal) (φ := .f32) (val_main_v47 (F := Ideal) A.vv A.vc) (val_main_v50 (F := Ideal) A.vq A.vk A.vg)) (val_main_v36 (F := Ideal) A.vq A.vk A.vg) from rfl,
      mul_at, mul_at, ref_dprob, h50, he, ← EReal.coe_mul, ← EReal.coe_mul]
  have h55 : ∀ o : Fin 1, val_main_v55 (F := Ideal) A.vq A.vk A.vv A.vg A.vc (ix3 h i o) = ((-(∑ j, A.dprob h i j * (1 / (T * T)) * e j) : ℝ) : EReal) := fun o => by
    unfold val_main_v55 val_main_v54; pointwise
    rw [h53, EReal.coe_neg]
  have h59 : val_main_v59 (F := Ideal) A.vq A.vk A.vv A.vg A.vc (ix3 h i j) = ((-(∑ j, A.dprob h i j * (1 / (T * T)) * e j) : ℝ) : EReal) := by
    have h58 : val_main_v58 (F := Ideal) A.vq A.vk A.vv A.vg A.vc (ix2 h i) = ((-(∑ j, A.dprob h i j * (1 / (T * T)) * e j) : ℝ) : EReal) := by
      rw [val_main_v58_apply, Fin.sum_univ_one]
      refine (congrArg₂ (· + ·) Ideal.ofBits_zero_f32 ((congrArg _ (funext fun a => ?_)).trans (h55 0))).trans (zero_add _)
      match a with
      | ⟨0, _⟩ => rfl
      | ⟨1, _⟩ => rfl
      | ⟨2, _⟩ => rfl
    unfold val_main_v59; pointwise
    exact h58
  have h61 : val_main_v61 (F := Ideal) A.vq A.vk A.vv A.vg A.vc (ix3 h i j) = ((A.dscore h i j : ℝ) : EReal) := by
    rw [show val_main_v61 (F := Ideal) A.vq A.vk A.vv A.vg A.vc = mulf (addf (Host.divf (val_main_v47 (F := Ideal) A.vv A.vc) (overKeys (val_main_v37 (F := Ideal) A.vq A.vk A.vg)))
        (val_main_v59 (F := Ideal) A.vq A.vk A.vv A.vg A.vc)) (val_main_v36 (F := Ideal) A.vq A.vk A.vg) from rfl,
      mul_at, add_at, div_at, overKeys_at, ref_dprob, h59, he, ht, div_coe _ hT, ← EReal.coe_add, ← EReal.coe_mul]
    refine congrArg _ ?_
    unfold Reals.dscore Reals.mean
    rw [Finset.sum_congr rfl fun j _ => show A.prob h i j * A.dprob h i j = T * (A.dprob h i j * (1 / (T * T)) * e j) by rw [← hp]; field_simp,
      ← Finset.mul_sum, ← hp]
    field_simp
    ring
  have hm : val_main_v15_1 (F := Ideal) (ix3 h i j) = if j.val ≤ i.val then 1#1 else 0#1 := keep_at h i j
  unfold val_main_v62
  rw [ValueIdx.select_apply, hm, h61]
  by_cases hij : j.val ≤ i.val
  · rw [if_pos hij]; rfl
  · rw [if_neg hij, A.dscore_above h (by omega)]; exact Ideal.ofBits_zero_f32

/-! ## The four results -/

theorem ref_scaled (i j : Fin 16384) : val_main_v72 (F := Ideal) A.vq A.vk A.vv A.vg A.vc (ix3 h i j) = ((A.dscore h i j * (1 / 8) : ℝ) : EReal) := by
  unfold val_main_v72 val_main_v71 val_main_cst_17; pointwise
  rw [ref_dscore, eighth, EReal.coe_mul]

theorem ref_dq (i : Fin 16384) (d : Fin 64) : val_main_v76 (F := Ideal) A.vq A.vk A.vv A.vg A.vc (ix3 i h d) = ((A.dq h i d : ℝ) : EReal) := by
  unfold val_main_v76; pointwise
  refine (mix_at h (val_main_v72 (F := Ideal) A.vq A.vk A.vv A.vg A.vc) A.vk i d).trans ?_
  unfold Reals.dq
  rw [Finset.sum_mul, ← coe_sum]
  refine Finset.sum_congr rfl fun j _ => ?_
  rw [ref_scaled, show A.dscore h i j * A.k j h d * (1 / 8) = A.dscore h i j * (1 / 8) * A.k j h d by ring, EReal.coe_mul]
  rfl

theorem ref_dk (j : Fin 16384) (d : Fin 64) : val_main_v74 (F := Ideal) A.vq A.vk A.vv A.vg A.vc (ix3 j h d) = ((A.dk h j d : ℝ) : EReal) := by
  unfold val_main_v74; pointwise
  rw [val_main_v73_apply]
  unfold Reals.dk
  rw [← coe_sum]
  refine Finset.sum_congr rfl fun i _ => ?_
  rw [show A.dscore h i j * (A.q i h d * (1 / 8)) = A.dscore h i j * (1 / 8) * A.q i h d by ring, EReal.coe_mul]
  refine congrArg₂ (· * ·) ((congrArg _ (funext fun a => ?_)).trans (ref_scaled A h i j)) rfl
  match a with
  | ⟨0, _⟩ => rfl
  | ⟨1, _⟩ => rfl
  | ⟨2, _⟩ => rfl

theorem ref_dv (j : Fin 16384) (d : Fin 64) : val_main_v49 (F := Ideal) A.vq A.vk A.vg A.vc (ix3 j h d) = ((A.dv h j d : ℝ) : EReal) := by
  unfold val_main_v49; pointwise
  rw [val_main_v48_apply]
  unfold Reals.dv
  rw [← coe_sum]
  refine Finset.sum_congr rfl fun i _ => ?_
  rw [mul_comm (A.prob h i j), EReal.coe_mul]
  refine congrArg₂ (· * ·) ((congrArg _ (funext fun a => ?_)).trans (ref_ct A h i d)) ((congrArg _ (funext fun a => ?_)).trans (ref_prob A h i j)) <;>
    match a with
    | ⟨0, _⟩ => rfl
    | ⟨1, _⟩ => rfl
    | ⟨2, _⟩ => rfl

theorem ref_dg (i : Fin 16384) : val_main_v70 (F := Ideal) A.vq A.vk A.vv A.vg A.vc (ix2 h i) = ((A.dg h i : ℝ) : EReal) := by
  have h67 : val_main_v67 (F := Ideal) A.vq A.vk A.vv A.vg A.vc (ix2 h i) = ((∑ j, A.dscore h i j : ℝ) : EReal) := by
    refine sum_keys h _ i _ ?_
    rw [← coe_sum]
    exact Finset.sum_congr rfl fun j _ => ref_dscore A h i j
  have h64 : val_main_v64 (F := Ideal) A.vq A.vk A.vv A.vg A.vc (ix2 h i) = ((-∑ j, A.dscore h j i : ℝ) : EReal) := by
    rw [val_main_v64_apply, ← Finset.sum_neg_distrib, ← coe_sum]
    refine (congrArg₂ (· + ·) Ideal.ofBits_zero_f32 (Finset.sum_congr rfl fun j _ => ?_)).trans (zero_add _)
    unfold val_main_v63; pointwise
    rw [EReal.coe_neg]
    refine congrArg _ ((congrArg _ (funext fun a => ?_)).trans (ref_dscore A h j i))
    match a with
    | ⟨0, _⟩ => rfl
    | ⟨1, _⟩ => rfl
    | ⟨2, _⟩ => rfl
  have h65 : ∀ o : Fin 1, val_main_v65 (F := Ideal) A.vq A.vk A.vv A.vg A.vc (ix3 h o i) = ((-∑ j, A.dscore h j i : ℝ) : EReal) := fun o => by
    unfold val_main_v65; pointwise; exact h64
  have h68 : ∀ o : Fin 1, val_main_v68 (F := Ideal) A.vq A.vk A.vv A.vg A.vc (ix3 h i o) = ((∑ j, A.dscore h i j : ℝ) : EReal) := fun o => by
    unfold val_main_v68; pointwise; exact h67
  have h66 : val_main_v66 (F := Ideal) A.vq A.vk A.vv A.vg A.vc (ix2 h i) = ((-∑ j, A.dscore h j i : ℝ) : EReal) := by
    rw [val_main_v66_apply, Fin.sum_univ_one]
    refine (congrArg₂ (· + ·) Ideal.ofBits_zero_f32 ((congrArg _ (funext fun a => ?_)).trans (h65 0))).trans (zero_add _)
    match a with
    | ⟨0, _⟩ => rfl
    | ⟨1, _⟩ => rfl
    | ⟨2, _⟩ => rfl
  have h69 : val_main_v69 (F := Ideal) A.vq A.vk A.vv A.vg A.vc (ix2 h i) = ((∑ j, A.dscore h i j : ℝ) : EReal) := by
    rw [val_main_v69_apply, Fin.sum_univ_one]
    refine (congrArg₂ (· + ·) Ideal.ofBits_zero_f32 ((congrArg _ (funext fun a => ?_)).trans (h68 0))).trans (zero_add _)
    match a with
    | ⟨0, _⟩ => rfl
    | ⟨1, _⟩ => rfl
    | ⟨2, _⟩ => rfl
  unfold val_main_v70
  rw [add_at, h66, h69, ← EReal.coe_add]
  unfold Reals.dg
  exact congrArg _ (by ring)

end Cert.Fox

end
-- ==== Proof.FoxGrads.lean ====
module

public import proofs.«01_k».proof.Proof.FoxOut
public import proofs.«01_k».proof.Proof.FoxRef

@[expose] public section

set_option maxRecDepth 16384

noncomputable section

/-!
# The last host lines over the reals

Applied to the packed gradients they give what the reference gives.
-/

namespace Cert.Fox

open Cert.KernelIdeal Cert.KernelIdeal.Gen
open Idealize.ShloMosaic

variable (A : Reals) (h : Fin 8) (i : Fin 16384)

theorem withTail_lo (x : Fin 64 → ℝ) (tail : ℕ → ℝ) (d : Fin 64) : withTail x tail ⟨d.val, by omega⟩ = x d := dif_pos d.isLt
theorem withTail_hi (x : Fin 64 → ℝ) (tail : ℕ → ℝ) (e : ℕ) (he : e < 64) : withTail x tail ⟨64 + e, by omega⟩ = tail e := by
  refine (dif_neg (by show ¬64 + e < 64; omega)).trans (congrArg tail ?_)
  show 64 + e - 64 = e
  omega

theorem sumQ_lo (d : Fin 64) : A.sumQ h i ⟨d.val, by omega⟩ * (1 / 8) = A.dq h i d := by
  unfold Reals.sumQ Reals.dq Reals.rowK
  simp only [withTail_lo]
theorem sumK_lo (d : Fin 64) : A.sumK h i ⟨d.val, by omega⟩ = A.dk h i d := by
  unfold Reals.sumK Reals.dk Reals.rowQ
  simp only [withTail_lo]
theorem sumV_lo (d : Fin 64) : A.sumV h i ⟨d.val, by omega⟩ = A.dv h i d := by
  unfold Reals.sumV Reals.dv Reals.rowC
  simp only [withTail_lo]
theorem sum_hi : A.sumQ h i ⟨67, by omega⟩ - A.sumK h i ⟨64, by omega⟩ = A.dg h i := by
  have hk : ∀ x, A.rowK h x ⟨67, by omega⟩ = 1 := fun x => (withTail_hi _ _ 3 (by omega)).trans (by simp)
  have hq : ∀ x, A.rowQ h x ⟨64, by omega⟩ = 1 := fun x => (withTail_hi _ _ 0 (by omega)).trans (by simp)
  unfold Reals.sumQ Reals.sumK Reals.dg
  simp only [hk, hq, mul_one]

theorem unpack_at (x : Packed32 Ideal) (d : Fin 64) : unpack x (ix3 i h d) = x (ix3 h i (⟨d.val, by omega⟩ : Fin 128)) := by
  unfold unpack; pointwise

theorem lastQ_at (x : Packed32 Ideal) (d : Fin 64) : lastQ x (ix3 i h d) = x (ix3 h i (⟨d.val, by omega⟩ : Fin 128)) * ((1 / 8 : ℝ) : EReal) := by
  have e : unpack x (ix3 i h d) = x (ix3 h i (⟨d.val, by omega⟩ : Fin 128)) := unpack_at h i x d
  unfold lastQ
  generalize unpack x = y at e ⊢
  pointwise
  rw [e, eighth]

theorem lastC_at (x y : Packed32 Ideal) : lastC x y (ix2 h i) = x (ix3 h i (⟨67, by omega⟩ : Fin 128)) - y (ix3 h i (⟨64, by omega⟩ : Fin 128)) := by
  unfold lastC
  pointwise

theorem grad_q : lastQ (packed A.sumQ) = Cert.ReferenceIdeal.Read.val_main_v76 (F := Ideal) A.vq A.vk A.vv A.vg A.vc := by
  refine funext fun x => ?_
  obtain ⟨i, h, d, rfl⟩ := split_vecs x
  refine (lastQ_at _ _ _ _).trans (Eq.trans ?_ (ref_dq A _ _ _).symm)
  rw [packed_at, ← EReal.coe_mul, sumQ_lo]

theorem grad_k : unpack (packed A.sumK) = Cert.ReferenceIdeal.Read.val_main_v74 (F := Ideal) A.vq A.vk A.vv A.vg A.vc := by
  refine funext fun x => ?_
  obtain ⟨i, h, d, rfl⟩ := split_vecs x
  refine (unpack_at _ _ _ _).trans (Eq.trans ?_ (ref_dk A _ _ _).symm)
  rw [packed_at, sumK_lo]

theorem grad_v : unpack (packed A.sumV) = Cert.ReferenceIdeal.Read.val_main_v49 (F := Ideal) A.vq A.vk A.vg A.vc := by
  refine funext fun x => ?_
  obtain ⟨i, h, d, rfl⟩ := split_vecs x
  refine (unpack_at _ _ _ _).trans (Eq.trans ?_ (ref_dv A _ _ _).symm)
  rw [packed_at, sumV_lo]

theorem grad_c : lastC (packed A.sumQ) (packed A.sumK) = Cert.ReferenceIdeal.Read.val_main_v70 (F := Ideal) A.vq A.vk A.vv A.vg A.vc := by
  refine funext fun x => ?_
  obtain ⟨h, i, rfl⟩ := split_scalars x
  refine (lastC_at _ _ _ _).trans (Eq.trans ?_ (ref_dg A _ _).symm)
  rw [packed_at, packed_at, ← EReal.coe_sub, sum_hi]

end Cert.Fox

end
-- ==== Proof.FoxFinite.lean ====
module

public import proofs.«01_k».proof.Proof.FoxArrays
public import proofs.«01_k».proof.Proof.Gen.Pre_finite
public import proofs.«01_k».proof.Pre_finite

@[expose] public section

set_option maxRecDepth 16384

noncomputable section

/-!
# Finite arguments are real numbers
-/

namespace Cert.Fox

open Idealize.ShloMosaic

/-- The facts the precondition's operations take. -/
instance finiteFacts : Cert.Pre_finite.Facts := Cert.Pre_finite.Gen.facts

theorem infinity : Ideal.ofBits .f32 0x7F800000#32 = ⊤ := by
  simp [Ideal.ofBits, Ideal.ieee]

/-- An extended real whose absolute value is below infinity is a real number. -/
theorem real_of_abs {x : EReal} (h : max x (-x) < ⊤) : ((x.toReal : ℝ) : EReal) = x := by
  refine EReal.coe_toReal (fun e => ?_) fun e => ?_
  · rw [e] at h; exact absurd h (by simp)
  · rw [e] at h; exact absurd h (by simp)

theorem bit_and {a b : BitVec 1} (h : a &&& b = 1#1) : a = 1#1 ∧ b = 1#1 := by
  revert a b; decide

/-- The bit of the comparison that says an element is finite. -/
theorem real_of_bit {x : EReal} (h : BitVec.ofBool (decide (max x (-x) < Ideal.ofBits .f32 0x7F800000#32)) = 1#1) : ((x.toReal : ℝ) : EReal) = x := by
  rw [infinity] at h
  refine real_of_abs ?_
  by_contra hn
  rw [decide_eq_false hn] at h
  exact absurd h (by decide)

/-- The precondition, read: every element of every argument is a real number. -/
theorem finite_real (q k v : Vecs Ideal) (g : Scalars Ideal) (ct : Vecs Ideal)
    (h : Cert.Pre_finite.fn (F := Ideal) q k v g ct = fun _ => 1#1) (i : Fin 16384) (e : Fin 8) (d : Fin 64) :
    (((q (ix3 i e d)).toReal : ℝ) : EReal) = q (ix3 i e d) ∧ (((k (ix3 i e d)).toReal : ℝ) : EReal) = k (ix3 i e d)
      ∧ (((v (ix3 i e d)).toReal : ℝ) : EReal) = v (ix3 i e d) ∧ (((ct (ix3 i e d)).toReal : ℝ) : EReal) = ct (ix3 i e d)
      ∧ (((g (ix2 e i)).toReal : ℝ) : EReal) = g (ix2 e i) := by
  have hi := congrFun h (ix3 i e d)
  unfold Cert.Pre_finite.fn Cert.Pre_finite.fn_part1 at hi
  dsimp only at hi
  pointwise at hi
  obtain ⟨h4, h5⟩ := bit_and hi
  obtain ⟨h3, h4⟩ := bit_and h4
  obtain ⟨h2, h3⟩ := bit_and h3
  obtain ⟨h1, h2⟩ := bit_and h2
  exact ⟨real_of_bit h1, real_of_bit h2, real_of_bit h3, real_of_bit h4, real_of_bit h5⟩

open Cert.KernelIdeal Cert.KernelIdeal.Gen

/-- Finite arguments, as real numbers. -/
theorem given (m : (ℓ : Loc nD τ sig) → Buf (Elt Ideal) ℓ) (c : Dev nD)
    (h : Cert.Pre_finite.fn (F := Ideal) (inQ m c) (inK m c) (inV m c) (inG m c) (inC m c) = fun _ => 1#1) : ∃ A : Reals, Given m c A := by
  have k := finite_real _ _ _ _ _ h
  refine ⟨⟨fun i e d => (inQ m c (ix3 i e d)).toReal, fun i e d => (inK m c (ix3 i e d)).toReal, fun i e d => (inV m c (ix3 i e d)).toReal,
    fun i e d => (inC m c (ix3 i e d)).toReal, fun e i => (inG m c (ix2 e i)).toReal⟩, ⟨?_, ?_, ?_, ?_, ?_⟩⟩
  · refine funext fun x => ?_
    obtain ⟨i, e, d, rfl⟩ := split_vecs x
    exact (k i e d).1.symm
  · refine funext fun x => ?_
    obtain ⟨i, e, d, rfl⟩ := split_vecs x
    exact (k i e d).2.1.symm
  · refine funext fun x => ?_
    obtain ⟨i, e, d, rfl⟩ := split_vecs x
    exact (k i e d).2.2.1.symm
  · refine funext fun x => ?_
    obtain ⟨e, i, rfl⟩ := split_scalars x
    exact (k i e 0).2.2.2.2.symm
  · refine funext fun x => ?_
    obtain ⟨i, e, d, rfl⟩ := split_vecs x
    exact (k i e d).2.2.2.1.symm

end Cert.Fox

end
-- ==== Proof.FoxSame.lean ====
module

public import proofs.«01_k».proof.Proof.Gen.Kernel
public import proofs.«01_k».proof.Proof.Gen.KernelIdeal

@[expose] public section

set_option maxRecDepth 16384

noncomputable section

/-!
# The kernel as printed and the kernel read over the reals are one program

So that one run serves both frames.
-/

namespace Cert.Fox

open Idealize.ShloMosaic

/-- The facts the printed program takes. -/
instance kernelFacts : Cert.Kernel.Facts := Cert.Kernel.Gen.facts

variable {F : FTy → Type} [FloatOps F]

set_option maxHeartbeats 4000000

set_option backward.isDefEq.respectTransparency.types false in
theorem bodies : Cert.Kernel.defs₀ (F := F) = Cert.KernelIdeal.defs₀ (F := F) := by
  refine congrArg (Defs.onTc (nD := Cert.Kernel.nD)) ?_
  funext a b
  match a, b with
  | 0, (t, s) => rfl
  | ⟨_ + 1, h⟩, _ => exact absurd h (Nat.not_lt.2 (Nat.le_add_left _ _))

set_option backward.isDefEq.respectTransparency.types false in
theorem programs : Cert.Kernel.defs (F := F) = Cert.KernelIdeal.defs (F := F) :=
  congrArg (Pipeline.defs (Cert.KernelIdeal.pcfgs (F := F))) (bodies (F := F))

theorem first_lines : Cert.Kernel.main_part0 (F := F) = Cert.KernelIdeal.main_part0 (F := F) := by rfl
theorem last_lines : Cert.Kernel.main_part1 (F := F) = Cert.KernelIdeal.main_part1 (F := F) := by rfl

theorem mains : Cert.Kernel.main (F := F) = Cert.KernelIdeal.main (F := F) := by
  funext d
  unfold Cert.Kernel.main Cert.KernelIdeal.main
  rw [first_lines, last_lines]
  rfl

end Cert.Fox

end
-- ==== Proof.MlpReal.lean ====
module

public import proofs.«01_k».proof.Proof.FoxReal
public import Idealize.ShloMosaic.Lib.Pointwise

@[expose] public section

noncomputable section

/-!
# The constant one half, sums scaled by it, and the sigmoid
-/

namespace Cert.Mlp

open Idealize.ShloMosaic

theorem half_f32 : Ideal.ofBits .f32 0x3F000000#32 = ((1 / 2 : ℝ) : EReal) := by
  simp [Ideal.ofBits, Ideal.ieee, -EReal.coe_mul]; norm_num

/-- A real number that is not negative goes into a sum of extended reals. -/
theorem mul_sum_real {ι : Type} (S : Finset ι) (f : ι → EReal) (r : ℝ) (hr : 0 ≤ r) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- One half of a sum of products, taken into the right factors. -/
theorem sum_half {ι : Type} (S : Finset ι) (f g : ι → EReal) :
    (∑ i ∈ S, f i * g i) * Ideal.ofBits .f32 0x3F000000#32 = ∑ i ∈ S, f i * (Ideal.ofBits .f32 0x3F000000#32 * g i) := by
  rw [half_f32, mul_comm, mul_sum_real S _ _ (by norm_num)]
  exact Finset.sum_congr rfl fun i _ => mul_left_comm _ _ _

/-- The sigmoid. -/
def logistic (x : EReal) : EReal := Ideal.div 1 (1 + Ideal.exp (-x))

theorem logistic_coe (x : ℝ) : logistic (x : EReal) = ((1 / (1 + Real.exp (-x)) : ℝ) : EReal) := by
  have h : (1 + Real.exp (-x)) ≠ 0 := by positivity
  rw [← Fox.div_coe _ h, EReal.coe_add, ← Fox.exp_coe, EReal.coe_neg, EReal.coe_one, logistic]

theorem logistic_top : logistic ⊤ = 1 := by
  have h := Fox.div_coe 1 (one_ne_zero (α := ℝ))
  rw [div_one, EReal.coe_one] at h
  rw [logistic, EReal.neg_top, Ideal.exp_bot, add_zero, h]

theorem logistic_bot : logistic ⊥ = 0 := by
  rw [logistic, EReal.neg_bot, Ideal.exp_top, ← EReal.coe_one, EReal.add_top_of_ne_bot (EReal.coe_ne_bot 1), Ideal.div, if_neg (by simp), EReal.inv_top, mul_zero]

/-- The gradient of the gate, factored and summed: equal where the product `t` is a real number, whatever the gate is. -/
theorem slope (t : ℝ) (g : EReal) :
    (t : EReal) * (logistic g * (1 + g * (1 - logistic g))) = t * logistic g + g * t * (logistic g * (1 - logistic g)) := by
  have one : (1 : EReal) - 1 = 0 := by
    rw [← EReal.coe_one, ← EReal.coe_sub, sub_self, EReal.coe_zero]
  induction g using EReal.rec with
  | bot => rw [logistic_bot, zero_mul, zero_mul, mul_zero, mul_zero, add_zero]
  | top => rw [logistic_top, one, mul_zero, mul_zero, mul_zero, add_zero, add_zero, mul_one]
  | coe g =>
    rw [logistic_coe]
    generalize 1 / (1 + Real.exp (-g)) = s
    rw [← EReal.coe_one]
    simp only [← EReal.coe_sub, ← EReal.coe_mul, ← EReal.coe_add]
    congr 1
    ring

end Cert.Mlp

end
-- ==== Proof.MlpGate.lean ====
module

public import proofs.«01_k».proof.Proof.Gen.GateIdeal.Value
public import proofs.«01_k».proof.Proof.Gen.GateRefIdeal.Run
public import proofs.«01_k».proof.Proof.MlpReal
public import proofs.«01_k».proof.Proof.FoxFinite
public import proofs.«01_k».proof.Proof.Gen.Pre_finite_gate
public import proofs.«01_k».proof.Pre_finite_gate
public import Idealize.ShloMosaic.Lib.Pipeline.ValueKit
public import Idealize.ShloMosaic.Lib.Pointwise

@[expose] public section

set_option maxRecDepth 16384

noncomputable section

/-!
# The gradient of the gating of the feed-forward block

The call multiplies the cotangent by the transposed weights and turns each element into the gradients of the gate and of
the value. Element by element these are the reference's, where the product and the value are real numbers.
-/

namespace Cert.Mlp.Gate

open Cert.GateIdeal Cert.GateIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val / 2 ∧ win0_0.index t 1 = 0 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

/-- The facts the precondition's operations take. -/
instance preFacts : Cert.Pre_finite_gate.Facts := Cert.Pre_finite_gate.Gen.facts

variable (g u : FVec Ideal S16384x2816 .f32) (w : FVec Ideal S2816x1024 .f32) (d : FVec Ideal S16384x1024 .f32)

/-- The precondition, read: every element of the value, of the weights and of the cotangent is a real number. -/
theorem real_up (h : Cert.Pre_finite_gate.fn (F := Ideal) g u w d = fun _ => 1#1) (i : Fin 16384) (j : Fin 2816) :
    (((u (ix2 i j)).toReal : ℝ) : EReal) = u (ix2 i j) := by
  have hi := congrFun h (ix2 ⟨i.val, by omega⟩ ⟨j.val, by omega⟩)
  unfold Cert.Pre_finite_gate.fn at hi
  dsimp only at hi
  pointwise at hi
  exact Fox.real_of_bit hi

theorem real_ct (h : Cert.Pre_finite_gate.fn (F := Ideal) g u w d = fun _ => 1#1) (i : Fin 16384) (k : Fin 1024) :
    (((d (ix2 i k)).toReal : ℝ) : EReal) = d (ix2 i k) := by
  have hi := congrFun h (ix2 ⟨i.val, by omega⟩ ⟨2816 + k.val, by omega⟩)
  unfold Cert.Pre_finite_gate.fn at hi
  dsimp only at hi
  pointwise at hi
  exact Fox.real_of_bit hi

theorem real_w (h : Cert.Pre_finite_gate.fn (F := Ideal) g u w d = fun _ => 1#1) (j : Fin 2816) (k : Fin 1024) :
    (((w (ix2 j k)).toReal : ℝ) : EReal) = w (ix2 j k) := by
  have hi := congrFun h (ix2 ⟨16384 + k.val, by omega⟩ ⟨j.val, by omega⟩)
  unfold Cert.Pre_finite_gate.fn at hi
  dsimp only at hi
  pointwise at hi
  exact Fox.real_of_bit hi

/-- The reference's cotangent of the block's hidden rows. -/
def hidden : FVec Ideal S16384x2816 .f32 :=
  Host.dotGeneral (F := Ideal) Cert.GateRefIdeal.dot_S16384x1024_S2816x1024_S16384x2816_1_1_0_0_n_n none
    (mulf (broadcastInDim S16384x1024 ![] (by decide) (constant Cert.GateRefIdeal.S_ .f32 0x3F000000#32)) d) w

theorem hidden_at (i : Fin 16384) (j : Fin 2816) :
    hidden w d (ix2 i j) = ∑ k : Fin 1024, (d (ix2 i k) : EReal) * (Ideal.ofBits .f32 0x3F000000#32 * w (ix2 j k)) := by
  unfold hidden
  pointwise
  exact Finset.sum_congr rfl fun k _ => by rw [mul_comm (Ideal.ofBits .f32 0x3F000000#32), mul_assoc]

/-- The reference's sigmoid of the gate. -/
def gated : FVec Ideal S16384x2816 .f32 :=
  Host.divf (broadcastInDim S16384x2816 ![] (by decide) (constant Cert.GateRefIdeal.S_ .f32 0x3F800000#32))
    (addf (broadcastInDim S16384x2816 ![] (by decide) (constant Cert.GateRefIdeal.S_ .f32 0x3F800000#32)) (Host.exp (Host.negf g)))

theorem gated_at (y : S16384x2816.Idx) : gated g y = logistic (g y) := by
  unfold gated logistic
  pointwise

/-- The reference's gradient of the gate. -/
def gradGate : FVec Ideal S16384x2816 .bf16 :=
  truncf .bf16 (addf (mulf (mulf (hidden w d) u) (gated g)) (mulf (mulf g (mulf (hidden w d) u))
    (mulf (gated g) (subf (broadcastInDim S16384x2816 ![] (by decide) (constant Cert.GateRefIdeal.S_ .f32 0x3F800000#32)) (gated g))))) bitsLt_bf16_f32

/-- The reference's gradient of the value. -/
def gradUp : FVec Ideal S16384x2816 .bf16 := truncf .bf16 (mulf (mulf g (gated g)) (hidden w d)) bitsLt_bf16_f32

theorem gradGate_at (y : S16384x2816.Idx) :
    gradGate g u w d y = (hidden w d y : EReal) * u y * logistic (g y) + g y * ((hidden w d y : EReal) * u y) * (logistic (g y) * (1 - logistic (g y))) := by
  rw [← gated_at]
  unfold gradGate
  generalize gated g = s
  generalize hidden w d = z
  pointwise

theorem gradUp_at (y : S16384x2816.Idx) : gradUp g w d y = (g y : EReal) * logistic (g y) * hidden w d y := by
  rw [← gated_at]
  unfold gradUp
  generalize gated g = s
  generalize hidden w d = z
  pointwise

theorem real_hidden (h : Cert.Pre_finite_gate.fn (F := Ideal) g u w d = fun _ => 1#1) (i : Fin 16384) (j : Fin 2816) :
    ∃ r : ℝ, (hidden w d (ix2 i j) : EReal) * u (ix2 i j) = r := by
  refine ⟨(∑ k : Fin 1024, (d (ix2 i k)).toReal * (1 / 2 * (w (ix2 j k)).toReal)) * (u (ix2 i j)).toReal, ?_⟩
  rw [EReal.coe_mul, real_up g u w d h, ← Fox.coe_sum, hidden_at]
  refine congrArg (· * _) (Finset.sum_congr rfl fun k _ => ?_)
  rw [EReal.coe_mul, EReal.coe_mul, real_ct g u w d h, real_w g u w d h, half_f32]

/-- The product at an index. -/
theorem acc_at (x : Vec Ideal S1024x1024 .f32) (y : Vec Ideal S1024x1408 .bf16) (a : Fin 1024) (b : Fin 1408) :
    k0_pay1 x y (ix2 a b) = ∑ k : Fin 1024, (x (ix2 a k) : EReal) * (Ideal.ofBits .f32 0x3F000000#32 * y (ix2 k b)) := by
  unfold k0_pay1
  pointwise
  exact sum_half _ _ _

theorem gate_at (x : Vec Ideal S1024x1024 .f32) (y : Vec Ideal S1024x1408 .bf16) (p q : Vec Ideal S1024x1408 .bf16) (i : S1024x1408.Idx) :
    k0_pay4 x y p q i = (k0_pay1 x y i : EReal) * q i * (logistic (p i) * (1 + p i * (1 - logistic (p i)))) := by
  unfold k0_pay4 k0_pay3 k0_pay2
  generalize k0_pay1 x y = z
  pointwise
  rw [zero_sub, logistic]

theorem up_at (x : Vec Ideal S1024x1024 .f32) (y : Vec Ideal S1024x1408 .bf16) (p : Vec Ideal S1024x1408 .bf16) (i : S1024x1408.Idx) :
    k0_pay5 x y p i = (k0_pay1 x y i : EReal) * (p i * logistic (p i)) := by
  unfold k0_pay5 k0_pay3 k0_pay2
  generalize k0_pay1 x y = z
  pointwise
  rw [zero_sub, logistic]

/-- The transposed weights at an index. -/
theorem turned_at (k : Fin 1024) (b : Fin 2816) :
    ((truncf .bf16 (transpose S1024x2816 [1, 0] w transposes_S2816x1024_S1024x2816_1_0) bitsLt_bf16_f32 : FVec Ideal S1024x2816 .bf16) (ix2 k b) : EReal) = w (ix2 b k) := by
  pointwise

/-- What the call finds in its arguments: the transposed weights, the gate and the value. -/
theorem found_1 : V m c main_v1 = (truncf .bf16 (transpose S1024x2816 [1, 0] (m ((c : Thread nD τ).loc main_arg2)) transposes_S2816x1024_S1024x2816_1_0) bitsLt_bf16_f32 : FVec Ideal S1024x2816 .bf16) := by
  simp only [V, hostOps0]
  after_results_simp <;> rfl

theorem found_2 : V m c main_v2 = (truncf .bf16 (m ((c : Thread nD τ).loc main_arg0)) bitsLt_bf16_f32 : FVec Ideal S16384x2816 .bf16) := by
  simp only [V, hostOps0]
  after_results_simp <;> rfl

theorem found_3 : V m c main_v3 = (truncf .bf16 (m ((c : Thread nD τ).loc main_arg1)) bitsLt_bf16_f32 : FVec Ideal S16384x2816 .bf16) := by
  simp only [V, hostOps0]
  after_results_simp <;> rfl

theorem points : cfg0.N = 32 := N_0

/-- Row `a` and column `b` of the block of a grid point. -/
def row (t : Fin cfg0.N) (a : Fin 1024) : Fin 16384 := ⟨t.val / 2 * 1024 + a.val, by have := t.isLt; have := points; omega⟩
def col (t : Fin cfg0.N) (b : Fin 1408) : Fin 2816 := ⟨t.val % 2 * 1408 + b.val, by omega⟩

theorem block_0 (t : Fin cfg0.N) (a : Fin 1024) (k : Fin 1024) : (iblk m c 0 t (ix2 a k) : EReal) = (m ((c : Thread nD τ).loc main_arg3)) (ix2 (row t a) k) := by
  obtain ⟨h0, h1⟩ := index_0 t
  show ((cfg0.win 0).blk t).view.read (Elt Ideal) (V m c main_arg3) (ix2 a k) = _
  rw [V_main_arg3, View.read_apply]
  refine congrArg (m ((c : Thread nD τ).loc main_arg3)) (funext fun d => Fin.ext ?_)
  match d with
  | ⟨0, _⟩ => show win0_0.index t 0 * 1024 + 1 * a.val = t.val / 2 * 1024 + a.val; omega
  | ⟨1, _⟩ => show win0_0.index t 1 * 1024 + 1 * k.val = k.val; omega

theorem block_1 (t : Fin cfg0.N) (k : Fin 1024) (b : Fin 1408) : (iblk m c 1 t (ix2 k b) : EReal) = (m ((c : Thread nD τ).loc main_arg2)) (ix2 (col t b) k) := by
  obtain ⟨h0, h1⟩ := index_1 t
  show ((cfg0.win 1).blk t).view.read (Elt Ideal) (V m c main_v1) (ix2 k b) = _
  have e : ((cfg0.win 1).blk t).view.emb (ix2 k b) = ix2 k (col t b) := by
    refine funext fun d => Fin.ext ?_
    match d with
    | ⟨0, _⟩ => show win0_1.index t 0 * 1024 + 1 * k.val = k.val; omega
    | ⟨1, _⟩ => show win0_1.index t 1 * 1408 + 1 * b.val = t.val % 2 * 1408 + b.val; omega
  rw [found_1, View.read_apply, e]
  exact turned_at _ k _

theorem block_2 (t : Fin cfg0.N) (a : Fin 1024) (b : Fin 1408) : (iblk m c 2 t (ix2 a b) : EReal) = (m ((c : Thread nD τ).loc main_arg0)) (ix2 (row t a) (col t b)) := by
  obtain ⟨h0, h1⟩ := index_2 t
  show ((cfg0.win 2).blk t).view.read (Elt Ideal) (V m c main_v2) (ix2 a b) = _
  rw [found_2, View.read_apply]
  refine congrArg (m ((c : Thread nD τ).loc main_arg0)) (funext fun d => Fin.ext ?_)
  match d with
  | ⟨0, _⟩ => show win0_2.index t 0 * 1024 + 1 * a.val = t.val / 2 * 1024 + a.val; omega
  | ⟨1, _⟩ => show win0_2.index t 1 * 1408 + 1 * b.val = t.val % 2 * 1408 + b.val; omega

theorem block_3 (t : Fin cfg0.N) (a : Fin 1024) (b : Fin 1408) : (iblk m c 3 t (ix2 a b) : EReal) = (m ((c : Thread nD τ).loc main_arg1)) (ix2 (row t a) (col t b)) := by
  obtain ⟨h0, h1⟩ := index_2 t
  show ((cfg0.win 3).blk t).view.read (Elt Ideal) (V m c main_v3) (ix2 a b) = _
  rw [found_3, View.read_apply]
  refine congrArg (m ((c : Thread nD τ).loc main_arg1)) (funext fun d => Fin.ext ?_)
  match d with
  | ⟨0, _⟩ => show win0_2.index t 0 * 1024 + 1 * a.val = t.val / 2 * 1024 + a.val; omega
  | ⟨1, _⟩ => show win0_2.index t 1 * 1408 + 1 * b.val = t.val % 2 * 1408 + b.val; omega

theorem place_4 (t : Fin cfg0.N) (a : Fin 1024) (b : Fin 1408) : ((View.whole main_v4_0).slice (win0_4.rect t)).emb (ix2 a b) = ix2 (row t a) (col t b) := by
  obtain ⟨h0, h1⟩ := index_2 t
  refine funext fun d => Fin.ext ?_
  match d with
  | ⟨0, _⟩ => show win0_2.index t 0 * 1024 + 1 * a.val = t.val / 2 * 1024 + a.val; omega
  | ⟨1, _⟩ => show win0_2.index t 1 * 1408 + 1 * b.val = t.val % 2 * 1408 + b.val; omega

theorem place_5 (t : Fin cfg0.N) (a : Fin 1024) (b : Fin 1408) : ((View.whole main_v4_1).slice (win0_5.rect t)).emb (ix2 a b) = ix2 (row t a) (col t b) :=
  place_4 t a b

theorem acc (t : Fin cfg0.N) (a : Fin 1024) (b : Fin 1408) :
    k0_pay1 (iblk m c 0 t) (iblk m c 1 t) (ix2 a b) = hidden (m ((c : Thread nD τ).loc main_arg2)) (m ((c : Thread nD τ).loc main_arg3)) (ix2 (row t a) (col t b)) := by
  refine (acc_at _ _ a b).trans (Eq.trans (Finset.sum_congr rfl fun k _ => ?_) (hidden_at _ _ _ _).symm)
  rw [block_0, block_1]

/-- The two arrays that the call returns are the reference's gradients. -/
theorem value_gate (h : Cert.Pre_finite_gate.fn (F := Ideal) (m ((c : Thread nD τ).loc main_arg0)) (m ((c : Thread nD τ).loc main_arg1))
      (m ((c : Thread nD τ).loc main_arg2)) (m ((c : Thread nD τ).loc main_arg3)) = fun _ => 1#1) :
    (dats m 0 c).arrAt 4 cfg0.N = gradGate (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨a, b, rfl⟩ : ∃ (a : Fin 1024) (b : Fin 1408), y = ix2 a b := ⟨y 0, y 1, eq_ix2 y⟩
  rw [place_4]
  refine (gate_at _ _ _ _ _).trans (Eq.trans ?_ (gradGate_at _ _ _ _ _).symm)
  obtain ⟨r, hr⟩ := real_hidden _ _ _ _ h (row t a) (col t b)
  rw [acc, block_2, block_3, hr]
  exact slope r _

theorem value_up : (dats m 0 c).arrAt 5 cfg0.N = gradUp (m ((c : Thread nD τ).loc main_arg0))
      (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨a, b, rfl⟩ : ∃ (a : Fin 1024) (b : Fin 1408), y = ix2 a b := ⟨y 0, y 1, eq_ix2 y⟩
  rw [place_5]
  refine (up_at _ _ _ _).trans (Eq.trans ?_ (gradUp_at _ _ _ _).symm)
  rw [acc, block_2, mul_comm]

end Cert.Mlp.Gate

end
-- ==== Proof.MlpIn.lean ====
module

public import proofs.«01_k».proof.Proof.Gen.InIdeal.Value
public import proofs.«01_k».proof.Proof.Gen.InRefIdeal.Run
public import Idealize.ShloMosaic.Lib.Pipeline.ValueKit
public import Idealize.ShloMosaic.Lib.Pointwise

@[expose] public section

set_option maxRecDepth 16384

noncomputable section

/-!
# The gradient of the weights of the gate and of the value

The call adds up, over sixteen blocks of 1024 rows, the products of the transposed input with the cotangent. Together
the blocks are the reference's product over all the rows.
-/

namespace Cert.Mlp.In

open Cert.InIdeal Cert.InIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val % 16 ∧ win0_0.index t 1 = 0 := by decide +kernel
theorem index_1 : ∀ t : Fin cfg0.N, win0_1.index t 0 = t.val % 16 ∧ win0_1.index t 1 = t.val / 16 := by decide +kernel
theorem index_2 : ∀ t : Fin cfg0.N, win0_2.index t 0 = 0 ∧ win0_2.index t 1 = t.val / 16 := by decide +kernel

/-- The reference's product. -/
def product (x : FVec Ideal S16384x1024 .f32) (d : FVec Ideal S16384x2816 .f32) : FVec Ideal S1024x2816 .f32 :=
  transpose S1024x2816 [1, 0] (Host.dotGeneral (F := Ideal) Cert.InRefIdeal.dot_S16384x2816_S16384x1024_S2816x1024_0_0_1_1_n_n none d x)
    (by decide)

theorem product_at (x : FVec Ideal S16384x1024 .f32) (d : FVec Ideal S16384x2816 .f32) (i : Fin 1024) (j : Fin 2816) :
    product x d (ix2 i j) = ∑ k : Fin 16384, (x (ix2 k i) : EReal) * d (ix2 k j) := by
  unfold product
  pointwise
  exact Finset.sum_congr rfl fun k _ => mul_comm _ _

/-- One tile of the product at an index. -/
theorem tile_at (x : Vec Ideal S1024x1024 .bf16) (y : Vec Ideal S1024x1408 .bf16) (a : Fin 1024) (b : Fin 1408) :
    k0_pay1 x y (ix2 a b) = ∑ k : Fin 1024, (x (ix2 k a) : EReal) * y (ix2 k b) := by
  unfold k0_pay1
  pointwise

theorem step_at (x : Vec Ideal S1024x1024 .bf16) (y : Vec Ideal S1024x1408 .bf16) (z : Vec Ideal S1024x1408 .f32) (i : S1024x1408.Idx) :
    k0_pay2 x y z i = (z i : EReal) + k0_pay1 x y i := by
  unfold k0_pay2
  pointwise

/-- What the call finds in its two arguments: the input and the cotangent. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg2)) bitsLt_bf16_f32 : FVec Ideal S16384x2816 .bf16) := by
  simp only [V, hostOps0]
  after_results_simp <;> rfl

theorem points : cfg0.N = 32 := N_0

/-- Row `k` of the block of rows of a grid point. -/
def row (t : Fin cfg0.N) (k : Fin 1024) : Fin 16384 := ⟨t.val % 16 * 1024 + k.val, by omega⟩

/-- Column `b` of the block of columns of a grid point. -/
def col (t : Fin cfg0.N) (b : Fin 1408) : Fin 2816 := ⟨t.val / 16 * 1408 + b.val, by have := t.isLt; have := points; omega⟩

theorem block_0 (t : Fin cfg0.N) (k : Fin 1024) (a : Fin 1024) : (iblk m c 0 t (ix2 k a) : EReal) = (m ((c : Thread nD τ).loc main_arg0)) (ix2 (row t k) a) := by
  obtain ⟨h0, h1⟩ := index_0 t
  show ((cfg0.win 0).blk t).view.read (Elt Ideal) (V m c main_v0) (ix2 k a) = _
  rw [found_0, View.read_apply]
  refine congrArg (m ((c : Thread nD τ).loc main_arg0)) (funext fun d => Fin.ext ?_)
  match d with
  | ⟨0, _⟩ => show win0_0.index t 0 * 1024 + 1 * k.val = t.val % 16 * 1024 + k.val; omega
  | ⟨1, _⟩ => show win0_0.index t 1 * 1024 + 1 * a.val = a.val; omega

theorem block_1 (t : Fin cfg0.N) (k : Fin 1024) (b : Fin 1408) : (iblk m c 1 t (ix2 k b) : EReal) = (m ((c : Thread nD τ).loc main_arg2)) (ix2 (row t k) (col t b)) := by
  obtain ⟨h0, h1⟩ := index_1 t
  show ((cfg0.win 1).blk t).view.read (Elt Ideal) (V m c main_v1) (ix2 k b) = _
  rw [found_1, View.read_apply]
  refine congrArg (m ((c : Thread nD τ).loc main_arg2)) (funext fun d => Fin.ext ?_)
  match d with
  | ⟨0, _⟩ => show win0_1.index t 0 * 1024 + 1 * k.val = t.val % 16 * 1024 + k.val; omega
  | ⟨1, _⟩ => show win0_1.index t 1 * 1408 + 1 * b.val = t.val / 16 * 1408 + b.val; omega

theorem place_2 (t : Fin cfg0.N) (a : Fin 1024) (b : Fin 1408) : ((View.whole main_v2).slice (win0_2.rect t)).emb (ix2 a b) = ix2 a (col t b) := by
  obtain ⟨h0, h1⟩ := index_2 t
  refine funext fun d => Fin.ext ?_
  match d with
  | ⟨0, _⟩ => show win0_2.index t 0 * 1024 + 1 * a.val = a.val; omega
  | ⟨1, _⟩ => show win0_2.index t 1 * 1408 + 1 * b.val = t.val / 16 * 1408 + b.val; omega

/-- The sixteen points whose products are added up at a grid point. -/
def point (t : Fin cfg0.N) (s : Fin 16) : Fin cfg0.N := ⟨16 * (t.val / 16) + s.val, by have := t.isLt; have := points; omega⟩

theorem row_point (t : Fin cfg0.N) (s : Fin 16) (k : Fin 1024) (h : s.val * 1024 + k.val < 16384) : row (point t s) k = ⟨s.val * 1024 + k.val, h⟩ :=
  Fin.ext (by show (16 * (t.val / 16) + s.val) % 16 * 1024 + k.val = s.val * 1024 + k.val; omega)

theorem col_point (t : Fin cfg0.N) (s : Fin 16) (b : Fin 1408) : col (point t s) b = col t b :=
  Fin.ext (by show (16 * (t.val / 16) + s.val) / 16 * 1408 + b.val = t.val / 16 * 1408 + b.val; omega)

/-- The running sum at the last of its sixteen points. -/
theorem total (t : Fin cfg0.N) (ht : t.val % 16 = 15) (y : S1024x1408.Idx) :
    (outsAt0 m c t.val t.isLt y : EReal) = ∑ s : Fin 16, (k0_pay1 (F := Ideal) (iblk m c 0 (point t s)) (iblk m c 1 (point t s)) y : EReal) := by
  rw [Pipeline.eq_sum_fin_of_reset_step_apply_of_flush (M := EReal) (fun n h => outsAt0 m c n h) 16 (fun _ => 0)
    (fun t y => k0_pay1 (F := Ideal) (iblk m c 0 t) (iblk m c 1 t) y)
    (fun t h j => by rw [outsAt0_A m c t h (by omega)]; frame_out; exact (zero_add _).symm)
    (fun t h j => by rw [outsAt0_B m c t h (by omega)]; frame_out; rw [step_at]) t ht y]
  exact zero_add _

/-- The array that the call returns is the reference's product. -/
theorem value : (dats m 0 c).arrAt 2 cfg0.N = product (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2]
  obtain ⟨a, b, rfl⟩ : ∃ (a : Fin 1024) (b : Fin 1408), y = ix2 a b := ⟨y 0, y 1, eq_ix2 y⟩
  rw [place_2]
  refine (total m c t ht _).trans (Eq.trans (Finset.sum_congr rfl fun s _ => tile_at _ _ a b)
    ((Fin.sum_mul_add_congr fun s k hl => ?_).trans (product_at _ _ _ _).symm))
  rw [block_0, block_1, row_point t s k hl, col_point]

end Cert.Mlp.In

end
-- ==== Proof.MlpDown.lean ====
module

public import proofs.«01_k».proof.Proof.Gen.DownIdeal.Value
public import proofs.«01_k».proof.Proof.Gen.DownRefIdeal.Run
public import proofs.«01_k».proof.Proof.MlpReal
public import Idealize.ShloMosaic.Lib.Pipeline.ValueKit
public import Idealize.ShloMosaic.Lib.Pointwise

@[expose] public section

set_option maxRecDepth 16384

noncomputable section

/-!
# The gradient of the weights that lead out of the block

The call adds up, over sixteen blocks of 1024 rows, the products of the transposed activations with the cotangent, and
scales the sum by one half at the last block. The reference scales the cotangent first.
-/

namespace Cert.Mlp.Down

open Cert.DownIdeal Cert.DownIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val % 16 ∧ win0_0.index t 1 = t.val / 16 := by decide +kernel
theorem index_1 : ∀ t : Fin cfg0.N, win0_1.index t 0 = t.val % 16 ∧ win0_1.index t 1 = 0 := by decide +kernel
theorem index_2 : ∀ t : Fin cfg0.N, win0_2.index t 0 = t.val / 16 ∧ win0_2.index t 1 = 0 := by decide +kernel

/-- The reference's product. -/
def product (x : FVec Ideal S16384x2816 .f32) (d : FVec Ideal S16384x1024 .f32) : FVec Ideal S2816x1024 .f32 :=
  transpose S2816x1024 [1, 0] (Host.dotGeneral (F := Ideal) Cert.DownRefIdeal.dot_S16384x1024_S16384x2816_S1024x2816_0_0_1_1_n_n none
    (mulf (broadcastInDim S16384x1024 ![] (by decide) (constant (F := Ideal) Cert.DownRefIdeal.S_ .f32 0x3F000000#32)) d) x)
    (by decide)

theorem product_at (x : FVec Ideal S16384x2816 .f32) (d : FVec Ideal S16384x1024 .f32) (i : Fin 2816) (j : Fin 1024) :
    product x d (ix2 i j) = ∑ k : Fin 16384, (x (ix2 k i) : EReal) * (Ideal.ofBits .f32 0x3F000000#32 * d (ix2 k j)) := by
  unfold product
  pointwise
  exact Finset.sum_congr rfl fun k _ => mul_comm _ _

/-- One tile of the product at an index. -/
theorem tile_at (x : Vec Ideal S1024x1408 .bf16) (y : Vec Ideal S1024x1024 .f32) (a : Fin 1408) (b : Fin 1024) :
    k0_pay1 x y (ix2 a b) = ∑ k : Fin 1024, (x (ix2 k a) : EReal) * y (ix2 k b) := by
  unfold k0_pay1
  pointwise

theorem step_at (x : Vec Ideal S1024x1408 .bf16) (y : Vec Ideal S1024x1024 .f32) (z : Vec Ideal S1408x1024 .f32) (i : S1408x1024.Idx) :
    k0_pay2 x y z i = (z i : EReal) + k0_pay1 x y i := by
  unfold k0_pay2
  pointwise

theorem scaled_at (z : Vec Ideal S1408x1024 .f32) (i : S1408x1024.Idx) :
    k0_pay3 z i = (z i : EReal) * Ideal.ofBits .f32 0x3F000000#32 := by
  unfold k0_pay3
  pointwise

/-- What the call finds in its first argument: the activations. -/
theorem found_0 : V m c main_v0 = (truncf .bf16 (m ((c : Thread nD τ).loc main_arg0)) bitsLt_bf16_f32 : FVec Ideal S16384x2816 .bf16) := by
  simp only [V, hostOps0]
  after_results_simp <;> rfl

theorem points : cfg0.N = 32 := N_0

/-- Row `k` of the block of rows of a grid point. -/
def row (t : Fin cfg0.N) (k : Fin 1024) : Fin 16384 := ⟨t.val % 16 * 1024 + k.val, by omega⟩

/-- Row `a` of the block of the result of a grid point. -/
def out (t : Fin cfg0.N) (a : Fin 1408) : Fin 2816 := ⟨t.val / 16 * 1408 + a.val, by have := t.isLt; have := points; omega⟩

theorem block_0 (t : Fin cfg0.N) (k : Fin 1024) (a : Fin 1408) : (iblk m c 0 t (ix2 k a) : EReal) = (m ((c : Thread nD τ).loc main_arg0)) (ix2 (row t k) (out t a)) := by
  obtain ⟨h0, h1⟩ := index_0 t
  show ((cfg0.win 0).blk t).view.read (Elt Ideal) (V m c main_v0) (ix2 k a) = _
  rw [found_0, View.read_apply]
  refine congrArg (m ((c : Thread nD τ).loc main_arg0)) (funext fun d => Fin.ext ?_)
  match d with
  | ⟨0, _⟩ => show win0_0.index t 0 * 1024 + 1 * k.val = t.val % 16 * 1024 + k.val; omega
  | ⟨1, _⟩ => show win0_0.index t 1 * 1408 + 1 * a.val = t.val / 16 * 1408 + a.val; omega

theorem block_1 (t : Fin cfg0.N) (k : Fin 1024) (b : Fin 1024) : (iblk m c 1 t (ix2 k b) : EReal) = (m ((c : Thread nD τ).loc main_arg2)) (ix2 (row t k) b) := by
  obtain ⟨h0, h1⟩ := index_1 t
  show ((cfg0.win 1).blk t).view.read (Elt Ideal) (V m c main_arg2) (ix2 k b) = _
  rw [V_main_arg2, View.read_apply]
  refine congrArg (m ((c : Thread nD τ).loc main_arg2)) (funext fun d => Fin.ext ?_)
  match d with
  | ⟨0, _⟩ => show win0_1.index t 0 * 1024 + 1 * k.val = t.val % 16 * 1024 + k.val; omega
  | ⟨1, _⟩ => show win0_1.index t 1 * 1024 + 1 * b.val = b.val; omega

theorem place_2 (t : Fin cfg0.N) (a : Fin 1408) (b : Fin 1024) : ((View.whole main_v1).slice (win0_2.rect t)).emb (ix2 a b) = ix2 (out t a) b := by
  obtain ⟨h0, h1⟩ := index_2 t
  refine funext fun d => Fin.ext ?_
  match d with
  | ⟨0, _⟩ => show win0_2.index t 0 * 1408 + 1 * a.val = t.val / 16 * 1408 + a.val; omega
  | ⟨1, _⟩ => show win0_2.index t 1 * 1024 + 1 * b.val = b.val; omega

/-- The sixteen points whose products are added up at a grid point. -/
def point (t : Fin cfg0.N) (s : Fin 16) : Fin cfg0.N := ⟨16 * (t.val / 16) + s.val, by have := t.isLt; have := points; omega⟩

theorem row_point (t : Fin cfg0.N) (s : Fin 16) (k : Fin 1024) (h : s.val * 1024 + k.val < 16384) : row (point t s) k = ⟨s.val * 1024 + k.val, h⟩ :=
  Fin.ext (by show (16 * (t.val / 16) + s.val) % 16 * 1024 + k.val = s.val * 1024 + k.val; omega)

theorem out_point (t : Fin cfg0.N) (s : Fin 16) (a : Fin 1408) : out (point t s) a = out t a :=
  Fin.ext (by show (16 * (t.val / 16) + s.val) / 16 * 1408 + a.val = t.val / 16 * 1408 + a.val; omega)

/-- The product that a grid point adds. -/
def part (t : Fin cfg0.N) (y : S1408x1024.Idx) : EReal := k0_pay1 (F := Ideal) (iblk m c 0 t) (iblk m c 1 t) y

/-- The running sum after a grid point, before it is scaled. -/
def sum (n : Nat) (h : n < cfg0.N) (y : S1408x1024.Idx) : EReal :=
  if n % 16 = 15 then (outsAt0 m c (n - 1) (Nat.lt_of_le_of_lt (Nat.sub_le _ _) h) y : EReal) + part m c ⟨n, h⟩ y else outsAt0 m c n h y

theorem sum_first (t : Fin cfg0.N) (h : t.val % 16 = 0) (y : S1408x1024.Idx) : sum m c t.val t.isLt y = 0 + part m c t y := by
  unfold sum
  rw [if_neg (by omega), outsAt0_A m c t h (by omega) (by omega)]
  frame_out
  exact (zero_add _).symm

theorem sum_next (t : Fin cfg0.N) (h : ¬t.val % 16 = 0) (y : S1408x1024.Idx) :
    sum m c t.val t.isLt y = sum m c (t.val - 1) (Nat.lt_of_le_of_lt (Nat.sub_le _ _) t.isLt) y + part m c t y := by
  have e : sum m c (t.val - 1) (Nat.lt_of_le_of_lt (Nat.sub_le _ _) t.isLt) y = outsAt0 m c (t.val - 1) (Nat.lt_of_le_of_lt (Nat.sub_le _ _) t.isLt) y := if_neg (by omega)
  rw [e]
  unfold sum
  by_cases ht : t.val % 16 = 15
  · rw [if_pos ht]
  · rw [if_neg ht, outsAt0_B m c t h (by omega) ht]
    frame_out
    exact step_at _ _ _ y

/-- The sum that the last of the sixteen points scales. -/
theorem total (t : Fin cfg0.N) (ht : t.val % 16 = 15) (y : S1408x1024.Idx) : sum m c t.val t.isLt y = ∑ s : Fin 16, part m c (point t s) y := by
  rw [Pipeline.eq_sum_fin_of_reset_step_apply_of_flush (M := EReal) (fun n h => sum m c n h) 16 (fun _ => 0) (fun t y => part m c t y)
    (fun t h j => sum_first m c t h j) (fun t h j => sum_next m c t h j) t ht y]
  exact zero_add _

theorem last_at (t : Fin cfg0.N) (ht : t.val % 16 = 15) (y : S1408x1024.Idx) :
    (outsAt0 m c t.val t.isLt y : EReal) = sum m c t.val t.isLt y * Ideal.ofBits .f32 0x3F000000#32 := by
  unfold sum
  rw [if_pos ht, outsAt0_C m c t (by omega) (by omega) ht]
  frame_out
  refine (scaled_at _ y).trans (congrArg (· * Ideal.ofBits .f32 0x3F000000#32) ?_)
  exact step_at _ _ _ y

/-- The array that the call returns is the reference's product. -/
theorem value : (dats m 0 c).arrAt 2 cfg0.N = product (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2]
  obtain ⟨a, b, rfl⟩ : ∃ (a : Fin 1408) (b : Fin 1024), y = ix2 a b := ⟨y 0, y 1, eq_ix2 y⟩
  rw [place_2]
  refine (last_at m c t ht _).trans (Eq.trans ?_ (product_at _ _ _ _).symm)
  rw [← sum_half, total m c t ht]
  refine congrArg (· * Ideal.ofBits .f32 0x3F000000#32) ((Finset.sum_congr rfl fun s _ => tile_at _ _ a b).trans (Fin.sum_mul_add_congr fun s k hl => ?_))
  rw [block_0, block_1, row_point t s k hl, out_point]

end Cert.Mlp.Down

end
-- ==== Proof.MlpBack.lean ====
module

public import proofs.«01_k».proof.Proof.Gen.BackIdeal.Value
public import proofs.«01_k».proof.Proof.Gen.BackRefIdeal.Run
public import Idealize.ShloMosaic.Lib.Pipeline.ValueKit
public import Idealize.ShloMosaic.Lib.Pointwise

@[expose] public section

set_option maxRecDepth 16384

noncomputable section

/-!
# The gradient of a product with respect to its left factor

The call multiplies the blocks of 1024 rows of the cotangent by the transposed weights. Row by row that is the reference's
product over the hidden axis.
-/

namespace Cert.Mlp.Back

open Cert.BackIdeal Cert.BackIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

/-- The reference's product. -/
def product (x : FVec Ideal S16384x2816 .f32) (w : FVec Ideal S1024x2816 .f32) : FVec Ideal S16384x1024 .f32 :=
  Host.dotGeneral (F := Ideal) Cert.BackRefIdeal.dot_S16384x2816_S1024x2816_S16384x1024_1_1_0_0_n_n none x w

theorem product_at (x : FVec Ideal S16384x2816 .f32) (w : FVec Ideal S1024x2816 .f32) (i : Fin 16384) (j : Fin 1024) :
    product x w (ix2 i j) = ∑ k : Fin 2816, (x (ix2 i k) : EReal) * w (ix2 j k) := by
  unfold product
  pointwise

/-- One tile of the product at an index. -/
theorem tile_at (x : Vec Ideal S1024x2816 .bf16) (y : Vec Ideal S2816x1024 .bf16) (a : Fin 1024) (b : Fin 1024) :
    k0_pay1 x y (ix2 a b) = ∑ k : Fin 2816, (x (ix2 a k) : EReal) * y (ix2 k b) := by
  unfold k0_pay1
  pointwise

/-- The transposed weights at an index. -/
theorem turned_at (w : FVec Ideal S1024x2816 .f32) (k : Fin 2816) (b : Fin 1024) :
    ((truncf .bf16 (transpose S2816x1024 [1, 0] w transposes_S1024x2816_S2816x1024_1_0) bitsLt_bf16_f32 : FVec Ideal S2816x1024 .bf16) (ix2 k b) : EReal) = w (ix2 b k) := by
  pointwise

/-- What the call finds in its two arguments: the cotangent and the transposed weights. -/
theorem found_0 : V m c main_v0 = (truncf .bf16 (m ((c : Thread nD τ).loc main_arg2)) bitsLt_bf16_f32 : FVec Ideal S16384x2816 .bf16) := by
  simp only [V, hostOps0]
  after_results_simp <;> rfl

theorem found_1 : V m c main_v2 = (truncf .bf16 (transpose S2816x1024 [1, 0] (m ((c : Thread nD τ).loc main_arg1)) transposes_S1024x2816_S2816x1024_1_0) bitsLt_bf16_f32 : FVec Ideal S2816x1024 .bf16) := by
  simp only [V, hostOps0]
  after_results_simp <;> rfl

theorem points : cfg0.N = 16 := N_0

/-- Row `a` of the block of rows of a grid point. -/
def row (t : Fin cfg0.N) (a : Fin 1024) : Fin 16384 := ⟨t.val * 1024 + a.val, by have := t.isLt; have := points; omega⟩

theorem block_0 (t : Fin cfg0.N) (a : Fin 1024) (k : Fin 2816) : (iblk m c 0 t (ix2 a k) : EReal) = (m ((c : Thread nD τ).loc main_arg2)) (ix2 (row t a) k) := by
  obtain ⟨h0, h1⟩ := index_0 t
  show ((cfg0.win 0).blk t).view.read (Elt Ideal) (V m c main_v0) (ix2 a k) = _
  rw [found_0, View.read_apply]
  refine congrArg (m ((c : Thread nD τ).loc main_arg2)) (funext fun d => Fin.ext ?_)
  match d with
  | ⟨0, _⟩ => show win0_0.index t 0 * 1024 + 1 * a.val = t.val * 1024 + a.val; omega
  | ⟨1, _⟩ => show win0_0.index t 1 * 2816 + 1 * k.val = k.val; omega

theorem block_1 (t : Fin cfg0.N) (k : Fin 2816) (b : Fin 1024) : (iblk m c 1 t (ix2 k b) : EReal) = (m ((c : Thread nD τ).loc main_arg1)) (ix2 b k) := by
  obtain ⟨h0, h1⟩ := index_1 t
  show ((cfg0.win 1).blk t).view.read (Elt Ideal) (V m c main_v2) (ix2 k b) = _
  have e : ((cfg0.win 1).blk t).view.emb (ix2 k b) = ix2 k b := by
    refine funext fun d => Fin.ext ?_
    match d with
    | ⟨0, _⟩ => show win0_1.index t 0 * 2816 + 1 * k.val = k.val; omega
    | ⟨1, _⟩ => show win0_1.index t 1 * 1024 + 1 * b.val = b.val; omega
  rw [found_1, View.read_apply, e]
  exact turned_at _ k b

theorem place_2 (t : Fin cfg0.N) (a : Fin 1024) (b : Fin 1024) : ((View.whole main_v3).slice (win0_2.rect t)).emb (ix2 a b) = ix2 (row t a) b := by
  obtain ⟨h0, h1⟩ := index_2 t
  refine funext fun d => Fin.ext ?_
  match d with
  | ⟨0, _⟩ => show win0_2.index t 0 * 1024 + 1 * a.val = t.val * 1024 + a.val; omega
  | ⟨1, _⟩ => show win0_2.index t 1 * 1024 + 1 * b.val = b.val; omega

/-- The array that the call returns is the reference's product. -/
theorem value : (dats m 0 c).arrAt 2 cfg0.N = product (m ((c : Thread nD τ).loc main_arg2)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  rw [place_2]
  refine (tile_at _ _ a b).trans (Eq.trans (Finset.sum_congr rfl fun k _ => ?_) (product_at _ _ _ _).symm)
  rw [block_0, block_1]

end Cert.Mlp.Back

end
-- ==== Proof.MlpOpen.lean ====
module

public import proofs.«01_k».proof.Proof.Gen.OpenIdeal.Value
public import proofs.«01_k».proof.Proof.Gen.OpenRefIdeal.Run
public import Idealize.ShloMosaic.Lib.Pipeline.ValueKit
public import Idealize.ShloMosaic.Lib.Pointwise

@[expose] public section

set_option maxRecDepth 16384

noncomputable section

/-!
# The product of the gate

One of the two products into the feed-forward block. The call covers it by tiles, each a whole product over the width.
-/

namespace Cert.Mlp.Open

open Cert.OpenIdeal Cert.OpenIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val / 2 ∧ win0_0.index t 1 = 0 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

/-- The reference's product. -/
def product (x : FVec Ideal S16384x1024 .f32) (w : FVec Ideal S1024x2816 .f32) : FVec Ideal S16384x2816 .bf16 :=
  truncf .bf16 (Host.dotGeneral (F := Ideal) Cert.OpenRefIdeal.dot_S16384x1024_S1024x2816_S16384x2816_1_0_0_1_n_n none x w : FVec Ideal S16384x2816 .f32) bitsLt_bf16_f32

theorem product_at (x : FVec Ideal S16384x1024 .f32) (w : FVec Ideal S1024x2816 .f32) (i : Fin 16384) (j : Fin 2816) :
    product x w (ix2 i j) = ∑ k : Fin 1024, (x (ix2 i k) : EReal) * w (ix2 k j) := by
  unfold product
  pointwise

/-- One tile of the product at an index. -/
theorem tile_at (x : Vec Ideal S1024x1024 .bf16) (y : Vec Ideal S1024x1408 .bf16) (a : Fin 1024) (b : Fin 1408) :
    k0_pay1 x y (ix2 a b) = ∑ k : Fin 1024, (x (ix2 a k) : EReal) * y (ix2 k b) := by
  unfold k0_pay1
  pointwise

/-- What the call finds in its arguments. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg1)) bitsLt_bf16_f32 : FVec Ideal S1024x2816 .bf16) := by
  simp only [V, hostOps0]
  after_results_simp <;> rfl

theorem points : cfg0.N = 32 := N_0

/-- Row `a` and column `b` of the block of a grid point. -/
def row (t : Fin cfg0.N) (a : Fin 1024) : Fin 16384 := ⟨t.val / 2 * 1024 + a.val, by have := t.isLt; have := points; omega⟩
def col (t : Fin cfg0.N) (b : Fin 1408) : Fin 2816 := ⟨t.val % 2 * 1408 + b.val, by omega⟩

theorem block_0 (t : Fin cfg0.N) (a : Fin 1024) (k : Fin 1024) : (iblk m c 0 t (ix2 a k) : EReal) = (m ((c : Thread nD τ).loc main_arg0)) (ix2 (row t a) k) := by
  obtain ⟨h0, h1⟩ := index_0 t
  show ((cfg0.win 0).blk t).view.read (Elt Ideal) (V m c main_v0) (ix2 a k) = _
  rw [found_0, View.read_apply]
  refine congrArg (m ((c : Thread nD τ).loc main_arg0)) (funext fun d => Fin.ext ?_)
  match d with
  | ⟨0, _⟩ => show win0_0.index t 0 * 1024 + 1 * a.val = t.val / 2 * 1024 + a.val; omega
  | ⟨1, _⟩ => show win0_0.index t 1 * 1024 + 1 * k.val = k.val; omega

theorem block_1 (t : Fin cfg0.N) (k : Fin 1024) (b : Fin 1408) : (iblk m c 1 t (ix2 k b) : EReal) = (m ((c : Thread nD τ).loc main_arg1)) (ix2 k (col t b)) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 1024 + 1 * k.val = k.val; omega
  | ⟨1, _⟩ => show win0_1.index t 1 * 1408 + 1 * b.val = t.val % 2 * 1408 + b.val; omega

theorem place_2 (t : Fin cfg0.N) (a : Fin 1024) (b : Fin 1408) : ((View.whole main_v2).slice (win0_2.rect t)).emb (ix2 a b) = ix2 (row t a) (col t b) := by
  obtain ⟨h0, h1⟩ := index_2 t
  refine funext fun d => Fin.ext ?_
  match d with
  | ⟨0, _⟩ => show win0_2.index t 0 * 1024 + 1 * a.val = t.val / 2 * 1024 + a.val; omega
  | ⟨1, _⟩ => show win0_2.index t 1 * 1408 + 1 * b.val = t.val % 2 * 1408 + b.val; omega

/-- The array that the call returns is the reference's product. -/
theorem value : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1408), y = ix2 a b := ⟨y 0, y 1, eq_ix2 y⟩
  rw [place_2]
  refine (tile_at _ _ a b).trans (Eq.trans (Finset.sum_congr rfl fun k _ => ?_) (product_at _ _ _ _).symm)
  rw [block_0, block_1]

end Cert.Mlp.Open

end
-- ==== Proof.MlpUp.lean ====
module

public import proofs.«01_k».proof.Proof.Gen.UpIdeal.Value
public import proofs.«01_k».proof.Proof.Gen.UpRefIdeal.Run
public import proofs.«01_k».proof.Proof.MlpReal
public import Idealize.ShloMosaic.Lib.Pipeline.ValueKit
public import Idealize.ShloMosaic.Lib.Pointwise

@[expose] public section

set_option maxRecDepth 16384

noncomputable section

/-!
# The product of the value and the gating

The second product into the feed-forward block. Beside it the call returns the gated activations, silu of the gate times the product.
-/

namespace Cert.Mlp.Up

open Cert.UpIdeal Cert.UpIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val / 2 ∧ win0_0.index t 1 = 0 := by decide +kernel
theorem index_1 : ∀ t : Fin cfg0.N, win0_1.index t 0 = 0 ∧ win0_1.index t 1 = t.val % 2 := by decide +kernel
theorem index_2 : ∀ t : Fin cfg0.N, win0_2.index t 0 = t.val / 2 ∧ win0_2.index t 1 = t.val % 2 := by decide +kernel

/-- The reference's product. -/
def product (x : FVec Ideal S16384x1024 .f32) (w : FVec Ideal S1024x2816 .f32) : FVec Ideal S16384x2816 .bf16 :=
  truncf .bf16 (Host.dotGeneral (F := Ideal) Cert.UpRefIdeal.dot_S16384x1024_S1024x2816_S16384x2816_1_0_0_1_n_n none x w : FVec Ideal S16384x2816 .f32) bitsLt_bf16_f32

theorem product_at (x : FVec Ideal S16384x1024 .f32) (w : FVec Ideal S1024x2816 .f32) (i : Fin 16384) (j : Fin 2816) :
    product x w (ix2 i j) = ∑ k : Fin 1024, (x (ix2 i k) : EReal) * w (ix2 k j) := by
  unfold product
  pointwise

/-- One tile of the product at an index. -/
theorem tile_at (x : Vec Ideal S1024x1024 .bf16) (y : Vec Ideal S1024x1408 .bf16) (a : Fin 1024) (b : Fin 1408) :
    k0_pay1 x y (ix2 a b) = ∑ k : Fin 1024, (x (ix2 a k) : EReal) * y (ix2 k b) := by
  unfold k0_pay1
  pointwise

theorem tile_up (x : Vec Ideal S1024x1024 .bf16) (y : Vec Ideal S1024x1408 .bf16) (i : S1024x1408.Idx) :
    k0_pay2 x y i = (k0_pay1 x y i : EReal) := by
  unfold k0_pay2
  pointwise

theorem tile_act (x : Vec Ideal S1024x1024 .bf16) (y : Vec Ideal S1024x1408 .bf16) (p : Vec Ideal S1024x1408 .bf16) (i : S1024x1408.Idx) :
    k0_pay3 x y p i = (p i : EReal) * logistic (p i) * k0_pay1 x y i := by
  unfold k0_pay3
  generalize k0_pay1 x y = z
  pointwise
  rw [zero_sub, logistic]

/-- The reference's gated activations. -/
def activation (x : FVec Ideal S16384x1024 .f32) (w : FVec Ideal S1024x2816 .f32) (g : FVec Ideal S16384x2816 .f32) : FVec Ideal S16384x2816 .bf16 :=
  truncf .bf16 (mulf (mulf g (Host.divf (broadcastInDim S16384x2816 ![] (by decide) (constant Cert.UpRefIdeal.S_ .f32 0x3F800000#32))
    (addf (broadcastInDim S16384x2816 ![] (by decide) (constant Cert.UpRefIdeal.S_ .f32 0x3F800000#32)) (Host.exp (Host.negf g)))))
    (Host.dotGeneral (F := Ideal) Cert.UpRefIdeal.dot_S16384x1024_S1024x2816_S16384x2816_1_0_0_1_n_n none x w : FVec Ideal S16384x2816 .f32)) bitsLt_bf16_f32

theorem activation_at (x : FVec Ideal S16384x1024 .f32) (w : FVec Ideal S1024x2816 .f32) (g : FVec Ideal S16384x2816 .f32) (i : Fin 16384) (j : Fin 2816) :
    activation x w g (ix2 i j) = (g (ix2 i j) : EReal) * logistic (g (ix2 i j)) * product x w (ix2 i j) := by
  rw [product_at]
  unfold activation logistic
  pointwise

/-- What the call finds in its arguments. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg1)) bitsLt_bf16_f32 : FVec Ideal S1024x2816 .bf16) := by
  simp only [V, hostOps0]
  after_results_simp <;> rfl

theorem found_2 : V m c main_v2 = (truncf .bf16 (m ((c : Thread nD τ).loc main_arg2)) bitsLt_bf16_f32 : FVec Ideal S16384x2816 .bf16) := by
  simp only [V, hostOps0]
  after_results_simp <;> rfl

theorem points : cfg0.N = 32 := N_0

/-- Row `a` and column `b` of the block of a grid point. -/
def row (t : Fin cfg0.N) (a : Fin 1024) : Fin 16384 := ⟨t.val / 2 * 1024 + a.val, by have := t.isLt; have := points; omega⟩
def col (t : Fin cfg0.N) (b : Fin 1408) : Fin 2816 := ⟨t.val % 2 * 1408 + b.val, by omega⟩

theorem block_0 (t : Fin cfg0.N) (a : Fin 1024) (k : Fin 1024) : (iblk m c 0 t (ix2 a k) : EReal) = (m ((c : Thread nD τ).loc main_arg0)) (ix2 (row t a) k) := by
  obtain ⟨h0, h1⟩ := index_0 t
  show ((cfg0.win 0).blk t).view.read (Elt Ideal) (V m c main_v0) (ix2 a k) = _
  rw [found_0, View.read_apply]
  refine congrArg (m ((c : Thread nD τ).loc main_arg0)) (funext fun d => Fin.ext ?_)
  match d with
  | ⟨0, _⟩ => show win0_0.index t 0 * 1024 + 1 * a.val = t.val / 2 * 1024 + a.val; omega
  | ⟨1, _⟩ => show win0_0.index t 1 * 1024 + 1 * k.val = k.val; omega

theorem block_1 (t : Fin cfg0.N) (k : Fin 1024) (b : Fin 1408) : (iblk m c 1 t (ix2 k b) : EReal) = (m ((c : Thread nD τ).loc main_arg1)) (ix2 k (col t b)) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 1024 + 1 * k.val = k.val; omega
  | ⟨1, _⟩ => show win0_1.index t 1 * 1408 + 1 * b.val = t.val % 2 * 1408 + b.val; omega

theorem block_2 (t : Fin cfg0.N) (a : Fin 1024) (b : Fin 1408) : (iblk m c 2 t (ix2 a b) : EReal) = (m ((c : Thread nD τ).loc main_arg2)) (ix2 (row t a) (col t b)) := by
  obtain ⟨h0, h1⟩ := index_2 t
  show ((cfg0.win 2).blk t).view.read (Elt Ideal) (V m c main_v2) (ix2 a b) = _
  rw [found_2, View.read_apply]
  refine congrArg (m ((c : Thread nD τ).loc main_arg2)) (funext fun d => Fin.ext ?_)
  match d with
  | ⟨0, _⟩ => show win0_2.index t 0 * 1024 + 1 * a.val = t.val / 2 * 1024 + a.val; omega
  | ⟨1, _⟩ => show win0_2.index t 1 * 1408 + 1 * b.val = t.val % 2 * 1408 + b.val; omega

theorem place_3 (t : Fin cfg0.N) (a : Fin 1024) (b : Fin 1408) : ((View.whole main_v3_0).slice (win0_3.rect t)).emb (ix2 a b) = ix2 (row t a) (col t b) := by
  obtain ⟨h0, h1⟩ := index_2 t
  refine funext fun d => Fin.ext ?_
  match d with
  | ⟨0, _⟩ => show win0_2.index t 0 * 1024 + 1 * a.val = t.val / 2 * 1024 + a.val; omega
  | ⟨1, _⟩ => show win0_2.index t 1 * 1408 + 1 * b.val = t.val % 2 * 1408 + b.val; omega

theorem place_4 (t : Fin cfg0.N) (a : Fin 1024) (b : Fin 1408) : ((View.whole main_v3_1).slice (win0_4.rect t)).emb (ix2 a b) = ix2 (row t a) (col t b) :=
  place_3 t a b

theorem tile (t : Fin cfg0.N) (a : Fin 1024) (b : Fin 1408) :
    (k0_pay1 (F := Ideal) (iblk m c 0 t) (iblk m c 1 t) (ix2 a b) : EReal) = product (m ((c : Thread nD τ).loc main_arg0)) (m ((c : Thread nD τ).loc main_arg1)) (ix2 (row t a) (col t b)) := by
  refine (tile_at _ _ a b).trans (Eq.trans (Finset.sum_congr rfl fun k _ => ?_) (product_at _ _ _ _).symm)
  rw [block_0, block_1]

/-- The two arrays that the call returns are the reference's. -/
theorem value_up : (dats m 0 c).arrAt 3 cfg0.N = product (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨a, b, rfl⟩ : ∃ (a : Fin 1024) (b : Fin 1408), y = ix2 a b := ⟨y 0, y 1, eq_ix2 y⟩
  rw [place_3]
  exact (tile_up _ _ _).trans (tile m c t a b)

theorem value_act : (dats m 0 c).arrAt 4 cfg0.N = activation (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨a, b, rfl⟩ : ∃ (a : Fin 1024) (b : Fin 1408), y = ix2 a b := ⟨y 0, y 1, eq_ix2 y⟩
  rw [place_4]
  refine (tile_act _ _ _ _).trans (Eq.trans ?_ (activation_at _ _ _ _ _).symm)
  rw [tile, block_2]

end Cert.Mlp.Up

end
-- ==== Proof.MlpClose.lean ====
module

public import proofs.«01_k».proof.Proof.Gen.CloseIdeal.Value
public import proofs.«01_k».proof.Proof.Gen.CloseRefIdeal.Run
public import Idealize.ShloMosaic.Lib.Pipeline.ValueKit
public import Idealize.ShloMosaic.Lib.Pointwise

@[expose] public section

set_option maxRecDepth 16384

noncomputable section

/-!
# The product out of the feed-forward block

The call adds one half of the product to the block's input.
-/

namespace Cert.Mlp.Close

open Cert.CloseIdeal Cert.CloseIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

/-- The reference's output. -/
def output (x : FVec Ideal S16384x2816 .f32) (w : FVec Ideal S2816x1024 .f32) (r : FVec Ideal S16384x1024 .f32) : FVec Ideal S16384x1024 .f32 :=
  addf r (mulf (broadcastInDim S16384x1024 ![] (by decide) (constant Cert.CloseRefIdeal.S_ .f32 0x3F000000#32))
    (Host.dotGeneral (F := Ideal) Cert.CloseRefIdeal.dot_S16384x2816_S2816x1024_S16384x1024_1_0_0_1_n_n none x w))

theorem output_at (x : FVec Ideal S16384x2816 .f32) (w : FVec Ideal S2816x1024 .f32) (r : FVec Ideal S16384x1024 .f32) (i : Fin 16384) (j : Fin 1024) :
    output x w r (ix2 i j) = (r (ix2 i j) : EReal) + Ideal.ofBits .f32 0x3F000000#32 * ∑ k : Fin 2816, (x (ix2 i k) : EReal) * w (ix2 k j) := by
  unfold output
  pointwise

/-- One tile of the output at an index. -/
theorem tile_at (x : Vec Ideal S512x2816 .bf16) (y : Vec Ideal S2816x1024 .bf16) (z : Vec Ideal S512x1024 .f32) (a : Fin 512) (b : Fin 1024) :
    k0_pay1 x y z (ix2 a b) = (z (ix2 a b) : EReal) + Ideal.ofBits .f32 0x3F000000#32 * ∑ k : Fin 2816, (x (ix2 a k) : EReal) * y (ix2 k b) := by
  unfold k0_pay1
  pointwise
  rw [mul_comm]

/-- What the call finds in its arguments. -/
theorem found_0 : V m c main_v0 = (truncf .bf16 (m ((c : Thread nD τ).loc main_arg0)) bitsLt_bf16_f32 : FVec Ideal S16384x2816 .bf16) := by
  simp only [V, hostOps0]
  after_results_simp <;> rfl

theorem found_1 : V m c main_v1 = (truncf .bf16 (m ((c : Thread nD τ).loc main_arg1)) bitsLt_bf16_f32 : FVec Ideal S2816x1024 .bf16) := by
  simp only [V, hostOps0]
  after_results_simp <;> rfl

theorem points : cfg0.N = 32 := N_0

/-- Row `a` of the block of rows of a grid point. -/
def row (t : Fin cfg0.N) (a : Fin 512) : Fin 16384 := ⟨t.val * 512 + a.val, by have := t.isLt; have := points; omega⟩

theorem block_0 (t : Fin cfg0.N) (a : Fin 512) (k : Fin 2816) : (iblk m c 0 t (ix2 a k) : EReal) = (m ((c : Thread nD τ).loc main_arg0)) (ix2 (row t a) k) := by
  obtain ⟨h0, h1⟩ := index_0 t
  show ((cfg0.win 0).blk t).view.read (Elt Ideal) (V m c main_v0) (ix2 a k) = _
  rw [found_0, View.read_apply]
  refine congrArg (m ((c : Thread nD τ).loc main_arg0)) (funext fun d => Fin.ext ?_)
  match d with
  | ⟨0, _⟩ => show win0_0.index t 0 * 512 + 1 * a.val = t.val * 512 + a.val; omega
  | ⟨1, _⟩ => show win0_0.index t 1 * 2816 + 1 * k.val = k.val; omega

theorem block_1 (t : Fin cfg0.N) (k : Fin 2816) (b : Fin 1024) : (iblk m c 1 t (ix2 k b) : EReal) = (m ((c : Thread nD τ).loc main_arg1)) (ix2 k b) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 2816 + 1 * k.val = k.val; omega
  | ⟨1, _⟩ => show win0_1.index t 1 * 1024 + 1 * b.val = b.val; omega

theorem block_2 (t : Fin cfg0.N) (a : Fin 512) (b : Fin 1024) : (iblk m c 2 t (ix2 a b) : EReal) = (m ((c : Thread nD τ).loc main_arg2)) (ix2 (row t a) b) := by
  obtain ⟨h0, h1⟩ := index_2 t
  show ((cfg0.win 2).blk t).view.read (Elt Ideal) (V m c main_arg2) (ix2 a b) = _
  rw [V_main_arg2, View.read_apply]
  refine congrArg (m ((c : Thread nD τ).loc main_arg2)) (funext fun d => Fin.ext ?_)
  match d with
  | ⟨0, _⟩ => show win0_2.index t 0 * 512 + 1 * a.val = t.val * 512 + a.val; omega
  | ⟨1, _⟩ => show win0_2.index t 1 * 1024 + 1 * b.val = b.val; omega

theorem place_3 (t : Fin cfg0.N) (a : Fin 512) (b : Fin 1024) : ((View.whole main_v2).slice (win0_3.rect t)).emb (ix2 a b) = ix2 (row t a) b := by
  obtain ⟨h0, h1⟩ := index_2 t
  refine funext fun d => Fin.ext ?_
  match d with
  | ⟨0, _⟩ => show win0_2.index t 0 * 512 + 1 * a.val = t.val * 512 + a.val; omega
  | ⟨1, _⟩ => show win0_2.index t 1 * 1024 + 1 * b.val = b.val; omega

/-- The array that the call returns is the reference's output. -/
theorem value : (dats m 0 c).arrAt 3 cfg0.N = output (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨a, b, rfl⟩ : ∃ (a : Fin 512) (b : Fin 1024), y = ix2 a b := ⟨y 0, y 1, eq_ix2 y⟩
  rw [place_3]
  refine (tile_at _ _ _ a b).trans (Eq.trans ?_ (output_at _ _ _ _ _).symm)
  rw [block_2]
  refine congrArg (fun z : EReal => _ + _ * z) (Finset.sum_congr rfl fun k _ => ?_)
  rw [block_0, block_1]

end Cert.Mlp.Close

end
-- ==== Proof.MixProj.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise

@[expose] public section

set_option maxRecDepth 16384

noncomputable section

/-!
# The projection into the mixers

The call covers the product by tiles, each a whole product over the width.
-/

namespace Cert.Mix.Proj

open Cert.ProjIdeal Cert.ProjIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val / 5 ∧ win0_0.index t 1 = 0 := by decide +kernel
theorem index_1 : ∀ t : Fin cfg0.N, win0_1.index t 0 = 0 ∧ win0_1.index t 1 = t.val % 5 := by decide +kernel
theorem index_2 : ∀ t : Fin cfg0.N, win0_2.index t 0 = t.val / 5 ∧ win0_2.index t 1 = t.val % 5 := by decide +kernel

/-- The reference's product. -/
def product (x : FVec Ideal S16384x1024 .f32) (w : FVec Ideal S1024x7680 .f32) : FVec Ideal S16384x7680 .f32 :=
  Host.dotGeneral (F := Ideal) Cert.ProjRefIdeal.dot_S16384x1024_S1024x7680_S16384x7680_1_0_0_1_n_n none x w

theorem product_at (x : FVec Ideal S16384x1024 .f32) (w : FVec Ideal S1024x7680 .f32) (i : Fin 16384) (j : Fin 7680) :
    product x w (ix2 i j) = ∑ k : Fin 1024, (x (ix2 i k) : EReal) * w (ix2 k j) := by
  unfold product
  pointwise

/-- One tile of the product at an index. -/
theorem tile_at (x : Vec Ideal S1024x1024 .bf16) (y : Vec Ideal S1024x1536 .bf16) (a : Fin 1024) (b : Fin 1536) :
    k0_pay1 x y (ix2 a b) = ∑ k : Fin 1024, (x (ix2 a k) : EReal) * y (ix2 k b) := by
  unfold k0_pay1
  pointwise

/-- What the call finds in its arguments. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg1)) bitsLt_bf16_f32 : FVec Ideal S1024x7680 .bf16) := by
  simp only [V, hostOps0]
  after_results_simp <;> rfl

theorem points : cfg0.N = 80 := N_0

/-- Row `a` and column `b` of the block of a grid point. -/
def row (t : Fin cfg0.N) (a : Fin 1024) : Fin 16384 := ⟨t.val / 5 * 1024 + a.val, by have := t.isLt; have := points; omega⟩
def col (t : Fin cfg0.N) (b : Fin 1536) : Fin 7680 := ⟨t.val % 5 * 1536 + b.val, by omega⟩

theorem block_0 (t : Fin cfg0.N) (a : Fin 1024) (k : Fin 1024) : (iblk m c 0 t (ix2 a k) : EReal) = (m ((c : Thread nD τ).loc main_arg0)) (ix2 (row t a) k) := by
  obtain ⟨h0, h1⟩ := index_0 t
  show ((cfg0.win 0).blk t).view.read (Elt Ideal) (V m c main_v0) (ix2 a k) = _
  rw [found_0, View.read_apply]
  refine congrArg (m ((c : Thread nD τ).loc main_arg0)) (funext fun d => Fin.ext ?_)
  match d with
  | ⟨0, _⟩ => show win0_0.index t 0 * 1024 + 1 * a.val = t.val / 5 * 1024 + a.val; omega
  | ⟨1, _⟩ => show win0_0.index t 1 * 1024 + 1 * k.val = k.val; omega

theorem block_1 (t : Fin cfg0.N) (k : Fin 1024) (b : Fin 1536) : (iblk m c 1 t (ix2 k b) : EReal) = (m ((c : Thread nD τ).loc main_arg1)) (ix2 k (col t b)) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 1024 + 1 * k.val = k.val; omega
  | ⟨1, _⟩ => show win0_1.index t 1 * 1536 + 1 * b.val = t.val % 5 * 1536 + b.val; omega

theorem place_2 (t : Fin cfg0.N) (a : Fin 1024) (b : Fin 1536) : ((View.whole main_v2).slice (win0_2.rect t)).emb (ix2 a b) = ix2 (row t a) (col t b) := by
  obtain ⟨h0, h1⟩ := index_2 t
  refine funext fun d => Fin.ext ?_
  match d with
  | ⟨0, _⟩ => show win0_2.index t 0 * 1024 + 1 * a.val = t.val / 5 * 1024 + a.val; omega
  | ⟨1, _⟩ => show win0_2.index t 1 * 1536 + 1 * b.val = t.val % 5 * 1536 + b.val; omega

/-- The array that the call returns is the reference's product. -/
theorem value : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1536), y = ix2 a b := ⟨y 0, y 1, eq_ix2 y⟩
  rw [place_2]
  refine (tile_at _ _ a b).trans (Eq.trans (Finset.sum_congr rfl fun k _ => ?_) (product_at _ _ _ _).symm)
  rw [block_0, block_1]

end Cert.Mix.Proj

end
-- ==== Proof.MixProjGrad.lean ====
module

public import proofs.«01_k».proof.Proof.Gen.ProjGradIdeal.Value
public import proofs.«01_k».proof.Proof.Gen.ProjGradRefIdeal.Run
public import Idealize.ShloMosaic.Lib.Pipeline.ValueKit
public import Idealize.ShloMosaic.Lib.Pointwise

@[expose] public section

set_option maxRecDepth 16384

noncomputable section

/-!
# The gradient of the weights of the mixers' projection

The call adds up, over sixteen blocks of 1024 rows, the products of the transposed input with the cotangent. Together
the blocks are the reference's product over all the rows.
-/

namespace Cert.Mix.ProjGrad

open Cert.ProjGradIdeal Cert.ProjGradIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val % 16 ∧ win0_0.index t 1 = 0 := by decide +kernel
theorem index_1 : ∀ t : Fin cfg0.N, win0_1.index t 0 = t.val % 16 ∧ win0_1.index t 1 = t.val / 16 := by decide +kernel
theorem index_2 : ∀ t : Fin cfg0.N, win0_2.index t 0 = 0 ∧ win0_2.index t 1 = t.val / 16 := by decide +kernel

/-- The reference's product. -/
def product (x : FVec Ideal S16384x1024 .f32) (d : FVec Ideal S16384x7680 .f32) : FVec Ideal S1024x7680 .f32 :=
  transpose S1024x7680 [1, 0] (Host.dotGeneral (F := Ideal) Cert.ProjGradRefIdeal.dot_S16384x7680_S16384x1024_S7680x1024_0_0_1_1_n_n none d x)
    (by decide)

theorem product_at (x : FVec Ideal S16384x1024 .f32) (d : FVec Ideal S16384x7680 .f32) (i : Fin 1024) (j : Fin 7680) :
    product x d (ix2 i j) = ∑ k : Fin 16384, (x (ix2 k i) : EReal) * d (ix2 k j) := by
  unfold product
  pointwise
  exact Finset.sum_congr rfl fun k _ => mul_comm _ _

/-- One tile of the product at an index. -/
theorem tile_at (x : Vec Ideal S1024x1024 .bf16) (y : Vec Ideal S1024x1536 .bf16) (a : Fin 1024) (b : Fin 1536) :
    k0_pay1 x y (ix2 a b) = ∑ k : Fin 1024, (x (ix2 k a) : EReal) * y (ix2 k b) := by
  unfold k0_pay1
  pointwise

theorem step_at (x : Vec Ideal S1024x1024 .bf16) (y : Vec Ideal S1024x1536 .bf16) (z : Vec Ideal S1024x1536 .f32) (i : S1024x1536.Idx) :
    k0_pay2 x y z i = (z i : EReal) + k0_pay1 x y i := by
  unfold k0_pay2
  pointwise

/-- What the call finds in its two arguments: the input and the cotangent. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg2)) bitsLt_bf16_f32 : FVec Ideal S16384x7680 .bf16) := by
  simp only [V, hostOps0]
  after_results_simp <;> rfl

theorem points : cfg0.N = 80 := N_0

/-- Row `k` of the block of rows of a grid point. -/
def row (t : Fin cfg0.N) (k : Fin 1024) : Fin 16384 := ⟨t.val % 16 * 1024 + k.val, by omega⟩

/-- Column `b` of the block of columns of a grid point. -/
def col (t : Fin cfg0.N) (b : Fin 1536) : Fin 7680 := ⟨t.val / 16 * 1536 + b.val, by have := t.isLt; have := points; omega⟩

theorem block_0 (t : Fin cfg0.N) (k : Fin 1024) (a : Fin 1024) : (iblk m c 0 t (ix2 k a) : EReal) = (m ((c : Thread nD τ).loc main_arg0)) (ix2 (row t k) a) := by
  obtain ⟨h0, h1⟩ := index_0 t
  show ((cfg0.win 0).blk t).view.read (Elt Ideal) (V m c main_v0) (ix2 k a) = _
  rw [found_0, View.read_apply]
  refine congrArg (m ((c : Thread nD τ).loc main_arg0)) (funext fun d => Fin.ext ?_)
  match d with
  | ⟨0, _⟩ => show win0_0.index t 0 * 1024 + 1 * k.val = t.val % 16 * 1024 + k.val; omega
  | ⟨1, _⟩ => show win0_0.index t 1 * 1024 + 1 * a.val = a.val; omega

theorem block_1 (t : Fin cfg0.N) (k : Fin 1024) (b : Fin 1536) : (iblk m c 1 t (ix2 k b) : EReal) = (m ((c : Thread nD τ).loc main_arg2)) (ix2 (row t k) (col t b)) := by
  obtain ⟨h0, h1⟩ := index_1 t
  show ((cfg0.win 1).blk t).view.read (Elt Ideal) (V m c main_v1) (ix2 k b) = _
  rw [found_1, View.read_apply]
  refine congrArg (m ((c : Thread nD τ).loc main_arg2)) (funext fun d => Fin.ext ?_)
  match d with
  | ⟨0, _⟩ => show win0_1.index t 0 * 1024 + 1 * k.val = t.val % 16 * 1024 + k.val; omega
  | ⟨1, _⟩ => show win0_1.index t 1 * 1536 + 1 * b.val = t.val / 16 * 1536 + b.val; omega

theorem place_2 (t : Fin cfg0.N) (a : Fin 1024) (b : Fin 1536) : ((View.whole main_v2).slice (win0_2.rect t)).emb (ix2 a b) = ix2 a (col t b) := by
  obtain ⟨h0, h1⟩ := index_2 t
  refine funext fun d => Fin.ext ?_
  match d with
  | ⟨0, _⟩ => show win0_2.index t 0 * 1024 + 1 * a.val = a.val; omega
  | ⟨1, _⟩ => show win0_2.index t 1 * 1536 + 1 * b.val = t.val / 16 * 1536 + b.val; omega

/-- The sixteen points whose products are added up at a grid point. -/
def point (t : Fin cfg0.N) (s : Fin 16) : Fin cfg0.N := ⟨16 * (t.val / 16) + s.val, by have := t.isLt; have := points; omega⟩

theorem row_point (t : Fin cfg0.N) (s : Fin 16) (k : Fin 1024) (h : s.val * 1024 + k.val < 16384) : row (point t s) k = ⟨s.val * 1024 + k.val, h⟩ :=
  Fin.ext (by show (16 * (t.val / 16) + s.val) % 16 * 1024 + k.val = s.val * 1024 + k.val; omega)

theorem col_point (t : Fin cfg0.N) (s : Fin 16) (b : Fin 1536) : col (point t s) b = col t b :=
  Fin.ext (by show (16 * (t.val / 16) + s.val) / 16 * 1536 + b.val = t.val / 16 * 1536 + b.val; omega)

/-- The running sum at the last of its sixteen points. -/
theorem total (t : Fin cfg0.N) (ht : t.val % 16 = 15) (y : S1024x1536.Idx) :
    (outsAt0 m c t.val t.isLt y : EReal) = ∑ s : Fin 16, (k0_pay1 (F := Ideal) (iblk m c 0 (point t s)) (iblk m c 1 (point t s)) y : EReal) := by
  rw [Pipeline.eq_sum_fin_of_reset_step_apply_of_flush (M := EReal) (fun n h => outsAt0 m c n h) 16 (fun _ => 0)
    (fun t y => k0_pay1 (F := Ideal) (iblk m c 0 t) (iblk m c 1 t) y)
    (fun t h j => by rw [outsAt0_A m c t h (by omega)]; frame_out; exact (zero_add _).symm)
    (fun t h j => by rw [outsAt0_B m c t h (by omega)]; frame_out; rw [step_at]) t ht y]
  exact zero_add _

/-- The array that the call returns is the reference's product. -/
theorem value : (dats m 0 c).arrAt 2 cfg0.N = product (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2]
  obtain ⟨a, b, rfl⟩ : ∃ (a : Fin 1024) (b : Fin 1536), y = ix2 a b := ⟨y 0, y 1, eq_ix2 y⟩
  rw [place_2]
  refine (total m c t ht _).trans (Eq.trans (Finset.sum_congr rfl fun s _ => tile_at _ _ a b)
    ((Fin.sum_mul_add_congr fun s k hl => ?_).trans (product_at _ _ _ _).symm))
  rw [block_0, block_1, row_point t s k hl, col_point]

end Cert.Mix.ProjGrad

end
-- ==== Proof.MlpNormReal.lean ====
module

public import proofs.«01_k».proof.Proof.MlpReal

@[expose] public section

noncomputable section

/-!
# One row of the gradient of a root-mean-square norm

The norm divides a row `x` by the root of its mean square and multiplies it by a gain `g`. With `z` the cotangent of the result
and `c` a cotangent that goes past the norm, the kernel's formula has the mean of `g z` times the normalised row; the chain rule
goes through the derivative of the root, and through both factors of the square. The two are the same.
-/

namespace Cert.Mlp.Norm

open Idealize.ShloMosaic

variable (x g z : Fin 1024 → EReal) (c : EReal) (b : Fin 1024)

/-- The row's mean square with the constant added, and the inverse of its root. -/
def meanSquare : EReal := Ideal.div (∑ k, x k * x k) (Ideal.ofBits .f32 0x44800000#32) + Ideal.ofBits .f32 0x358637BD#32
def inverseRoot : EReal := Ideal.rsqrt (meanSquare x)

/-- The kernel's formula. -/
def fused : EReal :=
  c + inverseRoot x * (z b * g b - x b * inverseRoot x * Ideal.div (∑ k, z k * g k * (x k * inverseRoot x)) (Ideal.ofBits .f32 0x44800000#32))

/-- The part of the chain rule that goes through the mean square, for one of the two factors of the square. -/
def through : EReal :=
  Ideal.div ((∑ k, x k * (z k * g k)) * (Ideal.ofBits .f32 0xBF000000#32 * Ideal.div (inverseRoot x) (meanSquare x))) (Ideal.ofBits .f32 0x44800000#32)

/-- The chain rule's formula. -/
def chained : EReal := c + z b * g b * inverseRoot x + x b * through x g z + through x g z * x b

theorem width_f32 : Ideal.ofBits .f32 0x44800000#32 = ((1024 : ℝ) : EReal) := by
  simp [Ideal.ofBits, Ideal.ieee, -EReal.coe_mul]; norm_num

theorem minus_half_f32 : Ideal.ofBits .f32 0xBF000000#32 = ((-(1 / 2) : ℝ) : EReal) := by
  simp [Ideal.ofBits, Ideal.ieee, -EReal.coe_mul]; norm_num

theorem small_f32 : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A mean square is infinite or a positive real number. -/
theorem meanSquare_cases : meanSquare x = ⊤ ∨ ∃ v : ℝ, 0 < v ∧ meanSquare x = (v : EReal) := by
  obtain ⟨e, he, hb⟩ := small_f32
  have hx : (0 : EReal) ≤ ∑ k, x k * x k := Finset.sum_nonneg fun k _ => by
    rcases le_total 0 (x k) with h | h
    · exact mul_nonneg h h
    · have h' : 0 ≤ -x k := by simpa using h
      simpa only [neg_mul, mul_neg, neg_neg] using mul_nonneg h' h'
  have hm : (e : EReal) ≤ meanSquare x := by
    unfold meanSquare
    rw [hb, width_f32, Ideal.div, if_neg (by exact_mod_cast (by norm_num : (1024 : ℝ) ≠ 0)), ← EReal.coe_inv]
    have h : (0 : EReal) ≤ ((1024⁻¹ : ℝ) : EReal) := by exact_mod_cast (by norm_num : (0 : ℝ) ≤ 1024⁻¹)
    exact le_add_of_nonneg_left (mul_nonneg hx h)
  revert hm
  induction meanSquare x with
  | bot => exact fun hm => absurd (le_bot_iff.mp hm) (EReal.coe_ne_bot e)
  | top => exact fun _ => Or.inl rfl
  | coe v => exact fun hm => Or.inr ⟨v, he.trans_le (by exact_mod_cast hm), rfl⟩

/-- Division by a real number other than zero. -/
theorem div_real (a : EReal) {y : ℝ} (h : y ≠ 0) : Ideal.div a (y : EReal) = a * ((y⁻¹ : ℝ) : EReal) := by
  rw [Ideal.div, if_neg (by exact_mod_cast h), EReal.coe_inv]

/-- The kernel's formula is the chain rule's, whatever the rows are: a positive real factor goes through the sums, and where the mean
square is infinite its inverse root is zero. -/
theorem agree : fused x g z c b = chained x g z c b := by
  unfold fused chained through inverseRoot
  rw [width_f32, minus_half_f32]
  simp only [div_real _ (show (1024 : ℝ) ≠ 0 by norm_num)]
  rcases meanSquare_cases x with hm | ⟨v, hv, hm⟩
  · rw [hm, Ideal.rsqrt_top, Ideal.div, if_neg EReal.top_ne_zero]
    simp only [zero_mul, mul_zero, add_zero]
  · rw [hm, Ideal.rsqrt_coe, if_neg (not_lt.mpr hv.le), if_neg hv.ne', div_real _ hv.ne']
    have hr : 0 < (Real.sqrt v)⁻¹ := inv_pos.mpr (Real.sqrt_pos.mpr hv)
    have hs : v⁻¹ = (Real.sqrt v)⁻¹ * (Real.sqrt v)⁻¹ := by rw [← mul_inv, Real.mul_self_sqrt hv.le]
    rw [hs]
    generalize (Real.sqrt v)⁻¹ = r at hr
    have hsum : (∑ k, z k * g k * (x k * (r : EReal))) = (r : EReal) * ∑ k, x k * (z k * g k) := by
      rw [mul_sum_real _ _ _ hr.le]
      exact Finset.sum_congr rfl fun k _ => by ac_rfl
    rw [hsum]
    generalize (∑ k, x k * (z k * g k)) = s
    have hp : (0 : EReal) ≤ ((r * r * r * 1024⁻¹ / 2 : ℝ) : EReal) := by exact_mod_cast (by positivity : 0 ≤ r * r * r * 1024⁻¹ / 2)
    have hl : (r : EReal) * -(x b * r * (r * s * ((1024⁻¹ : ℝ) : EReal)))
        = -(x b * s) * ((r * r * r * 1024⁻¹ / 2 : ℝ) : EReal) + -(x b * s) * ((r * r * r * 1024⁻¹ / 2 : ℝ) : EReal) := by
      rw [← EReal.left_distrib_of_nonneg hp hp, ← EReal.coe_add, add_halves, mul_neg, neg_mul]
      simp only [EReal.coe_mul]
      exact congrArg Neg.neg (by ac_rfl)
    have ht : s * (((-(1 / 2) : ℝ) : EReal) * (r * ((r * r : ℝ) : EReal))) * ((1024⁻¹ : ℝ) : EReal) = -(s * ((r * r * r * 1024⁻¹ / 2 : ℝ) : EReal)) := by
      rw [← EReal.coe_mul, ← EReal.coe_mul, mul_assoc, ← EReal.coe_mul, ← mul_neg, ← EReal.coe_neg]
      exact congrArg (fun q : ℝ => s * (q : EReal)) (by ring)
    have hx : x b * -(s * ((r * r * r * 1024⁻¹ / 2 : ℝ) : EReal)) = -(x b * s) * ((r * r * r * 1024⁻¹ / 2 : ℝ) : EReal) := by
      rw [mul_neg, ← mul_assoc, neg_mul]
    rw [ht, sub_eq_add_neg, EReal.left_distrib_of_nonneg_of_ne_top (by exact_mod_cast hr.le) (EReal.coe_ne_top r), hl,
      mul_comm _ (x b), hx, mul_comm (r : EReal) (z b * g b)]
    simp only [add_assoc]

end Cert.Mlp.Norm

end
-- ==== Proof.MlpNorm.lean ====
module

public import proofs.«01_k».proof.Proof.Gen.NormIdeal.Value
public import proofs.«01_k».proof.Proof.Gen.NormRefIdeal.Run
public import proofs.«01_k».proof.Proof.MlpNormReal
public import Idealize.ShloMosaic.Lib.Pipeline.ValueKit
public import Idealize.ShloMosaic.Lib.Pointwise

@[expose] public section

set_option maxRecDepth 16384

noncomputable section

/-!
# The gradient through the norm of the feed-forward block

The call multiplies the cotangent of the value's product by the transposed weights, adds the cotangent of the normalised input that
came through the gate, and goes through the norm row by row. The rows of a tile are whole, so each row is the reference's.
-/

namespace Cert.Mlp.Norm

open Cert.NormIdeal Cert.NormIdeal.Gen
open Idealize.ShloMosaic Idealize.ShloMosaic.TcCoe

variable (x z d : FVec Ideal S16384x1024 .f32) (g : FVec Ideal S1024 .f32)

/-- The reference's gain, repeated over the rows. -/
def gain : FVec Ideal S16384x1024 .f32 := broadcastInDim S16384x1024 ![0, 1] (by decide) (broadcastInDim S1x1024 ![1] (by decide) g)

theorem gain_at (i : Fin 16384) (j : Fin 1024) : gain g (ix2 i j) = (g (ix1 j) : EReal) := by
  unfold gain
  pointwise

/-- The reference's mean squares of the rows, with the constant added. -/
def squares : FVec Ideal Cert.NormRefIdeal.S16384x1 .f32 :=
  addf (Host.divf (broadcastInDim Cert.NormRefIdeal.S16384x1 ![0] Cert.NormRefIdeal.Gen.bcast_S16384_S16384x1_0
    (Host.reduceAdd (mulf x x) (constant Cert.NormRefIdeal.S_ .f32 0x00000000#32) Cert.NormRefIdeal.Gen.reducesTo_S16384x1024_S16384_d1 Cert.NormRefIdeal.Gen.h_S_))
    (broadcastInDim Cert.NormRefIdeal.S16384x1 ![] Cert.NormRefIdeal.Gen.bcast_S_S16384x1 (constant Cert.NormRefIdeal.S_ .f32 0x44800000#32)))
    (broadcastInDim Cert.NormRefIdeal.S16384x1 ![] Cert.NormRefIdeal.Gen.bcast_S_S16384x1 (constant Cert.NormRefIdeal.S_ .f32 0x358637BD#32))

theorem squares_at (i : Fin 16384) (o : Fin 1) : squares x (ix2 i o) = meanSquare fun k => x (ix2 i k) := by
  unfold squares meanSquare
  pointwise

/-- The reference's sums through the mean squares. -/
def sums : FVec Ideal Cert.NormRefIdeal.S16384 .f32 :=
  Host.reduceAdd (Host.divf (mulf (shapeCast _ (Host.reduceAdd (mulf x (mulf z (gain g))) (constant Cert.NormRefIdeal.S_ .f32 0x00000000#32)
      Cert.NormRefIdeal.Gen.reducesTo_S16384x1024_S16384_d1 Cert.NormRefIdeal.Gen.h_S_) Cert.NormRefIdeal.Gen.shapeCasts_S16384_S16384x1)
    (mulf (broadcastInDim Cert.NormRefIdeal.S16384x1 ![] Cert.NormRefIdeal.Gen.bcast_S_S16384x1 (constant Cert.NormRefIdeal.S_ .f32 0xBF000000#32))
      (Host.divf (Host.rsqrt (squares x)) (squares x))))
    (broadcastInDim Cert.NormRefIdeal.S16384x1 ![] Cert.NormRefIdeal.Gen.bcast_S_S16384x1 (constant Cert.NormRefIdeal.S_ .f32 0x44800000#32)))
    (constant Cert.NormRefIdeal.S_ .f32 0x00000000#32) Cert.NormRefIdeal.Gen.reducesTo_S16384x1_S16384_d1 Cert.NormRefIdeal.Gen.h_S_

theorem sums_at (i : Fin 16384) : sums x z g (ix1 i) = through (fun k => x (ix2 i k)) (fun k => g (ix1 k)) fun k => z (ix2 i k) := by
  have hs := squares_at x i
  have hg := fun k => gain_at g i k
  unfold sums through inverseRoot
  revert hs hg
  generalize squares x = s
  generalize gain g = t
  intro hs hg
  pointwise
  rw [Fin.sum_univ_one, hs]
  simp only [hg]

/-- The reference's gradient, of the input `x`, the gain `g`, the cotangent `z` of the normalised input and the cotangent `d` past the norm. -/
def gradient : FVec Ideal S16384x1024 .f32 :=
  addf (addf (addf d (mulf (mulf z (gain g)) (broadcastInDim S16384x1024 ![0, 1] Cert.NormRefIdeal.Gen.bcast_S16384x1_S16384x1024_0_1 (Host.rsqrt (squares x)))))
    (mulf x (broadcastInDim S16384x1024 ![0] Cert.NormRefIdeal.Gen.bcast_S16384_S16384x1024_0 (sums x z g))))
    (mulf (broadcastInDim S16384x1024 ![0] Cert.NormRefIdeal.Gen.bcast_S16384_S16384x1024_0 (sums x z g)) x)

theorem gradient_at (i : Fin 16384) (j : Fin 1024) :
    gradient x z d g (ix2 i j) = chained (fun k => x (ix2 i k)) (fun k => g (ix1 k)) (fun k => z (ix2 i k)) (d (ix2 i j)) j := by
  have hs := squares_at x i
  have hg := gain_at g i j
  have hu := sums_at x z g i
  unfold gradient chained
  rw [← hu]
  unfold inverseRoot
  revert hs hg
  generalize squares x = s
  generalize gain g = t
  generalize sums x z g = u
  intro hs hg
  pointwise
  rw [hs, hg]

/-- The reference's cotangent of the normalised input: what came through the gate, and the product. -/
def incoming (p : FVec Ideal S16384x2816 .f32) (w : FVec Ideal S1024x2816 .f32) : FVec Ideal S16384x1024 .f32 :=
  addf z (Host.dotGeneral (F := Ideal) Cert.NormRefIdeal.dot_S16384x2816_S1024x2816_S16384x1024_1_1_0_0_n_n none p w)

variable (p : FVec Ideal S16384x2816 .f32) (w : FVec Ideal S1024x2816 .f32)

theorem incoming_at (i : Fin 16384) (j : Fin 1024) :
    incoming z p w (ix2 i j) = (z (ix2 i j) : EReal) + ∑ k : Fin 2816, (p (ix2 i k) : EReal) * w (ix2 j k) := by
  unfold incoming
  pointwise

/-- One tile of that cotangent at an index, and of the gradient. -/
theorem cotangent_at (x : Vec Ideal S512x2816 .bf16) (y : Vec Ideal S2816x1024 .bf16) (z : Vec Ideal S512x1024 .f32) (a : Fin 512) (b : Fin 1024) :
    k0_pay2 x y z (ix2 a b) = (z (ix2 a b) : EReal) + ∑ k : Fin 2816, (x (ix2 a k) : EReal) * y (ix2 k b) := by
  unfold k0_pay2
  pointwise
  exact add_comm _ _

theorem tile_at (p : Vec Ideal S512x2816 .bf16) (y : Vec Ideal S2816x1024 .bf16) (z x d : Vec Ideal S512x1024 .f32) (g : Vec Ideal S1x1024 .f32)
    (a : Fin 512) (b : Fin 1024) :
    k0_pay5 p y z x d g (ix2 a b) = fused (fun k => x (ix2 a k)) (fun k => g (ix2 0 k)) (fun k => k0_pay2 p y z (ix2 a k)) (d (ix2 a b)) b := by
  unfold k0_pay5 k0_pay4 k0_pay3 fused inverseRoot meanSquare
  generalize k0_pay2 p y z = q
  pointwise

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel
theorem index_5 : ∀ t : Fin cfg0.N, win0_5.index t 0 = 0 ∧ win0_5.index t 1 = 0 := by decide +kernel

/-- The transposed weights and the gain as a row, at an index. -/
theorem turned_at (k : Fin 2816) (b : Fin 1024) :
    ((truncf .bf16 (transpose S2816x1024 [1, 0] w transposes_S1024x2816_S2816x1024_1_0) bitsLt_bf16_f32 : FVec Ideal S2816x1024 .bf16) (ix2 k b) : EReal) = w (ix2 b k) := by
  pointwise

theorem row_at (b : Fin 1024) : ((shapeCast S1x1024 g shapeCasts_S1024_S1x1024 : FVec Ideal S1x1024 .f32) (ix2 0 b) : EReal) = g (ix1 b) := by
  pointwise

/-- What the call finds in its arguments. -/
theorem found_0 : V m c main_v0 = (truncf .bf16 (m ((c : Thread nD τ).loc main_arg4)) bitsLt_bf16_f32 : FVec Ideal S16384x2816 .bf16) := by
  simp only [V, hostOps0]
  after_results_simp <;> rfl

theorem found_1 : V m c main_v2 = (truncf .bf16 (transpose S2816x1024 [1, 0] (m ((c : Thread nD τ).loc main_arg2)) transposes_S1024x2816_S2816x1024_1_0) bitsLt_bf16_f32 : FVec Ideal S2816x1024 .bf16) := by
  simp only [V, hostOps0]
  after_results_simp <;> rfl

theorem found_5 : V m c main_v3 = (shapeCast S1x1024 (m ((c : Thread nD τ).loc main_arg1)) shapeCasts_S1024_S1x1024 : FVec Ideal S1x1024 .f32) := by
  simp only [V, hostOps0]
  after_results_simp <;> rfl

theorem points : cfg0.N = 32 := N_0

/-- Row `a` of the block of rows of a grid point. -/
def row (t : Fin cfg0.N) (a : Fin 512) : Fin 16384 := ⟨t.val * 512 + a.val, by have := t.isLt; have := points; omega⟩

theorem block_0 (t : Fin cfg0.N) (a : Fin 512) (k : Fin 2816) : (iblk m c 0 t (ix2 a k) : EReal) = (m ((c : Thread nD τ).loc main_arg4)) (ix2 (row t a) k) := by
  obtain ⟨h0, h1⟩ := index_0 t
  show ((cfg0.win 0).blk t).view.read (Elt Ideal) (V m c main_v0) (ix2 a k) = _
  rw [found_0, View.read_apply]
  refine congrArg (m ((c : Thread nD τ).loc main_arg4)) (funext fun d => Fin.ext ?_)
  match d with
  | ⟨0, _⟩ => show win0_0.index t 0 * 512 + 1 * a.val = t.val * 512 + a.val; omega
  | ⟨1, _⟩ => show win0_0.index t 1 * 2816 + 1 * k.val = k.val; omega

theorem block_1 (t : Fin cfg0.N) (k : Fin 2816) (b : Fin 1024) : (iblk m c 1 t (ix2 k b) : EReal) = (m ((c : Thread nD τ).loc main_arg2)) (ix2 b k) := by
  obtain ⟨h0, h1⟩ := index_1 t
  show ((cfg0.win 1).blk t).view.read (Elt Ideal) (V m c main_v2) (ix2 k b) = _
  have e : ((cfg0.win 1).blk t).view.emb (ix2 k b) = ix2 k b := by
    refine funext fun d => Fin.ext ?_
    match d with
    | ⟨0, _⟩ => show win0_1.index t 0 * 2816 + 1 * k.val = k.val; omega
    | ⟨1, _⟩ => show win0_1.index t 1 * 1024 + 1 * b.val = b.val; omega
  rw [found_1, View.read_apply, e]
  exact turned_at _ k b

/-- The place of a tile of the width 1024 in the array. -/
theorem place (t : Fin cfg0.N) (a : Fin 512) (b : Fin 1024) : ((cfg0.win 2).blk t).view.emb (ix2 a b) = ix2 (row t a) b := by
  obtain ⟨h0, h1⟩ := index_2 t
  refine funext fun d => Fin.ext ?_
  match d with
  | ⟨0, _⟩ => show win0_2.index t 0 * 512 + 1 * a.val = t.val * 512 + a.val; omega
  | ⟨1, _⟩ => show win0_2.index t 1 * 1024 + 1 * b.val = b.val; omega

theorem block_2 (t : Fin cfg0.N) (a : Fin 512) (b : Fin 1024) : (iblk m c 2 t (ix2 a b) : EReal) = (m ((c : Thread nD τ).loc main_arg3)) (ix2 (row t a) b) := by
  show ((cfg0.win 2).blk t).view.read (Elt Ideal) (V m c main_arg3) (ix2 a b) = _
  rw [V_main_arg3, View.read_apply]
  exact congrArg (m ((c : Thread nD τ).loc main_arg3)) (place t a b)

theorem block_3 (t : Fin cfg0.N) (a : Fin 512) (b : Fin 1024) : (iblk m c 3 t (ix2 a b) : EReal) = (m ((c : Thread nD τ).loc main_arg0)) (ix2 (row t a) b) := by
  show ((cfg0.win 3).blk t).view.read (Elt Ideal) (V m c main_arg0) (ix2 a b) = _
  rw [V_main_arg0, View.read_apply]
  exact congrArg (m ((c : Thread nD τ).loc main_arg0)) (place t a b)

theorem block_4 (t : Fin cfg0.N) (a : Fin 512) (b : Fin 1024) : (iblk m c 4 t (ix2 a b) : EReal) = (m ((c : Thread nD τ).loc main_arg5)) (ix2 (row t a) b) := by
  show ((cfg0.win 4).blk t).view.read (Elt Ideal) (V m c main_arg5) (ix2 a b) = _
  rw [V_main_arg5, View.read_apply]
  exact congrArg (m ((c : Thread nD τ).loc main_arg5)) (place t a b)

theorem block_5 (t : Fin cfg0.N) (b : Fin 1024) : (iblk m c 5 t (ix2 0 b) : EReal) = (m ((c : Thread nD τ).loc main_arg1)) (ix1 b) := by
  obtain ⟨h0, h1⟩ := index_5 t
  show ((cfg0.win 5).blk t).view.read (Elt Ideal) (V m c main_v3) (ix2 0 b) = _
  have e : ((cfg0.win 5).blk t).view.emb (ix2 0 b) = ix2 0 b := by
    refine funext fun d => Fin.ext ?_
    match d with
    | ⟨0, _⟩ => show win0_5.index t 0 * 1 + 1 * 0 = 0; omega
    | ⟨1, _⟩ => show win0_5.index t 1 * 1024 + 1 * b.val = b.val; omega
  rw [found_5, View.read_apply, e]
  exact row_at _ b

theorem tile (t : Fin cfg0.N) (a : Fin 512) (b : Fin 1024) :
    k0_pay2 (iblk m c 0 t) (iblk m c 1 t) (iblk m c 2 t) (ix2 a b)
      = incoming (m ((c : Thread nD τ).loc main_arg3)) (m ((c : Thread nD τ).loc main_arg4)) (m ((c : Thread nD τ).loc main_arg2)) (ix2 (row t a) b) := by
  refine (cotangent_at _ _ _ a b).trans (Eq.trans ?_ (incoming_at _ _ _ _ _).symm)
  rw [block_2]
  refine congrArg (fun s : EReal => _ + s) (Finset.sum_congr rfl fun k _ => ?_)
  rw [block_0, block_1]

/-- The gradient that the call returns is the reference's. -/
theorem value :
    (dats m 0 c).arrAt 6 cfg0.N = gradient (m ((c : Thread nD τ).loc main_arg0))
      (incoming (m ((c : Thread nD τ).loc main_arg3)) (m ((c : Thread nD τ).loc main_arg4)) (m ((c : Thread nD τ).loc main_arg2)))
      (m ((c : Thread nD τ).loc main_arg5)) (m ((c : Thread nD τ).loc main_arg1)) := by
  refine (dats m 0 c).arrAt_eq_of_covers 6 _ (by decide +kernel) fun t hf y => ?_
  blk_simp
  rw [after0_6]
  frame_out
  obtain ⟨a, b, rfl⟩ : ∃ (a : Fin 512) (b : Fin 1024), y = ix2 a b := ⟨y 0, y 1, eq_ix2 y⟩
  refine (tile_at _ _ _ _ _ _ a b).trans (Eq.trans ?_ ((congrArg _ (place t a b)).trans (gradient_at _ _ _ _ _ _)).symm)
  rw [block_4]
  simp only [block_3, block_5, tile]
  exact agree _ _ _ _ _

end Cert.Mlp.Norm

end
-- ==== Proof.MixNorm.lean ====
module

public import proofs.«01_k».proof.Proof.Gen.MixNormIdeal.Value
public import proofs.«01_k».proof.Proof.Gen.MixNormRefIdeal.Run
public import proofs.«01_k».proof.Proof.MlpNorm
public import Idealize.ShloMosaic.Lib.Pipeline.ValueKit
public import Idealize.ShloMosaic.Lib.Pointwise

@[expose] public section

set_option maxRecDepth 16384

noncomputable section

/-!
# The gradient through the norm of the mixers

The call adds up the product of the projection's cotangent and the transposed weights over three groups of columns. The last of the
three points of a block of rows goes through the norm, whose reference is the feed-forward block's.
-/

namespace Cert.Mix.Norm

open Cert.MixNormIdeal Cert.MixNormIdeal.Gen
open Idealize.ShloMosaic Idealize.ShloMosaic.TcCoe

variable (x d : FVec Ideal S16384x1024 .f32) (g : FVec Ideal S1024 .f32) (p : FVec Ideal S16384x7680 .f32) (w : FVec Ideal S1024x7680 .f32)

/-- The reference's cotangent of the normalised input. -/
def incoming : FVec Ideal S16384x1024 .f32 :=
  Host.dotGeneral (F := Ideal) Cert.MixNormRefIdeal.dot_S16384x7680_S1024x7680_S16384x1024_1_1_0_0_n_n none p w

theorem incoming_at (i : Fin 16384) (j : Fin 1024) :
    incoming p w (ix2 i j) = ∑ k : Fin 7680, (p (ix2 i k) : EReal) * w (ix2 j k) := by
  unfold incoming
  pointwise

/-- One tile of the product at an index. -/
theorem product_at (x : Vec Ideal S512x2560 .bf16) (y : Vec Ideal S2560x1024 .bf16) (a : Fin 512) (b : Fin 1024) :
    k0_pay1 x y (ix2 a b) = ∑ k : Fin 2560, (x (ix2 a k) : EReal) * y (ix2 k b) := by
  unfold k0_pay1
  pointwise

theorem first_at (x : Vec Ideal S512x2560 .bf16) (y : Vec Ideal S2560x1024 .bf16) (i : S512x1024.Idx) :
    k0_pay2 x y i = (k0_pay1 x y i : EReal) := by
  unfold k0_pay2
  pointwise

theorem step_at (x : Vec Ideal S512x2560 .bf16) (y : Vec Ideal S2560x1024 .bf16) (z : Vec Ideal S512x1024 .f32) (i : S512x1024.Idx) :
    k0_pay3 x y z i = (z i : EReal) + k0_pay1 x y i := by
  unfold k0_pay3
  pointwise

/-- One tile of the gradient at an index. -/
theorem tile_at (q x d : Vec Ideal S512x1024 .f32) (g : Vec Ideal S1x1024 .f32) (a : Fin 512) (b : Fin 1024) :
    k0_pay6 q x d g (ix2 a b) = Mlp.Norm.fused (fun k => x (ix2 a k)) (fun k => g (ix2 0 k)) (fun k => q (ix2 a k)) (d (ix2 a b)) b := by
  unfold k0_pay6 k0_pay5 k0_pay4 Mlp.Norm.fused Mlp.Norm.inverseRoot Mlp.Norm.meanSquare
  pointwise

variable (m : (ℓ : Loc nD τ sig) → Buf (Elt Ideal) ℓ) (c : Dev nD)

theorem index_0 : ∀ t : Fin cfg0.N, win0_0.index t 0 = t.val / 3 ∧ win0_0.index t 1 = t.val % 3 := by decide +kernel
theorem index_1 : ∀ t : Fin cfg0.N, win0_1.index t 0 = t.val % 3 ∧ win0_1.index t 1 = 0 := by decide +kernel
theorem index_2 : ∀ t : Fin cfg0.N, win0_2.index t 0 = t.val / 3 ∧ win0_2.index t 1 = 0 := by decide +kernel
theorem index_4 : ∀ t : Fin cfg0.N, win0_4.index t 0 = 0 ∧ win0_4.index t 1 = 0 := by decide +kernel

/-- The transposed weights at an index. -/
theorem turned_at (k : Fin 7680) (b : Fin 1024) :
    ((truncf .bf16 (transpose S7680x1024 [1, 0] w transposes_S1024x7680_S7680x1024_1_0) bitsLt_bf16_f32 : FVec Ideal S7680x1024 .bf16) (ix2 k b) : EReal) = w (ix2 b k) := by
  pointwise

/-- What the call finds in its arguments. -/
theorem found_0 : V m c main_v0 = (truncf .bf16 (m ((c : Thread nD τ).loc main_arg3)) bitsLt_bf16_f32 : FVec Ideal S16384x7680 .bf16) := by
  simp only [V, hostOps0]
  after_results_simp <;> rfl

theorem found_1 : V m c main_v2 = (truncf .bf16 (transpose S7680x1024 [1, 0] (m ((c : Thread nD τ).loc main_arg2)) transposes_S1024x7680_S7680x1024_1_0) bitsLt_bf16_f32 : FVec Ideal S7680x1024 .bf16) := by
  simp only [V, hostOps0]
  after_results_simp <;> rfl

theorem found_4 : V m c main_v3 = (shapeCast S1x1024 (m ((c : Thread nD τ).loc main_arg1)) shapeCasts_S1024_S1x1024 : FVec Ideal S1x1024 .f32) := by
  simp only [V, hostOps0]
  after_results_simp <;> rfl

theorem points : cfg0.N = 96 := N_0

/-- Row `a` of the block of rows of a grid point, and column `k` of its group. -/
def row (t : Fin cfg0.N) (a : Fin 512) : Fin 16384 := ⟨t.val / 3 * 512 + a.val, by have := t.isLt; have := points; omega⟩

def col (t : Fin cfg0.N) (k : Fin 2560) : Fin 7680 := ⟨t.val % 3 * 2560 + k.val, by omega⟩

theorem block_0 (t : Fin cfg0.N) (a : Fin 512) (k : Fin 2560) : (iblk m c 0 t (ix2 a k) : EReal) = (m ((c : Thread nD τ).loc main_arg3)) (ix2 (row t a) (col t k)) := by
  obtain ⟨h0, h1⟩ := index_0 t
  show ((cfg0.win 0).blk t).view.read (Elt Ideal) (V m c main_v0) (ix2 a k) = _
  rw [found_0, View.read_apply]
  refine congrArg (m ((c : Thread nD τ).loc main_arg3)) (funext fun d => Fin.ext ?_)
  match d with
  | ⟨0, _⟩ => show win0_0.index t 0 * 512 + 1 * a.val = t.val / 3 * 512 + a.val; omega
  | ⟨1, _⟩ => show win0_0.index t 1 * 2560 + 1 * k.val = t.val % 3 * 2560 + k.val; omega

theorem block_1 (t : Fin cfg0.N) (k : Fin 2560) (b : Fin 1024) : (iblk m c 1 t (ix2 k b) : EReal) = (m ((c : Thread nD τ).loc main_arg2)) (ix2 b (col t k)) := by
  obtain ⟨h0, h1⟩ := index_1 t
  show ((cfg0.win 1).blk t).view.read (Elt Ideal) (V m c main_v2) (ix2 k b) = _
  have e : ((cfg0.win 1).blk t).view.emb (ix2 k b) = ix2 (col t k) b := by
    refine funext fun d => Fin.ext ?_
    match d with
    | ⟨0, _⟩ => show win0_1.index t 0 * 2560 + 1 * k.val = t.val % 3 * 2560 + k.val; omega
    | ⟨1, _⟩ => show win0_1.index t 1 * 1024 + 1 * b.val = b.val; omega
  rw [found_1, View.read_apply, e]
  exact turned_at _ _ b

/-- The place of a tile of the width 1024 in the array. -/
theorem place (t : Fin cfg0.N) (a : Fin 512) (b : Fin 1024) : ((cfg0.win 2).blk t).view.emb (ix2 a b) = ix2 (row t a) b := by
  obtain ⟨h0, h1⟩ := index_2 t
  refine funext fun d => Fin.ext ?_
  match d with
  | ⟨0, _⟩ => show win0_2.index t 0 * 512 + 1 * a.val = t.val / 3 * 512 + a.val; omega
  | ⟨1, _⟩ => show win0_2.index t 1 * 1024 + 1 * b.val = b.val; omega

theorem block_2 (t : Fin cfg0.N) (a : Fin 512) (b : Fin 1024) : (iblk m c 2 t (ix2 a b) : EReal) = (m ((c : Thread nD τ).loc main_arg0)) (ix2 (row t a) b) := by
  show ((cfg0.win 2).blk t).view.read (Elt Ideal) (V m c main_arg0) (ix2 a b) = _
  rw [V_main_arg0, View.read_apply]
  exact congrArg (m ((c : Thread nD τ).loc main_arg0)) (place t a b)

theorem block_3 (t : Fin cfg0.N) (a : Fin 512) (b : Fin 1024) : (iblk m c 3 t (ix2 a b) : EReal) = (m ((c : Thread nD τ).loc main_arg4)) (ix2 (row t a) b) := by
  show ((cfg0.win 3).blk t).view.read (Elt Ideal) (V m c main_arg4) (ix2 a b) = _
  rw [V_main_arg4, View.read_apply]
  exact congrArg (m ((c : Thread nD τ).loc main_arg4)) (place t a b)

theorem block_4 (t : Fin cfg0.N) (b : Fin 1024) : (iblk m c 4 t (ix2 0 b) : EReal) = (m ((c : Thread nD τ).loc main_arg1)) (ix1 b) := by
  obtain ⟨h0, h1⟩ := index_4 t
  show ((cfg0.win 4).blk t).view.read (Elt Ideal) (V m c main_v3) (ix2 0 b) = _
  have e : ((cfg0.win 4).blk t).view.emb (ix2 0 b) = ix2 0 b := by
    refine funext fun d => Fin.ext ?_
    match d with
    | ⟨0, _⟩ => show win0_4.index t 0 * 1 + 1 * 0 = 0; omega
    | ⟨1, _⟩ => show win0_4.index t 1 * 1024 + 1 * b.val = b.val; omega
  rw [found_4, View.read_apply, e]
  exact Mlp.Norm.row_at _ b

/-- The three points whose products are added up at a grid point. -/
def point (t : Fin cfg0.N) (s : Fin 3) : Fin cfg0.N := ⟨3 * (t.val / 3) + s.val, by have := t.isLt; have := points; omega⟩

theorem row_point (t : Fin cfg0.N) (s : Fin 3) (a : Fin 512) : row (point t s) a = row t a :=
  Fin.ext (by show (3 * (t.val / 3) + s.val) / 3 * 512 + a.val = t.val / 3 * 512 + a.val; omega)

theorem col_point (t : Fin cfg0.N) (s : Fin 3) (k : Fin 2560) (h : s.val * 2560 + k.val < 7680) : col (point t s) k = ⟨s.val * 2560 + k.val, h⟩ :=
  Fin.ext (by show (3 * (t.val / 3) + s.val) % 3 * 2560 + k.val = s.val * 2560 + k.val; omega)

/-- The product that a grid point adds. -/
def part (t : Fin cfg0.N) (y : S512x1024.Idx) : EReal := k0_pay1 (F := Ideal) (iblk m c 0 t) (iblk m c 1 t) y

/-- The running sum after a grid point. -/
def sum (n : Nat) (h : n < cfg0.N) : Vec Ideal S512x1024 .f32 := (outsAt0 m c n h).2.2

theorem sum_first (t : Fin cfg0.N) (h : t.val % 3 = 0) (y : S512x1024.Idx) : (sum m c t.val t.isLt y : EReal) = 0 + part m c t y := by
  unfold sum
  rw [outsAt0_A m c t h (by omega) (by omega)]
  frame_out
  exact (first_at _ _ y).trans (zero_add _).symm

theorem sum_next (t : Fin cfg0.N) (h : ¬t.val % 3 = 0) :
    sum m c t.val t.isLt = k0_pay3 (iblk m c 0 t) (iblk m c 1 t) (sum m c (t.val - 1) (Nat.lt_of_le_of_lt (Nat.sub_le _ _) t.isLt)) := by
  unfold sum
  by_cases ht : t.val % 3 = 2
  · rw [outsAt0_C m c t h (by omega) ht]
    frame_out
    exact congrArg _ (Memref.IsWhole.read_unread _ _)
  · rw [outsAt0_B m c t h (by omega) ht]
    frame_out
    exact congrArg _ (Memref.IsWhole.read_unread _ _)

/-- The sum of the three points. -/
theorem total (t : Fin cfg0.N) (ht : t.val % 3 = 2) (y : S512x1024.Idx) : (sum m c t.val t.isLt y : EReal) = ∑ s : Fin 3, part m c (point t s) y := by
  rw [Pipeline.eq_sum_fin_of_reset_step_apply_of_flush (M := EReal) (fun n h => sum m c n h) 3 (fun _ => 0) (fun t y => part m c t y)
    (fun t h j => sum_first m c t h j) (fun t h j => (congrFun (sum_next m c t h) j).trans (step_at _ _ _ j)) t ht y]
  exact zero_add _

theorem total_at (t : Fin cfg0.N) (ht : t.val % 3 = 2) (a : Fin 512) (b : Fin 1024) :
    (sum m c t.val t.isLt (ix2 a b) : EReal) = incoming (m ((c : Thread nD τ).loc main_arg3)) (m ((c : Thread nD τ).loc main_arg2)) (ix2 (row t a) b) := by
  rw [total m c t ht, incoming_at]
  refine (Finset.sum_congr rfl fun s _ => product_at _ _ a b).trans (Fin.sum_mul_add_congr fun s k hl => ?_)
  rw [block_0, block_1, col_point t s k hl, row_point]

/-- What the last of the three points leaves in the result's block. -/
theorem last (t : Fin cfg0.N) (ht : t.val % 3 = 2) :
    (outsAt0 m c t.val t.isLt).1 = k0_pay6 (sum m c t.val t.isLt) (iblk m c 2 t) (iblk m c 3 t) (iblk m c 4 t) := by
  rw [sum_next m c t (by omega), outsAt0_C m c t (by omega) (by omega) ht]
  frame_out
  exact congrArg (fun z => k0_pay6 (k0_pay3 (iblk m c 0 t) (iblk m c 1 t) z) (iblk m c 2 t) (iblk m c 3 t) (iblk m c 4 t)) (Memref.IsWhole.read_unread _ _)

/-- The gradient that the call returns is the reference's. -/
theorem value :
    (dats m 0 c).arrAt 5 cfg0.N = Mlp.Norm.gradient (m ((c : Thread nD τ).loc main_arg0))
      (incoming (m ((c : Thread nD τ).loc main_arg3)) (m ((c : Thread nD τ).loc main_arg2)))
      (m ((c : Thread nD τ).loc main_arg4)) (m ((c : Thread nD τ).loc main_arg1)) := by
  refine (dats m 0 c).arrAt_eq_of_covers 5 _ (by decide +kernel) fun t hf y => ?_
  have ht := (flush0_5 t).mp hf
  blk_simp
  rw [after0_5, last m c t ht]
  obtain ⟨a, b, rfl⟩ : ∃ (a : Fin 512) (b : Fin 1024), y = ix2 a b := ⟨y 0, y 1, eq_ix2 y⟩
  refine (tile_at _ _ _ _ a b).trans (Eq.trans ?_ ((congrArg _ (place t a b)).trans (Mlp.Norm.gradient_at _ _ _ _ _ _)).symm)
  rw [block_3]
  simp only [block_2, block_4, total_at m c t ht]
  exact Mlp.Norm.agree _ _ _ _ _

end Cert.Mix.Norm

end
-- ==== Proof.OutGrad.lean ====
module

public import proofs.«01_k».proof.Proof.Gen.OutGradIdeal.Value
public import proofs.«01_k».proof.Proof.Gen.OutGradRefIdeal.Run
public import Idealize.ShloMosaic.Lib.Pipeline.ValueKit
public import Idealize.ShloMosaic.Lib.Pointwise

@[expose] public section

set_option maxRecDepth 16384

noncomputable section

/-!
# The gradient of the weights out of the mixers and out of the cross-attention

The call has one tile for the result and goes once through the sixteen blocks of 1024 rows, adding up the products of the
transposed activations with the cotangent.
-/

namespace Cert.Out.Grad

open Cert.OutGradIdeal Cert.OutGradIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel

/-- The reference's product. -/
def product (x d : FVec Ideal S16384x1024 .f32) : FVec Ideal S1024x1024 .f32 :=
  transpose S1024x1024 [1, 0] (Host.dotGeneral (F := Ideal) Cert.OutGradRefIdeal.dot_S16384x1024_S16384x1024_S1024x1024_0_0_1_1_n_n none d x)
    (by decide)

theorem product_at (x d : FVec Ideal S16384x1024 .f32) (i j : Fin 1024) :
    product x d (ix2 i j) = ∑ k : Fin 16384, (x (ix2 k i) : EReal) * d (ix2 k j) := by
  unfold product
  pointwise
  exact Finset.sum_congr rfl fun k _ => mul_comm _ _

/-- One block's product at an index. -/
theorem tile_at (x : Vec Ideal S1024x1024 .bf16) (y : Vec Ideal S1024x1024 .f32) (a b : Fin 1024) :
    k0_pay1 x y (ix2 a b) = ∑ k : Fin 1024, (x (ix2 k a) : EReal) * y (ix2 k b) := by
  unfold k0_pay1
  pointwise

theorem step_at (x : Vec Ideal S1024x1024 .bf16) (y z : Vec Ideal S1024x1024 .f32) (i : S1024x1024.Idx) :
    k0_pay2 x y z i = (z i : EReal) + k0_pay1 x y i := by
  unfold k0_pay2
  pointwise

/-- What the call finds in its first argument: the activations. -/
theorem found_0 : V m c main_v0 = (truncf .bf16 (m ((c : Thread nD τ).loc main_arg0)) bitsLt_bf16_f32 : FVec Ideal S16384x1024 .bf16) := by
  simp only [V, hostOps0]
  after_results_simp <;> rfl

theorem points : cfg0.N = 16 := N_0

/-- Row `k` of the block of rows of a grid point. -/
def row (t : Fin cfg0.N) (k : Fin 1024) : Fin 16384 := ⟨t.val * 1024 + k.val, by have := t.isLt; have := points; omega⟩

theorem block_0 (t : Fin cfg0.N) (k a : Fin 1024) : (iblk m c 0 t (ix2 k a) : EReal) = (m ((c : Thread nD τ).loc main_arg0)) (ix2 (row t k) a) := by
  obtain ⟨h0, h1⟩ := index_0 t
  show ((cfg0.win 0).blk t).view.read (Elt Ideal) (V m c main_v0) (ix2 k a) = _
  rw [found_0, View.read_apply]
  refine congrArg (m ((c : Thread nD τ).loc main_arg0)) (funext fun d => Fin.ext ?_)
  match d with
  | ⟨0, _⟩ => show win0_0.index t 0 * 1024 + 1 * k.val = t.val * 1024 + k.val; omega
  | ⟨1, _⟩ => show win0_0.index t 1 * 1024 + 1 * a.val = a.val; omega

theorem block_1 (t : Fin cfg0.N) (k b : Fin 1024) : (iblk m c 1 t (ix2 k b) : EReal) = (m ((c : Thread nD τ).loc main_arg2)) (ix2 (row t k) b) := by
  obtain ⟨h0, h1⟩ := index_1 t
  show ((cfg0.win 1).blk t).view.read (Elt Ideal) (V m c main_arg2) (ix2 k b) = _
  rw [V_main_arg2, View.read_apply]
  refine congrArg (m ((c : Thread nD τ).loc main_arg2)) (funext fun d => Fin.ext ?_)
  match d with
  | ⟨0, _⟩ => show win0_1.index t 0 * 1024 + 1 * k.val = t.val * 1024 + k.val; omega
  | ⟨1, _⟩ => show win0_1.index t 1 * 1024 + 1 * b.val = b.val; omega

theorem place_2 (t : Fin cfg0.N) (a b : Fin 1024) : ((View.whole main_v1).slice (win0_2.rect t)).emb (ix2 a b) = ix2 a b := by
  obtain ⟨h0, h1⟩ := index_2 t
  refine funext fun d => Fin.ext ?_
  match d with
  | ⟨0, _⟩ => show win0_2.index t 0 * 1024 + 1 * a.val = a.val; omega
  | ⟨1, _⟩ => show win0_2.index t 1 * 1024 + 1 * b.val = b.val; omega

/-- The sixteen points whose products are added up. -/
def point (t : Fin cfg0.N) (s : Fin 16) : Fin cfg0.N := ⟨16 * (t.val / 16) + s.val, by have := t.isLt; have := points; omega⟩

theorem row_point (t : Fin cfg0.N) (s : Fin 16) (k : Fin 1024) (h : s.val * 1024 + k.val < 16384) : row (point t s) k = ⟨s.val * 1024 + k.val, h⟩ :=
  Fin.ext (by show (16 * (t.val / 16) + s.val) * 1024 + k.val = s.val * 1024 + k.val; have := t.isLt; have := points; omega)

/-- The sum after the last point. -/
theorem total (t : Fin cfg0.N) (ht : t.val % 16 = 15) (y : S1024x1024.Idx) :
    (outsAt0 m c t.val t.isLt y : EReal) = ∑ s : Fin 16, (k0_pay1 (F := Ideal) (iblk m c 0 (point t s)) (iblk m c 1 (point t s)) y : EReal) := by
  rw [Pipeline.eq_sum_fin_of_reset_step_apply_of_flush (M := EReal) (fun n h => outsAt0 m c n h) 16 (fun _ => 0)
    (fun t y => k0_pay1 (F := Ideal) (iblk m c 0 t) (iblk m c 1 t) y)
    (fun t h j => by rw [outsAt0_A m c t h (by have := t.isLt; have := points; omega)]; frame_out; exact (zero_add _).symm)
    (fun t h j => by rw [outsAt0_B m c t h (by omega)]; frame_out; rw [step_at]) t ht y]
  exact zero_add _

/-- The array that the call returns is the reference's product. -/
theorem value : (dats m 0 c).arrAt 2 cfg0.N = product (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2]
  obtain ⟨a, b, rfl⟩ : ∃ (a : Fin 1024) (b : Fin 1024), y = ix2 a b := ⟨y 0, y 1, eq_ix2 y⟩
  rw [place_2]
  refine (total m c t ht _).trans (Eq.trans (Finset.sum_congr rfl fun s _ => tile_at _ _ a b)
    ((Fin.sum_mul_add_congr fun s k hl => ?_).trans (product_at _ _ _ _).symm))
  rw [block_0, block_1, row_point t s k hl]

end Cert.Out.Grad

end
-- ==== Proof.OutBack.lean ====
module

public import proofs.«01_k».proof.Proof.Gen.OutBackIdeal.Value
public import proofs.«01_k».proof.Proof.Gen.OutBackRefIdeal.Run
public import Idealize.ShloMosaic.Lib.Pipeline.ValueKit
public import Idealize.ShloMosaic.Lib.Pointwise

@[expose] public section

set_option maxRecDepth 16384

noncomputable section

/-!
# The gradient with respect to the merged branches and the cross-attention's output

The call multiplies the blocks of 1024 rows of the cotangent, which it casts itself, by the transposed weights.
-/

namespace Cert.Out.Back

open Cert.OutBackIdeal Cert.OutBackIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

/-- The reference's product. -/
def product (d : FVec Ideal S16384x1024 .f32) (w : FVec Ideal S1024x1024 .f32) : FVec Ideal S16384x1024 .f32 :=
  Host.dotGeneral (F := Ideal) Cert.OutBackRefIdeal.dot_S16384x1024_S1024x1024_S16384x1024_1_1_0_0_n_n none d w

theorem product_at (d : FVec Ideal S16384x1024 .f32) (w : FVec Ideal S1024x1024 .f32) (i : Fin 16384) (j : Fin 1024) :
    product d w (ix2 i j) = ∑ k : Fin 1024, (d (ix2 i k) : EReal) * w (ix2 j k) := by
  unfold product
  pointwise

/-- One tile of the product at an index. -/
theorem tile_at (x : Vec Ideal S1024x1024 .f32) (y : Vec Ideal S1024x1024 .bf16) (a b : Fin 1024) :
    k0_pay1 x y (ix2 a b) = ∑ k : Fin 1024, (x (ix2 a k) : EReal) * y (ix2 k b) := by
  unfold k0_pay1
  pointwise

/-- The transposed weights at an index. -/
theorem turned_at (w : FVec Ideal S1024x1024 .f32) (k b : Fin 1024) :
    ((truncf .bf16 (transpose S1024x1024 [1, 0] w transposes_S1024x1024_S1024x1024_1_0) bitsLt_bf16_f32 : FVec Ideal S1024x1024 .bf16) (ix2 k b) : EReal) = w (ix2 b k) := by
  pointwise

/-- What the call finds in its second argument: the transposed weights. -/
theorem found_1 : V m c main_v1 = (truncf .bf16 (transpose S1024x1024 [1, 0] (m ((c : Thread nD τ).loc main_arg1)) transposes_S1024x1024_S1024x1024_1_0) bitsLt_bf16_f32 : FVec Ideal S1024x1024 .bf16) := by
  simp only [V, hostOps0]
  after_results_simp <;> rfl

theorem points : cfg0.N = 16 := N_0

/-- Row `a` of the block of rows of a grid point. -/
def row (t : Fin cfg0.N) (a : Fin 1024) : Fin 16384 := ⟨t.val * 1024 + a.val, by have := t.isLt; have := points; omega⟩

theorem block_0 (t : Fin cfg0.N) (a k : Fin 1024) : (iblk m c 0 t (ix2 a k) : EReal) = (m ((c : Thread nD τ).loc main_arg2)) (ix2 (row t a) k) := by
  obtain ⟨h0, h1⟩ := index_0 t
  show ((cfg0.win 0).blk t).view.read (Elt Ideal) (V m c main_arg2) (ix2 a k) = _
  rw [V_main_arg2, View.read_apply]
  refine congrArg (m ((c : Thread nD τ).loc main_arg2)) (funext fun d => Fin.ext ?_)
  match d with
  | ⟨0, _⟩ => show win0_0.index t 0 * 1024 + 1 * a.val = t.val * 1024 + a.val; omega
  | ⟨1, _⟩ => show win0_0.index t 1 * 1024 + 1 * k.val = k.val; omega

theorem block_1 (t : Fin cfg0.N) (k b : Fin 1024) : (iblk m c 1 t (ix2 k b) : EReal) = (m ((c : Thread nD τ).loc main_arg1)) (ix2 b k) := by
  obtain ⟨h0, h1⟩ := index_1 t
  show ((cfg0.win 1).blk t).view.read (Elt Ideal) (V m c main_v1) (ix2 k b) = _
  have e : ((cfg0.win 1).blk t).view.emb (ix2 k b) = ix2 k b := by
    refine funext fun d => Fin.ext ?_
    match d with
    | ⟨0, _⟩ => show win0_1.index t 0 * 1024 + 1 * k.val = k.val; omega
    | ⟨1, _⟩ => show win0_1.index t 1 * 1024 + 1 * b.val = b.val; omega
  rw [found_1, View.read_apply, e]
  exact turned_at _ k b

theorem place_2 (t : Fin cfg0.N) (a b : Fin 1024) : ((View.whole main_v2).slice (win0_2.rect t)).emb (ix2 a b) = ix2 (row t a) b := by
  obtain ⟨h0, h1⟩ := index_2 t
  refine funext fun d => Fin.ext ?_
  match d with
  | ⟨0, _⟩ => show win0_2.index t 0 * 1024 + 1 * a.val = t.val * 1024 + a.val; omega
  | ⟨1, _⟩ => show win0_2.index t 1 * 1024 + 1 * b.val = b.val; omega

/-- The array that the call returns is the reference's product. -/
theorem value : (dats m 0 c).arrAt 2 cfg0.N = product (m ((c : Thread nD τ).loc main_arg2)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  rw [place_2]
  refine (tile_at _ _ a b).trans (Eq.trans (Finset.sum_congr rfl fun k _ => ?_) (product_at _ _ _ _).symm)
  rw [block_0, block_1]

end Cert.Out.Back

end
-- ==== Proof.OutSum.lean ====
module

public import proofs.«01_k».proof.Proof.Gen.OutIdeal.Value
public import proofs.«01_k».proof.Proof.Gen.OutRefIdeal.Run
public import Idealize.ShloMosaic.Lib.Pipeline.ValueKit
public import Idealize.ShloMosaic.Lib.Pointwise

@[expose] public section

set_option maxRecDepth 16384

noncomputable section

/-!
# The product out of the mixers and out of the cross-attention, added to the input

The call multiplies the blocks of 1024 rows of the activations by the whole weights and adds each tile to the input's.
-/

namespace Cert.Out.Sum

open Cert.OutIdeal Cert.OutIdeal.Gen
open Idealize.ShloMosaic Idealize.ShloMosaic.TcCoe

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

/-- The reference's output. -/
def output (a : FVec Ideal S16384x1024 .f32) (w : FVec Ideal S1024x1024 .f32) (x : FVec Ideal S16384x1024 .f32) : FVec Ideal S16384x1024 .f32 :=
  addf x (Host.dotGeneral (F := Ideal) Cert.OutRefIdeal.dot_S16384x1024_S1024x1024_S16384x1024_1_0_0_1_n_n none a w)

theorem output_at (a : FVec Ideal S16384x1024 .f32) (w : FVec Ideal S1024x1024 .f32) (x : FVec Ideal S16384x1024 .f32) (i : Fin 16384) (j : Fin 1024) :
    output a w x (ix2 i j) = (x (ix2 i j) : EReal) + ∑ k : Fin 1024, (a (ix2 i k) : EReal) * w (ix2 k j) := by
  unfold output
  pointwise

/-- One tile of the output at an index. -/
theorem tile_at (x y : Vec Ideal S1024x1024 .bf16) (z : Vec Ideal S1024x1024 .f32) (a b : Fin 1024) :
    k0_pay1 x y z (ix2 a b) = (z (ix2 a b) : EReal) + ∑ k : Fin 1024, (x (ix2 a k) : EReal) * y (ix2 k b) := by
  unfold k0_pay1
  pointwise

/-- What the call finds in its first two arguments: the activations and the weights. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg1)) bitsLt_bf16_f32 : FVec Ideal S1024x1024 .bf16) := by
  simp only [V, hostOps0]
  after_results_simp <;> rfl

theorem points : cfg0.N = 16 := N_0

/-- Row `a` of the block of rows of a grid point. -/
def row (t : Fin cfg0.N) (a : Fin 1024) : Fin 16384 := ⟨t.val * 1024 + a.val, by have := t.isLt; have := points; omega⟩

/-- The place of a tile in the arrays, whose windows move alike. -/
theorem place (t : Fin cfg0.N) (a b : Fin 1024) : ((cfg0.win 2).blk t).view.emb (ix2 a b) = ix2 (row t a) b := by
  obtain ⟨h0, h1⟩ := index_2 t
  refine funext fun d => Fin.ext ?_
  match d with
  | ⟨0, _⟩ => show win0_2.index t 0 * 1024 + 1 * a.val = t.val * 1024 + a.val; omega
  | ⟨1, _⟩ => show win0_2.index t 1 * 1024 + 1 * b.val = b.val; omega

theorem block_0 (t : Fin cfg0.N) (a k : Fin 1024) : (iblk m c 0 t (ix2 a k) : EReal) = (m ((c : Thread nD τ).loc main_arg0)) (ix2 (row t a) k) := by
  show ((cfg0.win 0).blk t).view.read (Elt Ideal) (V m c main_v0) (ix2 a k) = _
  rw [found_0, View.read_apply]
  exact congrArg (m ((c : Thread nD τ).loc main_arg0)) (place t a k)

theorem block_1 (t : Fin cfg0.N) (k b : Fin 1024) : (iblk m c 1 t (ix2 k b) : EReal) = (m ((c : Thread nD τ).loc main_arg1)) (ix2 k b) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 1024 + 1 * k.val = k.val; omega
  | ⟨1, _⟩ => show win0_1.index t 1 * 1024 + 1 * b.val = b.val; omega

theorem block_2 (t : Fin cfg0.N) (a b : Fin 1024) : (iblk m c 2 t (ix2 a b) : EReal) = (m ((c : Thread nD τ).loc main_arg2)) (ix2 (row t a) b) := by
  show ((cfg0.win 2).blk t).view.read (Elt Ideal) (V m c main_arg2) (ix2 a b) = _
  rw [V_main_arg2, View.read_apply]
  exact congrArg (m ((c : Thread nD τ).loc main_arg2)) (place t a b)

/-- The array that the call returns is the reference's output. -/
theorem value : (dats m 0 c).arrAt 3 cfg0.N = output (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨a, b, rfl⟩ : ∃ (a : Fin 1024) (b : Fin 1024), y = ix2 a b := ⟨y 0, y 1, eq_ix2 y⟩
  refine (tile_at _ _ _ a b).trans (Eq.trans ?_ ((congrArg _ (place t a b)).trans (output_at _ _ _ _ _)).symm)
  rw [block_2]
  refine congrArg (fun s : EReal => _ + s) (Finset.sum_congr rfl fun k _ => ?_)
  rw [block_0, block_1]

end Cert.Out.Sum

end
-- ==== Proof.XaNorm.lean ====
module

public import proofs.«01_k».proof.Proof.Gen.XaNormIdeal.Value
public import proofs.«01_k».proof.Proof.Gen.XaNormRefIdeal.Run
public import proofs.«01_k».proof.Proof.MlpNorm
public import proofs.«01_k».proof.Proof.OutBack
public import Idealize.ShloMosaic.Lib.Pipeline.ValueKit
public import Idealize.ShloMosaic.Lib.Pointwise

@[expose] public section

set_option maxRecDepth 16384

noncomputable section

/-!
# The gradient through the norm of the cross-attention

The call multiplies the cotangent of the queries by the transposed weights and goes through the norm row by row. The reference's norm
is the feed-forward block's, and its product is the one of the gradient out of the cross-attention.
-/

namespace Cert.Xa.Norm

open Cert.XaNormIdeal Cert.XaNormIdeal.Gen
open Idealize.ShloMosaic Idealize.ShloMosaic.TcCoe

variable (x d p : FVec Ideal S16384x1024 .f32) (g : FVec Ideal S1024 .f32) (w : FVec Ideal S1024x1024 .f32)

/-- One tile of the product at an index, and of the gradient. -/
theorem product_at (x y : Vec Ideal S1024x1024 .bf16) (a b : Fin 1024) :
    k0_pay2 x y (ix2 a b) = ∑ k : Fin 1024, (x (ix2 a k) : EReal) * y (ix2 k b) := by
  unfold k0_pay2
  pointwise

theorem tile_at (p y : Vec Ideal S1024x1024 .bf16) (x d : Vec Ideal S1024x1024 .f32) (g : Vec Ideal S1x1024 .f32) (a b : Fin 1024) :
    k0_pay5 p y x d g (ix2 a b) = Mlp.Norm.fused (fun k => x (ix2 a k)) (fun k => g (ix2 0 k)) (fun k => k0_pay2 p y (ix2 a k)) (d (ix2 a b)) b := by
  unfold k0_pay5 k0_pay4 k0_pay3 Mlp.Norm.fused Mlp.Norm.inverseRoot Mlp.Norm.meanSquare
  generalize k0_pay2 p y = q
  pointwise

variable (m : (ℓ : Loc nD τ sig) → Buf (Elt Ideal) ℓ) (c : Dev nD)

theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel
theorem index_4 : ∀ t : Fin cfg0.N, win0_4.index t 0 = 0 ∧ win0_4.index t 1 = 0 := by decide +kernel

/-- What the call finds in its arguments. -/
theorem found_0 : V m c main_v0 = (truncf .bf16 (m ((c : Thread nD τ).loc main_arg3)) bitsLt_bf16_f32 : FVec Ideal S16384x1024 .bf16) := by
  simp only [V, hostOps0]
  after_results_simp <;> rfl

theorem found_1 : V m c main_v2 = (truncf .bf16 (transpose S1024x1024 [1, 0] (m ((c : Thread nD τ).loc main_arg2)) transposes_S1024x1024_S1024x1024_1_0) bitsLt_bf16_f32 : FVec Ideal S1024x1024 .bf16) := by
  simp only [V, hostOps0]
  after_results_simp <;> rfl

theorem found_4 : V m c main_v3 = (shapeCast S1x1024 (m ((c : Thread nD τ).loc main_arg1)) shapeCasts_S1024_S1x1024 : FVec Ideal S1x1024 .f32) := by
  simp only [V, hostOps0]
  after_results_simp <;> rfl

theorem points : cfg0.N = 16 := N_0

/-- Row `a` of the block of rows of a grid point. -/
def row (t : Fin cfg0.N) (a : Fin 1024) : Fin 16384 := ⟨t.val * 1024 + a.val, by have := t.isLt; have := points; omega⟩

/-- The place of a tile in the arrays, whose windows move alike. -/
theorem place (t : Fin cfg0.N) (a b : Fin 1024) : ((cfg0.win 2).blk t).view.emb (ix2 a b) = ix2 (row t a) b := by
  obtain ⟨h0, h1⟩ := index_2 t
  refine funext fun d => Fin.ext ?_
  match d with
  | ⟨0, _⟩ => show win0_2.index t 0 * 1024 + 1 * a.val = t.val * 1024 + a.val; omega
  | ⟨1, _⟩ => show win0_2.index t 1 * 1024 + 1 * b.val = b.val; omega

theorem block_0 (t : Fin cfg0.N) (a k : Fin 1024) : (iblk m c 0 t (ix2 a k) : EReal) = (m ((c : Thread nD τ).loc main_arg3)) (ix2 (row t a) k) := by
  show ((cfg0.win 0).blk t).view.read (Elt Ideal) (V m c main_v0) (ix2 a k) = _
  rw [found_0, View.read_apply]
  exact congrArg (m ((c : Thread nD τ).loc main_arg3)) (place t a k)

theorem block_1 (t : Fin cfg0.N) (k b : Fin 1024) : (iblk m c 1 t (ix2 k b) : EReal) = (m ((c : Thread nD τ).loc main_arg2)) (ix2 b k) := by
  obtain ⟨h0, h1⟩ := index_1 t
  show ((cfg0.win 1).blk t).view.read (Elt Ideal) (V m c main_v2) (ix2 k b) = _
  have e : ((cfg0.win 1).blk t).view.emb (ix2 k b) = ix2 k b := by
    refine funext fun d => Fin.ext ?_
    match d with
    | ⟨0, _⟩ => show win0_1.index t 0 * 1024 + 1 * k.val = k.val; omega
    | ⟨1, _⟩ => show win0_1.index t 1 * 1024 + 1 * b.val = b.val; omega
  rw [found_1, View.read_apply, e]
  exact Out.Back.turned_at _ k b

theorem block_2 (t : Fin cfg0.N) (a b : Fin 1024) : (iblk m c 2 t (ix2 a b) : EReal) = (m ((c : Thread nD τ).loc main_arg0)) (ix2 (row t a) b) := by
  show ((cfg0.win 2).blk t).view.read (Elt Ideal) (V m c main_arg0) (ix2 a b) = _
  rw [V_main_arg0, View.read_apply]
  exact congrArg (m ((c : Thread nD τ).loc main_arg0)) (place t a b)

theorem block_3 (t : Fin cfg0.N) (a b : Fin 1024) : (iblk m c 3 t (ix2 a b) : EReal) = (m ((c : Thread nD τ).loc main_arg4)) (ix2 (row t a) b) := by
  show ((cfg0.win 3).blk t).view.read (Elt Ideal) (V m c main_arg4) (ix2 a b) = _
  rw [V_main_arg4, View.read_apply]
  exact congrArg (m ((c : Thread nD τ).loc main_arg4)) (place t a b)

theorem block_4 (t : Fin cfg0.N) (b : Fin 1024) : (iblk m c 4 t (ix2 0 b) : EReal) = (m ((c : Thread nD τ).loc main_arg1)) (ix1 b) := by
  obtain ⟨h0, h1⟩ := index_4 t
  show ((cfg0.win 4).blk t).view.read (Elt Ideal) (V m c main_v3) (ix2 0 b) = _
  have e : ((cfg0.win 4).blk t).view.emb (ix2 0 b) = ix2 0 b := by
    refine funext fun d => Fin.ext ?_
    match d with
    | ⟨0, _⟩ => show win0_4.index t 0 * 1 + 1 * 0 = 0; omega
    | ⟨1, _⟩ => show win0_4.index t 1 * 1024 + 1 * b.val = b.val; omega
  rw [found_4, View.read_apply, e]
  exact Mlp.Norm.row_at _ b

theorem tile (t : Fin cfg0.N) (a b : Fin 1024) :
    k0_pay2 (iblk m c 0 t) (iblk m c 1 t) (ix2 a b)
      = Out.Back.product (m ((c : Thread nD τ).loc main_arg3)) (m ((c : Thread nD τ).loc main_arg2)) (ix2 (row t a) b) := by
  refine (product_at _ _ a b).trans (Eq.trans (Finset.sum_congr rfl fun k _ => ?_) (Out.Back.product_at _ _ _ _).symm)
  rw [block_0, block_1]

/-- The gradient that the call returns is the reference's. -/
theorem value :
    (dats m 0 c).arrAt 5 cfg0.N = Mlp.Norm.gradient (m ((c : Thread nD τ).loc main_arg0))
      (Out.Back.product (m ((c : Thread nD τ).loc main_arg3)) (m ((c : Thread nD τ).loc main_arg2)))
      (m ((c : Thread nD τ).loc main_arg4)) (m ((c : Thread nD τ).loc main_arg1)) := by
  refine (dats m 0 c).arrAt_eq_of_covers 5 _ (by decide +kernel) fun t hf y => ?_
  blk_simp
  rw [after0_5]
  frame_out
  obtain ⟨a, b, rfl⟩ : ∃ (a : Fin 1024) (b : Fin 1024), y = ix2 a b := ⟨y 0, y 1, eq_ix2 y⟩
  refine (tile_at _ _ _ _ _ a b).trans (Eq.trans ?_ ((congrArg _ (place t a b)).trans (Mlp.Norm.gradient_at _ _ _ _ _ _)).symm)
  rw [block_3]
  simp only [block_2, block_4, tile]
  exact Mlp.Norm.agree _ _ _ _ _

end Cert.Xa.Norm

end
-- ==== Proof.XaQuery.lean ====
module

public import proofs.«01_k».proof.Proof.Gen.QueryIdeal.Value
public import proofs.«01_k».proof.Proof.Gen.QueryRefIdeal.Run
public import proofs.«01_k».proof.Proof.Gen.QueryGradIdeal.Value
public import proofs.«01_k».proof.Proof.Gen.QueryGradRefIdeal.Run
public import proofs.«01_k».proof.Proof.OutGrad
public import Idealize.ShloMosaic.Lib.Pipeline.ValueKit
public import Idealize.ShloMosaic.Lib.Pointwise

@[expose] public section

set_option maxRecDepth 16384

noncomputable section

/-!
# The queries of the cross-attention and the gradient of their weights

The queries are a product of sixteen blocks of 1024 rows with the whole weights; the gradient of the weights is OutGrad's sum, with a
cotangent that is cast before the call.
-/

namespace Cert.Out

open Idealize.ShloMosaic

/-- Row `k` of the block of rows of the grid point `n`. -/
def tileRow (n : ℕ) (h : n < 16) (k : Fin 1024) : Fin 16384 := ⟨n * 1024 + k.val, by omega⟩

end Cert.Out

namespace Cert.Xa.Query

open Cert.QueryIdeal Cert.QueryIdeal.Gen
open Idealize.ShloMosaic Idealize.ShloMosaic.TcCoe
open Cert.Out (tileRow)

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel

/-- The reference's product. -/
def product (h : FVec Ideal S16384x1024 .f32) (w : FVec Ideal S1024x1024 .f32) : FVec Ideal S16384x1024 .bf16 :=
  truncf .bf16 (Host.dotGeneral (F := Ideal) Cert.QueryRefIdeal.dot_S16384x1024_S1024x1024_S16384x1024_1_0_0_1_n_n none h w) bitsLt_bf16_f32

theorem product_at (h : FVec Ideal S16384x1024 .f32) (w : FVec Ideal S1024x1024 .f32) (i : Fin 16384) (j : Fin 1024) :
    product h w (ix2 i j) = ∑ k : Fin 1024, (h (ix2 i k) : EReal) * w (ix2 k j) := by
  unfold product
  pointwise

/-- One tile of the product at an index. -/
theorem tile_at (x y : Vec Ideal S1024x1024 .bf16) (a b : Fin 1024) :
    k0_pay1 x y (ix2 a b) = ∑ k : Fin 1024, (x (ix2 a k) : EReal) * y (ix2 k b) := by
  unfold k0_pay1
  pointwise

/-- What the call finds in its arguments: the normalised input and the weights. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg1)) bitsLt_bf16_f32 : FVec Ideal S1024x1024 .bf16) := by
  simp only [V, hostOps0]
  after_results_simp <;> rfl

theorem points (t : Fin cfg0.N) : t.val < 16 := lt_of_lt_of_eq t.isLt N_0

/-- The place of a tile in the arrays, whose windows move alike. -/
theorem place (t : Fin cfg0.N) (a b : Fin 1024) : ((cfg0.win 0).blk t).view.emb (ix2 a b) = ix2 (tileRow t.val (points t) a) b := by
  obtain ⟨h0, h1⟩ := index_0 t
  refine funext fun d => Fin.ext ?_
  match d with
  | ⟨0, _⟩ => show win0_0.index t 0 * 1024 + 1 * a.val = t.val * 1024 + a.val; omega
  | ⟨1, _⟩ => show win0_0.index t 1 * 1024 + 1 * b.val = b.val; omega

theorem block_0 (t : Fin cfg0.N) (a k : Fin 1024) : (iblk m c 0 t (ix2 a k) : EReal) = (m ((c : Thread nD τ).loc main_arg0)) (ix2 (tileRow t.val (points t) a) k) := by
  show ((cfg0.win 0).blk t).view.read (Elt Ideal) (V m c main_v0) (ix2 a k) = _
  rw [found_0, View.read_apply]
  exact congrArg (m ((c : Thread nD τ).loc main_arg0)) (place t a k)

theorem block_1 (t : Fin cfg0.N) (k b : Fin 1024) : (iblk m c 1 t (ix2 k b) : EReal) = (m ((c : Thread nD τ).loc main_arg1)) (ix2 k b) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 1024 + 1 * k.val = k.val; omega
  | ⟨1, _⟩ => show win0_1.index t 1 * 1024 + 1 * b.val = b.val; omega

/-- The array that the call returns is the reference's product. -/
theorem value : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  refine (tile_at _ _ a b).trans (Eq.trans (Finset.sum_congr rfl fun k _ => ?_) ((congrArg _ (place t a b)).trans (product_at _ _ _ _)).symm)
  rw [block_0, block_1]

end Cert.Xa.Query

namespace Cert.Xa.QueryGrad

open Cert.QueryGradIdeal Cert.QueryGradIdeal.Gen
open Idealize.ShloMosaic Idealize.ShloMosaic.TcCoe
open Cert.Out (tileRow)

variable (m : (ℓ : Loc nD τ sig) → Buf (Elt Ideal) ℓ) (c : Dev nD)

theorem index_0 : ∀ t : Fin cfg0.N, win0_0.index t 0 = t.val ∧ win0_0.index t 1 = 0 := by decide +kernel
theorem index_2 : ∀ t : Fin cfg0.N, win0_2.index t 0 = 0 ∧ win0_2.index t 1 = 0 := by decide +kernel

/-- One block's product at an index. -/
theorem tile_at (x y : Vec Ideal S1024x1024 .bf16) (a b : Fin 1024) :
    k0_pay1 x y (ix2 a b) = ∑ k : Fin 1024, (x (ix2 k a) : EReal) * y (ix2 k b) := by
  unfold k0_pay1
  pointwise

theorem step_at (x y : Vec Ideal S1024x1024 .bf16) (z : Vec Ideal S1024x1024 .f32) (i : S1024x1024.Idx) :
    k0_pay2 x y z i = (z i : EReal) + k0_pay1 x y i := by
  unfold k0_pay2
  pointwise

/-- What the call finds in its arguments: the normalised input and the cotangent. -/
theorem found_0 : V m c main_v0 = (truncf .bf16 (m ((c : Thread nD τ).loc main_arg0)) bitsLt_bf16_f32 : FVec Ideal S16384x1024 .bf16) := by
  simp only [V, hostOps0]
  after_results_simp <;> rfl

theorem found_1 : V m c main_v1 = (truncf .bf16 (m ((c : Thread nD τ).loc main_arg2)) bitsLt_bf16_f32 : FVec Ideal S16384x1024 .bf16) := by
  simp only [V, hostOps0]
  after_results_simp <;> rfl

theorem points (t : Fin cfg0.N) : t.val < 16 := lt_of_lt_of_eq t.isLt N_0

/-- The place of a block in the arguments, whose windows move alike. -/
theorem place (t : Fin cfg0.N) (k a : Fin 1024) : ((cfg0.win 0).blk t).view.emb (ix2 k a) = ix2 (tileRow t.val (points t) k) a := by
  obtain ⟨h0, h1⟩ := index_0 t
  refine funext fun d => Fin.ext ?_
  match d with
  | ⟨0, _⟩ => show win0_0.index t 0 * 1024 + 1 * k.val = t.val * 1024 + k.val; omega
  | ⟨1, _⟩ => show win0_0.index t 1 * 1024 + 1 * a.val = a.val; omega

theorem block_0 (t : Fin cfg0.N) (k a : Fin 1024) : (iblk m c 0 t (ix2 k a) : EReal) = (m ((c : Thread nD τ).loc main_arg0)) (ix2 (tileRow t.val (points t) k) a) := by
  show ((cfg0.win 0).blk t).view.read (Elt Ideal) (V m c main_v0) (ix2 k a) = _
  rw [found_0, View.read_apply]
  exact congrArg (m ((c : Thread nD τ).loc main_arg0)) (place t k a)

theorem block_1 (t : Fin cfg0.N) (k b : Fin 1024) : (iblk m c 1 t (ix2 k b) : EReal) = (m ((c : Thread nD τ).loc main_arg2)) (ix2 (tileRow t.val (points t) k) b) := by
  show ((cfg0.win 1).blk t).view.read (Elt Ideal) (V m c main_v1) (ix2 k b) = _
  rw [found_1, View.read_apply]
  exact congrArg (m ((c : Thread nD τ).loc main_arg2)) (place t k b)

theorem place_2 (t : Fin cfg0.N) (a b : Fin 1024) : ((View.whole main_v2).slice (win0_2.rect t)).emb (ix2 a b) = ix2 a b := by
  obtain ⟨h0, h1⟩ := index_2 t
  refine funext fun d => Fin.ext ?_
  match d with
  | ⟨0, _⟩ => show win0_2.index t 0 * 1024 + 1 * a.val = a.val; omega
  | ⟨1, _⟩ => show win0_2.index t 1 * 1024 + 1 * b.val = b.val; omega

/-- The sixteen points whose products are added up. -/
def point (t : Fin cfg0.N) (s : Fin 16) : Fin cfg0.N := ⟨16 * (t.val / 16) + s.val, by have := points t; have : cfg0.N = 16 := N_0; omega⟩

theorem row_point (t : Fin cfg0.N) (s : Fin 16) (k : Fin 1024) (h : s.val * 1024 + k.val < 16384) :
    tileRow (point t s).val (points _) k = ⟨s.val * 1024 + k.val, h⟩ :=
  Fin.ext (by show (16 * (t.val / 16) + s.val) * 1024 + k.val = s.val * 1024 + k.val; have := points t; omega)

/-- The sum after the last point. -/
theorem total (t : Fin cfg0.N) (ht : t.val % 16 = 15) (y : S1024x1024.Idx) :
    (outsAt0 m c t.val t.isLt y : EReal) = ∑ s : Fin 16, (k0_pay1 (F := Ideal) (iblk m c 0 (point t s)) (iblk m c 1 (point t s)) y : EReal) := by
  rw [Pipeline.eq_sum_fin_of_reset_step_apply_of_flush (M := EReal) (fun n h => outsAt0 m c n h) 16 (fun _ => 0)
    (fun t y => k0_pay1 (F := Ideal) (iblk m c 0 t) (iblk m c 1 t) y)
    (fun t h j => by rw [outsAt0_A m c t h (by have := points t; omega)]; frame_out; exact (zero_add _).symm)
    (fun t h j => by rw [outsAt0_B m c t h (by omega)]; frame_out; rw [step_at]) t ht y]
  exact zero_add _

/-- The array that the call returns is the reference's product. -/
theorem value : (dats m 0 c).arrAt 2 cfg0.N = Out.Grad.product (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2]
  obtain ⟨a, b, rfl⟩ : ∃ (a : Fin 1024) (b : Fin 1024), y = ix2 a b := ⟨y 0, y 1, eq_ix2 y⟩
  rw [place_2]
  refine (total m c t ht _).trans (Eq.trans (Finset.sum_congr rfl fun s _ => tile_at _ _ a b)
    ((Fin.sum_mul_add_congr fun s k hl => ?_).trans (Out.Grad.product_at _ _ _ _).symm))
  rw [block_0, block_1, row_point t s k hl]

end Cert.Xa.QueryGrad

end
-- ==== Proof.Branches.lean ====
module

public import proofs.«01_k».proof.Proof.Gen.BranchIdeal.Value
public import proofs.«01_k».proof.Proof.Gen.BranchRefIdeal.Run
public import proofs.«01_k».proof.Proof.Gen.BranchGradIdeal.Value
public import proofs.«01_k».proof.Proof.Gen.BranchGradRefIdeal.Run
public import proofs.«01_k».proof.Proof.Gen.BranchBackIdeal.Value
public import proofs.«01_k».proof.Proof.Gen.BranchBackRefIdeal.Run
public import proofs.«01_k».proof.Proof.XaQuery
public import Idealize.ShloMosaic.Lib.Pipeline.ValueKit
public import Idealize.ShloMosaic.Lib.Pointwise

@[expose] public section

set_option maxRecDepth 16384

noncomputable section

/-!
# The products of the mixers' branches and their gradients

A branch has 512 columns and is multiplied by its weights into the model's 1024. The product and the gradient with respect to the
branch go by blocks of 1024 rows; the gradient of the weights adds up the sixteen blocks' products.
-/

namespace Cert.Mix.Branch

open Cert.BranchIdeal Cert.BranchIdeal.Gen
open Idealize.ShloMosaic Idealize.ShloMosaic.TcCoe
open Cert.Out (tileRow)

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

/-- The reference's product. -/
def product (y : FVec Ideal S16384x512 .f32) (w : FVec Ideal S512x1024 .f32) : FVec Ideal S16384x1024 .bf16 :=
  truncf .bf16 (Host.dotGeneral (F := Ideal) Cert.BranchRefIdeal.dot_S16384x512_S512x1024_S16384x1024_1_0_0_1_n_n none y w) bitsLt_bf16_f32

theorem product_at (y : FVec Ideal S16384x512 .f32) (w : FVec Ideal S512x1024 .f32) (i : Fin 16384) (j : Fin 1024) :
    product y w (ix2 i j) = ∑ k : Fin 512, (y (ix2 i k) : EReal) * w (ix2 k j) := by
  unfold product
  pointwise

/-- One tile of the product at an index. -/
theorem tile_at (x : Vec Ideal S1024x512 .bf16) (y : Vec Ideal S512x1024 .bf16) (a b : Fin 1024) :
    k0_pay1 x y (ix2 a b) = ∑ k : Fin 512, (x (ix2 a k) : EReal) * y (ix2 k b) := by
  unfold k0_pay1
  pointwise

/-- What the call finds in its arguments: the branch and the weights. -/
theorem found_0 : V m c main_v0 = (truncf .bf16 (m ((c : Thread nD τ).loc main_arg0)) bitsLt_bf16_f32 : FVec Ideal S16384x512 .bf16) := by
  simp only [V, hostOps0]
  after_results_simp <;> rfl

theorem found_1 : V m c main_v1 = (truncf .bf16 (m ((c : Thread nD τ).loc main_arg1)) bitsLt_bf16_f32 : FVec Ideal S512x1024 .bf16) := by
  simp only [V, hostOps0]
  after_results_simp <;> rfl

theorem points (t : Fin cfg0.N) : t.val < 16 := lt_of_lt_of_eq t.isLt N_0

theorem block_0 (t : Fin cfg0.N) (a : Fin 1024) (k : Fin 512) : (iblk m c 0 t (ix2 a k) : EReal) = (m ((c : Thread nD τ).loc main_arg0)) (ix2 (tileRow t.val (points t) a) k) := by
  obtain ⟨h0, h1⟩ := index_0 t
  show ((cfg0.win 0).blk t).view.read (Elt Ideal) (V m c main_v0) (ix2 a k) = _
  rw [found_0, View.read_apply]
  refine congrArg (m ((c : Thread nD τ).loc main_arg0)) (funext fun d => Fin.ext ?_)
  match d with
  | ⟨0, _⟩ => show win0_0.index t 0 * 1024 + 1 * a.val = t.val * 1024 + a.val; omega
  | ⟨1, _⟩ => show win0_0.index t 1 * 512 + 1 * k.val = k.val; omega

theorem block_1 (t : Fin cfg0.N) (k : Fin 512) (b : Fin 1024) : (iblk m c 1 t (ix2 k b) : EReal) = (m ((c : Thread nD τ).loc main_arg1)) (ix2 k b) := by
  obtain ⟨h0, h1⟩ := index_1 t
  show ((cfg0.win 1).blk t).view.read (Elt Ideal) (V m c main_v1) (ix2 k b) = _
  rw [found_1, View.read_apply]
  refine congrArg (m ((c : Thread nD τ).loc main_arg1)) (funext fun d => Fin.ext ?_)
  match d with
  | ⟨0, _⟩ => show win0_1.index t 0 * 512 + 1 * k.val = k.val; omega
  | ⟨1, _⟩ => show win0_1.index t 1 * 1024 + 1 * b.val = b.val; omega

theorem place_2 (t : Fin cfg0.N) (a b : Fin 1024) : ((View.whole main_v2).slice (win0_2.rect t)).emb (ix2 a b) = ix2 (tileRow t.val (points t) a) b := by
  obtain ⟨h0, h1⟩ := index_2 t
  refine funext fun d => Fin.ext ?_
  match d with
  | ⟨0, _⟩ => show win0_2.index t 0 * 1024 + 1 * a.val = t.val * 1024 + a.val; omega
  | ⟨1, _⟩ => show win0_2.index t 1 * 1024 + 1 * b.val = b.val; omega

/-- The array that the call returns is the reference's product. -/
theorem value : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  rw [place_2]
  refine (tile_at _ _ a b).trans (Eq.trans (Finset.sum_congr rfl fun k _ => ?_) (product_at _ _ _ _).symm)
  rw [block_0, block_1]

end Cert.Mix.Branch

namespace Cert.Mix.BranchGrad

open Cert.BranchGradIdeal Cert.BranchGradIdeal.Gen
open Idealize.ShloMosaic Idealize.ShloMosaic.TcCoe
open Cert.Out (tileRow)

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel

/-- The reference's product. -/
def product (y : FVec Ideal S16384x512 .f32) (d : FVec Ideal S16384x1024 .f32) : FVec Ideal S512x1024 .f32 :=
  transpose S512x1024 [1, 0] (Host.dotGeneral (F := Ideal) Cert.BranchGradRefIdeal.dot_S16384x1024_S16384x512_S1024x512_0_0_1_1_n_n none d y)
    (by decide)

theorem product_at (y : FVec Ideal S16384x512 .f32) (d : FVec Ideal S16384x1024 .f32) (i : Fin 512) (j : Fin 1024) :
    product y d (ix2 i j) = ∑ k : Fin 16384, (y (ix2 k i) : EReal) * d (ix2 k j) := by
  unfold product
  pointwise
  exact Finset.sum_congr rfl fun k _ => mul_comm _ _

/-- One block's product at an index. -/
theorem tile_at (x : Vec Ideal S1024x512 .bf16) (y : Vec Ideal S1024x1024 .bf16) (a : Fin 512) (b : Fin 1024) :
    k0_pay1 x y (ix2 a b) = ∑ k : Fin 1024, (x (ix2 k a) : EReal) * y (ix2 k b) := by
  unfold k0_pay1
  pointwise

theorem step_at (x : Vec Ideal S1024x512 .bf16) (y : Vec Ideal S1024x1024 .bf16) (z : Vec Ideal S512x1024 .f32) (i : S512x1024.Idx) :
    k0_pay2 x y z i = (z i : EReal) + k0_pay1 x y i := by
  unfold k0_pay2
  pointwise

/-- What the call finds in its arguments: the branch and the cotangent. -/
theorem found_0 : V m c main_v0 = (truncf .bf16 (m ((c : Thread nD τ).loc main_arg0)) bitsLt_bf16_f32 : FVec Ideal S16384x512 .bf16) := by
  simp only [V, hostOps0]
  after_results_simp <;> rfl

theorem found_1 : V m c main_v1 = (truncf .bf16 (m ((c : Thread nD τ).loc main_arg2)) bitsLt_bf16_f32 : FVec Ideal S16384x1024 .bf16) := by
  simp only [V, hostOps0]
  after_results_simp <;> rfl

theorem points (t : Fin cfg0.N) : t.val < 16 := lt_of_lt_of_eq t.isLt N_0

theorem block_0 (t : Fin cfg0.N) (k : Fin 1024) (a : Fin 512) : (iblk m c 0 t (ix2 k a) : EReal) = (m ((c : Thread nD τ).loc main_arg0)) (ix2 (tileRow t.val (points t) k) a) := by
  obtain ⟨h0, h1⟩ := index_0 t
  show ((cfg0.win 0).blk t).view.read (Elt Ideal) (V m c main_v0) (ix2 k a) = _
  rw [found_0, View.read_apply]
  refine congrArg (m ((c : Thread nD τ).loc main_arg0)) (funext fun d => Fin.ext ?_)
  match d with
  | ⟨0, _⟩ => show win0_0.index t 0 * 1024 + 1 * k.val = t.val * 1024 + k.val; omega
  | ⟨1, _⟩ => show win0_0.index t 1 * 512 + 1 * a.val = a.val; omega

theorem block_1 (t : Fin cfg0.N) (k b : Fin 1024) : (iblk m c 1 t (ix2 k b) : EReal) = (m ((c : Thread nD τ).loc main_arg2)) (ix2 (tileRow t.val (points t) k) b) := by
  obtain ⟨h0, h1⟩ := index_1 t
  show ((cfg0.win 1).blk t).view.read (Elt Ideal) (V m c main_v1) (ix2 k b) = _
  rw [found_1, View.read_apply]
  refine congrArg (m ((c : Thread nD τ).loc main_arg2)) (funext fun d => Fin.ext ?_)
  match d with
  | ⟨0, _⟩ => show win0_1.index t 0 * 1024 + 1 * k.val = t.val * 1024 + k.val; omega
  | ⟨1, _⟩ => show win0_1.index t 1 * 1024 + 1 * b.val = b.val; omega

theorem place_2 (t : Fin cfg0.N) (a : Fin 512) (b : Fin 1024) : ((View.whole main_v2).slice (win0_2.rect t)).emb (ix2 a b) = ix2 a b := by
  obtain ⟨h0, h1⟩ := index_2 t
  refine funext fun d => Fin.ext ?_
  match d with
  | ⟨0, _⟩ => show win0_2.index t 0 * 512 + 1 * a.val = a.val; omega
  | ⟨1, _⟩ => show win0_2.index t 1 * 1024 + 1 * b.val = b.val; omega

/-- The sixteen points whose products are added up. -/
def point (t : Fin cfg0.N) (s : Fin 16) : Fin cfg0.N := ⟨16 * (t.val / 16) + s.val, by have := points t; have : cfg0.N = 16 := N_0; omega⟩

theorem row_point (t : Fin cfg0.N) (s : Fin 16) (k : Fin 1024) (h : s.val * 1024 + k.val < 16384) :
    tileRow (point t s).val (points _) k = ⟨s.val * 1024 + k.val, h⟩ :=
  Fin.ext (by show (16 * (t.val / 16) + s.val) * 1024 + k.val = s.val * 1024 + k.val; have := points t; omega)

/-- The sum after the last point. -/
theorem total (t : Fin cfg0.N) (ht : t.val % 16 = 15) (y : S512x1024.Idx) :
    (outsAt0 m c t.val t.isLt y : EReal) = ∑ s : Fin 16, (k0_pay1 (F := Ideal) (iblk m c 0 (point t s)) (iblk m c 1 (point t s)) y : EReal) := by
  rw [Pipeline.eq_sum_fin_of_reset_step_apply_of_flush (M := EReal) (fun n h => outsAt0 m c n h) 16 (fun _ => 0)
    (fun t y => k0_pay1 (F := Ideal) (iblk m c 0 t) (iblk m c 1 t) y)
    (fun t h j => by rw [outsAt0_A m c t h (by have := points t; omega)]; frame_out; exact (zero_add _).symm)
    (fun t h j => by rw [outsAt0_B m c t h (by omega)]; frame_out; rw [step_at]) t ht y]
  exact zero_add _

/-- The array that the call returns is the reference's product. -/
theorem value : (dats m 0 c).arrAt 2 cfg0.N = product (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2]
  obtain ⟨a, b, rfl⟩ : ∃ (a : Fin 512) (b : Fin 1024), y = ix2 a b := ⟨y 0, y 1, eq_ix2 y⟩
  rw [place_2]
  refine (total m c t ht _).trans (Eq.trans (Finset.sum_congr rfl fun s _ => tile_at _ _ a b)
    ((Fin.sum_mul_add_congr fun s k hl => ?_).trans (product_at _ _ _ _).symm))
  rw [block_0, block_1, row_point t s k hl]

end Cert.Mix.BranchGrad

namespace Cert.Mix.BranchBack

open Cert.BranchBackIdeal Cert.BranchBackIdeal.Gen
open Idealize.ShloMosaic Idealize.ShloMosaic.TcCoe
open Cert.Out (tileRow)

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

/-- The reference's product. -/
def product (d : FVec Ideal S16384x1024 .f32) (w : FVec Ideal S512x1024 .f32) : FVec Ideal S16384x512 .f32 :=
  Host.dotGeneral (F := Ideal) Cert.BranchBackRefIdeal.dot_S16384x1024_S512x1024_S16384x512_1_1_0_0_n_n none d w

theorem product_at (d : FVec Ideal S16384x1024 .f32) (w : FVec Ideal S512x1024 .f32) (i : Fin 16384) (j : Fin 512) :
    product d w (ix2 i j) = ∑ k : Fin 1024, (d (ix2 i k) : EReal) * w (ix2 j k) := by
  unfold product
  pointwise

/-- One tile of the product at an index. -/
theorem tile_at (x : Vec Ideal S1024x1024 .bf16) (y : Vec Ideal S1024x512 .bf16) (a : Fin 1024) (b : Fin 512) :
    k0_pay1 x y (ix2 a b) = ∑ k : Fin 1024, (x (ix2 a k) : EReal) * y (ix2 k b) := by
  unfold k0_pay1
  pointwise

/-- The transposed weights at an index. -/
theorem turned_at (w : FVec Ideal S512x1024 .f32) (k : Fin 1024) (b : Fin 512) :
    ((truncf .bf16 (transpose S1024x512 [1, 0] w transposes_S512x1024_S1024x512_1_0) bitsLt_bf16_f32 : FVec Ideal S1024x512 .bf16) (ix2 k b) : EReal) = w (ix2 b k) := by
  pointwise

/-- What the call finds in its arguments: the cotangent and the transposed weights. -/
theorem found_0 : V m c main_v0 = (truncf .bf16 (m ((c : Thread nD τ).loc main_arg2)) bitsLt_bf16_f32 : FVec Ideal S16384x1024 .bf16) := by
  simp only [V, hostOps0]
  after_results_simp <;> rfl

theorem found_1 : V m c main_v2 = (truncf .bf16 (transpose S1024x512 [1, 0] (m ((c : Thread nD τ).loc main_arg1)) transposes_S512x1024_S1024x512_1_0) bitsLt_bf16_f32 : FVec Ideal S1024x512 .bf16) := by
  simp only [V, hostOps0]
  after_results_simp <;> rfl

theorem points (t : Fin cfg0.N) : t.val < 16 := lt_of_lt_of_eq t.isLt N_0

theorem block_0 (t : Fin cfg0.N) (a k : Fin 1024) : (iblk m c 0 t (ix2 a k) : EReal) = (m ((c : Thread nD τ).loc main_arg2)) (ix2 (tileRow t.val (points t) a) k) := by
  obtain ⟨h0, h1⟩ := index_0 t
  show ((cfg0.win 0).blk t).view.read (Elt Ideal) (V m c main_v0) (ix2 a k) = _
  rw [found_0, View.read_apply]
  refine congrArg (m ((c : Thread nD τ).loc main_arg2)) (funext fun d => Fin.ext ?_)
  match d with
  | ⟨0, _⟩ => show win0_0.index t 0 * 1024 + 1 * a.val = t.val * 1024 + a.val; omega
  | ⟨1, _⟩ => show win0_0.index t 1 * 1024 + 1 * k.val = k.val; omega

theorem block_1 (t : Fin cfg0.N) (k : Fin 1024) (b : Fin 512) : (iblk m c 1 t (ix2 k b) : EReal) = (m ((c : Thread nD τ).loc main_arg1)) (ix2 b k) := by
  obtain ⟨h0, h1⟩ := index_1 t
  show ((cfg0.win 1).blk t).view.read (Elt Ideal) (V m c main_v2) (ix2 k b) = _
  have e : ((cfg0.win 1).blk t).view.emb (ix2 k b) = ix2 k b := by
    refine funext fun d => Fin.ext ?_
    match d with
    | ⟨0, _⟩ => show win0_1.index t 0 * 1024 + 1 * k.val = k.val; omega
    | ⟨1, _⟩ => show win0_1.index t 1 * 512 + 1 * b.val = b.val; omega
  rw [found_1, View.read_apply, e]
  exact turned_at _ k b

theorem place_2 (t : Fin cfg0.N) (a : Fin 1024) (b : Fin 512) : ((View.whole main_v3).slice (win0_2.rect t)).emb (ix2 a b) = ix2 (tileRow t.val (points t) a) b := by
  obtain ⟨h0, h1⟩ := index_2 t
  refine funext fun d => Fin.ext ?_
  match d with
  | ⟨0, _⟩ => show win0_2.index t 0 * 1024 + 1 * a.val = t.val * 1024 + a.val; omega
  | ⟨1, _⟩ => show win0_2.index t 1 * 512 + 1 * b.val = b.val; omega

/-- The array that the call returns is the reference's product. -/
theorem value : (dats m 0 c).arrAt 2 cfg0.N = product (m ((c : Thread nD τ).loc main_arg2)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 512), y = ix2 a b := ⟨y 0, y 1, eq_ix2 y⟩
  rw [place_2]
  refine (tile_at _ _ a b).trans (Eq.trans (Finset.sum_congr rfl fun k _ => ?_) (product_at _ _ _ _).symm)
  rw [block_0, block_1]

end Cert.Mix.BranchBack

end
-- ==== Proof.MixMerge.lean ====
module

public import proofs.«01_k».proof.Proof.Gen.MergeIdeal.Value
public import proofs.«01_k».proof.Proof.Gen.MergeRefIdeal.Run
public import proofs.«01_k».proof.Proof.MlpReal
public import Idealize.ShloMosaic.Lib.Pipeline.ValueKit
public import Idealize.ShloMosaic.Lib.Pointwise

@[expose] public section

set_option maxRecDepth 16384

noncomputable section

/-!
# The sum of the gated branches of the mixers

The gates are the first three groups of columns of the projection. Each branch is multiplied by the sigmoid of its gate, and the
three are added.
-/

namespace Cert.Mix.Merge

open Cert.MergeIdeal Cert.MergeIdeal.Gen
open Idealize.ShloMosaic Idealize.ShloMosaic.TcCoe

variable (p : FVec Ideal S16384x7680 .f32) (x y z : FVec Ideal S16384x1024 .f32)

/-- Column `j` of the group of columns `n` of the projection. -/
def col (n : Fin 3) (j : Fin 1024) : Fin 7680 := ⟨n.val * 1024 + j.val, by omega⟩

/-- The three gates, cut out of the projection. -/
def gate₀ : FVec Ideal S16384x1024 .f32 := extractStridedSlice S16384x1024 ![0, 0] p Cert.MergeRefIdeal.Gen.slices_S16384x7680_S16384x1024_0_0
def gate₁ : FVec Ideal S16384x1024 .f32 := extractStridedSlice S16384x1024 ![0, 1024] p Cert.MergeRefIdeal.Gen.slices_S16384x7680_S16384x1024_0_1024
def gate₂ : FVec Ideal S16384x1024 .f32 := extractStridedSlice S16384x1024 ![0, 2048] p Cert.MergeRefIdeal.Gen.slices_S16384x7680_S16384x1024_0_2048

theorem gate₀_at (i : Fin 16384) (j : Fin 1024) : gate₀ p (ix2 i j) = (p (ix2 i (col 0 j)) : EReal) := by
  unfold gate₀
  pointwise
  exact congrArg p (congrArg (ix2 i) (Fin.ext (by simp [col])))

theorem gate₁_at (i : Fin 16384) (j : Fin 1024) : gate₁ p (ix2 i j) = (p (ix2 i (col 1 j)) : EReal) := by
  unfold gate₁
  pointwise
  exact congrArg p (congrArg (ix2 i) (Fin.ext (by simp [col])))

theorem gate₂_at (i : Fin 16384) (j : Fin 1024) : gate₂ p (ix2 i j) = (p (ix2 i (col 2 j)) : EReal) := by
  unfold gate₂
  pointwise
  exact congrArg p (congrArg (ix2 i) (Fin.ext (by simp [col])))

/-- The reference's sigmoid. -/
def opened (g : FVec Ideal S16384x1024 .f32) : FVec Ideal S16384x1024 .f32 :=
  Host.divf (broadcastInDim S16384x1024 ![] (by decide) (constant Cert.MergeRefIdeal.S_ .f32 0x3F800000#32))
    (addf (broadcastInDim S16384x1024 ![] (by decide) (constant Cert.MergeRefIdeal.S_ .f32 0x3F800000#32)) (Host.exp (Host.negf g)))

theorem opened_at (g : FVec Ideal S16384x1024 .f32) (i : S16384x1024.Idx) : opened g i = Mlp.logistic (g i) := by
  unfold opened Mlp.logistic
  pointwise

/-- The reference's sum. -/
def merged : FVec Ideal S16384x1024 .bf16 :=
  truncf .bf16 (addf (addf (mulf (opened (gate₀ p)) x) (mulf (opened (gate₁ p)) y)) (mulf (opened (gate₂ p)) z)) bitsLt_bf16_f32

theorem merged_at (i : Fin 16384) (j : Fin 1024) :
    merged p x y z (ix2 i j) = Mlp.logistic (p (ix2 i (col 0 j))) * x (ix2 i j) + Mlp.logistic (p (ix2 i (col 1 j))) * y (ix2 i j)
      + Mlp.logistic (p (ix2 i (col 2 j))) * z (ix2 i j) := by
  rw [← gate₀_at p i j, ← gate₁_at p i j, ← gate₂_at p i j, ← opened_at, ← opened_at, ← opened_at]
  unfold merged
  generalize opened (gate₀ p) = a
  generalize opened (gate₁ p) = b
  generalize opened (gate₂ p) = c
  pointwise

/-- One tile of the sum at an index. -/
theorem tile_at (p q r : Vec Ideal S256x1024 .f32) (x y z : Vec Ideal S256x1024 .bf16) (i : S256x1024.Idx) :
    k0_pay1 (k0_pay2 p x q y r z) i = Mlp.logistic (p i) * x i + Mlp.logistic (q i) * y i + Mlp.logistic (r i) * z i := by
  unfold k0_pay1 k0_pay2
  pointwise
  simp only [zero_sub, Mlp.logistic]

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 1 := by decide +kernel
theorem index_2 : ∀ t : Fin cfg0.N, win0_2.index t 0 = t.val ∧ win0_2.index t 1 = 2 := by decide +kernel
theorem index_6 : ∀ t : Fin cfg0.N, win0_6.index t 0 = t.val ∧ win0_6.index t 1 = 0 := by decide +kernel

/-- What the call finds in its arguments: the three branches. -/
theorem found_3 : V m c main_v0 = (truncf .bf16 (m ((c : Thread nD τ).loc main_arg1)) bitsLt_bf16_f32 : FVec Ideal S16384x1024 .bf16) := by
  simp only [V, hostOps0]
  after_results_simp <;> rfl

theorem found_4 : V m c main_v1 = (truncf .bf16 (m ((c : Thread nD τ).loc main_arg2)) bitsLt_bf16_f32 : FVec Ideal S16384x1024 .bf16) := by
  simp only [V, hostOps0]
  after_results_simp <;> rfl

theorem found_5 : V m c main_v2 = (truncf .bf16 (m ((c : Thread nD τ).loc main_arg3)) bitsLt_bf16_f32 : FVec Ideal S16384x1024 .bf16) := by
  simp only [V, hostOps0]
  after_results_simp <;> rfl

theorem points : cfg0.N = 64 := N_0

/-- Row `a` of the block of rows of a grid point. -/
def row (t : Fin cfg0.N) (a : Fin 256) : Fin 16384 := ⟨t.val * 256 + a.val, by have := t.isLt; have := points; omega⟩

/-- The place of a tile of the branches, whose windows move alike. -/
theorem place (t : Fin cfg0.N) (a : Fin 256) (b : Fin 1024) : ((cfg0.win 6).blk t).view.emb (ix2 a b) = ix2 (row t a) b := by
  obtain ⟨h0, h1⟩ := index_6 t
  refine funext fun d => Fin.ext ?_
  match d with
  | ⟨0, _⟩ => show win0_6.index t 0 * 256 + 1 * a.val = t.val * 256 + a.val; omega
  | ⟨1, _⟩ => show win0_6.index t 1 * 1024 + 1 * b.val = b.val; omega

theorem block_0 (t : Fin cfg0.N) (a : Fin 256) (b : Fin 1024) : (X0_0 m c t (ix2 a b) : EReal) = (m ((c : Thread nD τ).loc main_arg0)) (ix2 (row t a) (col 0 b)) := by
  obtain ⟨h0, h1⟩ := index_0 t
  unfold X0_0 Pipeline.Window.fill
  rw [dif_pos (moved0_0 t _)]
  show ((cfg0.win 0).blk t).view.read (Elt Ideal) (V m c main_arg0) _ = _
  rw [V_main_arg0, View.read_apply]
  refine congrArg (m ((c : Thread nD τ).loc main_arg0)) (funext fun d => Fin.ext ?_)
  match d with
  | ⟨0, _⟩ => show win0_0.index t 0 * 256 + 1 * a.val = t.val * 256 + a.val; omega
  | ⟨1, _⟩ => show win0_0.index t 1 * 1024 + 1 * b.val = 0 * 1024 + b.val; omega

theorem block_1 (t : Fin cfg0.N) (a : Fin 256) (b : Fin 1024) : (X0_1 m c t (ix2 a b) : EReal) = (m ((c : Thread nD τ).loc main_arg0)) (ix2 (row t a) (col 1 b)) := by
  obtain ⟨h0, h1⟩ := index_1 t
  unfold X0_1 Pipeline.Window.fill
  rw [dif_pos (moved0_1 t _)]
  show ((cfg0.win 1).blk t).view.read (Elt Ideal) (V m c main_arg0) _ = _
  rw [V_main_arg0, View.read_apply]
  refine congrArg (m ((c : Thread nD τ).loc main_arg0)) (funext fun d => Fin.ext ?_)
  match d with
  | ⟨0, _⟩ => show win0_1.index t 0 * 256 + 1 * a.val = t.val * 256 + a.val; omega
  | ⟨1, _⟩ => show win0_1.index t 1 * 1024 + 1 * b.val = 1 * 1024 + b.val; omega

theorem block_2 (t : Fin cfg0.N) (a : Fin 256) (b : Fin 1024) : (X0_2 m c t (ix2 a b) : EReal) = (m ((c : Thread nD τ).loc main_arg0)) (ix2 (row t a) (col 2 b)) := by
  obtain ⟨h0, h1⟩ := index_2 t
  unfold X0_2 Pipeline.Window.fill
  rw [dif_pos (moved0_2 t _)]
  show ((cfg0.win 2).blk t).view.read (Elt Ideal) (V m c main_arg0) _ = _
  rw [V_main_arg0, View.read_apply]
  refine congrArg (m ((c : Thread nD τ).loc main_arg0)) (funext fun d => Fin.ext ?_)
  match d with
  | ⟨0, _⟩ => show win0_2.index t 0 * 256 + 1 * a.val = t.val * 256 + a.val; omega
  | ⟨1, _⟩ => show win0_2.index t 1 * 1024 + 1 * b.val = 2 * 1024 + b.val; omega

theorem block_3 (t : Fin cfg0.N) (a : Fin 256) (b : Fin 1024) : (iblk m c 3 t (ix2 a b) : EReal) = (m ((c : Thread nD τ).loc main_arg1)) (ix2 (row t a) b) := by
  show ((cfg0.win 3).blk t).view.read (Elt Ideal) (V m c main_v0) (ix2 a b) = _
  rw [found_3, View.read_apply]
  exact congrArg (m ((c : Thread nD τ).loc main_arg1)) (place t a b)

theorem block_4 (t : Fin cfg0.N) (a : Fin 256) (b : Fin 1024) : (iblk m c 4 t (ix2 a b) : EReal) = (m ((c : Thread nD τ).loc main_arg2)) (ix2 (row t a) b) := by
  show ((cfg0.win 4).blk t).view.read (Elt Ideal) (V m c main_v1) (ix2 a b) = _
  rw [found_4, View.read_apply]
  exact congrArg (m ((c : Thread nD τ).loc main_arg2)) (place t a b)

theorem block_5 (t : Fin cfg0.N) (a : Fin 256) (b : Fin 1024) : (iblk m c 5 t (ix2 a b) : EReal) = (m ((c : Thread nD τ).loc main_arg3)) (ix2 (row t a) b) := by
  show ((cfg0.win 5).blk t).view.read (Elt Ideal) (V m c main_v2) (ix2 a b) = _
  rw [found_5, View.read_apply]
  exact congrArg (m ((c : Thread nD τ).loc main_arg3)) (place t a b)

/-- The array that the call returns is the reference's sum. -/
theorem value : (dats m 0 c).arrAt 6 cfg0.N = merged (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  frame_out
  obtain ⟨a, b, rfl⟩ : ∃ (a : Fin 256) (b : Fin 1024), y = ix2 a b := ⟨y 0, y 1, eq_ix2 y⟩
  refine (tile_at _ _ _ _ _ _ _).trans (Eq.trans ?_ ((congrArg _ (place t a b)).trans (merged_at _ _ _ _ _ _)).symm)
  rw [block_0, block_1, block_2, block_3, block_4, block_5]

end Cert.Mix.Merge

end
-- ==== Proof.MixMergeBack.lean ====
module

public import proofs.«01_k».proof.Proof.Gen.MergeBackIdeal.Value
public import proofs.«01_k».proof.Proof.Gen.MergeBackRefIdeal.Run
public import proofs.«01_k».proof.Proof.MixMerge
public import Idealize.ShloMosaic.Lib.Pipeline.ValueKit
public import Idealize.ShloMosaic.Lib.Pointwise

@[expose] public section

set_option maxRecDepth 16384

noncomputable section

/-!
# The gradients through the sum of the gated branches

The gradient of a branch is the cotangent times the sigmoid of its gate, and the gradient of a gate goes through the derivative of
the sigmoid. Both are taken element by element.
-/

namespace Cert.Mix.MergeBack

open Cert.MergeBackIdeal Cert.MergeBackIdeal.Gen
open Idealize.ShloMosaic Idealize.ShloMosaic.TcCoe
open Cert.Mix.Merge (col gate₀ gate₁ gate₂ gate₀_at gate₁_at gate₂_at opened opened_at)

variable (g b d : FVec Ideal S16384x1024 .f32)

/-- The reference's gradient of a branch, of its gate `g` and the cotangent `d`. -/
def ofBranch : FVec Ideal S16384x1024 .bf16 :=
  truncf .bf16 (mulf (opened g) (shapeCast _ d Cert.MergeBackRefIdeal.Gen.shapeCasts_S16384x1024_S16384x1024)) bitsLt_bf16_f32

/-- The reference's gradient of a gate `g`, of its branch `b` and the cotangent `d`. -/
def ofGate : FVec Ideal S16384x1024 .bf16 :=
  truncf .bf16 (mulf (mulf (shapeCast _ d Cert.MergeBackRefIdeal.Gen.shapeCasts_S16384x1024_S16384x1024) b)
    (mulf (opened g) (subf (broadcastInDim S16384x1024 ![] (by decide) (constant Cert.MergeBackRefIdeal.S_ .f32 0x3F800000#32)) (opened g)))) bitsLt_bf16_f32

theorem ofBranch_at (i : Fin 16384) (j : Fin 1024) : ofBranch g d (ix2 i j) = (d (ix2 i j) : EReal) * Mlp.logistic (g (ix2 i j)) := by
  rw [← opened_at, mul_comm]
  unfold ofBranch
  generalize opened g = s
  pointwise

theorem ofGate_at (i : Fin 16384) (j : Fin 1024) :
    ofGate g b d (ix2 i j) = (d (ix2 i j) : EReal) * b (ix2 i j) * (Mlp.logistic (g (ix2 i j)) * (1 - Mlp.logistic (g (ix2 i j)))) := by
  rw [← opened_at]
  unfold ofGate
  generalize opened g = s
  pointwise

/-- The sigmoid of a tile, which the body spells once for each gate. -/
def openTile (g : Vec Ideal S256x1024 .f32) : FVec Ideal S256x1024 .f32 := k0_pay5 g

theorem openTile_at (g : Vec Ideal S256x1024 .f32) (i : S256x1024.Idx) : openTile g i = Mlp.logistic (g i) := by
  unfold openTile k0_pay5
  pointwise
  rw [zero_sub, Mlp.logistic]

/-- One tile of the gradients at an index. -/
theorem branch_at (d g : Vec Ideal S256x1024 .f32) (i : S256x1024.Idx) : k0_pay6 d g i = (d i : EReal) * Mlp.logistic (g i) := by
  rw [← openTile_at]
  unfold openTile k0_pay6
  generalize k0_pay5 g = s
  pointwise

theorem slope_at (d g : Vec Ideal S256x1024 .f32) (b : Vec Ideal S256x1024 .bf16) (i : S256x1024.Idx) :
    k0_pay7 d g b i = (d i : EReal) * b i * (Mlp.logistic (g i) * (1 - Mlp.logistic (g i))) := by
  rw [← openTile_at]
  unfold openTile k0_pay7
  generalize k0_pay5 g = s
  pointwise

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 1 := by decide +kernel
theorem index_2 : ∀ t : Fin cfg0.N, win0_2.index t 0 = t.val ∧ win0_2.index t 1 = 2 := by decide +kernel
theorem index_7 : ∀ t : Fin cfg0.N, win0_7.index t 0 = t.val ∧ win0_7.index t 1 = 0 := by decide +kernel

/-- What the call finds in its arguments: the three branches. -/
theorem found_3 : V m c main_v0 = (truncf .bf16 (m ((c : Thread nD τ).loc main_arg1)) bitsLt_bf16_f32 : FVec Ideal S16384x1024 .bf16) := by
  simp only [V, hostOps0]
  after_results_simp <;> rfl

theorem found_4 : V m c main_v1 = (truncf .bf16 (m ((c : Thread nD τ).loc main_arg2)) bitsLt_bf16_f32 : FVec Ideal S16384x1024 .bf16) := by
  simp only [V, hostOps0]
  after_results_simp <;> rfl

theorem found_5 : V m c main_v2 = (truncf .bf16 (m ((c : Thread nD τ).loc main_arg3)) bitsLt_bf16_f32 : FVec Ideal S16384x1024 .bf16) := by
  simp only [V, hostOps0]
  after_results_simp <;> rfl

theorem points : cfg0.N = 64 := N_0

/-- Row `a` of the block of rows of a grid point. -/
def row (t : Fin cfg0.N) (a : Fin 256) : Fin 16384 := ⟨t.val * 256 + a.val, by have := t.isLt; have := points; omega⟩

/-- The place of a tile of the width 1024 in its array: these windows move alike. -/
theorem place (t : Fin cfg0.N) (a : Fin 256) (b : Fin 1024) : ((cfg0.win 7).blk t).view.emb (ix2 a b) = ix2 (row t a) b := by
  obtain ⟨h0, h1⟩ := index_7 t
  refine funext fun d => Fin.ext ?_
  match d with
  | ⟨0, _⟩ => show win0_7.index t 0 * 256 + 1 * a.val = t.val * 256 + a.val; omega
  | ⟨1, _⟩ => show win0_7.index t 1 * 1024 + 1 * b.val = b.val; omega

theorem block_0 (t : Fin cfg0.N) (a : Fin 256) (b : Fin 1024) :
    (X0_0 m c t (ix2 a b) : EReal) = gate₀ (m ((c : Thread nD τ).loc main_arg0)) (ix2 (row t a) b) := by
  obtain ⟨h0, h1⟩ := index_0 t
  unfold X0_0 Pipeline.Window.fill
  rw [dif_pos (moved0_0 t _), gate₀_at]
  show ((cfg0.win 0).blk t).view.read (Elt Ideal) (V m c main_arg0) _ = _
  rw [V_main_arg0, View.read_apply]
  refine congrArg (m ((c : Thread nD τ).loc main_arg0)) (funext fun d => Fin.ext ?_)
  match d with
  | ⟨0, _⟩ => show win0_0.index t 0 * 256 + 1 * a.val = t.val * 256 + a.val; omega
  | ⟨1, _⟩ => show win0_0.index t 1 * 1024 + 1 * b.val = 0 * 1024 + b.val; omega

theorem block_1 (t : Fin cfg0.N) (a : Fin 256) (b : Fin 1024) :
    (X0_1 m c t (ix2 a b) : EReal) = gate₁ (m ((c : Thread nD τ).loc main_arg0)) (ix2 (row t a) b) := by
  obtain ⟨h0, h1⟩ := index_1 t
  unfold X0_1 Pipeline.Window.fill
  rw [dif_pos (moved0_1 t _), gate₁_at]
  show ((cfg0.win 1).blk t).view.read (Elt Ideal) (V m c main_arg0) _ = _
  rw [V_main_arg0, View.read_apply]
  refine congrArg (m ((c : Thread nD τ).loc main_arg0)) (funext fun d => Fin.ext ?_)
  match d with
  | ⟨0, _⟩ => show win0_1.index t 0 * 256 + 1 * a.val = t.val * 256 + a.val; omega
  | ⟨1, _⟩ => show win0_1.index t 1 * 1024 + 1 * b.val = 1 * 1024 + b.val; omega

theorem block_2 (t : Fin cfg0.N) (a : Fin 256) (b : Fin 1024) :
    (X0_2 m c t (ix2 a b) : EReal) = gate₂ (m ((c : Thread nD τ).loc main_arg0)) (ix2 (row t a) b) := by
  obtain ⟨h0, h1⟩ := index_2 t
  unfold X0_2 Pipeline.Window.fill
  rw [dif_pos (moved0_2 t _), gate₂_at]
  show ((cfg0.win 2).blk t).view.read (Elt Ideal) (V m c main_arg0) _ = _
  rw [V_main_arg0, View.read_apply]
  refine congrArg (m ((c : Thread nD τ).loc main_arg0)) (funext fun d => Fin.ext ?_)
  match d with
  | ⟨0, _⟩ => show win0_2.index t 0 * 256 + 1 * a.val = t.val * 256 + a.val; omega
  | ⟨1, _⟩ => show win0_2.index t 1 * 1024 + 1 * b.val = 2 * 1024 + b.val; omega

theorem block_3 (t : Fin cfg0.N) (a : Fin 256) (b : Fin 1024) : (iblk m c 3 t (ix2 a b) : EReal) = (m ((c : Thread nD τ).loc main_arg1)) (ix2 (row t a) b) := by
  show ((cfg0.win 3).blk t).view.read (Elt Ideal) (V m c main_v0) (ix2 a b) = _
  rw [found_3, View.read_apply]
  exact congrArg (m ((c : Thread nD τ).loc main_arg1)) (place t a b)

theorem block_4 (t : Fin cfg0.N) (a : Fin 256) (b : Fin 1024) : (iblk m c 4 t (ix2 a b) : EReal) = (m ((c : Thread nD τ).loc main_arg2)) (ix2 (row t a) b) := by
  show ((cfg0.win 4).blk t).view.read (Elt Ideal) (V m c main_v1) (ix2 a b) = _
  rw [found_4, View.read_apply]
  exact congrArg (m ((c : Thread nD τ).loc main_arg2)) (place t a b)

theorem block_5 (t : Fin cfg0.N) (a : Fin 256) (b : Fin 1024) : (iblk m c 5 t (ix2 a b) : EReal) = (m ((c : Thread nD τ).loc main_arg3)) (ix2 (row t a) b) := by
  show ((cfg0.win 5).blk t).view.read (Elt Ideal) (V m c main_v2) (ix2 a b) = _
  rw [found_5, View.read_apply]
  exact congrArg (m ((c : Thread nD τ).loc main_arg3)) (place t a b)

theorem block_6 (t : Fin cfg0.N) (a : Fin 256) (b : Fin 1024) : (iblk m c 6 t (ix2 a b) : EReal) = (m ((c : Thread nD τ).loc main_arg4)) (ix2 (row t a) b) := by
  show ((cfg0.win 6).blk t).view.read (Elt Ideal) (V m c main_arg4) (ix2 a b) = _
  rw [V_main_arg4, View.read_apply]
  exact congrArg (m ((c : Thread nD τ).loc main_arg4)) (place t a b)

/-- A tile of the gradient of a branch whose gate `G` the tile `X` is read from, and of the gradient of that gate. -/
theorem branch_tile (t : Fin cfg0.N) (X : Vec Ideal S256x1024 .f32) (G : FVec Ideal S16384x1024 .f32)
    (hX : ∀ a b, (X (ix2 a b) : EReal) = G (ix2 (row t a) b)) (y : S256x1024.Idx) :
    k0_pay6 (F := Ideal) (iblk m c 6 t) X y = ofBranch G (m ((c : Thread nD τ).loc main_arg4)) (((cfg0.win 7).blk t).view.emb y) := by
  obtain ⟨a, b, rfl⟩ : ∃ (a : Fin 256) (b : Fin 1024), y = ix2 a b := ⟨y 0, y 1, eq_ix2 y⟩
  refine (branch_at _ _ _).trans (Eq.trans ?_ ((congrArg _ (place t a b)).trans (ofBranch_at _ _ _ _)).symm)
  rw [block_6, hX]

theorem gate_tile (t : Fin cfg0.N) (X : Vec Ideal S256x1024 .f32) (Y : Vec Ideal S256x1024 .bf16) (G B : FVec Ideal S16384x1024 .f32)
    (hX : ∀ a b, (X (ix2 a b) : EReal) = G (ix2 (row t a) b)) (hY : ∀ a b, (Y (ix2 a b) : EReal) = B (ix2 (row t a) b)) (y : S256x1024.Idx) :
    k0_pay7 (F := Ideal) (iblk m c 6 t) X Y y = ofGate G B (m ((c : Thread nD τ).loc main_arg4)) (((cfg0.win 7).blk t).view.emb y) := by
  obtain ⟨a, b, rfl⟩ : ∃ (a : Fin 256) (b : Fin 1024), y = ix2 a b := ⟨y 0, y 1, eq_ix2 y⟩
  refine (slope_at _ _ _ _).trans (Eq.trans ?_ ((congrArg _ (place t a b)).trans (ofGate_at _ _ _ _ _)).symm)
  rw [block_6, hX, hY]

/-- The six arrays that the call returns are the reference's gradients. -/
theorem value_branch₀ : (dats m 0 c).arrAt 7 cfg0.N = ofBranch (gate₀ (m ((c : Thread nD τ).loc main_arg0))) (m ((c : Thread nD τ).loc main_arg4)) := by
  refine (dats m 0 c).arrAt_eq_of_covers 7 _ (by decide +kernel) fun t hf y => ?_
  blk_simp
  rw [after0_7]
  unfold outsAt0
  frame_out
  exact branch_tile m c t _ _ (block_0 m c t) y

theorem value_branch₁ : (dats m 0 c).arrAt 8 cfg0.N = ofBranch (gate₁ (m ((c : Thread nD τ).loc main_arg0))) (m ((c : Thread nD τ).loc main_arg4)) := by
  refine (dats m 0 c).arrAt_eq_of_covers 8 _ (by decide +kernel) fun t hf y => ?_
  blk_simp
  rw [after0_8]
  unfold outsAt0
  frame_out
  exact branch_tile m c t _ _ (block_1 m c t) y

theorem value_branch₂ : (dats m 0 c).arrAt 9 cfg0.N = ofBranch (gate₂ (m ((c : Thread nD τ).loc main_arg0))) (m ((c : Thread nD τ).loc main_arg4)) := by
  refine (dats m 0 c).arrAt_eq_of_covers 9 _ (by decide +kernel) fun t hf y => ?_
  blk_simp
  rw [after0_9]
  unfold outsAt0
  frame_out
  exact branch_tile m c t _ _ (block_2 m c t) y

theorem value_gate₀ : (dats m 0 c).arrAt 10 cfg0.N = ofGate (gate₀ (m ((c : Thread nD τ).loc main_arg0))) (m ((c : Thread nD τ).loc main_arg1)) (m ((c : Thread nD τ).loc main_arg4)) := by
  refine (dats m 0 c).arrAt_eq_of_covers 10 _ (by decide +kernel) fun t hf y => ?_
  blk_simp
  rw [after0_10]
  unfold outsAt0
  frame_out
  exact gate_tile m c t _ _ _ _ (block_0 m c t) (block_3 m c t) y

theorem value_gate₁ : (dats m 0 c).arrAt 11 cfg0.N = ofGate (gate₁ (m ((c : Thread nD τ).loc main_arg0))) (m ((c : Thread nD τ).loc main_arg2)) (m ((c : Thread nD τ).loc main_arg4)) := by
  refine (dats m 0 c).arrAt_eq_of_covers 11 _ (by decide +kernel) fun t hf y => ?_
  blk_simp
  rw [after0_11]
  unfold outsAt0
  frame_out
  exact gate_tile m c t _ _ _ _ (block_1 m c t) (block_4 m c t) y

theorem value_gate₂ : (dats m 0 c).arrAt 12 cfg0.N = ofGate (gate₂ (m ((c : Thread nD τ).loc main_arg0))) (m ((c : Thread nD τ).loc main_arg3)) (m ((c : Thread nD τ).loc main_arg4)) := by
  refine (dats m 0 c).arrAt_eq_of_covers 12 _ (by decide +kernel) fun t hf y => ?_
  blk_simp
  rw [after0_12]
  unfold outsAt0
  frame_out
  exact gate_tile m c t _ _ _ _ (block_2 m c t) (block_5 m c t) y

end Cert.Mix.MergeBack

end
-- ==== Proof.RmsForward.lean ====
module

public import proofs.«01_k».proof.Proof.Gen.RmsIdeal.Value
public import proofs.«01_k».proof.Proof.Gen.RmsRefIdeal.Run
public import proofs.«01_k».proof.Proof.MlpNorm
public import Idealize.ShloMosaic.Lib.Pipeline.ValueKit
public import Idealize.ShloMosaic.Lib.Pointwise

@[expose] public section

set_option maxRecDepth 16384

noncomputable section

/-!
# The norm

The call divides each row of a tile by the root of its mean square and multiplies it by the gain. The mean squares and the gain are
those of the gradient through the norm.
-/

namespace Cert.RmsForward

open Cert.RmsIdeal Cert.RmsIdeal.Gen
open Idealize.ShloMosaic Idealize.ShloMosaic.TcCoe

variable (x : FVec Ideal S16384x1024 .f32) (g : FVec Ideal S1024 .f32)

/-- The reference's normalised rows. -/
def normed : FVec Ideal S16384x1024 .bf16 :=
  truncf .bf16 (mulf (mulf x (broadcastInDim S16384x1024 ![0, 1] Cert.RmsRefIdeal.Gen.bcast_S16384x1_S16384x1024_0_1 (Host.rsqrt (Mlp.Norm.squares x))))
    (Mlp.Norm.gain g)) bitsLt_bf16_f32

theorem normed_at (i : Fin 16384) (j : Fin 1024) :
    normed x g (ix2 i j) = (x (ix2 i j) : EReal) * Mlp.Norm.inverseRoot (fun k => x (ix2 i k)) * g (ix1 j) := by
  have hs := Mlp.Norm.squares_at x i
  have hg := Mlp.Norm.gain_at g i j
  unfold normed Mlp.Norm.inverseRoot
  revert hs hg
  generalize Mlp.Norm.squares x = s
  generalize Mlp.Norm.gain g = t
  intro hs hg
  pointwise
  rw [hs, hg]

/-- One tile at an index. -/
theorem tile_at (x : Vec Ideal S512x1024 .f32) (g : Vec Ideal S1x1024 .f32) (a : Fin 512) (b : Fin 1024) :
    k0_pay1 x g (ix2 a b) = (x (ix2 a b) : EReal) * Mlp.Norm.inverseRoot (fun k => x (ix2 a k)) * g (ix2 0 b) := by
  unfold k0_pay1 Mlp.Norm.inverseRoot Mlp.Norm.meanSquare
  pointwise

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel

/-- What the call finds in its second argument: the gain as a row. -/
theorem found_1 : V m c main_v0 = (shapeCast S1x1024 (m ((c : Thread nD τ).loc main_arg1)) shapeCasts_S1024_S1x1024 : FVec Ideal S1x1024 .f32) := by
  simp only [V, hostOps0]
  after_results_simp <;> rfl

theorem points : cfg0.N = 32 := N_0

/-- Row `a` of the block of rows of a grid point. -/
def row (t : Fin cfg0.N) (a : Fin 512) : Fin 16384 := ⟨t.val * 512 + a.val, by have := t.isLt; have := points; omega⟩

/-- The place of a tile in the two arrays, whose windows move alike. -/
theorem place (t : Fin cfg0.N) (a : Fin 512) (b : Fin 1024) : ((cfg0.win 0).blk t).view.emb (ix2 a b) = ix2 (row t a) b := by
  obtain ⟨h0, h1⟩ := index_0 t
  refine funext fun d => Fin.ext ?_
  match d with
  | ⟨0, _⟩ => show win0_0.index t 0 * 512 + 1 * a.val = t.val * 512 + a.val; omega
  | ⟨1, _⟩ => show win0_0.index t 1 * 1024 + 1 * b.val = b.val; omega

theorem block_0 (t : Fin cfg0.N) (a : Fin 512) (b : Fin 1024) : (iblk m c 0 t (ix2 a b) : EReal) = (m ((c : Thread nD τ).loc main_arg0)) (ix2 (row t a) b) := by
  show ((cfg0.win 0).blk t).view.read (Elt Ideal) (V m c main_arg0) (ix2 a b) = _
  rw [V_main_arg0, View.read_apply]
  exact congrArg (m ((c : Thread nD τ).loc main_arg0)) (place t a b)

theorem block_1 (t : Fin cfg0.N) (b : Fin 1024) : (iblk m c 1 t (ix2 0 b) : EReal) = (m ((c : Thread nD τ).loc main_arg1)) (ix1 b) := by
  obtain ⟨h0, h1⟩ := index_1 t
  show ((cfg0.win 1).blk t).view.read (Elt Ideal) (V m c main_v0) (ix2 0 b) = _
  have e : ((cfg0.win 1).blk t).view.emb (ix2 0 b) = ix2 0 b := by
    refine funext fun d => Fin.ext ?_
    match d with
    | ⟨0, _⟩ => show win0_1.index t 0 * 1 + 1 * 0 = 0; omega
    | ⟨1, _⟩ => show win0_1.index t 1 * 1024 + 1 * b.val = b.val; omega
  rw [found_1, View.read_apply, e]
  exact Mlp.Norm.row_at _ b

/-- The array that the call returns is the reference's norm. -/
theorem value : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 512) (b : Fin 1024), y = ix2 a b := ⟨y 0, y 1, eq_ix2 y⟩
  refine (tile_at _ _ a b).trans (Eq.trans ?_ ((congrArg _ (place t a b)).trans (normed_at _ _ _ _)).symm)
  simp only [block_0, block_1]

end Cert.RmsForward

end
-- ==== Proof.LossBack.lean ====
module

public import proofs.«01_k».proof.Proof.Gen.LossIdeal.Value
public import proofs.«01_k».proof.Proof.Gen.LossRefIdeal.Run
public import proofs.«01_k».proof.Proof.MlpNorm
public import Idealize.ShloMosaic.Lib.Pipeline.ValueKit
public import Idealize.ShloMosaic.Lib.Pointwise

@[expose] public section

set_option maxRecDepth 16384

noncomputable section

/-!
# The gradients of the loss

The loss is one half of the sum over the rows of the mean squared difference between the normalised rows and the target. The call
returns the gradients of the input and of the gain, and the sums of the squared differences over each column. The gradient of the
input goes through the norm row by row, as in the feed-forward block.
-/

namespace Cert.LossBack

open Cert.LossIdeal Cert.LossIdeal.Gen
open Idealize.ShloMosaic Idealize.ShloMosaic.TcCoe

/-! ## The reference -/

variable (x y : FVec Ideal S16384x1024 .f32) (g : FVec Ideal S1x1024 .f32)

/-- The reference's gain, repeated over the rows. -/
def gain : FVec Ideal S16384x1024 .f32 := broadcastInDim S16384x1024 ![0, 1] Cert.LossRefIdeal.Gen.bcast_S1x1024_S16384x1024_0_1 g

theorem gain_at (i : Fin 16384) (j : Fin 1024) : gain g (ix2 i j) = (g (ix2 0 j) : EReal) := by
  unfold gain
  pointwise

/-- The reference's normalised rows, before the gain. -/
def normed : FVec Ideal S16384x1024 .f32 :=
  mulf x (broadcastInDim S16384x1024 ![0, 1] Cert.LossRefIdeal.Gen.bcast_S16384x1_S16384x1024_0_1 (Host.rsqrt (Mlp.Norm.squares x)))

theorem normed_at (i : Fin 16384) (j : Fin 1024) :
    normed x (ix2 i j) = (x (ix2 i j) : EReal) * Mlp.Norm.inverseRoot (fun k => x (ix2 i k)) := by
  have hs := Mlp.Norm.squares_at x i
  unfold normed Mlp.Norm.inverseRoot
  revert hs
  generalize Mlp.Norm.squares x = s
  intro hs
  pointwise
  rw [hs]

/-- The reference's differences. -/
def difference : FVec Ideal S16384x1024 .f32 := subf (mulf (normed x) (gain g)) y

theorem difference_at (i : Fin 16384) (j : Fin 1024) :
    difference x y g (ix2 i j) = (normed x (ix2 i j) : EReal) * g (ix2 0 j) - y (ix2 i j) := by
  rw [← gain_at g i j]
  unfold difference
  generalize normed x = a
  generalize gain g = b
  pointwise

/-- The reference's weight of a difference in the derivative of its square. -/
def weight : FVec Ideal Cert.LossRefIdeal.S16384 .f32 :=
  Host.divf (broadcastInDim Cert.LossRefIdeal.S16384 ![] Cert.LossRefIdeal.Gen.bcast_S_S16384
      (mulf (constant Cert.LossRefIdeal.S_ .f32 0x3F000000#32) (constant Cert.LossRefIdeal.S_ .f32 0x3F800000#32)))
    (broadcastInDim Cert.LossRefIdeal.S16384 ![] Cert.LossRefIdeal.Gen.bcast_S_S16384 (constant Cert.LossRefIdeal.S_ .f32 0x44800000#32))

theorem weight_at (i : Fin 16384) : weight (ix1 i) = ((1 / 2048 : ℝ) : EReal) := by
  have h : weight (ix1 i) = Ideal.div (Ideal.ofBits .f32 0x3F000000#32) (Ideal.ofBits .f32 0x44800000#32) := by
    unfold weight
    pointwise
  rw [h, Mlp.half_f32, Mlp.Norm.width_f32, Fox.div_coe _ (by norm_num)]
  norm_num

/-- The reference's cotangent of the normalised rows, through the two factors of the square. -/
def cotangent : FVec Ideal S16384x1024 .f32 :=
  addf (mulf (difference x y g) (broadcastInDim S16384x1024 ![0] Cert.LossRefIdeal.Gen.bcast_S16384_S16384x1024_0 weight))
    (mulf (broadcastInDim S16384x1024 ![0] Cert.LossRefIdeal.Gen.bcast_S16384_S16384x1024_0 weight) (difference x y g))

theorem step_f32 : Ideal.ofBits .f32 0x3A800000#32 = ((1 / 1024 : ℝ) : EReal) := by
  simp [Ideal.ofBits, Ideal.ieee, -EReal.coe_mul]; norm_num

theorem cotangent_at (i : Fin 16384) (j : Fin 1024) :
    cotangent x y g (ix2 i j) = (difference x y g (ix2 i j) : EReal) * Ideal.ofBits .f32 0x3A800000#32 := by
  have hw := weight_at i
  unfold cotangent
  revert hw
  generalize weight = w
  generalize difference x y g = e
  intro hw
  pointwise
  have h : (0 : EReal) ≤ ((1 / 2048 : ℝ) : EReal) := by exact_mod_cast (by norm_num : (0 : ℝ) ≤ 1 / 2048)
  rw [hw, mul_comm ((1 / 2048 : ℝ) : EReal), ← EReal.left_distrib_of_nonneg h h, ← EReal.coe_add, step_f32]
  norm_num

/-- The reference's sums through the mean squares. -/
def sums : FVec Ideal Cert.LossRefIdeal.S16384 .f32 :=
  Host.reduceAdd (Host.divf (mulf (shapeCast _ (Host.reduceAdd (mulf x (mulf (cotangent x y g) (gain g))) (constant Cert.LossRefIdeal.S_ .f32 0x00000000#32)
      Cert.LossRefIdeal.Gen.reducesTo_S16384x1024_S16384_d1 Cert.LossRefIdeal.Gen.h_S_) Cert.LossRefIdeal.Gen.shapeCasts_S16384_S16384x1)
    (mulf (broadcastInDim Cert.LossRefIdeal.S16384x1 ![] Cert.LossRefIdeal.Gen.bcast_S_S16384x1 (constant Cert.LossRefIdeal.S_ .f32 0xBF000000#32))
      (Host.divf (Host.rsqrt (Mlp.Norm.squares x)) (Mlp.Norm.squares x))))
    (broadcastInDim Cert.LossRefIdeal.S16384x1 ![] Cert.LossRefIdeal.Gen.bcast_S_S16384x1 (constant Cert.LossRefIdeal.S_ .f32 0x44800000#32)))
    (constant Cert.LossRefIdeal.S_ .f32 0x00000000#32) Cert.LossRefIdeal.Gen.reducesTo_S16384x1_S16384_d1 Cert.LossRefIdeal.Gen.h_S_

theorem sums_at (i : Fin 16384) :
    sums x y g (ix1 i) = Mlp.Norm.through (fun k => x (ix2 i k)) (fun k => g (ix2 0 k)) fun k => cotangent x y g (ix2 i k) := by
  have hs := Mlp.Norm.squares_at x i
  have hg := fun k => gain_at g i k
  unfold sums Mlp.Norm.through Mlp.Norm.inverseRoot
  revert hs hg
  generalize Mlp.Norm.squares x = s
  generalize gain g = t
  generalize cotangent x y g = z
  intro hs hg
  pointwise
  rw [Fin.sum_univ_one, hs]
  simp only [hg]

/-- The reference's gradient of the input. -/
def gradient : FVec Ideal S16384x1024 .f32 :=
  addf (addf (mulf (mulf (cotangent x y g) (gain g)) (broadcastInDim S16384x1024 ![0, 1] Cert.LossRefIdeal.Gen.bcast_S16384x1_S16384x1024_0_1 (Host.rsqrt (Mlp.Norm.squares x))))
    (mulf x (broadcastInDim S16384x1024 ![0] Cert.LossRefIdeal.Gen.bcast_S16384_S16384x1024_0 (sums x y g))))
    (mulf (broadcastInDim S16384x1024 ![0] Cert.LossRefIdeal.Gen.bcast_S16384_S16384x1024_0 (sums x y g)) x)

theorem gradient_at (i : Fin 16384) (j : Fin 1024) :
    gradient x y g (ix2 i j) = Mlp.Norm.chained (fun k => x (ix2 i k)) (fun k => g (ix2 0 k)) (fun k => cotangent x y g (ix2 i k)) 0 j := by
  have hs := Mlp.Norm.squares_at x i
  have hg := gain_at g i j
  have hu := sums_at x y g i
  unfold gradient Mlp.Norm.chained
  rw [← hu, zero_add]
  unfold Mlp.Norm.inverseRoot
  revert hs hg
  generalize Mlp.Norm.squares x = s
  generalize gain g = t
  generalize sums x y g = u
  generalize cotangent x y g = z
  intro hs hg
  pointwise
  rw [hs, hg]

/-- The reference's gradient of the gain. -/
def ofGain : FVec Ideal S1x1024 .f32 :=
  shapeCast _ (Host.reduceAdd (mulf (normed x) (cotangent x y g)) (constant Cert.LossRefIdeal.S_ .f32 0x00000000#32)
    Cert.LossRefIdeal.Gen.reducesTo_S16384x1024_S1024_d0 Cert.LossRefIdeal.Gen.h_S_) Cert.LossRefIdeal.Gen.shapeCasts_S1024_S1x1024

theorem ofGain_at (j : Fin 1024) :
    ofGain x y g (ix2 0 j) = ∑ i : Fin 16384, (normed x (ix2 i j) : EReal) * cotangent x y g (ix2 i j) := by
  unfold ofGain
  generalize normed x = a
  generalize cotangent x y g = z
  pointwise

/-- The reference's sums of the squared differences over the columns. -/
def squared : FVec Ideal S1x1024 .f32 :=
  broadcastInDim S1x1024 ![1] Cert.LossRefIdeal.Gen.bcast_S1024_S1x1024_1 (Host.reduceAdd (mulf (difference x y g) (difference x y g))
    (constant Cert.LossRefIdeal.S_ .f32 0x00000000#32) Cert.LossRefIdeal.Gen.reducesTo_S16384x1024_S1024_d0 Cert.LossRefIdeal.Gen.h_S_)

theorem squared_at (j : Fin 1024) :
    squared x y g (ix2 0 j) = ∑ i : Fin 16384, (difference x y g (ix2 i j) : EReal) * difference x y g (ix2 i j) := by
  unfold squared
  generalize difference x y g = e
  pointwise

/-! ## The call -/

/-- One tile of the normalised rows, the differences and the cotangent at an index. -/
theorem normedTile_at (x : Vec Ideal S512x1024 .f32) (a : Fin 512) (b : Fin 1024) :
    k0_pay4 x (ix2 a b) = (x (ix2 a b) : EReal) * Mlp.Norm.inverseRoot (fun k => x (ix2 a k)) := by
  unfold k0_pay4 k0_pay3 Mlp.Norm.inverseRoot Mlp.Norm.meanSquare
  pointwise

theorem differenceTile_at (x y : Vec Ideal S512x1024 .f32) (g : Vec Ideal S1x1024 .f32) (a : Fin 512) (b : Fin 1024) :
    k0_pay5 x g y (ix2 a b) = (k0_pay4 x (ix2 a b) : EReal) * g (ix2 0 b) - y (ix2 a b) := by
  unfold k0_pay5
  generalize k0_pay4 x = u
  pointwise

theorem cotangentTile_at (x y : Vec Ideal S512x1024 .f32) (g : Vec Ideal S1x1024 .f32) (i : S512x1024.Idx) :
    k0_pay6 x g y i = (k0_pay5 x g y i : EReal) * Ideal.ofBits .f32 0x3A800000#32 := by
  unfold k0_pay6
  generalize k0_pay5 x g y = u
  pointwise

/-- One tile of the gradient of the input at an index. -/
theorem tile_at (x y : Vec Ideal S512x1024 .f32) (g : Vec Ideal S1x1024 .f32) (a : Fin 512) (b : Fin 1024) :
    k0_pay7 x g y (ix2 a b) = Mlp.Norm.fused (fun k => x (ix2 a k)) (fun k => g (ix2 0 k)) (fun k => k0_pay6 x g y (ix2 a k)) 0 b := by
  unfold k0_pay7 k0_pay4 k0_pay3 Mlp.Norm.fused Mlp.Norm.inverseRoot Mlp.Norm.meanSquare
  rw [zero_add]
  generalize k0_pay6 x g y = q
  pointwise

/-- The sums over one tile at an index, and their steps. -/
theorem gainTile_at (x y : Vec Ideal S512x1024 .f32) (g : Vec Ideal S1x1024 .f32) (b : Fin 1024) :
    k0_pay8 x g y (ix2 0 b) = ∑ a : Fin 512, (k0_pay4 x (ix2 a b) : EReal) * k0_pay6 x g y (ix2 a b) := by
  have h : k0_pay8 x g y (ix2 0 b) = ∑ a : Fin 512, (k0_pay6 x g y (ix2 a b) : EReal) * k0_pay4 x (ix2 a b) := by
    unfold k0_pay8
    generalize k0_pay4 x = u
    generalize k0_pay6 x g y = v
    pointwise
  exact h.trans (Finset.sum_congr rfl fun a _ => mul_comm _ _)

theorem squaredTile_at (x y : Vec Ideal S512x1024 .f32) (g : Vec Ideal S1x1024 .f32) (b : Fin 1024) :
    k0_pay9 x g y (ix2 0 b) = ∑ a : Fin 512, (k0_pay5 x g y (ix2 a b) : EReal) * k0_pay5 x g y (ix2 a b) := by
  unfold k0_pay9
  generalize k0_pay5 x g y = u
  pointwise

theorem gainStep_at (u v : Vec Ideal S1x1024 .f32) (i : S1x1024.Idx) : k0_pay1 u v i = (v i : EReal) + u i := by
  unfold k0_pay1
  pointwise

theorem squaredStep_at (u v : Vec Ideal S1x1024 .f32) (i : S1x1024.Idx) : k0_pay2 u v i = (v i : EReal) + u i := by
  unfold k0_pay2
  pointwise

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel

theorem points : cfg0.N = 32 := N_0

/-- Row `a` of the block of rows of a grid point. -/
def row (t : Fin cfg0.N) (a : Fin 512) : Fin 16384 := ⟨t.val * 512 + a.val, by have := t.isLt; have := points; omega⟩

/-- The place of a tile in the arrays, whose windows move alike, and of a row in the arrays of one row. -/
theorem place (t : Fin cfg0.N) (a : Fin 512) (b : Fin 1024) : ((cfg0.win 0).blk t).view.emb (ix2 a b) = ix2 (row t a) b := by
  obtain ⟨h0, h1⟩ := index_0 t
  refine funext fun d => Fin.ext ?_
  match d with
  | ⟨0, _⟩ => show win0_0.index t 0 * 512 + 1 * a.val = t.val * 512 + a.val; omega
  | ⟨1, _⟩ => show win0_0.index t 1 * 1024 + 1 * b.val = b.val; omega

theorem place_row (t : Fin cfg0.N) (b : Fin 1024) : ((cfg0.win 1).blk t).view.emb (ix2 0 b) = ix2 0 b := by
  obtain ⟨h0, h1⟩ := index_1 t
  refine funext fun d => Fin.ext ?_
  match d with
  | ⟨0, _⟩ => show win0_1.index t 0 * 1 + 1 * 0 = 0; omega
  | ⟨1, _⟩ => show win0_1.index t 1 * 1024 + 1 * b.val = b.val; omega

theorem block_0 (t : Fin cfg0.N) (a : Fin 512) (b : Fin 1024) : (iblk m c 0 t (ix2 a b) : EReal) = (m ((c : Thread nD τ).loc main_arg0)) (ix2 (row t a) b) := by
  show ((cfg0.win 0).blk t).view.read (Elt Ideal) (V m c main_arg0) (ix2 a b) = _
  rw [V_main_arg0, View.read_apply]
  exact congrArg (m ((c : Thread nD τ).loc main_arg0)) (place t a b)

theorem block_1 (t : Fin cfg0.N) (b : Fin 1024) : (iblk m c 1 t (ix2 0 b) : EReal) = (m ((c : Thread nD τ).loc main_arg1)) (ix2 0 b) := by
  show ((cfg0.win 1).blk t).view.read (Elt Ideal) (V m c main_arg1) (ix2 0 b) = _
  rw [V_main_arg1, View.read_apply]
  exact congrArg (m ((c : Thread nD τ).loc main_arg1)) (place_row t b)

theorem block_2 (t : Fin cfg0.N) (a : Fin 512) (b : Fin 1024) : (iblk m c 2 t (ix2 a b) : EReal) = (m ((c : Thread nD τ).loc main_arg2)) (ix2 (row t a) b) := by
  show ((cfg0.win 2).blk t).view.read (Elt Ideal) (V m c main_arg2) (ix2 a b) = _
  rw [V_main_arg2, View.read_apply]
  exact congrArg (m ((c : Thread nD τ).loc main_arg2)) (place t a b)

/-- The tiles of a point are blocks of the reference's arrays. -/
theorem normedTile (t : Fin cfg0.N) (a : Fin 512) (b : Fin 1024) :
    k0_pay4 (F := Ideal) (iblk m c 0 t) (ix2 a b) = normed (m ((c : Thread nD τ).loc main_arg0)) (ix2 (row t a) b) := by
  refine (normedTile_at _ a b).trans (Eq.trans ?_ (normed_at _ _ _).symm)
  simp only [block_0]

theorem differenceTile (t : Fin cfg0.N) (a : Fin 512) (b : Fin 1024) :
    k0_pay5 (F := Ideal) (iblk m c 0 t) (iblk m c 1 t) (iblk m c 2 t) (ix2 a b)
      = difference (m ((c : Thread nD τ).loc main_arg0)) (m ((c : Thread nD τ).loc main_arg2)) (m ((c : Thread nD τ).loc main_arg1)) (ix2 (row t a) b) := by
  refine (differenceTile_at _ _ _ a b).trans (Eq.trans ?_ (difference_at _ _ _ _ _).symm)
  rw [normedTile, block_1, block_2]

theorem cotangentTile (t : Fin cfg0.N) (a : Fin 512) (b : Fin 1024) :
    k0_pay6 (F := Ideal) (iblk m c 0 t) (iblk m c 1 t) (iblk m c 2 t) (ix2 a b)
      = cotangent (m ((c : Thread nD τ).loc main_arg0)) (m ((c : Thread nD τ).loc main_arg2)) (m ((c : Thread nD τ).loc main_arg1)) (ix2 (row t a) b) := by
  refine (cotangentTile_at _ _ _ _).trans (Eq.trans ?_ (cotangent_at _ _ _ _ _).symm)
  rw [differenceTile]

/-- The body leaves the tile of the gradient of the input at every point. -/
theorem left (t : Fin cfg0.N) : (outsAt0 m c t.val t.isLt).1 = k0_pay7 (F := Ideal) (iblk m c 0 t) (iblk m c 1 t) (iblk m c 2 t) := by
  have := t.isLt
  have := points
  by_cases h : t.val % 32 = 0
  · rw [outsAt0_A m c t h (by omega)]
    frame_out
  · rw [outsAt0_B m c t h (by omega)]
    frame_out

/-- The gradient of the input that the call returns is the reference's. -/
theorem value_input :
    (dats m 0 c).arrAt 3 cfg0.N = gradient (m ((c : Thread nD τ).loc main_arg0)) (m ((c : Thread nD τ).loc main_arg2)) (m ((c : Thread nD τ).loc main_arg1)) := by
  refine (dats m 0 c).arrAt_eq_of_covers 3 _ (by decide +kernel) fun t hf y => ?_
  blk_simp
  rw [after0_3, left]
  obtain ⟨a, b, rfl⟩ : ∃ (a : Fin 512) (b : Fin 1024), y = ix2 a b := ⟨y 0, y 1, eq_ix2 y⟩
  refine (tile_at _ _ _ a b).trans (Eq.trans ?_ ((congrArg _ (place t a b)).trans (gradient_at _ _ _ _ _)).symm)
  simp only [block_0, block_1, cotangentTile]
  exact Mlp.Norm.agree _ _ _ _ _

/-- The points whose sums are added up. -/
def point (t : Fin cfg0.N) (s : Fin 32) : Fin cfg0.N := ⟨32 * (t.val / 32) + s.val, by have := t.isLt; have := points; omega⟩

theorem row_point (t : Fin cfg0.N) (s : Fin 32) (k : Fin 512) (h : s.val * 512 + k.val < 16384) : row (point t s) k = ⟨s.val * 512 + k.val, h⟩ :=
  Fin.ext (by show (32 * (t.val / 32) + s.val) * 512 + k.val = s.val * 512 + k.val; have := t.isLt; have := points; omega)

/-- The two sums after the last point. -/
theorem total_gain (t : Fin cfg0.N) (ht : t.val % 32 = 31) (y : S1x1024.Idx) :
    ((outsAt0 m c t.val t.isLt).2.1 y : EReal)
      = ∑ s : Fin 32, (k0_pay8 (F := Ideal) (iblk m c 0 (point t s)) (iblk m c 1 (point t s)) (iblk m c 2 (point t s)) y : EReal) := by
  rw [Pipeline.eq_sum_fin_of_reset_step_apply_of_flush (M := EReal) (fun n h => (outsAt0 m c n h).2.1) 32 (fun _ => 0)
    (fun t y => k0_pay8 (F := Ideal) (iblk m c 0 t) (iblk m c 1 t) (iblk m c 2 t) y)
    (fun t h j => by rw [outsAt0_A m c t h (by have := t.isLt; have := points; omega)]; frame_out; exact (zero_add _).symm)
    (fun t h j => by rw [outsAt0_B m c t h (by omega)]; frame_out; rw [gainStep_at]) t ht y]
  exact zero_add _

theorem total_squared (t : Fin cfg0.N) (ht : t.val % 32 = 31) (y : S1x1024.Idx) :
    ((outsAt0 m c t.val t.isLt).2.2 y : EReal)
      = ∑ s : Fin 32, (k0_pay9 (F := Ideal) (iblk m c 0 (point t s)) (iblk m c 1 (point t s)) (iblk m c 2 (point t s)) y : EReal) := by
  rw [Pipeline.eq_sum_fin_of_reset_step_apply_of_flush (M := EReal) (fun n h => (outsAt0 m c n h).2.2) 32 (fun _ => 0)
    (fun t y => k0_pay9 (F := Ideal) (iblk m c 0 t) (iblk m c 1 t) (iblk m c 2 t) y)
    (fun t h j => by rw [outsAt0_A m c t h (by have := t.isLt; have := points; omega)]; frame_out; exact (zero_add _).symm)
    (fun t h j => by rw [outsAt0_B m c t h (by omega)]; frame_out; rw [squaredStep_at]) t ht y]
  exact zero_add _

/-- The gradient of the gain and the sums of the squared differences are the reference's. -/
theorem value_gain : (dats m 0 c).arrAt 4 cfg0.N
    = ofGain (m ((c : Thread nD τ).loc main_arg0)) (m ((c : Thread nD τ).loc main_arg2)) (m ((c : Thread nD τ).loc main_arg1)) := by
  refine (dats m 0 c).arrAt_eq_of_covers 4 _ (by decide +kernel) fun t hf y => ?_
  have ht := (flush0_4 t).mp hf
  blk_simp
  rw [after0_4]
  obtain ⟨b, rfl⟩ : ∃ b : Fin 1024, y = ix2 (0 : Fin 1) b := ⟨y 1, (eq_ix2 y).trans (congrArg (fun o : Fin 1 => ix2 o (y 1)) (Subsingleton.elim _ _))⟩
  refine (total_gain m c t ht _).trans (Eq.trans (Finset.sum_congr rfl fun s _ => gainTile_at _ _ _ b)
    ((Fin.sum_mul_add_congr fun s k hl => ?_).trans ((congrArg _ (place_row t b)).trans (ofGain_at _ _ _ _)).symm))
  rw [normedTile, cotangentTile, row_point t s k hl]

theorem value_squared : (dats m 0 c).arrAt 5 cfg0.N
    = squared (m ((c : Thread nD τ).loc main_arg0)) (m ((c : Thread nD τ).loc main_arg2)) (m ((c : Thread nD τ).loc main_arg1)) := by
  refine (dats m 0 c).arrAt_eq_of_covers 5 _ (by decide +kernel) fun t hf y => ?_
  have ht := (flush0_5 t).mp hf
  blk_simp
  rw [after0_5]
  obtain ⟨b, rfl⟩ : ∃ b : Fin 1024, y = ix2 (0 : Fin 1) b := ⟨y 1, (eq_ix2 y).trans (congrArg (fun o : Fin 1 => ix2 o (y 1)) (Subsingleton.elim _ _))⟩
  refine (total_squared m c t ht _).trans (Eq.trans (Finset.sum_congr rfl fun s _ => squaredTile_at _ _ _ b)
    ((Fin.sum_mul_add_congr fun s k hl => ?_).trans ((congrArg _ (place_row t b)).trans (squared_at _ _ _ _)).symm))
  rw [differenceTile, row_point t s k hl]

end Cert.LossBack

end
-- ==== Proof.lean ====
module

public import proofs.«01_k».proof.Defs
public import proofs.«01_k».proof.Proof.Gen.ReferenceIdeal.Run
public import proofs.«01_k».proof.Proof.Gen.Gate.Frame
public import proofs.«01_k».proof.Proof.Gen.GateIdeal.Value
public import proofs.«01_k».proof.Proof.Gen.GateRefIdeal.Run
public import proofs.«01_k».proof.Proof.Gen.In.Frame
public import proofs.«01_k».proof.Proof.Gen.InIdeal.Value
public import proofs.«01_k».proof.Proof.Gen.InRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Back.Frame
public import proofs.«01_k».proof.Proof.Gen.BackIdeal.Value
public import proofs.«01_k».proof.Proof.Gen.BackRefIdeal.Run
public import proofs.«01_k».proof.Proof.Gen.ProjGrad.Frame
public import proofs.«01_k».proof.Proof.Gen.ProjGradIdeal.Value
public import proofs.«01_k».proof.Proof.Gen.ProjGradRefIdeal.Run
public import proofs.«01_k».proof.Proof.Gen.Open.Frame
public import proofs.«01_k».proof.Proof.Gen.OpenIdeal.Value
public import proofs.«01_k».proof.Proof.Gen.OpenRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Close.Frame
public import proofs.«01_k».proof.Proof.Gen.CloseIdeal.Value
public import proofs.«01_k».proof.Proof.Gen.CloseRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Norm.Frame
public import proofs.«01_k».proof.Proof.Gen.NormIdeal.Value
public import proofs.«01_k».proof.Proof.Gen.NormRefIdeal.Run
public import proofs.«01_k».proof.Proof.Gen.MixNorm.Frame
public import proofs.«01_k».proof.Proof.Gen.MixNormIdeal.Value
public import proofs.«01_k».proof.Proof.Gen.MixNormRefIdeal.Run
public import proofs.«01_k».proof.Proof.Gen.Pre_finite_gate
public import proofs.«01_k».proof.Proof.Gen.OutGrad.Frame
public import proofs.«01_k».proof.Proof.Gen.OutGradIdeal.Value
public import proofs.«01_k».proof.Proof.Gen.OutGradRefIdeal.Run
public import proofs.«01_k».proof.Proof.Gen.OutBack.Frame
public import proofs.«01_k».proof.Proof.Gen.OutBackIdeal.Value
public import proofs.«01_k».proof.Proof.Gen.OutBackRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.XaNorm.Frame
public import proofs.«01_k».proof.Proof.Gen.XaNormIdeal.Value
public import proofs.«01_k».proof.Proof.Gen.XaNormRefIdeal.Run
public import proofs.«01_k».proof.Proof.Gen.Query.Frame
public import proofs.«01_k».proof.Proof.Gen.QueryIdeal.Value
public import proofs.«01_k».proof.Proof.Gen.QueryRefIdeal.Run
public import proofs.«01_k».proof.Proof.Gen.QueryGrad.Frame
public import proofs.«01_k».proof.Proof.Gen.QueryGradIdeal.Value
public import proofs.«01_k».proof.Proof.Gen.QueryGradRefIdeal.Run
public import proofs.«01_k».proof.Proof.Gen.Branch.Frame
public import proofs.«01_k».proof.Proof.Gen.BranchIdeal.Value
public import proofs.«01_k».proof.Proof.Gen.BranchRefIdeal.Run
public import proofs.«01_k».proof.Proof.Gen.BranchGrad.Frame
public import proofs.«01_k».proof.Proof.Gen.BranchGradIdeal.Value
public import proofs.«01_k».proof.Proof.Gen.BranchGradRefIdeal.Run
public import proofs.«01_k».proof.Proof.Gen.BranchBack.Frame
public import proofs.«01_k».proof.Proof.Gen.BranchBackIdeal.Value
public import proofs.«01_k».proof.Proof.Gen.BranchBackRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeBack.Frame
public import proofs.«01_k».proof.Proof.Gen.MergeBackIdeal.Value
public import proofs.«01_k».proof.Proof.Gen.MergeBackRefIdeal.Run
public import proofs.«01_k».proof.Proof.Gen.Rms.Frame
public import proofs.«01_k».proof.Proof.Gen.RmsIdeal.Value
public import proofs.«01_k».proof.Proof.Gen.RmsRefIdeal.Run
public import proofs.«01_k».proof.Proof.Gen.Loss.Frame
public import proofs.«01_k».proof.Proof.Gen.LossIdeal.Value
public import proofs.«01_k».proof.Proof.Gen.LossRefIdeal.Run
public import proofs.«01_k».proof.Proof.FoxGrads
public import proofs.«01_k».proof.Proof.FoxFinite
public import proofs.«01_k».proof.Proof.FoxSame
public import proofs.«01_k».proof.Proof.MlpGate
public import proofs.«01_k».proof.Proof.MlpIn
public import proofs.«01_k».proof.Proof.MlpDown
public import proofs.«01_k».proof.Proof.MlpBack
public import proofs.«01_k».proof.Proof.MlpOpen
public import proofs.«01_k».proof.Proof.MlpUp
public import proofs.«01_k».proof.Proof.MlpClose
public import proofs.«01_k».proof.Proof.MixProj
public import proofs.«01_k».proof.Proof.MixProjGrad
public import proofs.«01_k».proof.Proof.MlpNorm
public import proofs.«01_k».proof.Proof.MixNorm
public import proofs.«01_k».proof.Proof.OutGrad
public import proofs.«01_k».proof.Proof.OutBack
public import proofs.«01_k».proof.Proof.OutSum
public import proofs.«01_k».proof.Proof.XaNorm
public import proofs.«01_k».proof.Proof.XaQuery
public import proofs.«01_k».proof.Proof.Branches
public import proofs.«01_k».proof.Proof.MixMerge
public import proofs.«01_k».proof.Proof.MixMergeBack
public import proofs.«01_k».proof.Proof.RmsForward
public import proofs.«01_k».proof.Proof.LossBack

@[expose] public section

set_option maxRecDepth 16384

noncomputable section

namespace Cert.Proof

open Idealize.ShloMosaic Idealize.ShloMosaic.TcCoe Idealize.SL.Sem
open Cert.Fox

/-- The kernel's frame, whatever its floats are. -/
theorem frame {F : FTy → Type} [FloatOps F] (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩
      (fun r => (∀ c, Unchanged m c r) ∧ r.2.sem = fun _ => 0) :=
  (θ_run KernelIdeal.defs _ _).mono (fun _ h => ⟨fun c => h.1.unchanged c, h.2⟩) (ends m g)

theorem frame_Kernel : Cert.quiescent_Kernel (hKernel := Kernel.Gen.facts) := fun m g _ => by
  rw [programs, mains]
  exact frame (F := Bits) m g

theorem frame_KernelIdeal : Cert.quiescent_KernelIdeal (hKernelIdeal := KernelIdeal.Gen.facts) := fun m g _ => frame (F := Ideal) m g

theorem frame_ReferenceIdeal : Cert.quiescent_ReferenceIdeal (hReferenceIdeal := ReferenceIdeal.Gen.facts) := fun m g _ =>
  (θ_run ReferenceIdeal.defs _ _).mono (fun r h => ⟨fun c => (h c).2.2.2.2, sem_eq_zero_of_no_sems (by decide) r.2⟩)
    (ReferenceIdeal.Value.run (F := Ideal) m g)

/-- What the two programs end with: the reference's values of the kernel's arguments. -/
theorem algebraic : Cert.algebraic_KernelIdeal_ReferenceIdeal_pre_finite (hKernelIdeal := KernelIdeal.Gen.facts)
    (hReferenceIdeal := ReferenceIdeal.Gen.facts) (hPre_finite := Pre_finite.Gen.facts) := by
  intro m g m' g' hpre hargs
  refine ⟨fun c => ReferenceIdeal.Read.val_main_v76 (F := Ideal) (inQ m c) (inK m c) (inV m c) (inG m c) (inC m c),
    fun c => ReferenceIdeal.Read.val_main_v74 (F := Ideal) (inQ m c) (inK m c) (inV m c) (inG m c) (inC m c),
    fun c => ReferenceIdeal.Read.val_main_v49 (F := Ideal) (inQ m c) (inK m c) (inG m c) (inC m c),
    fun c => ReferenceIdeal.Read.val_main_v70 (F := Ideal) (inQ m c) (inK m c) (inV m c) (inG m c) (inC m c), ?_, ?_⟩
  · refine (θ_run KernelIdeal.defs _ _).mono (fun r h c => ?_) (ends (F := Ideal) m g)
    obtain ⟨A, hA⟩ := given m c (hpre c)
    obtain ⟨e72, e74, e76, e68⟩ := h.1.results c
    rw [out_dq hA] at e72 e68
    rw [out_dk hA] at e74 e68
    rw [out_dv hA] at e76
    rw [grad_q, ← hA.q, ← hA.k, ← hA.v, ← hA.g, ← hA.ct] at e72
    rw [grad_k, ← hA.q, ← hA.k, ← hA.v, ← hA.g, ← hA.ct] at e74
    rw [grad_v, ← hA.q, ← hA.k, ← hA.g, ← hA.ct] at e76
    rw [grad_c, ← hA.q, ← hA.k, ← hA.v, ← hA.g, ← hA.ct] at e68
    exact ⟨e72, e74, e76, e68, h.1.unchanged c⟩
  · refine (θ_run ReferenceIdeal.defs _ _).mono (fun r h c => ?_) (ReferenceIdeal.Value.run (F := Ideal) m' g')
    obtain ⟨a0, a1, a2, a3, a4⟩ := hargs c
    obtain ⟨e76, e74, e49, e70, hrest⟩ := h c
    rw [ReferenceIdeal.Read.val_main_v76_eq, a0, a1, a2, a3, a4] at e76
    rw [ReferenceIdeal.Read.val_main_v74_eq, a0, a1, a2, a3, a4] at e74
    rw [ReferenceIdeal.Read.val_main_v49_eq, a0, a1, a3, a4] at e49
    rw [ReferenceIdeal.Read.val_main_v70_eq, a0, a1, a2, a3, a4] at e70
    exact ⟨e76, e74, e49, e70, hrest⟩

theorem frame_GateRefIdeal : Cert.quiescent_GateRefIdeal (hGateRefIdeal := GateRefIdeal.Gen.facts) := fun m g _ =>
  (θ_run GateRefIdeal.defs _ _).mono (fun r h => ⟨fun c => (h c).2.2, sem_eq_zero_of_no_sems (by decide) r.2⟩)
    (GateRefIdeal.Value.run (F := Ideal) m g)

theorem algebraic_Gate : Cert.algebraic_GateIdeal_GateRefIdeal_pre_finite_gate (hGateIdeal := GateIdeal.Gen.facts)
    (hGateRefIdeal := GateRefIdeal.Gen.facts) (hPre_finite_gate := Pre_finite_gate.Gen.facts) := by
  intro m g m' g' hpre hargs
  refine ⟨fun c => Mlp.Gate.gradGate (m ((c.tc : Thread GateIdeal.nD GateIdeal.τ).loc GateIdeal.main_arg0)) (m ((c.tc : Thread GateIdeal.nD GateIdeal.τ).loc GateIdeal.main_arg1))
      (m ((c.tc : Thread GateIdeal.nD GateIdeal.τ).loc GateIdeal.main_arg2)) (m ((c.tc : Thread GateIdeal.nD GateIdeal.τ).loc GateIdeal.main_arg3)),
    fun c => Mlp.Gate.gradUp (m ((c.tc : Thread GateIdeal.nD GateIdeal.τ).loc GateIdeal.main_arg0))
      (m ((c.tc : Thread GateIdeal.nD GateIdeal.τ).loc GateIdeal.main_arg2)) (m ((c.tc : Thread GateIdeal.nD GateIdeal.τ).loc GateIdeal.main_arg3)), ?_, ?_⟩
  · refine (θ_run GateIdeal.defs _ _).mono (fun r h c => ?_) (GateIdeal.Value.run_blocks (F := Ideal) m g)
    obtain ⟨e, f, hrest⟩ := h c
    exact ⟨e.trans (Mlp.Gate.value_gate m c (hpre c)), f.trans (Mlp.Gate.value_up m c), hrest⟩
  · refine (θ_run GateRefIdeal.defs _ _).mono (fun r h c => ?_) (GateRefIdeal.Value.run (F := Ideal) m' g')
    obtain ⟨a0, a1, a2, a3⟩ := hargs c
    obtain ⟨e, f, hrest⟩ := h c
    rw [a0, a1, a2, a3] at e
    rw [a0, a2, a3] at f
    exact ⟨e, f, hrest⟩

theorem frame_InRefIdeal : Cert.quiescent_InRefIdeal (hInRefIdeal := InRefIdeal.Gen.facts) := fun m g _ =>
  (θ_run InRefIdeal.defs _ _).mono (fun r h => ⟨fun c => (h c).2, sem_eq_zero_of_no_sems (by decide) r.2⟩)
    (InRefIdeal.Value.run (F := Ideal) m g)

theorem algebraic_In : Cert.algebraic_InIdeal_InRefIdeal (hInIdeal := InIdeal.Gen.facts) (hInRefIdeal := InRefIdeal.Gen.facts) := by
  intro m g m' g' _ hargs
  refine ⟨fun c => Mlp.In.product (m ((c.tc : Thread InIdeal.nD InIdeal.τ).loc InIdeal.main_arg0)) (m ((c.tc : Thread InIdeal.nD InIdeal.τ).loc InIdeal.main_arg2)), ?_, ?_⟩
  · refine (θ_run InIdeal.defs _ _).mono (fun r h c => ?_) (InIdeal.Value.run_blocks (F := Ideal) m g)
    obtain ⟨e, hrest⟩ := h c
    exact ⟨e.trans (Mlp.In.value m c), hrest⟩
  · refine (θ_run InRefIdeal.defs _ _).mono (fun r h c => ?_) (InRefIdeal.Value.run (F := Ideal) m' g')
    obtain ⟨a0, a1, a2⟩ := hargs c
    obtain ⟨e, hrest⟩ := h c
    rw [a0, a2] at e
    exact ⟨e, hrest⟩

theorem frame_DownRefIdeal : Cert.quiescent_DownRefIdeal (hDownRefIdeal := DownRefIdeal.Gen.facts) := fun m g _ =>
  (θ_run DownRefIdeal.defs _ _).mono (fun r h => ⟨fun c => (h c).2, sem_eq_zero_of_no_sems (by decide) r.2⟩)
    (DownRefIdeal.Value.run (F := Ideal) m g)

theorem algebraic_Down : Cert.algebraic_DownIdeal_DownRefIdeal (hDownIdeal := DownIdeal.Gen.facts) (hDownRefIdeal := DownRefIdeal.Gen.facts) := by
  intro m g m' g' _ hargs
  refine ⟨fun c => Mlp.Down.product (m ((c.tc : Thread DownIdeal.nD DownIdeal.τ).loc DownIdeal.main_arg0)) (m ((c.tc : Thread DownIdeal.nD DownIdeal.τ).loc DownIdeal.main_arg2)), ?_, ?_⟩
  · refine (θ_run DownIdeal.defs _ _).mono (fun r h c => ?_) (DownIdeal.Value.run_blocks (F := Ideal) m g)
    obtain ⟨e, hrest⟩ := h c
    exact ⟨e.trans (Mlp.Down.value m c), hrest⟩
  · refine (θ_run DownRefIdeal.defs _ _).mono (fun r h c => ?_) (DownRefIdeal.Value.run (F := Ideal) m' g')
    obtain ⟨a0, a1, a2⟩ := hargs c
    obtain ⟨e, hrest⟩ := h c
    rw [a0, a2] at e
    exact ⟨e, hrest⟩

theorem frame_BackRefIdeal : Cert.quiescent_BackRefIdeal (hBackRefIdeal := BackRefIdeal.Gen.facts) := fun m g _ =>
  (θ_run BackRefIdeal.defs _ _).mono (fun r h => ⟨fun c => (h c).2, sem_eq_zero_of_no_sems (by decide) r.2⟩)
    (BackRefIdeal.Value.run (F := Ideal) m g)

theorem algebraic_Back : Cert.algebraic_BackIdeal_BackRefIdeal (hBackIdeal := BackIdeal.Gen.facts) (hBackRefIdeal := BackRefIdeal.Gen.facts) := by
  intro m g m' g' _ hargs
  refine ⟨fun c => Mlp.Back.product (m ((c.tc : Thread BackIdeal.nD BackIdeal.τ).loc BackIdeal.main_arg2)) (m ((c.tc : Thread BackIdeal.nD BackIdeal.τ).loc BackIdeal.main_arg1)), ?_, ?_⟩
  · refine (θ_run BackIdeal.defs _ _).mono (fun r h c => ?_) (BackIdeal.Value.run_blocks (F := Ideal) m g)
    obtain ⟨e, hrest⟩ := h c
    exact ⟨e.trans (Mlp.Back.value m c), hrest⟩
  · refine (θ_run BackRefIdeal.defs _ _).mono (fun r h c => ?_) (BackRefIdeal.Value.run (F := Ideal) m' g')
    obtain ⟨a0, a1, a2⟩ := hargs c
    obtain ⟨e, hrest⟩ := h c
    rw [a2, a1] at e
    exact ⟨e, hrest⟩

theorem frame_ProjGradRefIdeal : Cert.quiescent_ProjGradRefIdeal (hProjGradRefIdeal := ProjGradRefIdeal.Gen.facts) := fun m g _ =>
  (θ_run ProjGradRefIdeal.defs _ _).mono (fun r h => ⟨fun c => (h c).2, sem_eq_zero_of_no_sems (by decide) r.2⟩)
    (ProjGradRefIdeal.Value.run (F := Ideal) m g)

theorem algebraic_ProjGrad : Cert.algebraic_ProjGradIdeal_ProjGradRefIdeal (hProjGradIdeal := ProjGradIdeal.Gen.facts) (hProjGradRefIdeal := ProjGradRefIdeal.Gen.facts) := by
  intro m g m' g' _ hargs
  refine ⟨fun c => Mix.ProjGrad.product (m ((c.tc : Thread ProjGradIdeal.nD ProjGradIdeal.τ).loc ProjGradIdeal.main_arg0)) (m ((c.tc : Thread ProjGradIdeal.nD ProjGradIdeal.τ).loc ProjGradIdeal.main_arg2)), ?_, ?_⟩
  · refine (θ_run ProjGradIdeal.defs _ _).mono (fun r h c => ?_) (ProjGradIdeal.Value.run_blocks (F := Ideal) m g)
    obtain ⟨e, hrest⟩ := h c
    exact ⟨e.trans (Mix.ProjGrad.value m c), hrest⟩
  · refine (θ_run ProjGradRefIdeal.defs _ _).mono (fun r h c => ?_) (ProjGradRefIdeal.Value.run (F := Ideal) m' g')
    obtain ⟨a0, a1, a2⟩ := hargs c
    obtain ⟨e, hrest⟩ := h c
    rw [a0, a2] at e
    exact ⟨e, hrest⟩

theorem frame_OpenRefIdeal : Cert.quiescent_OpenRefIdeal (hOpenRefIdeal := OpenRefIdeal.Gen.facts) := fun m g _ =>
  (θ_run OpenRefIdeal.defs _ _).mono (fun r h => ⟨fun c => (h c).2, sem_eq_zero_of_no_sems (by decide) r.2⟩)
    (OpenRefIdeal.Value.run (F := Ideal) m g)

theorem algebraic_Open : Cert.algebraic_OpenIdeal_OpenRefIdeal (hOpenIdeal := OpenIdeal.Gen.facts) (hOpenRefIdeal := OpenRefIdeal.Gen.facts) := by
  intro m g m' g' _ hargs
  refine ⟨fun c => Mlp.Open.product (m ((c.tc : Thread OpenIdeal.nD OpenIdeal.τ).loc OpenIdeal.main_arg0)) (m ((c.tc : Thread OpenIdeal.nD OpenIdeal.τ).loc OpenIdeal.main_arg1)), ?_, ?_⟩
  · refine (θ_run OpenIdeal.defs _ _).mono (fun r h c => ?_) (OpenIdeal.Value.run_blocks (F := Ideal) m g)
    obtain ⟨e, hrest⟩ := h c
    exact ⟨e.trans (Mlp.Open.value m c), hrest⟩
  · refine (θ_run OpenRefIdeal.defs _ _).mono (fun r h c => ?_) (OpenRefIdeal.Value.run (F := Ideal) m' g')
    obtain ⟨a0, a1⟩ := hargs c
    obtain ⟨e, hrest⟩ := h c
    rw [a0, a1] at e
    exact ⟨e, hrest⟩

theorem frame_UpRefIdeal : Cert.quiescent_UpRefIdeal (hUpRefIdeal := UpRefIdeal.Gen.facts) := fun m g _ =>
  (θ_run UpRefIdeal.defs _ _).mono (fun r h => ⟨fun c => (h c).2.2, sem_eq_zero_of_no_sems (by decide) r.2⟩)
    (UpRefIdeal.Value.run (F := Ideal) m g)

theorem algebraic_Up : Cert.algebraic_UpIdeal_UpRefIdeal (hUpIdeal := UpIdeal.Gen.facts) (hUpRefIdeal := UpRefIdeal.Gen.facts) := by
  intro m g m' g' _ hargs
  refine ⟨fun c => Mlp.Up.product (m ((c.tc : Thread UpIdeal.nD UpIdeal.τ).loc UpIdeal.main_arg0)) (m ((c.tc : Thread UpIdeal.nD UpIdeal.τ).loc UpIdeal.main_arg1)),
    fun c => Mlp.Up.activation (m ((c.tc : Thread UpIdeal.nD UpIdeal.τ).loc UpIdeal.main_arg0)) (m ((c.tc : Thread UpIdeal.nD UpIdeal.τ).loc UpIdeal.main_arg1)) (m ((c.tc : Thread UpIdeal.nD UpIdeal.τ).loc UpIdeal.main_arg2)), ?_, ?_⟩
  · refine (θ_run UpIdeal.defs _ _).mono (fun r h c => ?_) (UpIdeal.Value.run_blocks (F := Ideal) m g)
    obtain ⟨e, f, hrest⟩ := h c
    exact ⟨e.trans (Mlp.Up.value_up m c), f.trans (Mlp.Up.value_act m c), hrest⟩
  · refine (θ_run UpRefIdeal.defs _ _).mono (fun r h c => ?_) (UpRefIdeal.Value.run (F := Ideal) m' g')
    obtain ⟨a0, a1, a2⟩ := hargs c
    obtain ⟨e, f, hrest⟩ := h c
    rw [a0, a1] at e
    rw [a0, a1, a2] at f
    exact ⟨e, f, hrest⟩

theorem frame_CloseRefIdeal : Cert.quiescent_CloseRefIdeal (hCloseRefIdeal := CloseRefIdeal.Gen.facts) := fun m g _ =>
  (θ_run CloseRefIdeal.defs _ _).mono (fun r h => ⟨fun c => (h c).2, sem_eq_zero_of_no_sems (by decide) r.2⟩)
    (CloseRefIdeal.Value.run (F := Ideal) m g)

theorem algebraic_Close : Cert.algebraic_CloseIdeal_CloseRefIdeal (hCloseIdeal := CloseIdeal.Gen.facts) (hCloseRefIdeal := CloseRefIdeal.Gen.facts) := by
  intro m g m' g' _ hargs
  refine ⟨fun c => Mlp.Close.output (m ((c.tc : Thread CloseIdeal.nD CloseIdeal.τ).loc CloseIdeal.main_arg0)) (m ((c.tc : Thread CloseIdeal.nD CloseIdeal.τ).loc CloseIdeal.main_arg1)) (m ((c.tc : Thread CloseIdeal.nD CloseIdeal.τ).loc CloseIdeal.main_arg2)), ?_, ?_⟩
  · refine (θ_run CloseIdeal.defs _ _).mono (fun r h c => ?_) (CloseIdeal.Value.run_blocks (F := Ideal) m g)
    obtain ⟨e, hrest⟩ := h c
    exact ⟨e.trans (Mlp.Close.value m c), hrest⟩
  · refine (θ_run CloseRefIdeal.defs _ _).mono (fun r h c => ?_) (CloseRefIdeal.Value.run (F := Ideal) m' g')
    obtain ⟨a0, a1, a2⟩ := hargs c
    obtain ⟨e, hrest⟩ := h c
    rw [a0, a1, a2] at e
    exact ⟨e, hrest⟩

theorem frame_ProjRefIdeal : Cert.quiescent_ProjRefIdeal (hProjRefIdeal := ProjRefIdeal.Gen.facts) := fun m g _ =>
  (θ_run ProjRefIdeal.defs _ _).mono (fun r h => ⟨fun c => (h c).2, sem_eq_zero_of_no_sems (by decide) r.2⟩)
    (ProjRefIdeal.Value.run (F := Ideal) m g)

theorem algebraic_Proj : Cert.algebraic_ProjIdeal_ProjRefIdeal (hProjIdeal := ProjIdeal.Gen.facts) (hProjRefIdeal := ProjRefIdeal.Gen.facts) := by
  intro m g m' g' _ hargs
  refine ⟨fun c => Mix.Proj.product (m ((c.tc : Thread ProjIdeal.nD ProjIdeal.τ).loc ProjIdeal.main_arg0)) (m ((c.tc : Thread ProjIdeal.nD ProjIdeal.τ).loc ProjIdeal.main_arg1)), ?_, ?_⟩
  · refine (θ_run ProjIdeal.defs _ _).mono (fun r h c => ?_) (ProjIdeal.Value.run_blocks (F := Ideal) m g)
    obtain ⟨e, hrest⟩ := h c
    exact ⟨e.trans (Mix.Proj.value m c), hrest⟩
  · refine (θ_run ProjRefIdeal.defs _ _).mono (fun r h c => ?_) (ProjRefIdeal.Value.run (F := Ideal) m' g')
    obtain ⟨a0, a1⟩ := hargs c
    obtain ⟨e, hrest⟩ := h c
    rw [a0, a1] at e
    exact ⟨e, hrest⟩

theorem frame_NormRefIdeal : Cert.quiescent_NormRefIdeal (hNormRefIdeal := NormRefIdeal.Gen.facts) := fun m g _ =>
  (θ_run NormRefIdeal.defs _ _).mono (fun r h => ⟨fun c => (h c).2, sem_eq_zero_of_no_sems (by decide) r.2⟩)
    (NormRefIdeal.Value.run (F := Ideal) m g)

theorem algebraic_Norm : Cert.algebraic_NormIdeal_NormRefIdeal (hNormIdeal := NormIdeal.Gen.facts) (hNormRefIdeal := NormRefIdeal.Gen.facts) := by
  intro m g m' g' _ hargs
  refine ⟨fun c => Mlp.Norm.gradient (m ((c.tc : Thread NormIdeal.nD NormIdeal.τ).loc NormIdeal.main_arg0))
      (Mlp.Norm.incoming (m ((c.tc : Thread NormIdeal.nD NormIdeal.τ).loc NormIdeal.main_arg3)) (m ((c.tc : Thread NormIdeal.nD NormIdeal.τ).loc NormIdeal.main_arg4)) (m ((c.tc : Thread NormIdeal.nD NormIdeal.τ).loc NormIdeal.main_arg2)))
      (m ((c.tc : Thread NormIdeal.nD NormIdeal.τ).loc NormIdeal.main_arg5)) (m ((c.tc : Thread NormIdeal.nD NormIdeal.τ).loc NormIdeal.main_arg1)), ?_, ?_⟩
  · refine (θ_run NormIdeal.defs _ _).mono (fun r h c => ?_) (NormIdeal.Value.run_blocks (F := Ideal) m g)
    obtain ⟨e, _, hrest⟩ := h c
    exact ⟨e.trans (Mlp.Norm.value m c), hrest⟩
  · refine (θ_run NormRefIdeal.defs _ _).mono (fun r h c => ?_) (NormRefIdeal.Value.run (F := Ideal) m' g')
    obtain ⟨a0, a1, a2, a3, a4, a5⟩ := hargs c
    obtain ⟨e, hrest⟩ := h c
    unfold NormRefIdeal.Value.res_main_v35 at e
    rw [a0, a1, a2, a3, a4, a5] at e
    exact ⟨e, hrest⟩

theorem frame_MixNormRefIdeal : Cert.quiescent_MixNormRefIdeal (hMixNormRefIdeal := MixNormRefIdeal.Gen.facts) := fun m g _ =>
  (θ_run MixNormRefIdeal.defs _ _).mono (fun r h => ⟨fun c => (h c).2, sem_eq_zero_of_no_sems (by decide) r.2⟩)
    (MixNormRefIdeal.Value.run (F := Ideal) m g)

theorem algebraic_MixNorm : Cert.algebraic_MixNormIdeal_MixNormRefIdeal (hMixNormIdeal := MixNormIdeal.Gen.facts) (hMixNormRefIdeal := MixNormRefIdeal.Gen.facts) := by
  intro m g m' g' _ hargs
  refine ⟨fun c => Mlp.Norm.gradient (m ((c.tc : Thread MixNormIdeal.nD MixNormIdeal.τ).loc MixNormIdeal.main_arg0))
      (Mix.Norm.incoming (m ((c.tc : Thread MixNormIdeal.nD MixNormIdeal.τ).loc MixNormIdeal.main_arg3)) (m ((c.tc : Thread MixNormIdeal.nD MixNormIdeal.τ).loc MixNormIdeal.main_arg2)))
      (m ((c.tc : Thread MixNormIdeal.nD MixNormIdeal.τ).loc MixNormIdeal.main_arg4)) (m ((c.tc : Thread MixNormIdeal.nD MixNormIdeal.τ).loc MixNormIdeal.main_arg1)), ?_, ?_⟩
  · refine (θ_run MixNormIdeal.defs _ _).mono (fun r h c => ?_) (MixNormIdeal.Value.run_blocks (F := Ideal) m g)
    obtain ⟨e, _, hrest⟩ := h c
    exact ⟨e.trans (Mix.Norm.value m c), hrest⟩
  · refine (θ_run MixNormRefIdeal.defs _ _).mono (fun r h c => ?_) (MixNormRefIdeal.Value.run (F := Ideal) m' g')
    obtain ⟨a0, a1, a2, a3, a4⟩ := hargs c
    obtain ⟨e, hrest⟩ := h c
    unfold MixNormRefIdeal.Value.res_main_v34 at e
    rw [a0, a1, a2, a3, a4] at e
    exact ⟨e, hrest⟩

theorem frame_OutGradRefIdeal : Cert.quiescent_OutGradRefIdeal (hOutGradRefIdeal := OutGradRefIdeal.Gen.facts) := fun m g _ =>
  (θ_run OutGradRefIdeal.defs _ _).mono (fun r h => ⟨fun c => (h c).2, sem_eq_zero_of_no_sems (by decide) r.2⟩)
    (OutGradRefIdeal.Value.run (F := Ideal) m g)

theorem algebraic_OutGrad : Cert.algebraic_OutGradIdeal_OutGradRefIdeal (hOutGradIdeal := OutGradIdeal.Gen.facts) (hOutGradRefIdeal := OutGradRefIdeal.Gen.facts) := by
  intro m g m' g' _ hargs
  refine ⟨fun c => Out.Grad.product (m ((c.tc : Thread OutGradIdeal.nD OutGradIdeal.τ).loc OutGradIdeal.main_arg0)) (m ((c.tc : Thread OutGradIdeal.nD OutGradIdeal.τ).loc OutGradIdeal.main_arg2)), ?_, ?_⟩
  · refine (θ_run OutGradIdeal.defs _ _).mono (fun r h c => ?_) (OutGradIdeal.Value.run_blocks (F := Ideal) m g)
    obtain ⟨e, hrest⟩ := h c
    exact ⟨e.trans (Out.Grad.value m c), hrest⟩
  · refine (θ_run OutGradRefIdeal.defs _ _).mono (fun r h c => ?_) (OutGradRefIdeal.Value.run (F := Ideal) m' g')
    obtain ⟨a0, a1, a2⟩ := hargs c
    obtain ⟨e, hrest⟩ := h c
    rw [a2, a0] at e
    exact ⟨e, hrest⟩

theorem frame_OutBackRefIdeal : Cert.quiescent_OutBackRefIdeal (hOutBackRefIdeal := OutBackRefIdeal.Gen.facts) := fun m g _ =>
  (θ_run OutBackRefIdeal.defs _ _).mono (fun r h => ⟨fun c => (h c).2, sem_eq_zero_of_no_sems (by decide) r.2⟩)
    (OutBackRefIdeal.Value.run (F := Ideal) m g)

theorem algebraic_OutBack : Cert.algebraic_OutBackIdeal_OutBackRefIdeal (hOutBackIdeal := OutBackIdeal.Gen.facts) (hOutBackRefIdeal := OutBackRefIdeal.Gen.facts) := by
  intro m g m' g' _ hargs
  refine ⟨fun c => Out.Back.product (m ((c.tc : Thread OutBackIdeal.nD OutBackIdeal.τ).loc OutBackIdeal.main_arg2)) (m ((c.tc : Thread OutBackIdeal.nD OutBackIdeal.τ).loc OutBackIdeal.main_arg1)), ?_, ?_⟩
  · refine (θ_run OutBackIdeal.defs _ _).mono (fun r h c => ?_) (OutBackIdeal.Value.run_blocks (F := Ideal) m g)
    obtain ⟨e, hrest⟩ := h c
    exact ⟨e.trans (Out.Back.value m c), hrest⟩
  · refine (θ_run OutBackRefIdeal.defs _ _).mono (fun r h c => ?_) (OutBackRefIdeal.Value.run (F := Ideal) m' g')
    obtain ⟨a0, a1, a2⟩ := hargs c
    obtain ⟨e, hrest⟩ := h c
    rw [a2, a1] at e
    exact ⟨e, hrest⟩

theorem frame_OutRefIdeal : Cert.quiescent_OutRefIdeal (hOutRefIdeal := OutRefIdeal.Gen.facts) := fun m g _ =>
  (θ_run OutRefIdeal.defs _ _).mono (fun r h => ⟨fun c => (h c).2, sem_eq_zero_of_no_sems (by decide) r.2⟩)
    (OutRefIdeal.Value.run (F := Ideal) m g)

theorem algebraic_Out : Cert.algebraic_OutIdeal_OutRefIdeal (hOutIdeal := OutIdeal.Gen.facts) (hOutRefIdeal := OutRefIdeal.Gen.facts) := by
  intro m g m' g' _ hargs
  refine ⟨fun c => Out.Sum.output (m ((c.tc : Thread OutIdeal.nD OutIdeal.τ).loc OutIdeal.main_arg0)) (m ((c.tc : Thread OutIdeal.nD OutIdeal.τ).loc OutIdeal.main_arg1)) (m ((c.tc : Thread OutIdeal.nD OutIdeal.τ).loc OutIdeal.main_arg2)), ?_, ?_⟩
  · refine (θ_run OutIdeal.defs _ _).mono (fun r h c => ?_) (OutIdeal.Value.run_blocks (F := Ideal) m g)
    obtain ⟨e, hrest⟩ := h c
    exact ⟨e.trans (Out.Sum.value m c), hrest⟩
  · refine (θ_run OutRefIdeal.defs _ _).mono (fun r h c => ?_) (OutRefIdeal.Value.run (F := Ideal) m' g')
    obtain ⟨a0, a1, a2⟩ := hargs c
    obtain ⟨e, hrest⟩ := h c
    rw [a0, a1, a2] at e
    exact ⟨e, hrest⟩

theorem frame_XaNormRefIdeal : Cert.quiescent_XaNormRefIdeal (hXaNormRefIdeal := XaNormRefIdeal.Gen.facts) := fun m g _ =>
  (θ_run XaNormRefIdeal.defs _ _).mono (fun r h => ⟨fun c => (h c).2, sem_eq_zero_of_no_sems (by decide) r.2⟩)
    (XaNormRefIdeal.Value.run (F := Ideal) m g)

theorem algebraic_XaNorm : Cert.algebraic_XaNormIdeal_XaNormRefIdeal (hXaNormIdeal := XaNormIdeal.Gen.facts) (hXaNormRefIdeal := XaNormRefIdeal.Gen.facts) := by
  intro m g m' g' _ hargs
  refine ⟨fun c => Mlp.Norm.gradient (m ((c.tc : Thread XaNormIdeal.nD XaNormIdeal.τ).loc XaNormIdeal.main_arg0))
      (Out.Back.product (m ((c.tc : Thread XaNormIdeal.nD XaNormIdeal.τ).loc XaNormIdeal.main_arg3)) (m ((c.tc : Thread XaNormIdeal.nD XaNormIdeal.τ).loc XaNormIdeal.main_arg2)))
      (m ((c.tc : Thread XaNormIdeal.nD XaNormIdeal.τ).loc XaNormIdeal.main_arg4)) (m ((c.tc : Thread XaNormIdeal.nD XaNormIdeal.τ).loc XaNormIdeal.main_arg1)), ?_, ?_⟩
  · refine (θ_run XaNormIdeal.defs _ _).mono (fun r h c => ?_) (XaNormIdeal.Value.run_blocks (F := Ideal) m g)
    obtain ⟨e, _, hrest⟩ := h c
    exact ⟨e.trans (Xa.Norm.value m c), hrest⟩
  · refine (θ_run XaNormRefIdeal.defs _ _).mono (fun r h c => ?_) (XaNormRefIdeal.Value.run (F := Ideal) m' g')
    obtain ⟨a0, a1, a2, a3, a4⟩ := hargs c
    obtain ⟨e, hrest⟩ := h c
    unfold XaNormRefIdeal.Value.res_main_v34 at e
    rw [a0, a1, a2, a3, a4] at e
    exact ⟨e, hrest⟩

theorem frame_QueryRefIdeal : Cert.quiescent_QueryRefIdeal (hQueryRefIdeal := QueryRefIdeal.Gen.facts) := fun m g _ =>
  (θ_run QueryRefIdeal.defs _ _).mono (fun r h => ⟨fun c => (h c).2, sem_eq_zero_of_no_sems (by decide) r.2⟩)
    (QueryRefIdeal.Value.run (F := Ideal) m g)

theorem algebraic_Query : Cert.algebraic_QueryIdeal_QueryRefIdeal (hQueryIdeal := QueryIdeal.Gen.facts) (hQueryRefIdeal := QueryRefIdeal.Gen.facts) := by
  intro m g m' g' _ hargs
  refine ⟨fun c => Xa.Query.product (m ((c.tc : Thread QueryIdeal.nD QueryIdeal.τ).loc QueryIdeal.main_arg0)) (m ((c.tc : Thread QueryIdeal.nD QueryIdeal.τ).loc QueryIdeal.main_arg1)), ?_, ?_⟩
  · refine (θ_run QueryIdeal.defs _ _).mono (fun r h c => ?_) (QueryIdeal.Value.run_blocks (F := Ideal) m g)
    obtain ⟨e, hrest⟩ := h c
    exact ⟨e.trans (Xa.Query.value m c), hrest⟩
  · refine (θ_run QueryRefIdeal.defs _ _).mono (fun r h c => ?_) (QueryRefIdeal.Value.run (F := Ideal) m' g')
    obtain ⟨a0, a1⟩ := hargs c
    obtain ⟨e, hrest⟩ := h c
    rw [a0, a1] at e
    exact ⟨e, hrest⟩

theorem frame_QueryGradRefIdeal : Cert.quiescent_QueryGradRefIdeal (hQueryGradRefIdeal := QueryGradRefIdeal.Gen.facts) := fun m g _ =>
  (θ_run QueryGradRefIdeal.defs _ _).mono (fun r h => ⟨fun c => (h c).2, sem_eq_zero_of_no_sems (by decide) r.2⟩)
    (QueryGradRefIdeal.Value.run (F := Ideal) m g)

theorem algebraic_QueryGrad : Cert.algebraic_QueryGradIdeal_QueryGradRefIdeal (hQueryGradIdeal := QueryGradIdeal.Gen.facts) (hQueryGradRefIdeal := QueryGradRefIdeal.Gen.facts) := by
  intro m g m' g' _ hargs
  refine ⟨fun c => Out.Grad.product (m ((c.tc : Thread QueryGradIdeal.nD QueryGradIdeal.τ).loc QueryGradIdeal.main_arg0)) (m ((c.tc : Thread QueryGradIdeal.nD QueryGradIdeal.τ).loc QueryGradIdeal.main_arg2)), ?_, ?_⟩
  · refine (θ_run QueryGradIdeal.defs _ _).mono (fun r h c => ?_) (QueryGradIdeal.Value.run_blocks (F := Ideal) m g)
    obtain ⟨e, hrest⟩ := h c
    exact ⟨e.trans (Xa.QueryGrad.value m c), hrest⟩
  · refine (θ_run QueryGradRefIdeal.defs _ _).mono (fun r h c => ?_) (QueryGradRefIdeal.Value.run (F := Ideal) m' g')
    obtain ⟨a0, a1, a2⟩ := hargs c
    obtain ⟨e, hrest⟩ := h c
    rw [a2, a0] at e
    exact ⟨e, hrest⟩

theorem frame_BranchRefIdeal : Cert.quiescent_BranchRefIdeal (hBranchRefIdeal := BranchRefIdeal.Gen.facts) := fun m g _ =>
  (θ_run BranchRefIdeal.defs _ _).mono (fun r h => ⟨fun c => (h c).2, sem_eq_zero_of_no_sems (by decide) r.2⟩)
    (BranchRefIdeal.Value.run (F := Ideal) m g)

theorem algebraic_Branch : Cert.algebraic_BranchIdeal_BranchRefIdeal (hBranchIdeal := BranchIdeal.Gen.facts) (hBranchRefIdeal := BranchRefIdeal.Gen.facts) := by
  intro m g m' g' _ hargs
  refine ⟨fun c => Mix.Branch.product (m ((c.tc : Thread BranchIdeal.nD BranchIdeal.τ).loc BranchIdeal.main_arg0)) (m ((c.tc : Thread BranchIdeal.nD BranchIdeal.τ).loc BranchIdeal.main_arg1)), ?_, ?_⟩
  · refine (θ_run BranchIdeal.defs _ _).mono (fun r h c => ?_) (BranchIdeal.Value.run_blocks (F := Ideal) m g)
    obtain ⟨e, hrest⟩ := h c
    exact ⟨e.trans (Mix.Branch.value m c), hrest⟩
  · refine (θ_run BranchRefIdeal.defs _ _).mono (fun r h c => ?_) (BranchRefIdeal.Value.run (F := Ideal) m' g')
    obtain ⟨a0, a1⟩ := hargs c
    obtain ⟨e, hrest⟩ := h c
    rw [a0, a1] at e
    exact ⟨e, hrest⟩

theorem frame_BranchGradRefIdeal : Cert.quiescent_BranchGradRefIdeal (hBranchGradRefIdeal := BranchGradRefIdeal.Gen.facts) := fun m g _ =>
  (θ_run BranchGradRefIdeal.defs _ _).mono (fun r h => ⟨fun c => (h c).2, sem_eq_zero_of_no_sems (by decide) r.2⟩)
    (BranchGradRefIdeal.Value.run (F := Ideal) m g)

theorem algebraic_BranchGrad : Cert.algebraic_BranchGradIdeal_BranchGradRefIdeal (hBranchGradIdeal := BranchGradIdeal.Gen.facts) (hBranchGradRefIdeal := BranchGradRefIdeal.Gen.facts) := by
  intro m g m' g' _ hargs
  refine ⟨fun c => Mix.BranchGrad.product (m ((c.tc : Thread BranchGradIdeal.nD BranchGradIdeal.τ).loc BranchGradIdeal.main_arg0)) (m ((c.tc : Thread BranchGradIdeal.nD BranchGradIdeal.τ).loc BranchGradIdeal.main_arg2)), ?_, ?_⟩
  · refine (θ_run BranchGradIdeal.defs _ _).mono (fun r h c => ?_) (BranchGradIdeal.Value.run_blocks (F := Ideal) m g)
    obtain ⟨e, hrest⟩ := h c
    exact ⟨e.trans (Mix.BranchGrad.value m c), hrest⟩
  · refine (θ_run BranchGradRefIdeal.defs _ _).mono (fun r h c => ?_) (BranchGradRefIdeal.Value.run (F := Ideal) m' g')
    obtain ⟨a0, a1, a2⟩ := hargs c
    obtain ⟨e, hrest⟩ := h c
    rw [a2, a0] at e
    exact ⟨e, hrest⟩

theorem frame_BranchBackRefIdeal : Cert.quiescent_BranchBackRefIdeal (hBranchBackRefIdeal := BranchBackRefIdeal.Gen.facts) := fun m g _ =>
  (θ_run BranchBackRefIdeal.defs _ _).mono (fun r h => ⟨fun c => (h c).2, sem_eq_zero_of_no_sems (by decide) r.2⟩)
    (BranchBackRefIdeal.Value.run (F := Ideal) m g)

theorem algebraic_BranchBack : Cert.algebraic_BranchBackIdeal_BranchBackRefIdeal (hBranchBackIdeal := BranchBackIdeal.Gen.facts) (hBranchBackRefIdeal := BranchBackRefIdeal.Gen.facts) := by
  intro m g m' g' _ hargs
  refine ⟨fun c => Mix.BranchBack.product (m ((c.tc : Thread BranchBackIdeal.nD BranchBackIdeal.τ).loc BranchBackIdeal.main_arg2)) (m ((c.tc : Thread BranchBackIdeal.nD BranchBackIdeal.τ).loc BranchBackIdeal.main_arg1)), ?_, ?_⟩
  · refine (θ_run BranchBackIdeal.defs _ _).mono (fun r h c => ?_) (BranchBackIdeal.Value.run_blocks (F := Ideal) m g)
    obtain ⟨e, hrest⟩ := h c
    exact ⟨e.trans (Mix.BranchBack.value m c), hrest⟩
  · refine (θ_run BranchBackRefIdeal.defs _ _).mono (fun r h c => ?_) (BranchBackRefIdeal.Value.run (F := Ideal) m' g')
    obtain ⟨a0, a1, a2⟩ := hargs c
    obtain ⟨e, hrest⟩ := h c
    rw [a2, a1] at e
    exact ⟨e, hrest⟩

theorem frame_MergeRefIdeal : Cert.quiescent_MergeRefIdeal (hMergeRefIdeal := MergeRefIdeal.Gen.facts) := fun m g _ =>
  (θ_run MergeRefIdeal.defs _ _).mono (fun r h => ⟨fun c => (h c).2, sem_eq_zero_of_no_sems (by decide) r.2⟩)
    (MergeRefIdeal.Value.run (F := Ideal) m g)

theorem algebraic_Merge : Cert.algebraic_MergeIdeal_MergeRefIdeal (hMergeIdeal := MergeIdeal.Gen.facts) (hMergeRefIdeal := MergeRefIdeal.Gen.facts) := by
  intro m g m' g' _ hargs
  refine ⟨fun c => Mix.Merge.merged (m ((c.tc : Thread MergeIdeal.nD MergeIdeal.τ).loc MergeIdeal.main_arg0)) (m ((c.tc : Thread MergeIdeal.nD MergeIdeal.τ).loc MergeIdeal.main_arg1)) (m ((c.tc : Thread MergeIdeal.nD MergeIdeal.τ).loc MergeIdeal.main_arg2)) (m ((c.tc : Thread MergeIdeal.nD MergeIdeal.τ).loc MergeIdeal.main_arg3)), ?_, ?_⟩
  · refine (θ_run MergeIdeal.defs _ _).mono (fun r h c => ?_) (MergeIdeal.Value.run_blocks (F := Ideal) m g)
    obtain ⟨e0, hrest⟩ := h c
    exact ⟨e0.trans (Mix.Merge.value m c), hrest⟩
  · refine (θ_run MergeRefIdeal.defs _ _).mono (fun r h c => ?_) (MergeRefIdeal.Value.run (F := Ideal) m' g')
    obtain ⟨a0, a1, a2, a3⟩ := hargs c
    obtain ⟨e0, hrest⟩ := h c
    rw [a0, a1, a2, a3] at e0
    exact ⟨e0, hrest⟩

theorem frame_MergeBackRefIdeal : Cert.quiescent_MergeBackRefIdeal (hMergeBackRefIdeal := MergeBackRefIdeal.Gen.facts) := fun m g _ =>
  (θ_run MergeBackRefIdeal.defs _ _).mono (fun r h => ⟨fun c => (h c).2.2.2.2.2.2, sem_eq_zero_of_no_sems (by decide) r.2⟩)
    (MergeBackRefIdeal.Value.run (F := Ideal) m g)

theorem algebraic_MergeBack : Cert.algebraic_MergeBackIdeal_MergeBackRefIdeal (hMergeBackIdeal := MergeBackIdeal.Gen.facts) (hMergeBackRefIdeal := MergeBackRefIdeal.Gen.facts) := by
  intro m g m' g' _ hargs
  refine ⟨fun c => Mix.MergeBack.ofBranch (Mix.Merge.gate₀ (m ((c.tc : Thread MergeBackIdeal.nD MergeBackIdeal.τ).loc MergeBackIdeal.main_arg0))) (m ((c.tc : Thread MergeBackIdeal.nD MergeBackIdeal.τ).loc MergeBackIdeal.main_arg4)),
    fun c => Mix.MergeBack.ofBranch (Mix.Merge.gate₁ (m ((c.tc : Thread MergeBackIdeal.nD MergeBackIdeal.τ).loc MergeBackIdeal.main_arg0))) (m ((c.tc : Thread MergeBackIdeal.nD MergeBackIdeal.τ).loc MergeBackIdeal.main_arg4)),
    fun c => Mix.MergeBack.ofBranch (Mix.Merge.gate₂ (m ((c.tc : Thread MergeBackIdeal.nD MergeBackIdeal.τ).loc MergeBackIdeal.main_arg0))) (m ((c.tc : Thread MergeBackIdeal.nD MergeBackIdeal.τ).loc MergeBackIdeal.main_arg4)),
    fun c => Mix.MergeBack.ofGate (Mix.Merge.gate₀ (m ((c.tc : Thread MergeBackIdeal.nD MergeBackIdeal.τ).loc MergeBackIdeal.main_arg0))) (m ((c.tc : Thread MergeBackIdeal.nD MergeBackIdeal.τ).loc MergeBackIdeal.main_arg1)) (m ((c.tc : Thread MergeBackIdeal.nD MergeBackIdeal.τ).loc MergeBackIdeal.main_arg4)),
    fun c => Mix.MergeBack.ofGate (Mix.Merge.gate₁ (m ((c.tc : Thread MergeBackIdeal.nD MergeBackIdeal.τ).loc MergeBackIdeal.main_arg0))) (m ((c.tc : Thread MergeBackIdeal.nD MergeBackIdeal.τ).loc MergeBackIdeal.main_arg2)) (m ((c.tc : Thread MergeBackIdeal.nD MergeBackIdeal.τ).loc MergeBackIdeal.main_arg4)),
    fun c => Mix.MergeBack.ofGate (Mix.Merge.gate₂ (m ((c.tc : Thread MergeBackIdeal.nD MergeBackIdeal.τ).loc MergeBackIdeal.main_arg0))) (m ((c.tc : Thread MergeBackIdeal.nD MergeBackIdeal.τ).loc MergeBackIdeal.main_arg3)) (m ((c.tc : Thread MergeBackIdeal.nD MergeBackIdeal.τ).loc MergeBackIdeal.main_arg4)), ?_, ?_⟩
  · refine (θ_run MergeBackIdeal.defs _ _).mono (fun r h c => ?_) (MergeBackIdeal.Value.run_blocks (F := Ideal) m g)
    obtain ⟨e0, e1, e2, e3, e4, e5, hrest⟩ := h c
    exact ⟨e0.trans (Mix.MergeBack.value_branch₀ m c), e1.trans (Mix.MergeBack.value_branch₁ m c), e2.trans (Mix.MergeBack.value_branch₂ m c), e3.trans (Mix.MergeBack.value_gate₀ m c), e4.trans (Mix.MergeBack.value_gate₁ m c), e5.trans (Mix.MergeBack.value_gate₂ m c), hrest⟩
  · refine (θ_run MergeBackRefIdeal.defs _ _).mono (fun r h c => ?_) (MergeBackRefIdeal.Value.run (F := Ideal) m' g')
    obtain ⟨a0, a1, a2, a3, a4⟩ := hargs c
    obtain ⟨e0, e1, e2, e3, e4, e5, hrest⟩ := h c
    rw [a0, a4] at e0
    rw [a0, a4] at e1
    rw [a0, a4] at e2
    rw [a0, a1, a4] at e3
    rw [a0, a2, a4] at e4
    rw [a0, a3, a4] at e5
    exact ⟨e0, e1, e2, e3, e4, e5, hrest⟩

theorem frame_RmsRefIdeal : Cert.quiescent_RmsRefIdeal (hRmsRefIdeal := RmsRefIdeal.Gen.facts) := fun m g _ =>
  (θ_run RmsRefIdeal.defs _ _).mono (fun r h => ⟨fun c => (h c).2, sem_eq_zero_of_no_sems (by decide) r.2⟩)
    (RmsRefIdeal.Value.run (F := Ideal) m g)

theorem algebraic_Rms : Cert.algebraic_RmsIdeal_RmsRefIdeal (hRmsIdeal := RmsIdeal.Gen.facts) (hRmsRefIdeal := RmsRefIdeal.Gen.facts) := by
  intro m g m' g' _ hargs
  refine ⟨fun c => RmsForward.normed (m ((c.tc : Thread RmsIdeal.nD RmsIdeal.τ).loc RmsIdeal.main_arg0)) (m ((c.tc : Thread RmsIdeal.nD RmsIdeal.τ).loc RmsIdeal.main_arg1)), ?_, ?_⟩
  · refine (θ_run RmsIdeal.defs _ _).mono (fun r h c => ?_) (RmsIdeal.Value.run_blocks (F := Ideal) m g)
    obtain ⟨e0, hrest⟩ := h c
    exact ⟨e0.trans (RmsForward.value m c), hrest⟩
  · refine (θ_run RmsRefIdeal.defs _ _).mono (fun r h c => ?_) (RmsRefIdeal.Value.run (F := Ideal) m' g')
    obtain ⟨a0, a1⟩ := hargs c
    obtain ⟨e0, hrest⟩ := h c
    rw [a0, a1] at e0
    exact ⟨e0, hrest⟩

theorem frame_LossRefIdeal : Cert.quiescent_LossRefIdeal (hLossRefIdeal := LossRefIdeal.Gen.facts) := fun m g _ =>
  (θ_run LossRefIdeal.defs _ _).mono (fun r h => ⟨fun c => (h c).2.2.2, sem_eq_zero_of_no_sems (by decide) r.2⟩)
    (LossRefIdeal.Value.run (F := Ideal) m g)

theorem algebraic_Loss : Cert.algebraic_LossIdeal_LossRefIdeal (hLossIdeal := LossIdeal.Gen.facts) (hLossRefIdeal := LossRefIdeal.Gen.facts) := by
  intro m g m' g' _ hargs
  refine ⟨fun c => LossBack.gradient (m ((c.tc : Thread LossIdeal.nD LossIdeal.τ).loc LossIdeal.main_arg0)) (m ((c.tc : Thread LossIdeal.nD LossIdeal.τ).loc LossIdeal.main_arg2)) (m ((c.tc : Thread LossIdeal.nD LossIdeal.τ).loc LossIdeal.main_arg1)),
    fun c => LossBack.ofGain (m ((c.tc : Thread LossIdeal.nD LossIdeal.τ).loc LossIdeal.main_arg0)) (m ((c.tc : Thread LossIdeal.nD LossIdeal.τ).loc LossIdeal.main_arg2)) (m ((c.tc : Thread LossIdeal.nD LossIdeal.τ).loc LossIdeal.main_arg1)),
    fun c => LossBack.squared (m ((c.tc : Thread LossIdeal.nD LossIdeal.τ).loc LossIdeal.main_arg0)) (m ((c.tc : Thread LossIdeal.nD LossIdeal.τ).loc LossIdeal.main_arg2)) (m ((c.tc : Thread LossIdeal.nD LossIdeal.τ).loc LossIdeal.main_arg1)), ?_, ?_⟩
  · refine (θ_run LossIdeal.defs _ _).mono (fun r h c => ?_) (LossIdeal.Value.run_blocks (F := Ideal) m g)
    obtain ⟨e0, e1, e2, hrest⟩ := h c
    exact ⟨e0.trans (LossBack.value_input m c), e1.trans (LossBack.value_gain m c), e2.trans (LossBack.value_squared m c), hrest⟩
  · refine (θ_run LossRefIdeal.defs _ _).mono (fun r h c => ?_) (LossRefIdeal.Value.run (F := Ideal) m' g')
    obtain ⟨a0, a1, a2⟩ := hargs c
    obtain ⟨e0, e1, e2, hrest⟩ := h c
    unfold LossRefIdeal.Value.res_main_v51 at e0
    rw [a0, a1, a2] at e0
    rw [a0, a1, a2] at e1
    rw [a0, a1, a2] at e2
    exact ⟨e0, e1, e2, hrest⟩

theorem claim : Cert.Claim :=
  ⟨Kernel.Gen.facts, KernelIdeal.Gen.facts, ReferenceIdeal.Gen.facts,
    Gate.Gen.facts, GateIdeal.Gen.facts, GateRefIdeal.Gen.facts, In.Gen.facts, InIdeal.Gen.facts, InRefIdeal.Gen.facts, Down.Gen.facts, DownIdeal.Gen.facts, DownRefIdeal.Gen.facts,
    Back.Gen.facts, BackIdeal.Gen.facts, BackRefIdeal.Gen.facts,
    ProjGrad.Gen.facts, ProjGradIdeal.Gen.facts, ProjGradRefIdeal.Gen.facts, Open.Gen.facts, OpenIdeal.Gen.facts, OpenRefIdeal.Gen.facts, Up.Gen.facts, UpIdeal.Gen.facts, UpRefIdeal.Gen.facts, Close.Gen.facts, CloseIdeal.Gen.facts, CloseRefIdeal.Gen.facts, Proj.Gen.facts, ProjIdeal.Gen.facts, ProjRefIdeal.Gen.facts,
    Norm.Gen.facts, NormIdeal.Gen.facts, NormRefIdeal.Gen.facts, MixNorm.Gen.facts, MixNormIdeal.Gen.facts, MixNormRefIdeal.Gen.facts,
    OutGrad.Gen.facts, OutGradIdeal.Gen.facts, OutGradRefIdeal.Gen.facts, OutBack.Gen.facts, OutBackIdeal.Gen.facts, OutBackRefIdeal.Gen.facts, Out.Gen.facts, OutIdeal.Gen.facts, OutRefIdeal.Gen.facts, XaNorm.Gen.facts, XaNormIdeal.Gen.facts, XaNormRefIdeal.Gen.facts,
    Query.Gen.facts, QueryIdeal.Gen.facts, QueryRefIdeal.Gen.facts, QueryGrad.Gen.facts, QueryGradIdeal.Gen.facts, QueryGradRefIdeal.Gen.facts, Branch.Gen.facts, BranchIdeal.Gen.facts, BranchRefIdeal.Gen.facts, BranchGrad.Gen.facts, BranchGradIdeal.Gen.facts, BranchGradRefIdeal.Gen.facts, BranchBack.Gen.facts, BranchBackIdeal.Gen.facts, BranchBackRefIdeal.Gen.facts,
    Merge.Gen.facts, MergeIdeal.Gen.facts, MergeRefIdeal.Gen.facts, MergeBack.Gen.facts, MergeBackIdeal.Gen.facts, MergeBackRefIdeal.Gen.facts, Rms.Gen.facts, RmsIdeal.Gen.facts, RmsRefIdeal.Gen.facts, Loss.Gen.facts, LossIdeal.Gen.facts, LossRefIdeal.Gen.facts,
    Pre_finite.Gen.facts, Pre_finite_gate.Gen.facts,
    frame_Kernel, frame_KernelIdeal, fun m g _ => frame_KernelIdeal m g trivial, frame_ReferenceIdeal,
    fun m g _ => frame_ReferenceIdeal m g trivial,
    fun m g _ => Gate.Gen.frame m g, fun m g _ => GateIdeal.Gen.frame m g, fun m g _ => GateIdeal.Gen.frame m g, frame_GateRefIdeal,
    fun m g _ => frame_GateRefIdeal m g trivial,
    fun m g _ => In.Gen.frame m g, fun m g _ => InIdeal.Gen.frame m g, frame_InRefIdeal,
    fun m g _ => Down.Gen.frame m g, fun m g _ => DownIdeal.Gen.frame m g, frame_DownRefIdeal,
    fun m g _ => Back.Gen.frame m g, fun m g _ => BackIdeal.Gen.frame m g, frame_BackRefIdeal,
    fun m g _ => ProjGrad.Gen.frame m g, fun m g _ => ProjGradIdeal.Gen.frame m g, frame_ProjGradRefIdeal,
    fun m g _ => Open.Gen.frame m g, fun m g _ => OpenIdeal.Gen.frame m g, frame_OpenRefIdeal,
    fun m g _ => Up.Gen.frame m g, fun m g _ => UpIdeal.Gen.frame m g, frame_UpRefIdeal,
    fun m g _ => Close.Gen.frame m g, fun m g _ => CloseIdeal.Gen.frame m g, frame_CloseRefIdeal,
    fun m g _ => Proj.Gen.frame m g, fun m g _ => ProjIdeal.Gen.frame m g, frame_ProjRefIdeal,
    fun m g _ => Norm.Gen.frame m g, fun m g _ => NormIdeal.Gen.frame m g, frame_NormRefIdeal,
    fun m g _ => MixNorm.Gen.frame m g, fun m g _ => MixNormIdeal.Gen.frame m g, frame_MixNormRefIdeal,
    fun m g _ => OutGrad.Gen.frame m g, fun m g _ => OutGradIdeal.Gen.frame m g, frame_OutGradRefIdeal,
    fun m g _ => OutBack.Gen.frame m g, fun m g _ => OutBackIdeal.Gen.frame m g, frame_OutBackRefIdeal,
    fun m g _ => Out.Gen.frame m g, fun m g _ => OutIdeal.Gen.frame m g, frame_OutRefIdeal,
    fun m g _ => XaNorm.Gen.frame m g, fun m g _ => XaNormIdeal.Gen.frame m g, frame_XaNormRefIdeal,
    fun m g _ => Query.Gen.frame m g, fun m g _ => QueryIdeal.Gen.frame m g, frame_QueryRefIdeal,
    fun m g _ => QueryGrad.Gen.frame m g, fun m g _ => QueryGradIdeal.Gen.frame m g, frame_QueryGradRefIdeal,
    fun m g _ => Branch.Gen.frame m g, fun m g _ => BranchIdeal.Gen.frame m g, frame_BranchRefIdeal,
    fun m g _ => BranchGrad.Gen.frame m g, fun m g _ => BranchGradIdeal.Gen.frame m g, frame_BranchGradRefIdeal,
    fun m g _ => BranchBack.Gen.frame m g, fun m g _ => BranchBackIdeal.Gen.frame m g, frame_BranchBackRefIdeal,
    fun m g _ => Merge.Gen.frame m g, fun m g _ => MergeIdeal.Gen.frame m g, frame_MergeRefIdeal,
    fun m g _ => MergeBack.Gen.frame m g, fun m g _ => MergeBackIdeal.Gen.frame m g, frame_MergeBackRefIdeal,
    fun m g _ => Rms.Gen.frame m g, fun m g _ => RmsIdeal.Gen.frame m g, frame_RmsRefIdeal,
    fun m g _ => Loss.Gen.frame m g, fun m g _ => LossIdeal.Gen.frame m g, frame_LossRefIdeal,
    trivial, algebraic, trivial, algebraic_Gate, trivial, algebraic_In, trivial, algebraic_Down, trivial, algebraic_Back, trivial, algebraic_ProjGrad, trivial, algebraic_Open, trivial, algebraic_Up, trivial, algebraic_Close, trivial, algebraic_Proj,
    trivial, algebraic_Norm, trivial, algebraic_MixNorm, trivial, algebraic_OutGrad, trivial, algebraic_OutBack, trivial, algebraic_Out, trivial, algebraic_XaNorm,
    trivial, algebraic_Query, trivial, algebraic_QueryGrad, trivial, algebraic_Branch, trivial, algebraic_BranchGrad, trivial, algebraic_BranchBack,
    trivial, algebraic_Merge, trivial, algebraic_MergeBack, trivial, algebraic_Rms, trivial, algebraic_Loss⟩

end Cert.Proof

end
